-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  IdealRules.bf16_pair.BufferStatement Cert.KernelIdeal.S10752x2x128 Cert.KernelIdeal.S10752x1x128
  ∧ IdealRules.bf16_pair.Statement Cert.KernelIdeal.S1024x28 Cert.KernelIdeal.S512x28
  ∧ IdealRules.bf16_pair.Statement Cert.KernelIdeal.S512x2x28 Cert.KernelIdeal.S512x1x28
  ∧ IdealRules.bf16_pair.Statement Cert.KernelIdeal.S3584x2x128 Cert.KernelIdeal.S3584x1x128
  ∧ IdealRules.bf16_pair.Statement Cert.KernelIdeal.S7168x128 Cert.KernelIdeal.S3584x128

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)) (v1 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_v4) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S21x1024x3584 : Shape := ⟨3, ![21, 1024, 3584]⟩
abbrev S21x1024x28 : Shape := ⟨3, ![21, 1024, 28]⟩
abbrev S21504x3584 : Shape := ⟨2, ![21504, 3584]⟩
abbrev S21x28x1024 : Shape := ⟨3, ![21, 28, 1024]⟩
abbrev S28x128 : Shape := ⟨2, ![28, 128]⟩
abbrev S6x7168x128 : Shape := ⟨3, ![6, 7168, 128]⟩
abbrev S10752x128 : Shape := ⟨2, ![10752, 128]⟩
abbrev S16x128 : Shape := ⟨2, ![16, 128]⟩
abbrev S1x128 : Shape := ⟨2, ![1, 128]⟩
abbrev S6 : Shape := ⟨1, ![6]⟩
abbrev S3 : Shape := ⟨1, ![3]⟩
abbrev S1 : Shape := ⟨1, ![1]⟩
abbrev S_ : Shape := ⟨0, ![]⟩
abbrev S7x28x1024 : Shape := ⟨3, ![7, 28, 1024]⟩
abbrev S1x7168x128 : Shape := ⟨3, ![1, 7168, 128]⟩
abbrev S7168x128 : Shape := ⟨2, ![7168, 128]⟩
abbrev S1x28x1024 : Shape := ⟨3, ![1, 28, 1024]⟩
abbrev S28x1024 : Shape := ⟨2, ![28, 1024]⟩
abbrev S1024x28 : Shape := ⟨2, ![1024, 28]⟩
abbrev S512x28 : Shape := ⟨2, ![512, 28]⟩
abbrev S3584x128 : Shape := ⟨2, ![3584, 128]⟩
abbrev S7168x128x1 : Shape := ⟨3, ![7168, 128, 1]⟩
abbrev S448x16x128 : Shape := ⟨3, ![448, 16, 128]⟩
abbrev S128 : Shape := ⟨1, ![128]⟩
abbrev S3584 : Shape := ⟨1, ![3584]⟩

abbrev nBuf : Space → Nat
  | .hbm => 8
  | .vmem => 8
  | .smem => 0
  | _ => 0

abbrev bufTy : (tb : Table) → Fin (tcTables nBuf tb) → BufTy
  | .hbm, ⟨0, _⟩ => ⟨S21x1024x3584, .fp8e4m3⟩
  | .hbm, ⟨1, _⟩ => ⟨S21x1024x28, .f32⟩
  | .hbm, ⟨2, _⟩ => ⟨S21504x3584, .fp8e4m3⟩
  | .hbm, ⟨3, _⟩ => ⟨S21x28x1024, .f32⟩
  | .hbm, ⟨4, _⟩ => ⟨S21504x3584, .i8⟩
  | .hbm, ⟨5, _⟩ => ⟨S28x128, .f32⟩
  | .hbm, ⟨6, _⟩ => ⟨S21x1024x3584, .i8⟩
  | .hbm, ⟨7, _⟩ => ⟨S3584, .f32⟩
  | .local _ .vmem, ⟨0, _⟩ => ⟨S28x128, .f32⟩
  | .local _ .vmem, ⟨1, _⟩ => ⟨S6x7168x128, .fp8e4m3⟩
  | .local _ .vmem, ⟨2, _⟩ => ⟨S6x7168x128, .i8⟩
  | .local _ .vmem, ⟨3, _⟩ => ⟨S10752x128, .i32⟩
  | .local _ .vmem, ⟨4, _⟩ => ⟨S21x28x1024, .f32⟩
  | .local _ .vmem, ⟨5, _⟩ => ⟨S10752x128, .i32⟩
  | .local _ .vmem, ⟨6, _⟩ => ⟨S16x128, .bf16⟩
  | .local _ .vmem, ⟨7, _⟩ => ⟨S1x128, .f32⟩
  | _, _ => ⟨S21x1024x3584, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch3 : Ref sig .tc := ⟨.vmem, 4, rfl⟩
abbrev cc0_scratch4 : Ref sig .tc := ⟨.vmem, 5, rfl⟩
abbrev cc0_scratch5 : Ref sig .tc := ⟨.vmem, 6, rfl⟩
abbrev cc0_scratch6 : Ref sig .tc := ⟨.vmem, 7, rfl⟩
abbrev cc0_sem0_0 : DmaSem sig := 0

abbrev nD : Nat := 1
abbrev τ : Topo := Topo.v7x

variable {F : FTy → Type} [BitOps F]

abbrev grid0 : Pipeline.Grid := .none

def k0_mult1 : BitVec 32 :=
  let c0_i32_17 : BitVec 32 := 0#32
  c0_i32_17
def k0_off1 (c0_i32_16 : BitVec 32) : Fin 1 → Nat :=
  let c6_i32 : BitVec 32 := 6#32
  let v12 : BitVec 32 := Scalar.remsi c0_i32_16 c6_i32
  ![v12.toNat]
def k0_off1_at (r : Fin 12) : BitVec 32 :=
  if r.val < 6 then
    if r.val < 3 then
      if r.val < 1 then
        0#32
      else
        if r.val < 2 then
          1#32
        else
          2#32
    else
      if r.val < 4 then
        3#32
      else
        if r.val < 5 then
          4#32
        else
          5#32
  else
    if r.val < 9 then
      if r.val < 7 then
        78#32
      else
        if r.val < 8 then
          79#32
        else
          80#32
    else
      if r.val < 10 then
        81#32
      else
        if r.val < 11 then
          82#32
        else
          83#32
def k0_off2 (c0_i32_16 : BitVec 32) : Fin 3 → Nat :=
  let c6_i32 : BitVec 32 := 6#32
  let v12 : BitVec 32 := Scalar.remsi c0_i32_16 c6_i32
  let c0_i32_18 : BitVec 32 := 0#32
  let c0_i32_19 : BitVec 32 := 0#32
  ![v12.toNat, 0, 0]
def k0_off2_at (r : Fin 12) : BitVec 32 :=
  if r.val < 6 then
    if r.val < 3 then
      if r.val < 1 then
        0#32
      else
        if r.val < 2 then
          1#32
        else
          2#32
    else
      if r.val < 4 then
        3#32
      else
        if r.val < 5 then
          4#32
        else
          5#32
  else
    if r.val < 9 then
      if r.val < 7 then
        78#32
      else
        if r.val < 8 then
          79#32
        else
          80#32
    else
      if r.val < 10 then
        81#32
      else
        if r.val < 11 then
          82#32
        else
          83#32
def k0_mult2 : BitVec 32 :=
  let c0_i32_23 : BitVec 32 := 0#32
  c0_i32_23
def k0_mult3 : BitVec 32 :=
  let c0_i32_28 : BitVec 32 := 0#32
  c0_i32_28
def k0_mult4 : BitVec 32 :=
  let c128_i32 : BitVec 32 := 128#32
  c128_i32
def k0_mult5 : BitVec 32 :=
  let c128_i32_36 : BitVec 32 := 128#32
  c128_i32_36
def k0_mult6 : BitVec 32 :=
  let c128_i32_41 : BitVec 32 := 128#32
  c128_i32_41
@[reducible] def k0_t1_loop : Scf.Loop 32 :=
  let c0_i32_46 : BitVec 32 := 0#32
  let c3_i32_47 : BitVec 32 := 3#32
  let v58 : BitVec 32 := Scalar.addi c0_i32_46 c3_i32_47
  let c1_i32_48 : BitVec 32 := 1#32
  ⟨c0_i32_46, v58, c1_i32_48⟩
def k0_off3 (k0_t1 : Fin k0_t1_loop.trips) : Fin 1 → Nat :=
  let c0_i32_46 : BitVec 32 := 0#32
  let c1_i32_48 : BitVec 32 := 1#32
  let arg14 : BitVec 32 := Scf.iv c0_i32_46 c1_i32_48 k0_t1
  ![arg14.toNat]
def k0_off4 (k0_t1 : Fin k0_t1_loop.trips) : Fin 3 → Nat :=
  let c0_i32_46 : BitVec 32 := 0#32
  let c1_i32_48 : BitVec 32 := 1#32
  let arg14 : BitVec 32 := Scf.iv c0_i32_46 c1_i32_48 k0_t1
  let c7_i32_100 : BitVec 32 := 7#32
  let v120 : BitVec 32 := Scalar.muli arg14 c7_i32_100
  let c0_i32_101 : BitVec 32 := 0#32
  let c0_i32_102 : BitVec 32 := 0#32
  ![v120.toNat, 0, 0]
def k0_off5 (k0_t1 : Fin k0_t1_loop.trips) (c0_i32_106 : BitVec 32) : Fin 3 → Nat :=
  let c0_i32_46 : BitVec 32 := 0#32
  let c1_i32_48 : BitVec 32 := 1#32
  let arg14 : BitVec 32 := Scf.iv c0_i32_46 c1_i32_48 k0_t1
  let c7_i32_105 : BitVec 32 := 7#32
  let v125 : BitVec 32 := Scalar.muli arg14 c7_i32_105
  let v126 : BitVec 32 := Scalar.addi v125 c0_i32_106
  let v127 : Index := Scalar.indexCast v126
  let c0_107 : Index := 0#32
  let c0_108 : Index := 0#32
  ![v127.toNat, 0, 0]
def k0_mult7 (k0_t1 : Fin k0_t1_loop.trips) : BitVec 32 :=
  let c0_i32_46 : BitVec 32 := 0#32
  let c1_i32_48 : BitVec 32 := 1#32
  let arg14 : BitVec 32 := Scf.iv c0_i32_46 c1_i32_48 k0_t1
  let c7_i32_109 : BitVec 32 := 7#32
  let v132 : BitVec 32 := Scalar.muli arg14 c7_i32_109
  let c0_i32_110 : BitVec 32 := 0#32
  let v133 : BitVec 32 := Scalar.addi v132 c0_i32_110
  let c512_i32 : BitVec 32 := 512#32
  let v134 : BitVec 32 := Scalar.muli v133 c512_i32
  v134
def k0_off6 (k0_t1 : Fin k0_t1_loop.trips) (c0_i32_110 : BitVec 32) : Fin 2 → Nat :=
  let c0_i32_46 : BitVec 32 := 0#32
  let c1_i32_48 : BitVec 32 := 1#32
  let arg14 : BitVec 32 := Scf.iv c0_i32_46 c1_i32_48 k0_t1
  let c7_i32_109 : BitVec 32 := 7#32
  let v132 : BitVec 32 := Scalar.muli arg14 c7_i32_109
  let v133 : BitVec 32 := Scalar.addi v132 c0_i32_110
  let c512_i32 : BitVec 32 := 512#32
  let v134 : BitVec 32 := Scalar.muli v133 c512_i32
  let v135 : BitVec 32 := v134
  let v137 : Index := Scalar.indexCast v135
  let c0_111 : Index := 0#32
  ![v137.toNat, 0]
def k0_mult8 (k0_t1 : Fin k0_t1_loop.trips) : BitVec 32 :=
  let c0_i32_46 : BitVec 32 := 0#32
  let c1_i32_48 : BitVec 32 := 1#32
  let arg14 : BitVec 32 := Scf.iv c0_i32_46 c1_i32_48 k0_t1
  let c7_i32_116 : BitVec 32 := 7#32
  let v148 : BitVec 32 := Scalar.muli arg14 c7_i32_116
  let c1_i32_117 : BitVec 32 := 1#32
  let v149 : BitVec 32 := Scalar.addi v148 c1_i32_117
  let c512_i32_118 : BitVec 32 := 512#32
  let v150 : BitVec 32 := Scalar.muli v149 c512_i32_118
  v150
def k0_mult9 (k0_t1 : Fin k0_t1_loop.trips) : BitVec 32 :=
  let c0_i32_46 : BitVec 32 := 0#32
  let c1_i32_48 : BitVec 32 := 1#32
  let arg14 : BitVec 32 := Scf.iv c0_i32_46 c1_i32_48 k0_t1
  let c7_i32_124 : BitVec 32 := 7#32
  let v164 : BitVec 32 := Scalar.muli arg14 c7_i32_124
  let c2_i32_125 : BitVec 32 := 2#32
  let v165 : BitVec 32 := Scalar.addi v164 c2_i32_125
  let c512_i32_126 : BitVec 32 := 512#32
  let v166 : BitVec 32 := Scalar.muli v165 c512_i32_126
  v166
def k0_mult10 (k0_t1 : Fin k0_t1_loop.trips) : BitVec 32 :=
  let c0_i32_46 : BitVec 32 := 0#32
  let c1_i32_48 : BitVec 32 := 1#32
  let arg14 : BitVec 32 := Scf.iv c0_i32_46 c1_i32_48 k0_t1
  let c7_i32_132 : BitVec 32 := 7#32
  let v180 : BitVec 32 := Scalar.muli arg14 c7_i32_132
  let c3_i32_133 : BitVec 32 := 3#32
  let v181 : BitVec 32 := Scalar.addi v180 c3_i32_133
  let c512_i32_134 : BitVec 32 := 512#32
  let v182 : BitVec 32 := Scalar.muli v181 c512_i32_134
  v182
def k0_mult11 (k0_t1 : Fin k0_t1_loop.trips) : BitVec 32 :=
  let c0_i32_46 : BitVec 32 := 0#32
  let c1_i32_48 : BitVec 32 := 1#32
  let arg14 : BitVec 32 := Scf.iv c0_i32_46 c1_i32_48 k0_t1
  let c7_i32_140 : BitVec 32 := 7#32
  let v196 : BitVec 32 := Scalar.muli arg14 c7_i32_140
  let c4_i32_141 : BitVec 32 := 4#32
  let v197 : BitVec 32 := Scalar.addi v196 c4_i32_141
  let c512_i32_142 : BitVec 32 := 512#32
  let v198 : BitVec 32 := Scalar.muli v197 c512_i32_142
  v198
def k0_mult12 (k0_t1 : Fin k0_t1_loop.trips) : BitVec 32 :=
  let c0_i32_46 : BitVec 32 := 0#32
  let c1_i32_48 : BitVec 32 := 1#32
  let arg14 : BitVec 32 := Scf.iv c0_i32_46 c1_i32_48 k0_t1
  let c7_i32_148 : BitVec 32 := 7#32
  let v212 : BitVec 32 := Scalar.muli arg14 c7_i32_148
  let c5_i32_149 : BitVec 32 := 5#32
  let v213 : BitVec 32 := Scalar.addi v212 c5_i32_149
  let c512_i32_150 : BitVec 32 := 512#32
  let v214 : BitVec 32 := Scalar.muli v213 c512_i32_150
  v214
def k0_mult13 (k0_t1 : Fin k0_t1_loop.trips) : BitVec 32 :=
  let c0_i32_46 : BitVec 32 := 0#32
  let c1_i32_48 : BitVec 32 := 1#32
  let arg14 : BitVec 32 := Scf.iv c0_i32_46 c1_i32_48 k0_t1
  let c7_i32_156 : BitVec 32 := 7#32
  let v228 : BitVec 32 := Scalar.muli arg14 c7_i32_156
  let c6_i32_157 : BitVec 32 := 6#32
  let v229 : BitVec 32 := Scalar.addi v228 c6_i32_157
  let c512_i32_158 : BitVec 32 := 512#32
  let v230 : BitVec 32 := Scalar.muli v229 c512_i32_158
  v230
@[reducible] def k0_t2_loop : Scf.Loop 32 :=
  let c0_i32_50 : BitVec 32 := 0#32
  let c3_i32_51 : BitVec 32 := 3#32
  let v59 : BitVec 32 := Scalar.addi c0_i32_50 c3_i32_51
  let c1_i32_52 : BitVec 32 := 1#32
  ⟨c0_i32_50, v59, c1_i32_52⟩
def k0_mult14 (k0_t2 : Fin k0_t2_loop.trips) : BitVec 32 :=
  let c0_i32_50 : BitVec 32 := 0#32
  let c1_i32_52 : BitVec 32 := 1#32
  let arg14 : BitVec 32 := Scf.iv c0_i32_50 c1_i32_52 k0_t2
  let c0_i32_103 : BitVec 32 := 0#32
  let v123 : BitVec 1 := Scalar.cmpi .sgt arg14 c0_i32_103
  let v124 : BitVec 32 := Scalar.extui v123
  let c0_i32_104 : BitVec 32 := 0#32
  let v125 : BitVec 1 := Scalar.cmpi .slt arg14 c0_i32_104
  let v126 : BitVec 32 := Scalar.extui v125
  let v127 : BitVec 32 := Scalar.subi v124 v126
  let c3_i32_102 : BitVec 32 := 3#32
  let c0_i32_105 : BitVec 32 := 0#32
  let v128 : BitVec 1 := Scalar.cmpi .sgt c3_i32_102 c0_i32_105
  let v129 : BitVec 32 := Scalar.extui v128
  let c0_i32_106 : BitVec 32 := 0#32
  let v130 : BitVec 1 := Scalar.cmpi .slt c3_i32_102 c0_i32_106
  let v131 : BitVec 32 := Scalar.extui v130
  let v132 : BitVec 32 := Scalar.subi v129 v131
  let v133 : BitVec 1 := Scalar.cmpi .ne v127 v132
  let v134 : BitVec 32 := Scalar.remsi arg14 c3_i32_102
  let c0_i32_107 : BitVec 32 := 0#32
  let v135 : BitVec 1 := Scalar.cmpi .ne v134 c0_i32_107
  let v136 : BitVec 1 := Scalar.andi v133 v135
  let v122 : BitVec 32 := Scalar.divsi arg14 c3_i32_102
  let c1_i32_108 : BitVec 32 := 1#32
  let v137 : BitVec 32 := Scalar.subi v122 c1_i32_108
  let v138 : BitVec 32 := Scalar.select v136 v137 v122
  let c128_i32_111 : BitVec 32 := 128#32
  let v142 : BitVec 32 := Scalar.muli v138 c128_i32_111
  v142
def k0_off7 (k0_t2 : Fin k0_t2_loop.trips) : Fin 1 → Nat :=
  let c0_i32_50 : BitVec 32 := 0#32
  let c1_i32_52 : BitVec 32 := 1#32
  let arg14 : BitVec 32 := Scf.iv c0_i32_50 c1_i32_52 k0_t2
  let c6_i32_101 : BitVec 32 := 6#32
  let v121 : BitVec 32 := Scalar.remsi arg14 c6_i32_101
  ![v121.toNat]
def k0_off8 (k0_t2 : Fin k0_t2_loop.trips) : Fin 3 → Nat :=
  let c0_i32_50 : BitVec 32 := 0#32
  let c1_i32_52 : BitVec 32 := 1#32
  let arg14 : BitVec 32 := Scf.iv c0_i32_50 c1_i32_52 k0_t2
  let c6_i32_101 : BitVec 32 := 6#32
  let v121 : BitVec 32 := Scalar.remsi arg14 c6_i32_101
  let c0_i32_112 : BitVec 32 := 0#32
  let c0_i32_113 : BitVec 32 := 0#32
  ![v121.toNat, 0, 0]
def k0_off9 (k0_t2 : Fin k0_t2_loop.trips) : Fin 2 → Nat :=
  let c0_i32_50 : BitVec 32 := 0#32
  let c1_i32_52 : BitVec 32 := 1#32
  let arg14 : BitVec 32 := Scf.iv c0_i32_50 c1_i32_52 k0_t2
  let c0_i32_103 : BitVec 32 := 0#32
  let v123 : BitVec 1 := Scalar.cmpi .sgt arg14 c0_i32_103
  let v124 : BitVec 32 := Scalar.extui v123
  let c0_i32_104 : BitVec 32 := 0#32
  let v125 : BitVec 1 := Scalar.cmpi .slt arg14 c0_i32_104
  let v126 : BitVec 32 := Scalar.extui v125
  let v127 : BitVec 32 := Scalar.subi v124 v126
  let c3_i32_102 : BitVec 32 := 3#32
  let c0_i32_105 : BitVec 32 := 0#32
  let v128 : BitVec 1 := Scalar.cmpi .sgt c3_i32_102 c0_i32_105
  let v129 : BitVec 32 := Scalar.extui v128
  let c0_i32_106 : BitVec 32 := 0#32
  let v130 : BitVec 1 := Scalar.cmpi .slt c3_i32_102 c0_i32_106
  let v131 : BitVec 32 := Scalar.extui v130
  let v132 : BitVec 32 := Scalar.subi v129 v131
  let v133 : BitVec 1 := Scalar.cmpi .ne v127 v132
  let v134 : BitVec 32 := Scalar.remsi arg14 c3_i32_102
  let c0_i32_107 : BitVec 32 := 0#32
  let v135 : BitVec 1 := Scalar.cmpi .ne v134 c0_i32_107
  let v136 : BitVec 1 := Scalar.andi v133 v135
  let v122 : BitVec 32 := Scalar.divsi arg14 c3_i32_102
  let c1_i32_108 : BitVec 32 := 1#32
  let v137 : BitVec 32 := Scalar.subi v122 c1_i32_108
  let v138 : BitVec 32 := Scalar.select v136 v137 v122
  let c3_i32_109 : BitVec 32 := 3#32
  let v139 : BitVec 32 := Scalar.muli v138 c3_i32_109
  let v140 : BitVec 32 := Scalar.subi arg14 v139
  let c7168_i32_110 : BitVec 32 := 7168#32
  let v141 : BitVec 32 := Scalar.muli v140 c7168_i32_110
  let c128_i32_111 : BitVec 32 := 128#32
  let v142 : BitVec 32 := Scalar.muli v138 c128_i32_111
  let v143 : BitVec 32 := v142
  ![v141.toNat, v143.toNat]
def k0_mult15 : BitVec 32 :=
  let c0_i32_114 : BitVec 32 := 0#32
  let c7168_i32_115 : BitVec 32 := 7168#32
  let v149 : BitVec 32 := Scalar.muli c0_i32_114 c7168_i32_115
  v149
def k0_mult16 (k0_t2 : Fin k0_t2_loop.trips) : BitVec 32 :=
  let c0_i32_50 : BitVec 32 := 0#32
  let c1_i32_52 : BitVec 32 := 1#32
  let arg14 : BitVec 32 := Scf.iv c0_i32_50 c1_i32_52 k0_t2
  let c7168_i32_116 : BitVec 32 := 7168#32
  let v151 : BitVec 32 := Scalar.muli arg14 c7168_i32_116
  let c0_i32_114 : BitVec 32 := 0#32
  let c7168_i32_117 : BitVec 32 := 7168#32
  let v152 : BitVec 32 := Scalar.muli c0_i32_114 c7168_i32_117
  let v153 : BitVec 32 := Scalar.addi v151 v152
  let c0_i32_119 : BitVec 32 := 0#32
  let v155 : BitVec 1 := Scalar.cmpi .sgt v153 c0_i32_119
  let v156 : BitVec 32 := Scalar.extui v155
  let c0_i32_120 : BitVec 32 := 0#32
  let v157 : BitVec 1 := Scalar.cmpi .slt v153 c0_i32_120
  let v158 : BitVec 32 := Scalar.extui v157
  let v159 : BitVec 32 := Scalar.subi v156 v158
  let c2_i32_118 : BitVec 32 := 2#32
  let c0_i32_121 : BitVec 32 := 0#32
  let v160 : BitVec 1 := Scalar.cmpi .sgt c2_i32_118 c0_i32_121
  let v161 : BitVec 32 := Scalar.extui v160
  let c0_i32_122 : BitVec 32 := 0#32
  let v162 : BitVec 1 := Scalar.cmpi .slt c2_i32_118 c0_i32_122
  let v163 : BitVec 32 := Scalar.extui v162
  let v164 : BitVec 32 := Scalar.subi v161 v163
  let v165 : BitVec 1 := Scalar.cmpi .ne v159 v164
  let v166 : BitVec 32 := Scalar.remsi v153 c2_i32_118
  let c0_i32_123 : BitVec 32 := 0#32
  let v167 : BitVec 1 := Scalar.cmpi .ne v166 c0_i32_123
  let v168 : BitVec 1 := Scalar.andi v165 v167
  let v154 : BitVec 32 := Scalar.divsi v153 c2_i32_118
  let c1_i32_124 : BitVec 32 := 1#32
  let v169 : BitVec 32 := Scalar.subi v154 c1_i32_124
  let v170 : BitVec 32 := Scalar.select v168 v169 v154
  v170
def k0_off10 (k0_t2 : Fin k0_t2_loop.trips) : Fin 2 → Nat :=
  let c0_i32_50 : BitVec 32 := 0#32
  let c1_i32_52 : BitVec 32 := 1#32
  let arg14 : BitVec 32 := Scf.iv c0_i32_50 c1_i32_52 k0_t2
  let c7168_i32_116 : BitVec 32 := 7168#32
  let v151 : BitVec 32 := Scalar.muli arg14 c7168_i32_116
  let c0_i32_114 : BitVec 32 := 0#32
  let c7168_i32_117 : BitVec 32 := 7168#32
  let v152 : BitVec 32 := Scalar.muli c0_i32_114 c7168_i32_117
  let v153 : BitVec 32 := Scalar.addi v151 v152
  let c0_i32_119 : BitVec 32 := 0#32
  let v155 : BitVec 1 := Scalar.cmpi .sgt v153 c0_i32_119
  let v156 : BitVec 32 := Scalar.extui v155
  let c0_i32_120 : BitVec 32 := 0#32
  let v157 : BitVec 1 := Scalar.cmpi .slt v153 c0_i32_120
  let v158 : BitVec 32 := Scalar.extui v157
  let v159 : BitVec 32 := Scalar.subi v156 v158
  let c2_i32_118 : BitVec 32 := 2#32
  let c0_i32_121 : BitVec 32 := 0#32
  let v160 : BitVec 1 := Scalar.cmpi .sgt c2_i32_118 c0_i32_121
  let v161 : BitVec 32 := Scalar.extui v160
  let c0_i32_122 : BitVec 32 := 0#32
  let v162 : BitVec 1 := Scalar.cmpi .slt c2_i32_118 c0_i32_122
  let v163 : BitVec 32 := Scalar.extui v162
  let v164 : BitVec 32 := Scalar.subi v161 v163
  let v165 : BitVec 1 := Scalar.cmpi .ne v159 v164
  let v166 : BitVec 32 := Scalar.remsi v153 c2_i32_118
  let c0_i32_123 : BitVec 32 := 0#32
  let v167 : BitVec 1 := Scalar.cmpi .ne v166 c0_i32_123
  let v168 : BitVec 1 := Scalar.andi v165 v167
  let v154 : BitVec 32 := Scalar.divsi v153 c2_i32_118
  let c1_i32_124 : BitVec 32 := 1#32
  let v169 : BitVec 32 := Scalar.subi v154 c1_i32_124
  let v170 : BitVec 32 := Scalar.select v168 v169 v154
  let v171 : BitVec 32 := v170
  let v172 : Index := Scalar.indexCast v171
  let c0_125 : Index := 0#32
  ![v172.toNat, 0]
def k0_off11 (k0_t2 : Fin k0_t2_loop.trips) : Fin 3 → Nat :=
  let c0_i32_50 : BitVec 32 := 0#32
  let c1_i32_52 : BitVec 32 := 1#32
  let arg14 : BitVec 32 := Scf.iv c0_i32_50 c1_i32_52 k0_t2
  let c6_i32_100 : BitVec 32 := 6#32
  let v120 : BitVec 32 := Scalar.remsi arg14 c6_i32_100
  let v186 : Index := Scalar.indexCast v120
  let c0_i32_114 : BitVec 32 := 0#32
  let c7168_i32_115 : BitVec 32 := 7168#32
  let v149 : BitVec 32 := Scalar.muli c0_i32_114 c7168_i32_115
  let v150 : BitVec 32 := v149
  let v187 : Index := Scalar.indexCast v150
  let c0_129 : Index := 0#32
  ![v186.toNat, v187.toNat, 0]
def k0_cond1 (k0_t2 : Fin k0_t2_loop.trips) : BitVec 1 :=
  let c0_i32_50 : BitVec 32 := 0#32
  let c1_i32_52 : BitVec 32 := 1#32
  let arg14 : BitVec 32 := Scf.iv c0_i32_50 c1_i32_52 k0_t2
  let c6_i32_137 : BitVec 32 := 6#32
  let v205 : BitVec 32 := Scalar.addi arg14 c6_i32_137
  let c84_i32 : BitVec 32 := 84#32
  let v206 : BitVec 1 := Scalar.cmpi .slt v205 c84_i32
  let v207 : BitVec 32 := Scalar.extui v206
  let c0_i32_138 : BitVec 32 := 0#32
  let v208 : BitVec 1 := Scalar.cmpi .ne v207 c0_i32_138
  v208

def k0_mult17 (k0_t2 : Fin k0_t2_loop.trips) : BitVec 32 :=
  let c0_i32_50 : BitVec 32 := 0#32
  let c1_i32_52 : BitVec 32 := 1#32
  let arg14 : BitVec 32 := Scf.iv c0_i32_50 c1_i32_52 k0_t2
  let c6_i32_139 : BitVec 32 := 6#32
  let v209 : BitVec 32 := Scalar.addi arg14 c6_i32_139
  let c0_i32_142 : BitVec 32 := 0#32
  let v212 : BitVec 1 := Scalar.cmpi .sgt v209 c0_i32_142
  let v213 : BitVec 32 := Scalar.extui v212
  let c0_i32_143 : BitVec 32 := 0#32
  let v214 : BitVec 1 := Scalar.cmpi .slt v209 c0_i32_143
  let v215 : BitVec 32 := Scalar.extui v214
  let v216 : BitVec 32 := Scalar.subi v213 v215
  let c3_i32_141 : BitVec 32 := 3#32
  let c0_i32_144 : BitVec 32 := 0#32
  let v217 : BitVec 1 := Scalar.cmpi .sgt c3_i32_141 c0_i32_144
  let v218 : BitVec 32 := Scalar.extui v217
  let c0_i32_145 : BitVec 32 := 0#32
  let v219 : BitVec 1 := Scalar.cmpi .slt c3_i32_141 c0_i32_145
  let v220 : BitVec 32 := Scalar.extui v219
  let v221 : BitVec 32 := Scalar.subi v218 v220
  let v222 : BitVec 1 := Scalar.cmpi .ne v216 v221
  let v223 : BitVec 32 := Scalar.remsi v209 c3_i32_141
  let c0_i32_146 : BitVec 32 := 0#32
  let v224 : BitVec 1 := Scalar.cmpi .ne v223 c0_i32_146
  let v225 : BitVec 1 := Scalar.andi v222 v224
  let v211 : BitVec 32 := Scalar.divsi v209 c3_i32_141
  let c1_i32_147 : BitVec 32 := 1#32
  let v226 : BitVec 32 := Scalar.subi v211 c1_i32_147
  let v227 : BitVec 32 := Scalar.select v225 v226 v211
  let c128_i32_150 : BitVec 32 := 128#32
  let v231 : BitVec 32 := Scalar.muli v227 c128_i32_150
  v231
def k0_off12 (k0_t2 : Fin k0_t2_loop.trips) : Fin 1 → Nat :=
  let c0_i32_50 : BitVec 32 := 0#32
  let c1_i32_52 : BitVec 32 := 1#32
  let arg14 : BitVec 32 := Scf.iv c0_i32_50 c1_i32_52 k0_t2
  let c6_i32_139 : BitVec 32 := 6#32
  let v209 : BitVec 32 := Scalar.addi arg14 c6_i32_139
  let c6_i32_140 : BitVec 32 := 6#32
  let v210 : BitVec 32 := Scalar.remsi v209 c6_i32_140
  ![v210.toNat]
def k0_off13 (k0_t2 : Fin k0_t2_loop.trips) : Fin 3 → Nat :=
  let c0_i32_50 : BitVec 32 := 0#32
  let c1_i32_52 : BitVec 32 := 1#32
  let arg14 : BitVec 32 := Scf.iv c0_i32_50 c1_i32_52 k0_t2
  let c6_i32_139 : BitVec 32 := 6#32
  let v209 : BitVec 32 := Scalar.addi arg14 c6_i32_139
  let c6_i32_140 : BitVec 32 := 6#32
  let v210 : BitVec 32 := Scalar.remsi v209 c6_i32_140
  let c0_i32_151 : BitVec 32 := 0#32
  let c0_i32_152 : BitVec 32 := 0#32
  ![v210.toNat, 0, 0]
def k0_off14 (k0_t2 : Fin k0_t2_loop.trips) : Fin 2 → Nat :=
  let c0_i32_50 : BitVec 32 := 0#32
  let c1_i32_52 : BitVec 32 := 1#32
  let arg14 : BitVec 32 := Scf.iv c0_i32_50 c1_i32_52 k0_t2
  let c6_i32_139 : BitVec 32 := 6#32
  let v209 : BitVec 32 := Scalar.addi arg14 c6_i32_139
  let c0_i32_142 : BitVec 32 := 0#32
  let v212 : BitVec 1 := Scalar.cmpi .sgt v209 c0_i32_142
  let v213 : BitVec 32 := Scalar.extui v212
  let c0_i32_143 : BitVec 32 := 0#32
  let v214 : BitVec 1 := Scalar.cmpi .slt v209 c0_i32_143
  let v215 : BitVec 32 := Scalar.extui v214
  let v216 : BitVec 32 := Scalar.subi v213 v215
  let c3_i32_141 : BitVec 32 := 3#32
  let c0_i32_144 : BitVec 32 := 0#32
  let v217 : BitVec 1 := Scalar.cmpi .sgt c3_i32_141 c0_i32_144
  let v218 : BitVec 32 := Scalar.extui v217
  let c0_i32_145 : BitVec 32 := 0#32
  let v219 : BitVec 1 := Scalar.cmpi .slt c3_i32_141 c0_i32_145
  let v220 : BitVec 32 := Scalar.extui v219
  let v221 : BitVec 32 := Scalar.subi v218 v220
  let v222 : BitVec 1 := Scalar.cmpi .ne v216 v221
  let v223 : BitVec 32 := Scalar.remsi v209 c3_i32_141
  let c0_i32_146 : BitVec 32 := 0#32
  let v224 : BitVec 1 := Scalar.cmpi .ne v223 c0_i32_146
  let v225 : BitVec 1 := Scalar.andi v222 v224
  let v211 : BitVec 32 := Scalar.divsi v209 c3_i32_141
  let c1_i32_147 : BitVec 32 := 1#32
  let v226 : BitVec 32 := Scalar.subi v211 c1_i32_147
  let v227 : BitVec 32 := Scalar.select v225 v226 v211
  let c3_i32_148 : BitVec 32 := 3#32
  let v228 : BitVec 32 := Scalar.muli v227 c3_i32_148
  let v229 : BitVec 32 := Scalar.subi v209 v228
  let c7168_i32_149 : BitVec 32 := 7168#32
  let v230 : BitVec 32 := Scalar.muli v229 c7168_i32_149
  let c128_i32_150 : BitVec 32 := 128#32
  let v231 : BitVec 32 := Scalar.muli v227 c128_i32_150
  let v232 : BitVec 32 := v231
  ![v230.toNat, v232.toNat]
@[reducible] def k0_t3_loop : Scf.Loop 32 :=
  let c1_i32_65 : BitVec 32 := 1#32
  let c27_i32 : BitVec 32 := 27#32
  let v76 : BitVec 32 := Scalar.addi c1_i32_65 c27_i32
  let c1_i32_66 : BitVec 32 := 1#32
  ⟨c1_i32_65, v76, c1_i32_66⟩
@[reducible] def k0_t4_loop : Scf.Loop 32 :=
  let c0_i32_103 : BitVec 32 := 0#32
  let c3_i32_104 : BitVec 32 := 3#32
  let v124 : BitVec 32 := Scalar.addi c0_i32_103 c3_i32_104
  let c1_i32_105 : BitVec 32 := 1#32
  ⟨c0_i32_103, v124, c1_i32_105⟩
def k0_mult18 (k0_t3 : Fin k0_t3_loop.trips) (k0_t4 : Fin k0_t4_loop.trips) : BitVec 32 :=
  let c1_i32_65 : BitVec 32 := 1#32
  let c1_i32_66 : BitVec 32 := 1#32
  let arg14 : BitVec 32 := Scf.iv c1_i32_65 c1_i32_66 k0_t3
  let c3_i32_119 : BitVec 32 := 3#32
  let v144 : BitVec 32 := Scalar.muli arg14 c3_i32_119
  let c0_i32_103 : BitVec 32 := 0#32
  let c1_i32_105 : BitVec 32 := 1#32
  let arg15 : BitVec 32 := Scf.iv c0_i32_103 c1_i32_105 k0_t4
  let v145 : BitVec 32 := Scalar.addi v144 arg15
  let c0_i32_123 : BitVec 32 := 0#32
  let v149 : BitVec 1 := Scalar.cmpi .sgt v145 c0_i32_123
  let v150 : BitVec 32 := Scalar.extui v149
  let c0_i32_124 : BitVec 32 := 0#32
  let v151 : BitVec 1 := Scalar.cmpi .slt v145 c0_i32_124
  let v152 : BitVec 32 := Scalar.extui v151
  let v153 : BitVec 32 := Scalar.subi v150 v152
  let c3_i32_122 : BitVec 32 := 3#32
  let c0_i32_125 : BitVec 32 := 0#32
  let v154 : BitVec 1 := Scalar.cmpi .sgt c3_i32_122 c0_i32_125
  let v155 : BitVec 32 := Scalar.extui v154
  let c0_i32_126 : BitVec 32 := 0#32
  let v156 : BitVec 1 := Scalar.cmpi .slt c3_i32_122 c0_i32_126
  let v157 : BitVec 32 := Scalar.extui v156
  let v158 : BitVec 32 := Scalar.subi v155 v157
  let v159 : BitVec 1 := Scalar.cmpi .ne v153 v158
  let v160 : BitVec 32 := Scalar.remsi v145 c3_i32_122
  let c0_i32_127 : BitVec 32 := 0#32
  let v161 : BitVec 1 := Scalar.cmpi .ne v160 c0_i32_127
  let v162 : BitVec 1 := Scalar.andi v159 v161
  let v148 : BitVec 32 := Scalar.divsi v145 c3_i32_122
  let c1_i32_128 : BitVec 32 := 1#32
  let v163 : BitVec 32 := Scalar.subi v148 c1_i32_128
  let v164 : BitVec 32 := Scalar.select v162 v163 v148
  let c128_i32_131 : BitVec 32 := 128#32
  let v168 : BitVec 32 := Scalar.muli v164 c128_i32_131
  v168
def k0_off15 (k0_t3 : Fin k0_t3_loop.trips) (k0_t4 : Fin k0_t4_loop.trips) : Fin 1 → Nat :=
  let c1_i32_65 : BitVec 32 := 1#32
  let c1_i32_66 : BitVec 32 := 1#32
  let arg14 : BitVec 32 := Scf.iv c1_i32_65 c1_i32_66 k0_t3
  let c3_i32_119 : BitVec 32 := 3#32
  let v144 : BitVec 32 := Scalar.muli arg14 c3_i32_119
  let c0_i32_103 : BitVec 32 := 0#32
  let c1_i32_105 : BitVec 32 := 1#32
  let arg15 : BitVec 32 := Scf.iv c0_i32_103 c1_i32_105 k0_t4
  let v145 : BitVec 32 := Scalar.addi v144 arg15
  let c6_i32_121 : BitVec 32 := 6#32
  let v147 : BitVec 32 := Scalar.remsi v145 c6_i32_121
  ![v147.toNat]
def k0_off16 (k0_t3 : Fin k0_t3_loop.trips) (k0_t4 : Fin k0_t4_loop.trips) : Fin 3 → Nat :=
  let c1_i32_65 : BitVec 32 := 1#32
  let c1_i32_66 : BitVec 32 := 1#32
  let arg14 : BitVec 32 := Scf.iv c1_i32_65 c1_i32_66 k0_t3
  let c3_i32_119 : BitVec 32 := 3#32
  let v144 : BitVec 32 := Scalar.muli arg14 c3_i32_119
  let c0_i32_103 : BitVec 32 := 0#32
  let c1_i32_105 : BitVec 32 := 1#32
  let arg15 : BitVec 32 := Scf.iv c0_i32_103 c1_i32_105 k0_t4
  let v145 : BitVec 32 := Scalar.addi v144 arg15
  let c6_i32_121 : BitVec 32 := 6#32
  let v147 : BitVec 32 := Scalar.remsi v145 c6_i32_121
  let c0_i32_132 : BitVec 32 := 0#32
  let c0_i32_133 : BitVec 32 := 0#32
  ![v147.toNat, 0, 0]
def k0_off17 (k0_t3 : Fin k0_t3_loop.trips) (k0_t4 : Fin k0_t4_loop.trips) : Fin 2 → Nat :=
  let c1_i32_65 : BitVec 32 := 1#32
  let c1_i32_66 : BitVec 32 := 1#32
  let arg14 : BitVec 32 := Scf.iv c1_i32_65 c1_i32_66 k0_t3
  let c3_i32_119 : BitVec 32 := 3#32
  let v144 : BitVec 32 := Scalar.muli arg14 c3_i32_119
  let c0_i32_103 : BitVec 32 := 0#32
  let c1_i32_105 : BitVec 32 := 1#32
  let arg15 : BitVec 32 := Scf.iv c0_i32_103 c1_i32_105 k0_t4
  let v145 : BitVec 32 := Scalar.addi v144 arg15
  let c0_i32_123 : BitVec 32 := 0#32
  let v149 : BitVec 1 := Scalar.cmpi .sgt v145 c0_i32_123
  let v150 : BitVec 32 := Scalar.extui v149
  let c0_i32_124 : BitVec 32 := 0#32
  let v151 : BitVec 1 := Scalar.cmpi .slt v145 c0_i32_124
  let v152 : BitVec 32 := Scalar.extui v151
  let v153 : BitVec 32 := Scalar.subi v150 v152
  let c3_i32_122 : BitVec 32 := 3#32
  let c0_i32_125 : BitVec 32 := 0#32
  let v154 : BitVec 1 := Scalar.cmpi .sgt c3_i32_122 c0_i32_125
  let v155 : BitVec 32 := Scalar.extui v154
  let c0_i32_126 : BitVec 32 := 0#32
  let v156 : BitVec 1 := Scalar.cmpi .slt c3_i32_122 c0_i32_126
  let v157 : BitVec 32 := Scalar.extui v156
  let v158 : BitVec 32 := Scalar.subi v155 v157
  let v159 : BitVec 1 := Scalar.cmpi .ne v153 v158
  let v160 : BitVec 32 := Scalar.remsi v145 c3_i32_122
  let c0_i32_127 : BitVec 32 := 0#32
  let v161 : BitVec 1 := Scalar.cmpi .ne v160 c0_i32_127
  let v162 : BitVec 1 := Scalar.andi v159 v161
  let v148 : BitVec 32 := Scalar.divsi v145 c3_i32_122
  let c1_i32_128 : BitVec 32 := 1#32
  let v163 : BitVec 32 := Scalar.subi v148 c1_i32_128
  let v164 : BitVec 32 := Scalar.select v162 v163 v148
  let c3_i32_129 : BitVec 32 := 3#32
  let v165 : BitVec 32 := Scalar.muli v164 c3_i32_129
  let v166 : BitVec 32 := Scalar.subi v145 v165
  let c7168_i32_130 : BitVec 32 := 7168#32
  let v167 : BitVec 32 := Scalar.muli v166 c7168_i32_130
  let c128_i32_131 : BitVec 32 := 128#32
  let v168 : BitVec 32 := Scalar.muli v164 c128_i32_131
  let v169 : BitVec 32 := v168
  ![v167.toNat, v169.toNat]
def k0_cond2 (k0_t3 : Fin k0_t3_loop.trips) (k0_t4 : Fin k0_t4_loop.trips) : BitVec 1 :=
  let c1_i32_65 : BitVec 32 := 1#32
  let c1_i32_66 : BitVec 32 := 1#32
  let arg14 : BitVec 32 := Scf.iv c1_i32_65 c1_i32_66 k0_t3
  let c3_i32_119 : BitVec 32 := 3#32
  let v144 : BitVec 32 := Scalar.muli arg14 c3_i32_119
  let c0_i32_103 : BitVec 32 := 0#32
  let c1_i32_105 : BitVec 32 := 1#32
  let arg15 : BitVec 32 := Scf.iv c0_i32_103 c1_i32_105 k0_t4
  let v145 : BitVec 32 := Scalar.addi v144 arg15
  let c3_i32_134 : BitVec 32 := 3#32
  let v175 : BitVec 32 := Scalar.subi v145 c3_i32_134
  let c6_i32_136 : BitVec 32 := 6#32
  let v177 : BitVec 1 := Scalar.cmpi .sge v175 c6_i32_136
  let v178 : BitVec 32 := Scalar.extui v177
  let c0_i32_137 : BitVec 32 := 0#32
  let v179 : BitVec 1 := Scalar.cmpi .ne v178 c0_i32_137
  v179

def k0_mult19 (k0_t3 : Fin k0_t3_loop.trips) (k0_t4 : Fin k0_t4_loop.trips) : BitVec 32 :=
  let c1_i32_65 : BitVec 32 := 1#32
  let c1_i32_66 : BitVec 32 := 1#32
  let arg14 : BitVec 32 := Scf.iv c1_i32_65 c1_i32_66 k0_t3
  let c3_i32_119 : BitVec 32 := 3#32
  let v144 : BitVec 32 := Scalar.muli arg14 c3_i32_119
  let c0_i32_103 : BitVec 32 := 0#32
  let c1_i32_105 : BitVec 32 := 1#32
  let arg15 : BitVec 32 := Scf.iv c0_i32_103 c1_i32_105 k0_t4
  let v145 : BitVec 32 := Scalar.addi v144 arg15
  let c3_i32_134 : BitVec 32 := 3#32
  let v175 : BitVec 32 := Scalar.subi v145 c3_i32_134
  let c6_i32_193 : BitVec 32 := 6#32
  let v312 : BitVec 32 := Scalar.subi v175 c6_i32_193
  let c0_i32_196 : BitVec 32 := 0#32
  let v315 : BitVec 1 := Scalar.cmpi .sgt v312 c0_i32_196
  let v316 : BitVec 32 := Scalar.extui v315
  let c0_i32_197 : BitVec 32 := 0#32
  let v317 : BitVec 1 := Scalar.cmpi .slt v312 c0_i32_197
  let v318 : BitVec 32 := Scalar.extui v317
  let v319 : BitVec 32 := Scalar.subi v316 v318
  let c3_i32_195 : BitVec 32 := 3#32
  let c0_i32_198 : BitVec 32 := 0#32
  let v320 : BitVec 1 := Scalar.cmpi .sgt c3_i32_195 c0_i32_198
  let v321 : BitVec 32 := Scalar.extui v320
  let c0_i32_199 : BitVec 32 := 0#32
  let v322 : BitVec 1 := Scalar.cmpi .slt c3_i32_195 c0_i32_199
  let v323 : BitVec 32 := Scalar.extui v322
  let v324 : BitVec 32 := Scalar.subi v321 v323
  let v325 : BitVec 1 := Scalar.cmpi .ne v319 v324
  let v326 : BitVec 32 := Scalar.remsi v312 c3_i32_195
  let c0_i32_200 : BitVec 32 := 0#32
  let v327 : BitVec 1 := Scalar.cmpi .ne v326 c0_i32_200
  let v328 : BitVec 1 := Scalar.andi v325 v327
  let v314 : BitVec 32 := Scalar.divsi v312 c3_i32_195
  let c1_i32_201 : BitVec 32 := 1#32
  let v329 : BitVec 32 := Scalar.subi v314 c1_i32_201
  let v330 : BitVec 32 := Scalar.select v328 v329 v314
  let c128_i32_204 : BitVec 32 := 128#32
  let v334 : BitVec 32 := Scalar.muli v330 c128_i32_204
  v334
def k0_off18 (k0_t3 : Fin k0_t3_loop.trips) (k0_t4 : Fin k0_t4_loop.trips) : Fin 1 → Nat :=
  let c1_i32_65 : BitVec 32 := 1#32
  let c1_i32_66 : BitVec 32 := 1#32
  let arg14 : BitVec 32 := Scf.iv c1_i32_65 c1_i32_66 k0_t3
  let c3_i32_119 : BitVec 32 := 3#32
  let v144 : BitVec 32 := Scalar.muli arg14 c3_i32_119
  let c0_i32_103 : BitVec 32 := 0#32
  let c1_i32_105 : BitVec 32 := 1#32
  let arg15 : BitVec 32 := Scf.iv c0_i32_103 c1_i32_105 k0_t4
  let v145 : BitVec 32 := Scalar.addi v144 arg15
  let c3_i32_134 : BitVec 32 := 3#32
  let v175 : BitVec 32 := Scalar.subi v145 c3_i32_134
  let c6_i32_193 : BitVec 32 := 6#32
  let v312 : BitVec 32 := Scalar.subi v175 c6_i32_193
  let c6_i32_194 : BitVec 32 := 6#32
  let v313 : BitVec 32 := Scalar.remsi v312 c6_i32_194
  ![v313.toNat]
def k0_off19 (k0_t3 : Fin k0_t3_loop.trips) (k0_t4 : Fin k0_t4_loop.trips) : Fin 2 → Nat :=
  let c1_i32_65 : BitVec 32 := 1#32
  let c1_i32_66 : BitVec 32 := 1#32
  let arg14 : BitVec 32 := Scf.iv c1_i32_65 c1_i32_66 k0_t3
  let c3_i32_119 : BitVec 32 := 3#32
  let v144 : BitVec 32 := Scalar.muli arg14 c3_i32_119
  let c0_i32_103 : BitVec 32 := 0#32
  let c1_i32_105 : BitVec 32 := 1#32
  let arg15 : BitVec 32 := Scf.iv c0_i32_103 c1_i32_105 k0_t4
  let v145 : BitVec 32 := Scalar.addi v144 arg15
  let c3_i32_134 : BitVec 32 := 3#32
  let v175 : BitVec 32 := Scalar.subi v145 c3_i32_134
  let c6_i32_193 : BitVec 32 := 6#32
  let v312 : BitVec 32 := Scalar.subi v175 c6_i32_193
  let c0_i32_196 : BitVec 32 := 0#32
  let v315 : BitVec 1 := Scalar.cmpi .sgt v312 c0_i32_196
  let v316 : BitVec 32 := Scalar.extui v315
  let c0_i32_197 : BitVec 32 := 0#32
  let v317 : BitVec 1 := Scalar.cmpi .slt v312 c0_i32_197
  let v318 : BitVec 32 := Scalar.extui v317
  let v319 : BitVec 32 := Scalar.subi v316 v318
  let c3_i32_195 : BitVec 32 := 3#32
  let c0_i32_198 : BitVec 32 := 0#32
  let v320 : BitVec 1 := Scalar.cmpi .sgt c3_i32_195 c0_i32_198
  let v321 : BitVec 32 := Scalar.extui v320
  let c0_i32_199 : BitVec 32 := 0#32
  let v322 : BitVec 1 := Scalar.cmpi .slt c3_i32_195 c0_i32_199
  let v323 : BitVec 32 := Scalar.extui v322
  let v324 : BitVec 32 := Scalar.subi v321 v323
  let v325 : BitVec 1 := Scalar.cmpi .ne v319 v324
  let v326 : BitVec 32 := Scalar.remsi v312 c3_i32_195
  let c0_i32_200 : BitVec 32 := 0#32
  let v327 : BitVec 1 := Scalar.cmpi .ne v326 c0_i32_200
  let v328 : BitVec 1 := Scalar.andi v325 v327
  let v314 : BitVec 32 := Scalar.divsi v312 c3_i32_195
  let c1_i32_201 : BitVec 32 := 1#32
  let v329 : BitVec 32 := Scalar.subi v314 c1_i32_201
  let v330 : BitVec 32 := Scalar.select v328 v329 v314
  let c3_i32_202 : BitVec 32 := 3#32
  let v331 : BitVec 32 := Scalar.muli v330 c3_i32_202
  let v332 : BitVec 32 := Scalar.subi v312 v331
  let c7168_i32_203 : BitVec 32 := 7168#32
  let v333 : BitVec 32 := Scalar.muli v332 c7168_i32_203
  let c128_i32_204 : BitVec 32 := 128#32
  let v334 : BitVec 32 := Scalar.muli v330 c128_i32_204
  let v335 : BitVec 32 := v334
  ![v333.toNat, v335.toNat]
def k0_off20 (k0_t3 : Fin k0_t3_loop.trips) (k0_t4 : Fin k0_t4_loop.trips) : Fin 3 → Nat :=
  let c1_i32_65 : BitVec 32 := 1#32
  let c1_i32_66 : BitVec 32 := 1#32
  let arg14 : BitVec 32 := Scf.iv c1_i32_65 c1_i32_66 k0_t3
  let c3_i32_119 : BitVec 32 := 3#32
  let v144 : BitVec 32 := Scalar.muli arg14 c3_i32_119
  let c0_i32_103 : BitVec 32 := 0#32
  let c1_i32_105 : BitVec 32 := 1#32
  let arg15 : BitVec 32 := Scf.iv c0_i32_103 c1_i32_105 k0_t4
  let v145 : BitVec 32 := Scalar.addi v144 arg15
  let c3_i32_134 : BitVec 32 := 3#32
  let v175 : BitVec 32 := Scalar.subi v145 c3_i32_134
  let c6_i32_193 : BitVec 32 := 6#32
  let v312 : BitVec 32 := Scalar.subi v175 c6_i32_193
  let c6_i32_194 : BitVec 32 := 6#32
  let v313 : BitVec 32 := Scalar.remsi v312 c6_i32_194
  let c0_i32_205 : BitVec 32 := 0#32
  let c0_i32_206 : BitVec 32 := 0#32
  ![v313.toNat, 0, 0]
def k0_mult20 : BitVec 32 :=
  let c0_i32_138 : BitVec 32 := 0#32
  let c7168_i32_139 : BitVec 32 := 7168#32
  let v180 : BitVec 32 := Scalar.muli c0_i32_138 c7168_i32_139
  v180
def k0_mult21 (k0_t4 : Fin k0_t4_loop.trips) : BitVec 32 :=
  let c0_i32_103 : BitVec 32 := 0#32
  let c1_i32_105 : BitVec 32 := 1#32
  let arg15 : BitVec 32 := Scf.iv c0_i32_103 c1_i32_105 k0_t4
  let c7168_i32_140 : BitVec 32 := 7168#32
  let v182 : BitVec 32 := Scalar.muli arg15 c7168_i32_140
  let c0_i32_138 : BitVec 32 := 0#32
  let c7168_i32_141 : BitVec 32 := 7168#32
  let v183 : BitVec 32 := Scalar.muli c0_i32_138 c7168_i32_141
  let v184 : BitVec 32 := Scalar.addi v182 v183
  let c0_i32_143 : BitVec 32 := 0#32
  let v186 : BitVec 1 := Scalar.cmpi .sgt v184 c0_i32_143
  let v187 : BitVec 32 := Scalar.extui v186
  let c0_i32_144 : BitVec 32 := 0#32
  let v188 : BitVec 1 := Scalar.cmpi .slt v184 c0_i32_144
  let v189 : BitVec 32 := Scalar.extui v188
  let v190 : BitVec 32 := Scalar.subi v187 v189
  let c2_i32_142 : BitVec 32 := 2#32
  let c0_i32_145 : BitVec 32 := 0#32
  let v191 : BitVec 1 := Scalar.cmpi .sgt c2_i32_142 c0_i32_145
  let v192 : BitVec 32 := Scalar.extui v191
  let c0_i32_146 : BitVec 32 := 0#32
  let v193 : BitVec 1 := Scalar.cmpi .slt c2_i32_142 c0_i32_146
  let v194 : BitVec 32 := Scalar.extui v193
  let v195 : BitVec 32 := Scalar.subi v192 v194
  let v196 : BitVec 1 := Scalar.cmpi .ne v190 v195
  let v197 : BitVec 32 := Scalar.remsi v184 c2_i32_142
  let c0_i32_147 : BitVec 32 := 0#32
  let v198 : BitVec 1 := Scalar.cmpi .ne v197 c0_i32_147
  let v199 : BitVec 1 := Scalar.andi v196 v198
  let v185 : BitVec 32 := Scalar.divsi v184 c2_i32_142
  let c1_i32_148 : BitVec 32 := 1#32
  let v200 : BitVec 32 := Scalar.subi v185 c1_i32_148
  let v201 : BitVec 32 := Scalar.select v199 v200 v185
  v201
def k0_off21 (k0_t4 : Fin k0_t4_loop.trips) : Fin 2 → Nat :=
  let c0_i32_103 : BitVec 32 := 0#32
  let c1_i32_105 : BitVec 32 := 1#32
  let arg15 : BitVec 32 := Scf.iv c0_i32_103 c1_i32_105 k0_t4
  let c7168_i32_140 : BitVec 32 := 7168#32
  let v182 : BitVec 32 := Scalar.muli arg15 c7168_i32_140
  let c0_i32_138 : BitVec 32 := 0#32
  let c7168_i32_141 : BitVec 32 := 7168#32
  let v183 : BitVec 32 := Scalar.muli c0_i32_138 c7168_i32_141
  let v184 : BitVec 32 := Scalar.addi v182 v183
  let c0_i32_143 : BitVec 32 := 0#32
  let v186 : BitVec 1 := Scalar.cmpi .sgt v184 c0_i32_143
  let v187 : BitVec 32 := Scalar.extui v186
  let c0_i32_144 : BitVec 32 := 0#32
  let v188 : BitVec 1 := Scalar.cmpi .slt v184 c0_i32_144
  let v189 : BitVec 32 := Scalar.extui v188
  let v190 : BitVec 32 := Scalar.subi v187 v189
  let c2_i32_142 : BitVec 32 := 2#32
  let c0_i32_145 : BitVec 32 := 0#32
  let v191 : BitVec 1 := Scalar.cmpi .sgt c2_i32_142 c0_i32_145
  let v192 : BitVec 32 := Scalar.extui v191
  let c0_i32_146 : BitVec 32 := 0#32
  let v193 : BitVec 1 := Scalar.cmpi .slt c2_i32_142 c0_i32_146
  let v194 : BitVec 32 := Scalar.extui v193
  let v195 : BitVec 32 := Scalar.subi v192 v194
  let v196 : BitVec 1 := Scalar.cmpi .ne v190 v195
  let v197 : BitVec 32 := Scalar.remsi v184 c2_i32_142
  let c0_i32_147 : BitVec 32 := 0#32
  let v198 : BitVec 1 := Scalar.cmpi .ne v197 c0_i32_147
  let v199 : BitVec 1 := Scalar.andi v196 v198
  let v185 : BitVec 32 := Scalar.divsi v184 c2_i32_142
  let c1_i32_148 : BitVec 32 := 1#32
  let v200 : BitVec 32 := Scalar.subi v185 c1_i32_148
  let v201 : BitVec 32 := Scalar.select v199 v200 v185
  let v202 : BitVec 32 := v201
  let v203 : Index := Scalar.indexCast v202
  let c0_149 : Index := 0#32
  ![v203.toNat, 0]
def k0_off22 (k0_t3 : Fin k0_t3_loop.trips) (k0_t4 : Fin k0_t4_loop.trips) : Fin 3 → Nat :=
  let c1_i32_65 : BitVec 32 := 1#32
  let c1_i32_66 : BitVec 32 := 1#32
  let arg14 : BitVec 32 := Scf.iv c1_i32_65 c1_i32_66 k0_t3
  let c3_i32_119 : BitVec 32 := 3#32
  let v144 : BitVec 32 := Scalar.muli arg14 c3_i32_119
  let c0_i32_103 : BitVec 32 := 0#32
  let c1_i32_105 : BitVec 32 := 1#32
  let arg15 : BitVec 32 := Scf.iv c0_i32_103 c1_i32_105 k0_t4
  let v145 : BitVec 32 := Scalar.addi v144 arg15
  let c3_i32_134 : BitVec 32 := 3#32
  let v175 : BitVec 32 := Scalar.subi v145 c3_i32_134
  let c6_i32_135 : BitVec 32 := 6#32
  let v176 : BitVec 32 := Scalar.remsi v175 c6_i32_135
  let v217 : Index := Scalar.indexCast v176
  let c0_i32_138 : BitVec 32 := 0#32
  let c7168_i32_139 : BitVec 32 := 7168#32
  let v180 : BitVec 32 := Scalar.muli c0_i32_138 c7168_i32_139
  let v181 : BitVec 32 := v180
  let v218 : Index := Scalar.indexCast v181
  let c0_154 : Index := 0#32
  ![v217.toNat, v218.toNat, 0]
def k0_mult22 : BitVec 32 :=
  let c0_i32_138 : BitVec 32 := 0#32
  let c7168_i32_155 : BitVec 32 := 7168#32
  let v222 : BitVec 32 := Scalar.muli c0_i32_138 c7168_i32_155
  v222
def k0_mult23 (k0_t4 : Fin k0_t4_loop.trips) : BitVec 32 :=
  let c0_i32_103 : BitVec 32 := 0#32
  let c1_i32_105 : BitVec 32 := 1#32
  let arg15 : BitVec 32 := Scf.iv c0_i32_103 c1_i32_105 k0_t4
  let c7168_i32_156 : BitVec 32 := 7168#32
  let v224 : BitVec 32 := Scalar.muli arg15 c7168_i32_156
  let c0_i32_138 : BitVec 32 := 0#32
  let c7168_i32_157 : BitVec 32 := 7168#32
  let v225 : BitVec 32 := Scalar.muli c0_i32_138 c7168_i32_157
  let v226 : BitVec 32 := Scalar.addi v224 v225
  let c0_i32_159 : BitVec 32 := 0#32
  let v228 : BitVec 1 := Scalar.cmpi .sgt v226 c0_i32_159
  let v229 : BitVec 32 := Scalar.extui v228
  let c0_i32_160 : BitVec 32 := 0#32
  let v230 : BitVec 1 := Scalar.cmpi .slt v226 c0_i32_160
  let v231 : BitVec 32 := Scalar.extui v230
  let v232 : BitVec 32 := Scalar.subi v229 v231
  let c2_i32_158 : BitVec 32 := 2#32
  let c0_i32_161 : BitVec 32 := 0#32
  let v233 : BitVec 1 := Scalar.cmpi .sgt c2_i32_158 c0_i32_161
  let v234 : BitVec 32 := Scalar.extui v233
  let c0_i32_162 : BitVec 32 := 0#32
  let v235 : BitVec 1 := Scalar.cmpi .slt c2_i32_158 c0_i32_162
  let v236 : BitVec 32 := Scalar.extui v235
  let v237 : BitVec 32 := Scalar.subi v234 v236
  let v238 : BitVec 1 := Scalar.cmpi .ne v232 v237
  let v239 : BitVec 32 := Scalar.remsi v226 c2_i32_158
  let c0_i32_163 : BitVec 32 := 0#32
  let v240 : BitVec 1 := Scalar.cmpi .ne v239 c0_i32_163
  let v241 : BitVec 1 := Scalar.andi v238 v240
  let v227 : BitVec 32 := Scalar.divsi v226 c2_i32_158
  let c1_i32_164 : BitVec 32 := 1#32
  let v242 : BitVec 32 := Scalar.subi v227 c1_i32_164
  let v243 : BitVec 32 := Scalar.select v241 v242 v227
  v243
def k0_off23 (k0_t3 : Fin k0_t3_loop.trips) (k0_t4 : Fin k0_t4_loop.trips) : Fin 3 → Nat :=
  let c1_i32_65 : BitVec 32 := 1#32
  let c1_i32_66 : BitVec 32 := 1#32
  let arg14 : BitVec 32 := Scf.iv c1_i32_65 c1_i32_66 k0_t3
  let c3_i32_119 : BitVec 32 := 3#32
  let v144 : BitVec 32 := Scalar.muli arg14 c3_i32_119
  let c0_i32_103 : BitVec 32 := 0#32
  let c1_i32_105 : BitVec 32 := 1#32
  let arg15 : BitVec 32 := Scf.iv c0_i32_103 c1_i32_105 k0_t4
  let v145 : BitVec 32 := Scalar.addi v144 arg15
  let c6_i32_120 : BitVec 32 := 6#32
  let v146 : BitVec 32 := Scalar.remsi v145 c6_i32_120
  let v261 : Index := Scalar.indexCast v146
  let c0_i32_138 : BitVec 32 := 0#32
  let c7168_i32_155 : BitVec 32 := 7168#32
  let v222 : BitVec 32 := Scalar.muli c0_i32_138 c7168_i32_155
  let v223 : BitVec 32 := v222
  let v262 : Index := Scalar.indexCast v223
  let c0_170 : Index := 0#32
  ![v261.toNat, v262.toNat, 0]
def k0_mult24 (k0_t3 : Fin k0_t3_loop.trips) (k0_t4 : Fin k0_t4_loop.trips) : BitVec 32 :=
  let c1_i32_65 : BitVec 32 := 1#32
  let c1_i32_66 : BitVec 32 := 1#32
  let arg14 : BitVec 32 := Scf.iv c1_i32_65 c1_i32_66 k0_t3
  let c3_i32_119 : BitVec 32 := 3#32
  let v144 : BitVec 32 := Scalar.muli arg14 c3_i32_119
  let c0_i32_103 : BitVec 32 := 0#32
  let c1_i32_105 : BitVec 32 := 1#32
  let arg15 : BitVec 32 := Scf.iv c0_i32_103 c1_i32_105 k0_t4
  let v145 : BitVec 32 := Scalar.addi v144 arg15
  let c3_i32_134 : BitVec 32 := 3#32
  let v175 : BitVec 32 := Scalar.subi v145 c3_i32_134
  let c0_i32_180 : BitVec 32 := 0#32
  let v282 : BitVec 1 := Scalar.cmpi .sgt v175 c0_i32_180
  let v283 : BitVec 32 := Scalar.extui v282
  let c0_i32_181 : BitVec 32 := 0#32
  let v284 : BitVec 1 := Scalar.cmpi .slt v175 c0_i32_181
  let v285 : BitVec 32 := Scalar.extui v284
  let v286 : BitVec 32 := Scalar.subi v283 v285
  let c3_i32_179 : BitVec 32 := 3#32
  let c0_i32_182 : BitVec 32 := 0#32
  let v287 : BitVec 1 := Scalar.cmpi .sgt c3_i32_179 c0_i32_182
  let v288 : BitVec 32 := Scalar.extui v287
  let c0_i32_183 : BitVec 32 := 0#32
  let v289 : BitVec 1 := Scalar.cmpi .slt c3_i32_179 c0_i32_183
  let v290 : BitVec 32 := Scalar.extui v289
  let v291 : BitVec 32 := Scalar.subi v288 v290
  let v292 : BitVec 1 := Scalar.cmpi .ne v286 v291
  let v293 : BitVec 32 := Scalar.remsi v175 c3_i32_179
  let c0_i32_184 : BitVec 32 := 0#32
  let v294 : BitVec 1 := Scalar.cmpi .ne v293 c0_i32_184
  let v295 : BitVec 1 := Scalar.andi v292 v294
  let v281 : BitVec 32 := Scalar.divsi v175 c3_i32_179
  let c1_i32_185 : BitVec 32 := 1#32
  let v296 : BitVec 32 := Scalar.subi v281 c1_i32_185
  let v297 : BitVec 32 := Scalar.select v295 v296 v281
  let c128_i32_188 : BitVec 32 := 128#32
  let v301 : BitVec 32 := Scalar.muli v297 c128_i32_188
  v301
def k0_off24 (k0_t3 : Fin k0_t3_loop.trips) (k0_t4 : Fin k0_t4_loop.trips) : Fin 1 → Nat :=
  let c1_i32_65 : BitVec 32 := 1#32
  let c1_i32_66 : BitVec 32 := 1#32
  let arg14 : BitVec 32 := Scf.iv c1_i32_65 c1_i32_66 k0_t3
  let c3_i32_119 : BitVec 32 := 3#32
  let v144 : BitVec 32 := Scalar.muli arg14 c3_i32_119
  let c0_i32_103 : BitVec 32 := 0#32
  let c1_i32_105 : BitVec 32 := 1#32
  let arg15 : BitVec 32 := Scf.iv c0_i32_103 c1_i32_105 k0_t4
  let v145 : BitVec 32 := Scalar.addi v144 arg15
  let c3_i32_134 : BitVec 32 := 3#32
  let v175 : BitVec 32 := Scalar.subi v145 c3_i32_134
  let c6_i32_178 : BitVec 32 := 6#32
  let v280 : BitVec 32 := Scalar.remsi v175 c6_i32_178
  ![v280.toNat]
def k0_off25 (k0_t3 : Fin k0_t3_loop.trips) (k0_t4 : Fin k0_t4_loop.trips) : Fin 2 → Nat :=
  let c1_i32_65 : BitVec 32 := 1#32
  let c1_i32_66 : BitVec 32 := 1#32
  let arg14 : BitVec 32 := Scf.iv c1_i32_65 c1_i32_66 k0_t3
  let c3_i32_119 : BitVec 32 := 3#32
  let v144 : BitVec 32 := Scalar.muli arg14 c3_i32_119
  let c0_i32_103 : BitVec 32 := 0#32
  let c1_i32_105 : BitVec 32 := 1#32
  let arg15 : BitVec 32 := Scf.iv c0_i32_103 c1_i32_105 k0_t4
  let v145 : BitVec 32 := Scalar.addi v144 arg15
  let c3_i32_134 : BitVec 32 := 3#32
  let v175 : BitVec 32 := Scalar.subi v145 c3_i32_134
  let c0_i32_180 : BitVec 32 := 0#32
  let v282 : BitVec 1 := Scalar.cmpi .sgt v175 c0_i32_180
  let v283 : BitVec 32 := Scalar.extui v282
  let c0_i32_181 : BitVec 32 := 0#32
  let v284 : BitVec 1 := Scalar.cmpi .slt v175 c0_i32_181
  let v285 : BitVec 32 := Scalar.extui v284
  let v286 : BitVec 32 := Scalar.subi v283 v285
  let c3_i32_179 : BitVec 32 := 3#32
  let c0_i32_182 : BitVec 32 := 0#32
  let v287 : BitVec 1 := Scalar.cmpi .sgt c3_i32_179 c0_i32_182
  let v288 : BitVec 32 := Scalar.extui v287
  let c0_i32_183 : BitVec 32 := 0#32
  let v289 : BitVec 1 := Scalar.cmpi .slt c3_i32_179 c0_i32_183
  let v290 : BitVec 32 := Scalar.extui v289
  let v291 : BitVec 32 := Scalar.subi v288 v290
  let v292 : BitVec 1 := Scalar.cmpi .ne v286 v291
  let v293 : BitVec 32 := Scalar.remsi v175 c3_i32_179
  let c0_i32_184 : BitVec 32 := 0#32
  let v294 : BitVec 1 := Scalar.cmpi .ne v293 c0_i32_184
  let v295 : BitVec 1 := Scalar.andi v292 v294
  let v281 : BitVec 32 := Scalar.divsi v175 c3_i32_179
  let c1_i32_185 : BitVec 32 := 1#32
  let v296 : BitVec 32 := Scalar.subi v281 c1_i32_185
  let v297 : BitVec 32 := Scalar.select v295 v296 v281
  let c3_i32_186 : BitVec 32 := 3#32
  let v298 : BitVec 32 := Scalar.muli v297 c3_i32_186
  let v299 : BitVec 32 := Scalar.subi v175 v298
  let c7168_i32_187 : BitVec 32 := 7168#32
  let v300 : BitVec 32 := Scalar.muli v299 c7168_i32_187
  let c128_i32_188 : BitVec 32 := 128#32
  let v301 : BitVec 32 := Scalar.muli v297 c128_i32_188
  let v302 : BitVec 32 := v301
  ![v300.toNat, v302.toNat]
def k0_off26 (k0_t3 : Fin k0_t3_loop.trips) (k0_t4 : Fin k0_t4_loop.trips) : Fin 3 → Nat :=
  let c1_i32_65 : BitVec 32 := 1#32
  let c1_i32_66 : BitVec 32 := 1#32
  let arg14 : BitVec 32 := Scf.iv c1_i32_65 c1_i32_66 k0_t3
  let c3_i32_119 : BitVec 32 := 3#32
  let v144 : BitVec 32 := Scalar.muli arg14 c3_i32_119
  let c0_i32_103 : BitVec 32 := 0#32
  let c1_i32_105 : BitVec 32 := 1#32
  let arg15 : BitVec 32 := Scf.iv c0_i32_103 c1_i32_105 k0_t4
  let v145 : BitVec 32 := Scalar.addi v144 arg15
  let c3_i32_134 : BitVec 32 := 3#32
  let v175 : BitVec 32 := Scalar.subi v145 c3_i32_134
  let c6_i32_178 : BitVec 32 := 6#32
  let v280 : BitVec 32 := Scalar.remsi v175 c6_i32_178
  let c0_i32_189 : BitVec 32 := 0#32
  let c0_i32_190 : BitVec 32 := 0#32
  ![v280.toNat, 0, 0]
def k0_cond3 (k0_t3 : Fin k0_t3_loop.trips) (k0_t4 : Fin k0_t4_loop.trips) : BitVec 1 :=
  let c1_i32_65 : BitVec 32 := 1#32
  let c1_i32_66 : BitVec 32 := 1#32
  let arg14 : BitVec 32 := Scf.iv c1_i32_65 c1_i32_66 k0_t3
  let c3_i32_119 : BitVec 32 := 3#32
  let v144 : BitVec 32 := Scalar.muli arg14 c3_i32_119
  let c0_i32_103 : BitVec 32 := 0#32
  let c1_i32_105 : BitVec 32 := 1#32
  let arg15 : BitVec 32 := Scf.iv c0_i32_103 c1_i32_105 k0_t4
  let v145 : BitVec 32 := Scalar.addi v144 arg15
  let c6_i32_191 : BitVec 32 := 6#32
  let v308 : BitVec 32 := Scalar.addi v145 c6_i32_191
  let c84_i32 : BitVec 32 := 84#32
  let v309 : BitVec 1 := Scalar.cmpi .slt v308 c84_i32
  let v310 : BitVec 32 := Scalar.extui v309
  let c0_i32_192 : BitVec 32 := 0#32
  let v311 : BitVec 1 := Scalar.cmpi .ne v310 c0_i32_192
  v311

def k0_mult25 (k0_t3 : Fin k0_t3_loop.trips) (k0_t4 : Fin k0_t4_loop.trips) : BitVec 32 :=
  let c1_i32_65 : BitVec 32 := 1#32
  let c1_i32_66 : BitVec 32 := 1#32
  let arg14 : BitVec 32 := Scf.iv c1_i32_65 c1_i32_66 k0_t3
  let c3_i32_119 : BitVec 32 := 3#32
  let v144 : BitVec 32 := Scalar.muli arg14 c3_i32_119
  let c0_i32_103 : BitVec 32 := 0#32
  let c1_i32_105 : BitVec 32 := 1#32
  let arg15 : BitVec 32 := Scf.iv c0_i32_103 c1_i32_105 k0_t4
  let v145 : BitVec 32 := Scalar.addi v144 arg15
  let c6_i32_193 : BitVec 32 := 6#32
  let v312 : BitVec 32 := Scalar.addi v145 c6_i32_193
  let c0_i32_196 : BitVec 32 := 0#32
  let v315 : BitVec 1 := Scalar.cmpi .sgt v312 c0_i32_196
  let v316 : BitVec 32 := Scalar.extui v315
  let c0_i32_197 : BitVec 32 := 0#32
  let v317 : BitVec 1 := Scalar.cmpi .slt v312 c0_i32_197
  let v318 : BitVec 32 := Scalar.extui v317
  let v319 : BitVec 32 := Scalar.subi v316 v318
  let c3_i32_195 : BitVec 32 := 3#32
  let c0_i32_198 : BitVec 32 := 0#32
  let v320 : BitVec 1 := Scalar.cmpi .sgt c3_i32_195 c0_i32_198
  let v321 : BitVec 32 := Scalar.extui v320
  let c0_i32_199 : BitVec 32 := 0#32
  let v322 : BitVec 1 := Scalar.cmpi .slt c3_i32_195 c0_i32_199
  let v323 : BitVec 32 := Scalar.extui v322
  let v324 : BitVec 32 := Scalar.subi v321 v323
  let v325 : BitVec 1 := Scalar.cmpi .ne v319 v324
  let v326 : BitVec 32 := Scalar.remsi v312 c3_i32_195
  let c0_i32_200 : BitVec 32 := 0#32
  let v327 : BitVec 1 := Scalar.cmpi .ne v326 c0_i32_200
  let v328 : BitVec 1 := Scalar.andi v325 v327
  let v314 : BitVec 32 := Scalar.divsi v312 c3_i32_195
  let c1_i32_201 : BitVec 32 := 1#32
  let v329 : BitVec 32 := Scalar.subi v314 c1_i32_201
  let v330 : BitVec 32 := Scalar.select v328 v329 v314
  let c128_i32_204 : BitVec 32 := 128#32
  let v334 : BitVec 32 := Scalar.muli v330 c128_i32_204
  v334
def k0_off27 (k0_t3 : Fin k0_t3_loop.trips) (k0_t4 : Fin k0_t4_loop.trips) : Fin 1 → Nat :=
  let c1_i32_65 : BitVec 32 := 1#32
  let c1_i32_66 : BitVec 32 := 1#32
  let arg14 : BitVec 32 := Scf.iv c1_i32_65 c1_i32_66 k0_t3
  let c3_i32_119 : BitVec 32 := 3#32
  let v144 : BitVec 32 := Scalar.muli arg14 c3_i32_119
  let c0_i32_103 : BitVec 32 := 0#32
  let c1_i32_105 : BitVec 32 := 1#32
  let arg15 : BitVec 32 := Scf.iv c0_i32_103 c1_i32_105 k0_t4
  let v145 : BitVec 32 := Scalar.addi v144 arg15
  let c6_i32_193 : BitVec 32 := 6#32
  let v312 : BitVec 32 := Scalar.addi v145 c6_i32_193
  let c6_i32_194 : BitVec 32 := 6#32
  let v313 : BitVec 32 := Scalar.remsi v312 c6_i32_194
  ![v313.toNat]
def k0_off28 (k0_t3 : Fin k0_t3_loop.trips) (k0_t4 : Fin k0_t4_loop.trips) : Fin 3 → Nat :=
  let c1_i32_65 : BitVec 32 := 1#32
  let c1_i32_66 : BitVec 32 := 1#32
  let arg14 : BitVec 32 := Scf.iv c1_i32_65 c1_i32_66 k0_t3
  let c3_i32_119 : BitVec 32 := 3#32
  let v144 : BitVec 32 := Scalar.muli arg14 c3_i32_119
  let c0_i32_103 : BitVec 32 := 0#32
  let c1_i32_105 : BitVec 32 := 1#32
  let arg15 : BitVec 32 := Scf.iv c0_i32_103 c1_i32_105 k0_t4
  let v145 : BitVec 32 := Scalar.addi v144 arg15
  let c6_i32_193 : BitVec 32 := 6#32
  let v312 : BitVec 32 := Scalar.addi v145 c6_i32_193
  let c6_i32_194 : BitVec 32 := 6#32
  let v313 : BitVec 32 := Scalar.remsi v312 c6_i32_194
  let c0_i32_205 : BitVec 32 := 0#32
  let c0_i32_206 : BitVec 32 := 0#32
  ![v313.toNat, 0, 0]
def k0_off29 (k0_t3 : Fin k0_t3_loop.trips) (k0_t4 : Fin k0_t4_loop.trips) : Fin 2 → Nat :=
  let c1_i32_65 : BitVec 32 := 1#32
  let c1_i32_66 : BitVec 32 := 1#32
  let arg14 : BitVec 32 := Scf.iv c1_i32_65 c1_i32_66 k0_t3
  let c3_i32_119 : BitVec 32 := 3#32
  let v144 : BitVec 32 := Scalar.muli arg14 c3_i32_119
  let c0_i32_103 : BitVec 32 := 0#32
  let c1_i32_105 : BitVec 32 := 1#32
  let arg15 : BitVec 32 := Scf.iv c0_i32_103 c1_i32_105 k0_t4
  let v145 : BitVec 32 := Scalar.addi v144 arg15
  let c6_i32_193 : BitVec 32 := 6#32
  let v312 : BitVec 32 := Scalar.addi v145 c6_i32_193
  let c0_i32_196 : BitVec 32 := 0#32
  let v315 : BitVec 1 := Scalar.cmpi .sgt v312 c0_i32_196
  let v316 : BitVec 32 := Scalar.extui v315
  let c0_i32_197 : BitVec 32 := 0#32
  let v317 : BitVec 1 := Scalar.cmpi .slt v312 c0_i32_197
  let v318 : BitVec 32 := Scalar.extui v317
  let v319 : BitVec 32 := Scalar.subi v316 v318
  let c3_i32_195 : BitVec 32 := 3#32
  let c0_i32_198 : BitVec 32 := 0#32
  let v320 : BitVec 1 := Scalar.cmpi .sgt c3_i32_195 c0_i32_198
  let v321 : BitVec 32 := Scalar.extui v320
  let c0_i32_199 : BitVec 32 := 0#32
  let v322 : BitVec 1 := Scalar.cmpi .slt c3_i32_195 c0_i32_199
  let v323 : BitVec 32 := Scalar.extui v322
  let v324 : BitVec 32 := Scalar.subi v321 v323
  let v325 : BitVec 1 := Scalar.cmpi .ne v319 v324
  let v326 : BitVec 32 := Scalar.remsi v312 c3_i32_195
  let c0_i32_200 : BitVec 32 := 0#32
  let v327 : BitVec 1 := Scalar.cmpi .ne v326 c0_i32_200
  let v328 : BitVec 1 := Scalar.andi v325 v327
  let v314 : BitVec 32 := Scalar.divsi v312 c3_i32_195
  let c1_i32_201 : BitVec 32 := 1#32
  let v329 : BitVec 32 := Scalar.subi v314 c1_i32_201
  let v330 : BitVec 32 := Scalar.select v328 v329 v314
  let c3_i32_202 : BitVec 32 := 3#32
  let v331 : BitVec 32 := Scalar.muli v330 c3_i32_202
  let v332 : BitVec 32 := Scalar.subi v312 v331
  let c7168_i32_203 : BitVec 32 := 7168#32
  let v333 : BitVec 32 := Scalar.muli v332 c7168_i32_203
  let c128_i32_204 : BitVec 32 := 128#32
  let v334 : BitVec 32 := Scalar.muli v330 c128_i32_204
  let v335 : BitVec 32 := v334
  ![v333.toNat, v335.toNat]
def k0_off30 (k0_t3 : Fin k0_t3_loop.trips) : Fin 2 → Nat :=
  let c1_i32_65 : BitVec 32 := 1#32
  let c1_i32_66 : BitVec 32 := 1#32
  let arg14 : BitVec 32 := Scf.iv c1_i32_65 c1_i32_66 k0_t3
  let c1_i32_113 : BitVec 32 := 1#32
  let v135 : BitVec 32 := Scalar.muli arg14 c1_i32_113
  let c0_i32_114 : BitVec 32 := 0#32
  let v136 : BitVec 32 := Scalar.addi v135 c0_i32_114
  let v137 : Index := Scalar.indexCast v136
  let c0_115 : Index := 0#32
  ![v137.toNat, 0]
@[reducible] def k0_t5_loop : Scf.Loop 32 :=
  let c0_i32_68 : BitVec 32 := 0#32
  let c3_i32_69 : BitVec 32 := 3#32
  let v77 : BitVec 32 := Scalar.addi c0_i32_68 c3_i32_69
  let c1_i32_70 : BitVec 32 := 1#32
  ⟨c0_i32_68, v77, c1_i32_70⟩
def k0_mult26 (k0_t5 : Fin k0_t5_loop.trips) : BitVec 32 :=
  let c81_i32_100 : BitVec 32 := 81#32
  let c0_i32_68 : BitVec 32 := 0#32
  let c1_i32_70 : BitVec 32 := 1#32
  let arg14 : BitVec 32 := Scf.iv c0_i32_68 c1_i32_70 k0_t5
  let v120 : BitVec 32 := Scalar.addi c81_i32_100 arg14
  let c6_i32_101 : BitVec 32 := 6#32
  let v121 : BitVec 32 := Scalar.subi v120 c6_i32_101
  let c0_i32_104 : BitVec 32 := 0#32
  let v124 : BitVec 1 := Scalar.cmpi .sgt v121 c0_i32_104
  let v125 : BitVec 32 := Scalar.extui v124
  let c0_i32_105 : BitVec 32 := 0#32
  let v126 : BitVec 1 := Scalar.cmpi .slt v121 c0_i32_105
  let v127 : BitVec 32 := Scalar.extui v126
  let v128 : BitVec 32 := Scalar.subi v125 v127
  let c3_i32_103 : BitVec 32 := 3#32
  let c0_i32_106 : BitVec 32 := 0#32
  let v129 : BitVec 1 := Scalar.cmpi .sgt c3_i32_103 c0_i32_106
  let v130 : BitVec 32 := Scalar.extui v129
  let c0_i32_107 : BitVec 32 := 0#32
  let v131 : BitVec 1 := Scalar.cmpi .slt c3_i32_103 c0_i32_107
  let v132 : BitVec 32 := Scalar.extui v131
  let v133 : BitVec 32 := Scalar.subi v130 v132
  let v134 : BitVec 1 := Scalar.cmpi .ne v128 v133
  let v135 : BitVec 32 := Scalar.remsi v121 c3_i32_103
  let c0_i32_108 : BitVec 32 := 0#32
  let v136 : BitVec 1 := Scalar.cmpi .ne v135 c0_i32_108
  let v137 : BitVec 1 := Scalar.andi v134 v136
  let v123 : BitVec 32 := Scalar.divsi v121 c3_i32_103
  let c1_i32_109 : BitVec 32 := 1#32
  let v138 : BitVec 32 := Scalar.subi v123 c1_i32_109
  let v139 : BitVec 32 := Scalar.select v137 v138 v123
  let c128_i32_112 : BitVec 32 := 128#32
  let v143 : BitVec 32 := Scalar.muli v139 c128_i32_112
  v143
def k0_off31 (k0_t5 : Fin k0_t5_loop.trips) : Fin 1 → Nat :=
  let c81_i32_100 : BitVec 32 := 81#32
  let c0_i32_68 : BitVec 32 := 0#32
  let c1_i32_70 : BitVec 32 := 1#32
  let arg14 : BitVec 32 := Scf.iv c0_i32_68 c1_i32_70 k0_t5
  let v120 : BitVec 32 := Scalar.addi c81_i32_100 arg14
  let c6_i32_101 : BitVec 32 := 6#32
  let v121 : BitVec 32 := Scalar.subi v120 c6_i32_101
  let c6_i32_102 : BitVec 32 := 6#32
  let v122 : BitVec 32 := Scalar.remsi v121 c6_i32_102
  ![v122.toNat]
def k0_off32 (k0_t5 : Fin k0_t5_loop.trips) : Fin 2 → Nat :=
  let c81_i32_100 : BitVec 32 := 81#32
  let c0_i32_68 : BitVec 32 := 0#32
  let c1_i32_70 : BitVec 32 := 1#32
  let arg14 : BitVec 32 := Scf.iv c0_i32_68 c1_i32_70 k0_t5
  let v120 : BitVec 32 := Scalar.addi c81_i32_100 arg14
  let c6_i32_101 : BitVec 32 := 6#32
  let v121 : BitVec 32 := Scalar.subi v120 c6_i32_101
  let c0_i32_104 : BitVec 32 := 0#32
  let v124 : BitVec 1 := Scalar.cmpi .sgt v121 c0_i32_104
  let v125 : BitVec 32 := Scalar.extui v124
  let c0_i32_105 : BitVec 32 := 0#32
  let v126 : BitVec 1 := Scalar.cmpi .slt v121 c0_i32_105
  let v127 : BitVec 32 := Scalar.extui v126
  let v128 : BitVec 32 := Scalar.subi v125 v127
  let c3_i32_103 : BitVec 32 := 3#32
  let c0_i32_106 : BitVec 32 := 0#32
  let v129 : BitVec 1 := Scalar.cmpi .sgt c3_i32_103 c0_i32_106
  let v130 : BitVec 32 := Scalar.extui v129
  let c0_i32_107 : BitVec 32 := 0#32
  let v131 : BitVec 1 := Scalar.cmpi .slt c3_i32_103 c0_i32_107
  let v132 : BitVec 32 := Scalar.extui v131
  let v133 : BitVec 32 := Scalar.subi v130 v132
  let v134 : BitVec 1 := Scalar.cmpi .ne v128 v133
  let v135 : BitVec 32 := Scalar.remsi v121 c3_i32_103
  let c0_i32_108 : BitVec 32 := 0#32
  let v136 : BitVec 1 := Scalar.cmpi .ne v135 c0_i32_108
  let v137 : BitVec 1 := Scalar.andi v134 v136
  let v123 : BitVec 32 := Scalar.divsi v121 c3_i32_103
  let c1_i32_109 : BitVec 32 := 1#32
  let v138 : BitVec 32 := Scalar.subi v123 c1_i32_109
  let v139 : BitVec 32 := Scalar.select v137 v138 v123
  let c3_i32_110 : BitVec 32 := 3#32
  let v140 : BitVec 32 := Scalar.muli v139 c3_i32_110
  let v141 : BitVec 32 := Scalar.subi v121 v140
  let c7168_i32_111 : BitVec 32 := 7168#32
  let v142 : BitVec 32 := Scalar.muli v141 c7168_i32_111
  let c128_i32_112 : BitVec 32 := 128#32
  let v143 : BitVec 32 := Scalar.muli v139 c128_i32_112
  let v144 : BitVec 32 := v143
  ![v142.toNat, v144.toNat]
def k0_off33 (k0_t5 : Fin k0_t5_loop.trips) : Fin 3 → Nat :=
  let c81_i32_100 : BitVec 32 := 81#32
  let c0_i32_68 : BitVec 32 := 0#32
  let c1_i32_70 : BitVec 32 := 1#32
  let arg14 : BitVec 32 := Scf.iv c0_i32_68 c1_i32_70 k0_t5
  let v120 : BitVec 32 := Scalar.addi c81_i32_100 arg14
  let c6_i32_101 : BitVec 32 := 6#32
  let v121 : BitVec 32 := Scalar.subi v120 c6_i32_101
  let c6_i32_102 : BitVec 32 := 6#32
  let v122 : BitVec 32 := Scalar.remsi v121 c6_i32_102
  let c0_i32_113 : BitVec 32 := 0#32
  let c0_i32_114 : BitVec 32 := 0#32
  ![v122.toNat, 0, 0]
def k0_mult27 : BitVec 32 :=
  let c0_i32_116 : BitVec 32 := 0#32
  let c7168_i32_117 : BitVec 32 := 7168#32
  let v151 : BitVec 32 := Scalar.muli c0_i32_116 c7168_i32_117
  v151
def k0_mult28 (k0_t5 : Fin k0_t5_loop.trips) : BitVec 32 :=
  let c0_i32_68 : BitVec 32 := 0#32
  let c1_i32_70 : BitVec 32 := 1#32
  let arg14 : BitVec 32 := Scf.iv c0_i32_68 c1_i32_70 k0_t5
  let c7168_i32_118 : BitVec 32 := 7168#32
  let v153 : BitVec 32 := Scalar.muli arg14 c7168_i32_118
  let c0_i32_116 : BitVec 32 := 0#32
  let c7168_i32_119 : BitVec 32 := 7168#32
  let v154 : BitVec 32 := Scalar.muli c0_i32_116 c7168_i32_119
  let v155 : BitVec 32 := Scalar.addi v153 v154
  let c0_i32_121 : BitVec 32 := 0#32
  let v157 : BitVec 1 := Scalar.cmpi .sgt v155 c0_i32_121
  let v158 : BitVec 32 := Scalar.extui v157
  let c0_i32_122 : BitVec 32 := 0#32
  let v159 : BitVec 1 := Scalar.cmpi .slt v155 c0_i32_122
  let v160 : BitVec 32 := Scalar.extui v159
  let v161 : BitVec 32 := Scalar.subi v158 v160
  let c2_i32_120 : BitVec 32 := 2#32
  let c0_i32_123 : BitVec 32 := 0#32
  let v162 : BitVec 1 := Scalar.cmpi .sgt c2_i32_120 c0_i32_123
  let v163 : BitVec 32 := Scalar.extui v162
  let c0_i32_124 : BitVec 32 := 0#32
  let v164 : BitVec 1 := Scalar.cmpi .slt c2_i32_120 c0_i32_124
  let v165 : BitVec 32 := Scalar.extui v164
  let v166 : BitVec 32 := Scalar.subi v163 v165
  let v167 : BitVec 1 := Scalar.cmpi .ne v161 v166
  let v168 : BitVec 32 := Scalar.remsi v155 c2_i32_120
  let c0_i32_125 : BitVec 32 := 0#32
  let v169 : BitVec 1 := Scalar.cmpi .ne v168 c0_i32_125
  let v170 : BitVec 1 := Scalar.andi v167 v169
  let v156 : BitVec 32 := Scalar.divsi v155 c2_i32_120
  let c1_i32_126 : BitVec 32 := 1#32
  let v171 : BitVec 32 := Scalar.subi v156 c1_i32_126
  let v172 : BitVec 32 := Scalar.select v170 v171 v156
  v172
def k0_off34 (k0_t5 : Fin k0_t5_loop.trips) : Fin 2 → Nat :=
  let c0_i32_68 : BitVec 32 := 0#32
  let c1_i32_70 : BitVec 32 := 1#32
  let arg14 : BitVec 32 := Scf.iv c0_i32_68 c1_i32_70 k0_t5
  let c7168_i32_118 : BitVec 32 := 7168#32
  let v153 : BitVec 32 := Scalar.muli arg14 c7168_i32_118
  let c0_i32_116 : BitVec 32 := 0#32
  let c7168_i32_119 : BitVec 32 := 7168#32
  let v154 : BitVec 32 := Scalar.muli c0_i32_116 c7168_i32_119
  let v155 : BitVec 32 := Scalar.addi v153 v154
  let c0_i32_121 : BitVec 32 := 0#32
  let v157 : BitVec 1 := Scalar.cmpi .sgt v155 c0_i32_121
  let v158 : BitVec 32 := Scalar.extui v157
  let c0_i32_122 : BitVec 32 := 0#32
  let v159 : BitVec 1 := Scalar.cmpi .slt v155 c0_i32_122
  let v160 : BitVec 32 := Scalar.extui v159
  let v161 : BitVec 32 := Scalar.subi v158 v160
  let c2_i32_120 : BitVec 32 := 2#32
  let c0_i32_123 : BitVec 32 := 0#32
  let v162 : BitVec 1 := Scalar.cmpi .sgt c2_i32_120 c0_i32_123
  let v163 : BitVec 32 := Scalar.extui v162
  let c0_i32_124 : BitVec 32 := 0#32
  let v164 : BitVec 1 := Scalar.cmpi .slt c2_i32_120 c0_i32_124
  let v165 : BitVec 32 := Scalar.extui v164
  let v166 : BitVec 32 := Scalar.subi v163 v165
  let v167 : BitVec 1 := Scalar.cmpi .ne v161 v166
  let v168 : BitVec 32 := Scalar.remsi v155 c2_i32_120
  let c0_i32_125 : BitVec 32 := 0#32
  let v169 : BitVec 1 := Scalar.cmpi .ne v168 c0_i32_125
  let v170 : BitVec 1 := Scalar.andi v167 v169
  let v156 : BitVec 32 := Scalar.divsi v155 c2_i32_120
  let c1_i32_126 : BitVec 32 := 1#32
  let v171 : BitVec 32 := Scalar.subi v156 c1_i32_126
  let v172 : BitVec 32 := Scalar.select v170 v171 v156
  let v173 : BitVec 32 := v172
  let v174 : Index := Scalar.indexCast v173
  let c0_127 : Index := 0#32
  ![v174.toNat, 0]
def k0_off35 (k0_t5 : Fin k0_t5_loop.trips) : Fin 3 → Nat :=
  let c81_i32_100 : BitVec 32 := 81#32
  let c0_i32_68 : BitVec 32 := 0#32
  let c1_i32_70 : BitVec 32 := 1#32
  let arg14 : BitVec 32 := Scf.iv c0_i32_68 c1_i32_70 k0_t5
  let v120 : BitVec 32 := Scalar.addi c81_i32_100 arg14
  let c6_i32_115 : BitVec 32 := 6#32
  let v150 : BitVec 32 := Scalar.remsi v120 c6_i32_115
  let v188 : Index := Scalar.indexCast v150
  let c0_i32_116 : BitVec 32 := 0#32
  let c7168_i32_117 : BitVec 32 := 7168#32
  let v151 : BitVec 32 := Scalar.muli c0_i32_116 c7168_i32_117
  let v152 : BitVec 32 := v151
  let v189 : Index := Scalar.indexCast v152
  let c0_132 : Index := 0#32
  ![v188.toNat, v189.toNat, 0]
def k0_mult29 (k0_t5 : Fin k0_t5_loop.trips) : BitVec 32 :=
  let c81_i32_100 : BitVec 32 := 81#32
  let c0_i32_68 : BitVec 32 := 0#32
  let c1_i32_70 : BitVec 32 := 1#32
  let arg14 : BitVec 32 := Scf.iv c0_i32_68 c1_i32_70 k0_t5
  let v120 : BitVec 32 := Scalar.addi c81_i32_100 arg14
  let c0_i32_136 : BitVec 32 := 0#32
  let v195 : BitVec 1 := Scalar.cmpi .sgt v120 c0_i32_136
  let v196 : BitVec 32 := Scalar.extui v195
  let c0_i32_137 : BitVec 32 := 0#32
  let v197 : BitVec 1 := Scalar.cmpi .slt v120 c0_i32_137
  let v198 : BitVec 32 := Scalar.extui v197
  let v199 : BitVec 32 := Scalar.subi v196 v198
  let c3_i32_135 : BitVec 32 := 3#32
  let c0_i32_138 : BitVec 32 := 0#32
  let v200 : BitVec 1 := Scalar.cmpi .sgt c3_i32_135 c0_i32_138
  let v201 : BitVec 32 := Scalar.extui v200
  let c0_i32_139 : BitVec 32 := 0#32
  let v202 : BitVec 1 := Scalar.cmpi .slt c3_i32_135 c0_i32_139
  let v203 : BitVec 32 := Scalar.extui v202
  let v204 : BitVec 32 := Scalar.subi v201 v203
  let v205 : BitVec 1 := Scalar.cmpi .ne v199 v204
  let v206 : BitVec 32 := Scalar.remsi v120 c3_i32_135
  let c0_i32_140 : BitVec 32 := 0#32
  let v207 : BitVec 1 := Scalar.cmpi .ne v206 c0_i32_140
  let v208 : BitVec 1 := Scalar.andi v205 v207
  let v194 : BitVec 32 := Scalar.divsi v120 c3_i32_135
  let c1_i32_141 : BitVec 32 := 1#32
  let v209 : BitVec 32 := Scalar.subi v194 c1_i32_141
  let v210 : BitVec 32 := Scalar.select v208 v209 v194
  let c128_i32_144 : BitVec 32 := 128#32
  let v214 : BitVec 32 := Scalar.muli v210 c128_i32_144
  v214
def k0_off36 (k0_t5 : Fin k0_t5_loop.trips) : Fin 1 → Nat :=
  let c81_i32_100 : BitVec 32 := 81#32
  let c0_i32_68 : BitVec 32 := 0#32
  let c1_i32_70 : BitVec 32 := 1#32
  let arg14 : BitVec 32 := Scf.iv c0_i32_68 c1_i32_70 k0_t5
  let v120 : BitVec 32 := Scalar.addi c81_i32_100 arg14
  let c6_i32_134 : BitVec 32 := 6#32
  let v193 : BitVec 32 := Scalar.remsi v120 c6_i32_134
  ![v193.toNat]
def k0_off37 (k0_t5 : Fin k0_t5_loop.trips) : Fin 2 → Nat :=
  let c81_i32_100 : BitVec 32 := 81#32
  let c0_i32_68 : BitVec 32 := 0#32
  let c1_i32_70 : BitVec 32 := 1#32
  let arg14 : BitVec 32 := Scf.iv c0_i32_68 c1_i32_70 k0_t5
  let v120 : BitVec 32 := Scalar.addi c81_i32_100 arg14
  let c0_i32_136 : BitVec 32 := 0#32
  let v195 : BitVec 1 := Scalar.cmpi .sgt v120 c0_i32_136
  let v196 : BitVec 32 := Scalar.extui v195
  let c0_i32_137 : BitVec 32 := 0#32
  let v197 : BitVec 1 := Scalar.cmpi .slt v120 c0_i32_137
  let v198 : BitVec 32 := Scalar.extui v197
  let v199 : BitVec 32 := Scalar.subi v196 v198
  let c3_i32_135 : BitVec 32 := 3#32
  let c0_i32_138 : BitVec 32 := 0#32
  let v200 : BitVec 1 := Scalar.cmpi .sgt c3_i32_135 c0_i32_138
  let v201 : BitVec 32 := Scalar.extui v200
  let c0_i32_139 : BitVec 32 := 0#32
  let v202 : BitVec 1 := Scalar.cmpi .slt c3_i32_135 c0_i32_139
  let v203 : BitVec 32 := Scalar.extui v202
  let v204 : BitVec 32 := Scalar.subi v201 v203
  let v205 : BitVec 1 := Scalar.cmpi .ne v199 v204
  let v206 : BitVec 32 := Scalar.remsi v120 c3_i32_135
  let c0_i32_140 : BitVec 32 := 0#32
  let v207 : BitVec 1 := Scalar.cmpi .ne v206 c0_i32_140
  let v208 : BitVec 1 := Scalar.andi v205 v207
  let v194 : BitVec 32 := Scalar.divsi v120 c3_i32_135
  let c1_i32_141 : BitVec 32 := 1#32
  let v209 : BitVec 32 := Scalar.subi v194 c1_i32_141
  let v210 : BitVec 32 := Scalar.select v208 v209 v194
  let c3_i32_142 : BitVec 32 := 3#32
  let v211 : BitVec 32 := Scalar.muli v210 c3_i32_142
  let v212 : BitVec 32 := Scalar.subi v120 v211
  let c7168_i32_143 : BitVec 32 := 7168#32
  let v213 : BitVec 32 := Scalar.muli v212 c7168_i32_143
  let c128_i32_144 : BitVec 32 := 128#32
  let v214 : BitVec 32 := Scalar.muli v210 c128_i32_144
  let v215 : BitVec 32 := v214
  ![v213.toNat, v215.toNat]
def k0_off38 (k0_t5 : Fin k0_t5_loop.trips) : Fin 3 → Nat :=
  let c81_i32_100 : BitVec 32 := 81#32
  let c0_i32_68 : BitVec 32 := 0#32
  let c1_i32_70 : BitVec 32 := 1#32
  let arg14 : BitVec 32 := Scf.iv c0_i32_68 c1_i32_70 k0_t5
  let v120 : BitVec 32 := Scalar.addi c81_i32_100 arg14
  let c6_i32_134 : BitVec 32 := 6#32
  let v193 : BitVec 32 := Scalar.remsi v120 c6_i32_134
  let c0_i32_145 : BitVec 32 := 0#32
  let c0_i32_146 : BitVec 32 := 0#32
  ![v193.toNat, 0, 0]
def k0_mult30 : BitVec 32 :=
  let c3328_i32 : BitVec 32 := 3328#32
  c3328_i32
def k0_mult31 : BitVec 32 :=
  let c3328_i32_77 : BitVec 32 := 3328#32
  c3328_i32_77
def k0_mult32 : BitVec 32 :=
  let c3328_i32_82 : BitVec 32 := 3328#32
  c3328_i32_82
def k0_mult33 : BitVec 32 :=
  let c3456_i32 : BitVec 32 := 3456#32
  c3456_i32
def k0_mult34 : BitVec 32 :=
  let c3456_i32_91 : BitVec 32 := 3456#32
  c3456_i32_91
def k0_mult35 : BitVec 32 :=
  let c3456_i32_96 : BitVec 32 := 3456#32
  c3456_i32_96
abbrev stage0_0 : Fin 1 → Memref sig .tc .vmem S28x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== KernelIdeal.lean ====
abbrev S21x1024x3584 : Shape := ⟨3, ![21, 1024, 3584]⟩
abbrev S21x1024x28 : Shape := ⟨3, ![21, 1024, 28]⟩
abbrev S21504x3584 : Shape := ⟨2, ![21504, 3584]⟩
abbrev S21x28x1024 : Shape := ⟨3, ![21, 28, 1024]⟩
abbrev S28x128 : Shape := ⟨2, ![28, 128]⟩
abbrev S6x7168x128 : Shape := ⟨3, ![6, 7168, 128]⟩
abbrev S10752x128 : Shape := ⟨2, ![10752, 128]⟩
abbrev S10752x2x128 : Shape := ⟨3, ![10752, 2, 128]⟩
abbrev S10752x1x128 : Shape := ⟨3, ![10752, 1, 128]⟩
abbrev S16x128 : Shape := ⟨2, ![16, 128]⟩
abbrev S1x128 : Shape := ⟨2, ![1, 128]⟩
abbrev S6 : Shape := ⟨1, ![6]⟩
abbrev S3 : Shape := ⟨1, ![3]⟩
abbrev S1 : Shape := ⟨1, ![1]⟩
abbrev S_ : Shape := ⟨0, ![]⟩
abbrev S7x28x1024 : Shape := ⟨3, ![7, 28, 1024]⟩
abbrev S1x7168x128 : Shape := ⟨3, ![1, 7168, 128]⟩
abbrev S7168x128 : Shape := ⟨2, ![7168, 128]⟩
abbrev S1x28x1024 : Shape := ⟨3, ![1, 28, 1024]⟩
abbrev S28x1024 : Shape := ⟨2, ![28, 1024]⟩
abbrev S1024x28 : Shape := ⟨2, ![1024, 28]⟩
abbrev S512x28 : Shape := ⟨2, ![512, 28]⟩
abbrev S512x2x28 : Shape := ⟨3, ![512, 2, 28]⟩
abbrev S512x1x28 : Shape := ⟨3, ![512, 1, 28]⟩
abbrev S3584x128 : Shape := ⟨2, ![3584, 128]⟩
abbrev S3584x2x128 : Shape := ⟨3, ![3584, 2, 128]⟩
abbrev S3584x1x128 : Shape := ⟨3, ![3584, 1, 128]⟩
abbrev S7168x128x1 : Shape := ⟨3, ![7168, 128, 1]⟩
abbrev S448x16x128 : Shape := ⟨3, ![448, 16, 128]⟩
abbrev S128 : Shape := ⟨1, ![128]⟩
abbrev S3584 : Shape := ⟨1, ![3584]⟩

abbrev nBuf : Space → Nat
  | .hbm => 8
  | .vmem => 8
  | .smem => 0
  | _ => 0

abbrev bufTy : (tb : Table) → Fin (tcTables nBuf tb) → BufTy
  | .hbm, ⟨0, _⟩ => ⟨S21x1024x3584, .fp8e4m3⟩
  | .hbm, ⟨1, _⟩ => ⟨S21x1024x28, .f32⟩
  | .hbm, ⟨2, _⟩ => ⟨S21504x3584, .fp8e4m3⟩
  | .hbm, ⟨3, _⟩ => ⟨S21x28x1024, .f32⟩
  | .hbm, ⟨4, _⟩ => ⟨S21504x3584, .i8⟩
  | .hbm, ⟨5, _⟩ => ⟨S28x128, .f32⟩
  | .hbm, ⟨6, _⟩ => ⟨S21x1024x3584, .i8⟩
  | .hbm, ⟨7, _⟩ => ⟨S3584, .f32⟩
  | .local _ .vmem, ⟨0, _⟩ => ⟨S28x128, .f32⟩
  | .local _ .vmem, ⟨1, _⟩ => ⟨S6x7168x128, .fp8e4m3⟩
  | .local _ .vmem, ⟨2, _⟩ => ⟨S6x7168x128, .i8⟩
  | .local _ .vmem, ⟨3, _⟩ => ⟨S10752x2x128, .bf16⟩
  | .local _ .vmem, ⟨4, _⟩ => ⟨S21x28x1024, .f32⟩
  | .local _ .vmem, ⟨5, _⟩ => ⟨S10752x2x128, .bf16⟩
  | .local _ .vmem, ⟨6, _⟩ => ⟨S16x128, .bf16⟩
  | .local _ .vmem, ⟨7, _⟩ => ⟨S1x128, .f32⟩
  | _, _ => ⟨S21x1024x3584, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch3 : Ref sig .tc := ⟨.vmem, 4, rfl⟩
abbrev cc0_scratch4 : Ref sig .tc := ⟨.vmem, 5, rfl⟩
abbrev cc0_scratch5 : Ref sig .tc := ⟨.vmem, 6, rfl⟩
abbrev cc0_scratch6 : Ref sig .tc := ⟨.vmem, 7, rfl⟩
abbrev cc0_sem0_0 : DmaSem sig := 0

abbrev nD : Nat := 1
abbrev τ : Topo := Topo.v7x

variable {F : FTy → Type} [FloatOps F]

abbrev grid0 : Pipeline.Grid := .none

def k0_mult1 : BitVec 32 :=
  let c0_i32_17 : BitVec 32 := 0#32
  c0_i32_17
def k0_off1 (c0_i32_16 : BitVec 32) : Fin 1 → Nat :=
  let c6_i32 : BitVec 32 := 6#32
  let v12 : BitVec 32 := Scalar.remsi c0_i32_16 c6_i32
  ![v12.toNat]
def k0_off1_at (r : Fin 12) : BitVec 32 :=
  if r.val < 6 then
    if r.val < 3 then
      if r.val < 1 then
        0#32
      else
        if r.val < 2 then
          1#32
        else
          2#32
    else
      if r.val < 4 then
        3#32
      else
        if r.val < 5 then
          4#32
        else
          5#32
  else
    if r.val < 9 then
      if r.val < 7 then
        78#32
      else
        if r.val < 8 then
          79#32
        else
          80#32
    else
      if r.val < 10 then
        81#32
      else
        if r.val < 11 then
          82#32
        else
          83#32
def k0_off2 (c0_i32_16 : BitVec 32) : Fin 3 → Nat :=
  let c6_i32 : BitVec 32 := 6#32
  let v12 : BitVec 32 := Scalar.remsi c0_i32_16 c6_i32
  let c0_i32_18 : BitVec 32 := 0#32
  let c0_i32_19 : BitVec 32 := 0#32
  ![v12.toNat, 0, 0]
def k0_off2_at (r : Fin 12) : BitVec 32 :=
  if r.val < 6 then
    if r.val < 3 then
      if r.val < 1 then
        0#32
      else
        if r.val < 2 then
          1#32
        else
          2#32
    else
      if r.val < 4 then
        3#32
      else
        if r.val < 5 then
          4#32
        else
          5#32
  else
    if r.val < 9 then
      if r.val < 7 then
        78#32
      else
        if r.val < 8 then
          79#32
        else
          80#32
    else
      if r.val < 10 then
        81#32
      else
        if r.val < 11 then
          82#32
        else
          83#32
def k0_mult2 : BitVec 32 :=
  let c0_i32_23 : BitVec 32 := 0#32
  c0_i32_23
def k0_mult3 : BitVec 32 :=
  let c0_i32_28 : BitVec 32 := 0#32
  c0_i32_28
def k0_mult4 : BitVec 32 :=
  let c128_i32 : BitVec 32 := 128#32
  c128_i32
def k0_mult5 : BitVec 32 :=
  let c128_i32_36 : BitVec 32 := 128#32
  c128_i32_36
def k0_mult6 : BitVec 32 :=
  let c128_i32_41 : BitVec 32 := 128#32
  c128_i32_41
@[reducible] def k0_t1_loop : Scf.Loop 32 :=
  let c0_i32_46 : BitVec 32 := 0#32
  let c3_i32_47 : BitVec 32 := 3#32
  let v58 : BitVec 32 := Scalar.addi c0_i32_46 c3_i32_47
  let c1_i32_48 : BitVec 32 := 1#32
  ⟨c0_i32_46, v58, c1_i32_48⟩
def k0_off3 (k0_t1 : Fin k0_t1_loop.trips) : Fin 1 → Nat :=
  let c0_i32_46 : BitVec 32 := 0#32
  let c1_i32_48 : BitVec 32 := 1#32
  let arg14 : BitVec 32 := Scf.iv c0_i32_46 c1_i32_48 k0_t1
  ![arg14.toNat]
def k0_off4 (k0_t1 : Fin k0_t1_loop.trips) : Fin 3 → Nat :=
  let c0_i32_46 : BitVec 32 := 0#32
  let c1_i32_48 : BitVec 32 := 1#32
  let arg14 : BitVec 32 := Scf.iv c0_i32_46 c1_i32_48 k0_t1
  let c7_i32_100 : BitVec 32 := 7#32
  let v120 : BitVec 32 := Scalar.muli arg14 c7_i32_100
  let c0_i32_101 : BitVec 32 := 0#32
  let c0_i32_102 : BitVec 32 := 0#32
  ![v120.toNat, 0, 0]
def k0_off5 (k0_t1 : Fin k0_t1_loop.trips) (c0_i32_106 : BitVec 32) : Fin 3 → Nat :=
  let c0_i32_46 : BitVec 32 := 0#32
  let c1_i32_48 : BitVec 32 := 1#32
  let arg14 : BitVec 32 := Scf.iv c0_i32_46 c1_i32_48 k0_t1
  let c7_i32_105 : BitVec 32 := 7#32
  let v125 : BitVec 32 := Scalar.muli arg14 c7_i32_105
  let v126 : BitVec 32 := Scalar.addi v125 c0_i32_106
  let v127 : Index := Scalar.indexCast v126
  let c0_107 : Index := 0#32
  let c0_108 : Index := 0#32
  ![v127.toNat, 0, 0]
def k0_mult7 (k0_t1 : Fin k0_t1_loop.trips) : BitVec 32 :=
  let c0_i32_46 : BitVec 32 := 0#32
  let c1_i32_48 : BitVec 32 := 1#32
  let arg14 : BitVec 32 := Scf.iv c0_i32_46 c1_i32_48 k0_t1
  let c7_i32_109 : BitVec 32 := 7#32
  let v132 : BitVec 32 := Scalar.muli arg14 c7_i32_109
  let c0_i32_110 : BitVec 32 := 0#32
  let v133 : BitVec 32 := Scalar.addi v132 c0_i32_110
  let c512_i32 : BitVec 32 := 512#32
  let v134 : BitVec 32 := Scalar.muli v133 c512_i32
  v134
def k0_off6 (k0_t1 : Fin k0_t1_loop.trips) (c0_i32_110 : BitVec 32) : Fin 3 → Nat :=
  let c0_i32_46 : BitVec 32 := 0#32
  let c1_i32_48 : BitVec 32 := 1#32
  let arg14 : BitVec 32 := Scf.iv c0_i32_46 c1_i32_48 k0_t1
  let c7_i32_109 : BitVec 32 := 7#32
  let v132 : BitVec 32 := Scalar.muli arg14 c7_i32_109
  let v133 : BitVec 32 := Scalar.addi v132 c0_i32_110
  let c512_i32 : BitVec 32 := 512#32
  let v134 : BitVec 32 := Scalar.muli v133 c512_i32
  let v135 : BitVec 32 := v134
  let v137 : Index := Scalar.indexCast v135
  let c0_111 : Index := 0#32
  ![v137.toNat, 0, 0]
def k0_mult8 (k0_t1 : Fin k0_t1_loop.trips) : BitVec 32 :=
  let c0_i32_46 : BitVec 32 := 0#32
  let c1_i32_48 : BitVec 32 := 1#32
  let arg14 : BitVec 32 := Scf.iv c0_i32_46 c1_i32_48 k0_t1
  let c7_i32_116 : BitVec 32 := 7#32
  let v148 : BitVec 32 := Scalar.muli arg14 c7_i32_116
  let c1_i32_117 : BitVec 32 := 1#32
  let v149 : BitVec 32 := Scalar.addi v148 c1_i32_117
  let c512_i32_118 : BitVec 32 := 512#32
  let v150 : BitVec 32 := Scalar.muli v149 c512_i32_118
  v150
def k0_mult9 (k0_t1 : Fin k0_t1_loop.trips) : BitVec 32 :=
  let c0_i32_46 : BitVec 32 := 0#32
  let c1_i32_48 : BitVec 32 := 1#32
  let arg14 : BitVec 32 := Scf.iv c0_i32_46 c1_i32_48 k0_t1
  let c7_i32_124 : BitVec 32 := 7#32
  let v164 : BitVec 32 := Scalar.muli arg14 c7_i32_124
  let c2_i32_125 : BitVec 32 := 2#32
  let v165 : BitVec 32 := Scalar.addi v164 c2_i32_125
  let c512_i32_126 : BitVec 32 := 512#32
  let v166 : BitVec 32 := Scalar.muli v165 c512_i32_126
  v166
def k0_mult10 (k0_t1 : Fin k0_t1_loop.trips) : BitVec 32 :=
  let c0_i32_46 : BitVec 32 := 0#32
  let c1_i32_48 : BitVec 32 := 1#32
  let arg14 : BitVec 32 := Scf.iv c0_i32_46 c1_i32_48 k0_t1
  let c7_i32_132 : BitVec 32 := 7#32
  let v180 : BitVec 32 := Scalar.muli arg14 c7_i32_132
  let c3_i32_133 : BitVec 32 := 3#32
  let v181 : BitVec 32 := Scalar.addi v180 c3_i32_133
  let c512_i32_134 : BitVec 32 := 512#32
  let v182 : BitVec 32 := Scalar.muli v181 c512_i32_134
  v182
def k0_mult11 (k0_t1 : Fin k0_t1_loop.trips) : BitVec 32 :=
  let c0_i32_46 : BitVec 32 := 0#32
  let c1_i32_48 : BitVec 32 := 1#32
  let arg14 : BitVec 32 := Scf.iv c0_i32_46 c1_i32_48 k0_t1
  let c7_i32_140 : BitVec 32 := 7#32
  let v196 : BitVec 32 := Scalar.muli arg14 c7_i32_140
  let c4_i32_141 : BitVec 32 := 4#32
  let v197 : BitVec 32 := Scalar.addi v196 c4_i32_141
  let c512_i32_142 : BitVec 32 := 512#32
  let v198 : BitVec 32 := Scalar.muli v197 c512_i32_142
  v198
def k0_mult12 (k0_t1 : Fin k0_t1_loop.trips) : BitVec 32 :=
  let c0_i32_46 : BitVec 32 := 0#32
  let c1_i32_48 : BitVec 32 := 1#32
  let arg14 : BitVec 32 := Scf.iv c0_i32_46 c1_i32_48 k0_t1
  let c7_i32_148 : BitVec 32 := 7#32
  let v212 : BitVec 32 := Scalar.muli arg14 c7_i32_148
  let c5_i32_149 : BitVec 32 := 5#32
  let v213 : BitVec 32 := Scalar.addi v212 c5_i32_149
  let c512_i32_150 : BitVec 32 := 512#32
  let v214 : BitVec 32 := Scalar.muli v213 c512_i32_150
  v214
def k0_mult13 (k0_t1 : Fin k0_t1_loop.trips) : BitVec 32 :=
  let c0_i32_46 : BitVec 32 := 0#32
  let c1_i32_48 : BitVec 32 := 1#32
  let arg14 : BitVec 32 := Scf.iv c0_i32_46 c1_i32_48 k0_t1
  let c7_i32_156 : BitVec 32 := 7#32
  let v228 : BitVec 32 := Scalar.muli arg14 c7_i32_156
  let c6_i32_157 : BitVec 32 := 6#32
  let v229 : BitVec 32 := Scalar.addi v228 c6_i32_157
  let c512_i32_158 : BitVec 32 := 512#32
  let v230 : BitVec 32 := Scalar.muli v229 c512_i32_158
  v230
@[reducible] def k0_t2_loop : Scf.Loop 32 :=
  let c0_i32_50 : BitVec 32 := 0#32
  let c3_i32_51 : BitVec 32 := 3#32
  let v59 : BitVec 32 := Scalar.addi c0_i32_50 c3_i32_51
  let c1_i32_52 : BitVec 32 := 1#32
  ⟨c0_i32_50, v59, c1_i32_52⟩
def k0_mult14 (k0_t2 : Fin k0_t2_loop.trips) : BitVec 32 :=
  let c0_i32_50 : BitVec 32 := 0#32
  let c1_i32_52 : BitVec 32 := 1#32
  let arg14 : BitVec 32 := Scf.iv c0_i32_50 c1_i32_52 k0_t2
  let c0_i32_103 : BitVec 32 := 0#32
  let v123 : BitVec 1 := Scalar.cmpi .sgt arg14 c0_i32_103
  let v124 : BitVec 32 := Scalar.extui v123
  let c0_i32_104 : BitVec 32 := 0#32
  let v125 : BitVec 1 := Scalar.cmpi .slt arg14 c0_i32_104
  let v126 : BitVec 32 := Scalar.extui v125
  let v127 : BitVec 32 := Scalar.subi v124 v126
  let c3_i32_102 : BitVec 32 := 3#32
  let c0_i32_105 : BitVec 32 := 0#32
  let v128 : BitVec 1 := Scalar.cmpi .sgt c3_i32_102 c0_i32_105
  let v129 : BitVec 32 := Scalar.extui v128
  let c0_i32_106 : BitVec 32 := 0#32
  let v130 : BitVec 1 := Scalar.cmpi .slt c3_i32_102 c0_i32_106
  let v131 : BitVec 32 := Scalar.extui v130
  let v132 : BitVec 32 := Scalar.subi v129 v131
  let v133 : BitVec 1 := Scalar.cmpi .ne v127 v132
  let v134 : BitVec 32 := Scalar.remsi arg14 c3_i32_102
  let c0_i32_107 : BitVec 32 := 0#32
  let v135 : BitVec 1 := Scalar.cmpi .ne v134 c0_i32_107
  let v136 : BitVec 1 := Scalar.andi v133 v135
  let v122 : BitVec 32 := Scalar.divsi arg14 c3_i32_102
  let c1_i32_108 : BitVec 32 := 1#32
  let v137 : BitVec 32 := Scalar.subi v122 c1_i32_108
  let v138 : BitVec 32 := Scalar.select v136 v137 v122
  let c128_i32_111 : BitVec 32 := 128#32
  let v142 : BitVec 32 := Scalar.muli v138 c128_i32_111
  v142
def k0_off7 (k0_t2 : Fin k0_t2_loop.trips) : Fin 1 → Nat :=
  let c0_i32_50 : BitVec 32 := 0#32
  let c1_i32_52 : BitVec 32 := 1#32
  let arg14 : BitVec 32 := Scf.iv c0_i32_50 c1_i32_52 k0_t2
  let c6_i32_101 : BitVec 32 := 6#32
  let v121 : BitVec 32 := Scalar.remsi arg14 c6_i32_101
  ![v121.toNat]
def k0_off8 (k0_t2 : Fin k0_t2_loop.trips) : Fin 3 → Nat :=
  let c0_i32_50 : BitVec 32 := 0#32
  let c1_i32_52 : BitVec 32 := 1#32
  let arg14 : BitVec 32 := Scf.iv c0_i32_50 c1_i32_52 k0_t2
  let c6_i32_101 : BitVec 32 := 6#32
  let v121 : BitVec 32 := Scalar.remsi arg14 c6_i32_101
  let c0_i32_112 : BitVec 32 := 0#32
  let c0_i32_113 : BitVec 32 := 0#32
  ![v121.toNat, 0, 0]
def k0_off9 (k0_t2 : Fin k0_t2_loop.trips) : Fin 2 → Nat :=
  let c0_i32_50 : BitVec 32 := 0#32
  let c1_i32_52 : BitVec 32 := 1#32
  let arg14 : BitVec 32 := Scf.iv c0_i32_50 c1_i32_52 k0_t2
  let c0_i32_103 : BitVec 32 := 0#32
  let v123 : BitVec 1 := Scalar.cmpi .sgt arg14 c0_i32_103
  let v124 : BitVec 32 := Scalar.extui v123
  let c0_i32_104 : BitVec 32 := 0#32
  let v125 : BitVec 1 := Scalar.cmpi .slt arg14 c0_i32_104
  let v126 : BitVec 32 := Scalar.extui v125
  let v127 : BitVec 32 := Scalar.subi v124 v126
  let c3_i32_102 : BitVec 32 := 3#32
  let c0_i32_105 : BitVec 32 := 0#32
  let v128 : BitVec 1 := Scalar.cmpi .sgt c3_i32_102 c0_i32_105
  let v129 : BitVec 32 := Scalar.extui v128
  let c0_i32_106 : BitVec 32 := 0#32
  let v130 : BitVec 1 := Scalar.cmpi .slt c3_i32_102 c0_i32_106
  let v131 : BitVec 32 := Scalar.extui v130
  let v132 : BitVec 32 := Scalar.subi v129 v131
  let v133 : BitVec 1 := Scalar.cmpi .ne v127 v132
  let v134 : BitVec 32 := Scalar.remsi arg14 c3_i32_102
  let c0_i32_107 : BitVec 32 := 0#32
  let v135 : BitVec 1 := Scalar.cmpi .ne v134 c0_i32_107
  let v136 : BitVec 1 := Scalar.andi v133 v135
  let v122 : BitVec 32 := Scalar.divsi arg14 c3_i32_102
  let c1_i32_108 : BitVec 32 := 1#32
  let v137 : BitVec 32 := Scalar.subi v122 c1_i32_108
  let v138 : BitVec 32 := Scalar.select v136 v137 v122
  let c3_i32_109 : BitVec 32 := 3#32
  let v139 : BitVec 32 := Scalar.muli v138 c3_i32_109
  let v140 : BitVec 32 := Scalar.subi arg14 v139
  let c7168_i32_110 : BitVec 32 := 7168#32
  let v141 : BitVec 32 := Scalar.muli v140 c7168_i32_110
  let c128_i32_111 : BitVec 32 := 128#32
  let v142 : BitVec 32 := Scalar.muli v138 c128_i32_111
  let v143 : BitVec 32 := v142
  ![v141.toNat, v143.toNat]
def k0_mult15 : BitVec 32 :=
  let c0_i32_114 : BitVec 32 := 0#32
  let c7168_i32_115 : BitVec 32 := 7168#32
  let v149 : BitVec 32 := Scalar.muli c0_i32_114 c7168_i32_115
  v149
def k0_mult16 (k0_t2 : Fin k0_t2_loop.trips) : BitVec 32 :=
  let c0_i32_50 : BitVec 32 := 0#32
  let c1_i32_52 : BitVec 32 := 1#32
  let arg14 : BitVec 32 := Scf.iv c0_i32_50 c1_i32_52 k0_t2
  let c7168_i32_116 : BitVec 32 := 7168#32
  let v151 : BitVec 32 := Scalar.muli arg14 c7168_i32_116
  let c0_i32_114 : BitVec 32 := 0#32
  let c7168_i32_117 : BitVec 32 := 7168#32
  let v152 : BitVec 32 := Scalar.muli c0_i32_114 c7168_i32_117
  let v153 : BitVec 32 := Scalar.addi v151 v152
  let c0_i32_119 : BitVec 32 := 0#32
  let v155 : BitVec 1 := Scalar.cmpi .sgt v153 c0_i32_119
  let v156 : BitVec 32 := Scalar.extui v155
  let c0_i32_120 : BitVec 32 := 0#32
  let v157 : BitVec 1 := Scalar.cmpi .slt v153 c0_i32_120
  let v158 : BitVec 32 := Scalar.extui v157
  let v159 : BitVec 32 := Scalar.subi v156 v158
  let c2_i32_118 : BitVec 32 := 2#32
  let c0_i32_121 : BitVec 32 := 0#32
  let v160 : BitVec 1 := Scalar.cmpi .sgt c2_i32_118 c0_i32_121
  let v161 : BitVec 32 := Scalar.extui v160
  let c0_i32_122 : BitVec 32 := 0#32
  let v162 : BitVec 1 := Scalar.cmpi .slt c2_i32_118 c0_i32_122
  let v163 : BitVec 32 := Scalar.extui v162
  let v164 : BitVec 32 := Scalar.subi v161 v163
  let v165 : BitVec 1 := Scalar.cmpi .ne v159 v164
  let v166 : BitVec 32 := Scalar.remsi v153 c2_i32_118
  let c0_i32_123 : BitVec 32 := 0#32
  let v167 : BitVec 1 := Scalar.cmpi .ne v166 c0_i32_123
  let v168 : BitVec 1 := Scalar.andi v165 v167
  let v154 : BitVec 32 := Scalar.divsi v153 c2_i32_118
  let c1_i32_124 : BitVec 32 := 1#32
  let v169 : BitVec 32 := Scalar.subi v154 c1_i32_124
  let v170 : BitVec 32 := Scalar.select v168 v169 v154
  v170
def k0_off10 (k0_t2 : Fin k0_t2_loop.trips) : Fin 3 → Nat :=
  let c0_i32_50 : BitVec 32 := 0#32
  let c1_i32_52 : BitVec 32 := 1#32
  let arg14 : BitVec 32 := Scf.iv c0_i32_50 c1_i32_52 k0_t2
  let c7168_i32_116 : BitVec 32 := 7168#32
  let v151 : BitVec 32 := Scalar.muli arg14 c7168_i32_116
  let c0_i32_114 : BitVec 32 := 0#32
  let c7168_i32_117 : BitVec 32 := 7168#32
  let v152 : BitVec 32 := Scalar.muli c0_i32_114 c7168_i32_117
  let v153 : BitVec 32 := Scalar.addi v151 v152
  let c0_i32_119 : BitVec 32 := 0#32
  let v155 : BitVec 1 := Scalar.cmpi .sgt v153 c0_i32_119
  let v156 : BitVec 32 := Scalar.extui v155
  let c0_i32_120 : BitVec 32 := 0#32
  let v157 : BitVec 1 := Scalar.cmpi .slt v153 c0_i32_120
  let v158 : BitVec 32 := Scalar.extui v157
  let v159 : BitVec 32 := Scalar.subi v156 v158
  let c2_i32_118 : BitVec 32 := 2#32
  let c0_i32_121 : BitVec 32 := 0#32
  let v160 : BitVec 1 := Scalar.cmpi .sgt c2_i32_118 c0_i32_121
  let v161 : BitVec 32 := Scalar.extui v160
  let c0_i32_122 : BitVec 32 := 0#32
  let v162 : BitVec 1 := Scalar.cmpi .slt c2_i32_118 c0_i32_122
  let v163 : BitVec 32 := Scalar.extui v162
  let v164 : BitVec 32 := Scalar.subi v161 v163
  let v165 : BitVec 1 := Scalar.cmpi .ne v159 v164
  let v166 : BitVec 32 := Scalar.remsi v153 c2_i32_118
  let c0_i32_123 : BitVec 32 := 0#32
  let v167 : BitVec 1 := Scalar.cmpi .ne v166 c0_i32_123
  let v168 : BitVec 1 := Scalar.andi v165 v167
  let v154 : BitVec 32 := Scalar.divsi v153 c2_i32_118
  let c1_i32_124 : BitVec 32 := 1#32
  let v169 : BitVec 32 := Scalar.subi v154 c1_i32_124
  let v170 : BitVec 32 := Scalar.select v168 v169 v154
  let v171 : BitVec 32 := v170
  let v172 : Index := Scalar.indexCast v171
  let c0_125 : Index := 0#32
  ![v172.toNat, 0, 0]
def k0_off11 (k0_t2 : Fin k0_t2_loop.trips) : Fin 3 → Nat :=
  let c0_i32_50 : BitVec 32 := 0#32
  let c1_i32_52 : BitVec 32 := 1#32
  let arg14 : BitVec 32 := Scf.iv c0_i32_50 c1_i32_52 k0_t2
  let c6_i32_100 : BitVec 32 := 6#32
  let v120 : BitVec 32 := Scalar.remsi arg14 c6_i32_100
  let v186 : Index := Scalar.indexCast v120
  let c0_i32_114 : BitVec 32 := 0#32
  let c7168_i32_115 : BitVec 32 := 7168#32
  let v149 : BitVec 32 := Scalar.muli c0_i32_114 c7168_i32_115
  let v150 : BitVec 32 := v149
  let v187 : Index := Scalar.indexCast v150
  let c0_129 : Index := 0#32
  ![v186.toNat, v187.toNat, 0]
def k0_cond1 (k0_t2 : Fin k0_t2_loop.trips) : BitVec 1 :=
  let c0_i32_50 : BitVec 32 := 0#32
  let c1_i32_52 : BitVec 32 := 1#32
  let arg14 : BitVec 32 := Scf.iv c0_i32_50 c1_i32_52 k0_t2
  let c6_i32_137 : BitVec 32 := 6#32
  let v205 : BitVec 32 := Scalar.addi arg14 c6_i32_137
  let c84_i32 : BitVec 32 := 84#32
  let v206 : BitVec 1 := Scalar.cmpi .slt v205 c84_i32
  let v207 : BitVec 32 := Scalar.extui v206
  let c0_i32_138 : BitVec 32 := 0#32
  let v208 : BitVec 1 := Scalar.cmpi .ne v207 c0_i32_138
  v208

def k0_mult17 (k0_t2 : Fin k0_t2_loop.trips) : BitVec 32 :=
  let c0_i32_50 : BitVec 32 := 0#32
  let c1_i32_52 : BitVec 32 := 1#32
  let arg14 : BitVec 32 := Scf.iv c0_i32_50 c1_i32_52 k0_t2
  let c6_i32_139 : BitVec 32 := 6#32
  let v209 : BitVec 32 := Scalar.addi arg14 c6_i32_139
  let c0_i32_142 : BitVec 32 := 0#32
  let v212 : BitVec 1 := Scalar.cmpi .sgt v209 c0_i32_142
  let v213 : BitVec 32 := Scalar.extui v212
  let c0_i32_143 : BitVec 32 := 0#32
  let v214 : BitVec 1 := Scalar.cmpi .slt v209 c0_i32_143
  let v215 : BitVec 32 := Scalar.extui v214
  let v216 : BitVec 32 := Scalar.subi v213 v215
  let c3_i32_141 : BitVec 32 := 3#32
  let c0_i32_144 : BitVec 32 := 0#32
  let v217 : BitVec 1 := Scalar.cmpi .sgt c3_i32_141 c0_i32_144
  let v218 : BitVec 32 := Scalar.extui v217
  let c0_i32_145 : BitVec 32 := 0#32
  let v219 : BitVec 1 := Scalar.cmpi .slt c3_i32_141 c0_i32_145
  let v220 : BitVec 32 := Scalar.extui v219
  let v221 : BitVec 32 := Scalar.subi v218 v220
  let v222 : BitVec 1 := Scalar.cmpi .ne v216 v221
  let v223 : BitVec 32 := Scalar.remsi v209 c3_i32_141
  let c0_i32_146 : BitVec 32 := 0#32
  let v224 : BitVec 1 := Scalar.cmpi .ne v223 c0_i32_146
  let v225 : BitVec 1 := Scalar.andi v222 v224
  let v211 : BitVec 32 := Scalar.divsi v209 c3_i32_141
  let c1_i32_147 : BitVec 32 := 1#32
  let v226 : BitVec 32 := Scalar.subi v211 c1_i32_147
  let v227 : BitVec 32 := Scalar.select v225 v226 v211
  let c128_i32_150 : BitVec 32 := 128#32
  let v231 : BitVec 32 := Scalar.muli v227 c128_i32_150
  v231
def k0_off12 (k0_t2 : Fin k0_t2_loop.trips) : Fin 1 → Nat :=
  let c0_i32_50 : BitVec 32 := 0#32
  let c1_i32_52 : BitVec 32 := 1#32
  let arg14 : BitVec 32 := Scf.iv c0_i32_50 c1_i32_52 k0_t2
  let c6_i32_139 : BitVec 32 := 6#32
  let v209 : BitVec 32 := Scalar.addi arg14 c6_i32_139
  let c6_i32_140 : BitVec 32 := 6#32
  let v210 : BitVec 32 := Scalar.remsi v209 c6_i32_140
  ![v210.toNat]
def k0_off13 (k0_t2 : Fin k0_t2_loop.trips) : Fin 3 → Nat :=
  let c0_i32_50 : BitVec 32 := 0#32
  let c1_i32_52 : BitVec 32 := 1#32
  let arg14 : BitVec 32 := Scf.iv c0_i32_50 c1_i32_52 k0_t2
  let c6_i32_139 : BitVec 32 := 6#32
  let v209 : BitVec 32 := Scalar.addi arg14 c6_i32_139
  let c6_i32_140 : BitVec 32 := 6#32
  let v210 : BitVec 32 := Scalar.remsi v209 c6_i32_140
  let c0_i32_151 : BitVec 32 := 0#32
  let c0_i32_152 : BitVec 32 := 0#32
  ![v210.toNat, 0, 0]
def k0_off14 (k0_t2 : Fin k0_t2_loop.trips) : Fin 2 → Nat :=
  let c0_i32_50 : BitVec 32 := 0#32
  let c1_i32_52 : BitVec 32 := 1#32
  let arg14 : BitVec 32 := Scf.iv c0_i32_50 c1_i32_52 k0_t2
  let c6_i32_139 : BitVec 32 := 6#32
  let v209 : BitVec 32 := Scalar.addi arg14 c6_i32_139
  let c0_i32_142 : BitVec 32 := 0#32
  let v212 : BitVec 1 := Scalar.cmpi .sgt v209 c0_i32_142
  let v213 : BitVec 32 := Scalar.extui v212
  let c0_i32_143 : BitVec 32 := 0#32
  let v214 : BitVec 1 := Scalar.cmpi .slt v209 c0_i32_143
  let v215 : BitVec 32 := Scalar.extui v214
  let v216 : BitVec 32 := Scalar.subi v213 v215
  let c3_i32_141 : BitVec 32 := 3#32
  let c0_i32_144 : BitVec 32 := 0#32
  let v217 : BitVec 1 := Scalar.cmpi .sgt c3_i32_141 c0_i32_144
  let v218 : BitVec 32 := Scalar.extui v217
  let c0_i32_145 : BitVec 32 := 0#32
  let v219 : BitVec 1 := Scalar.cmpi .slt c3_i32_141 c0_i32_145
  let v220 : BitVec 32 := Scalar.extui v219
  let v221 : BitVec 32 := Scalar.subi v218 v220
  let v222 : BitVec 1 := Scalar.cmpi .ne v216 v221
  let v223 : BitVec 32 := Scalar.remsi v209 c3_i32_141
  let c0_i32_146 : BitVec 32 := 0#32
  let v224 : BitVec 1 := Scalar.cmpi .ne v223 c0_i32_146
  let v225 : BitVec 1 := Scalar.andi v222 v224
  let v211 : BitVec 32 := Scalar.divsi v209 c3_i32_141
  let c1_i32_147 : BitVec 32 := 1#32
  let v226 : BitVec 32 := Scalar.subi v211 c1_i32_147
  let v227 : BitVec 32 := Scalar.select v225 v226 v211
  let c3_i32_148 : BitVec 32 := 3#32
  let v228 : BitVec 32 := Scalar.muli v227 c3_i32_148
  let v229 : BitVec 32 := Scalar.subi v209 v228
  let c7168_i32_149 : BitVec 32 := 7168#32
  let v230 : BitVec 32 := Scalar.muli v229 c7168_i32_149
  let c128_i32_150 : BitVec 32 := 128#32
  let v231 : BitVec 32 := Scalar.muli v227 c128_i32_150
  let v232 : BitVec 32 := v231
  ![v230.toNat, v232.toNat]
@[reducible] def k0_t3_loop : Scf.Loop 32 :=
  let c1_i32_65 : BitVec 32 := 1#32
  let c27_i32 : BitVec 32 := 27#32
  let v76 : BitVec 32 := Scalar.addi c1_i32_65 c27_i32
  let c1_i32_66 : BitVec 32 := 1#32
  ⟨c1_i32_65, v76, c1_i32_66⟩
@[reducible] def k0_t4_loop : Scf.Loop 32 :=
  let c0_i32_103 : BitVec 32 := 0#32
  let c3_i32_104 : BitVec 32 := 3#32
  let v124 : BitVec 32 := Scalar.addi c0_i32_103 c3_i32_104
  let c1_i32_105 : BitVec 32 := 1#32
  ⟨c0_i32_103, v124, c1_i32_105⟩
def k0_mult18 (k0_t3 : Fin k0_t3_loop.trips) (k0_t4 : Fin k0_t4_loop.trips) : BitVec 32 :=
  let c1_i32_65 : BitVec 32 := 1#32
  let c1_i32_66 : BitVec 32 := 1#32
  let arg14 : BitVec 32 := Scf.iv c1_i32_65 c1_i32_66 k0_t3
  let c3_i32_119 : BitVec 32 := 3#32
  let v144 : BitVec 32 := Scalar.muli arg14 c3_i32_119
  let c0_i32_103 : BitVec 32 := 0#32
  let c1_i32_105 : BitVec 32 := 1#32
  let arg15 : BitVec 32 := Scf.iv c0_i32_103 c1_i32_105 k0_t4
  let v145 : BitVec 32 := Scalar.addi v144 arg15
  let c0_i32_123 : BitVec 32 := 0#32
  let v149 : BitVec 1 := Scalar.cmpi .sgt v145 c0_i32_123
  let v150 : BitVec 32 := Scalar.extui v149
  let c0_i32_124 : BitVec 32 := 0#32
  let v151 : BitVec 1 := Scalar.cmpi .slt v145 c0_i32_124
  let v152 : BitVec 32 := Scalar.extui v151
  let v153 : BitVec 32 := Scalar.subi v150 v152
  let c3_i32_122 : BitVec 32 := 3#32
  let c0_i32_125 : BitVec 32 := 0#32
  let v154 : BitVec 1 := Scalar.cmpi .sgt c3_i32_122 c0_i32_125
  let v155 : BitVec 32 := Scalar.extui v154
  let c0_i32_126 : BitVec 32 := 0#32
  let v156 : BitVec 1 := Scalar.cmpi .slt c3_i32_122 c0_i32_126
  let v157 : BitVec 32 := Scalar.extui v156
  let v158 : BitVec 32 := Scalar.subi v155 v157
  let v159 : BitVec 1 := Scalar.cmpi .ne v153 v158
  let v160 : BitVec 32 := Scalar.remsi v145 c3_i32_122
  let c0_i32_127 : BitVec 32 := 0#32
  let v161 : BitVec 1 := Scalar.cmpi .ne v160 c0_i32_127
  let v162 : BitVec 1 := Scalar.andi v159 v161
  let v148 : BitVec 32 := Scalar.divsi v145 c3_i32_122
  let c1_i32_128 : BitVec 32 := 1#32
  let v163 : BitVec 32 := Scalar.subi v148 c1_i32_128
  let v164 : BitVec 32 := Scalar.select v162 v163 v148
  let c128_i32_131 : BitVec 32 := 128#32
  let v168 : BitVec 32 := Scalar.muli v164 c128_i32_131
  v168
def k0_off15 (k0_t3 : Fin k0_t3_loop.trips) (k0_t4 : Fin k0_t4_loop.trips) : Fin 1 → Nat :=
  let c1_i32_65 : BitVec 32 := 1#32
  let c1_i32_66 : BitVec 32 := 1#32
  let arg14 : BitVec 32 := Scf.iv c1_i32_65 c1_i32_66 k0_t3
  let c3_i32_119 : BitVec 32 := 3#32
  let v144 : BitVec 32 := Scalar.muli arg14 c3_i32_119
  let c0_i32_103 : BitVec 32 := 0#32
  let c1_i32_105 : BitVec 32 := 1#32
  let arg15 : BitVec 32 := Scf.iv c0_i32_103 c1_i32_105 k0_t4
  let v145 : BitVec 32 := Scalar.addi v144 arg15
  let c6_i32_121 : BitVec 32 := 6#32
  let v147 : BitVec 32 := Scalar.remsi v145 c6_i32_121
  ![v147.toNat]
def k0_off16 (k0_t3 : Fin k0_t3_loop.trips) (k0_t4 : Fin k0_t4_loop.trips) : Fin 3 → Nat :=
  let c1_i32_65 : BitVec 32 := 1#32
  let c1_i32_66 : BitVec 32 := 1#32
  let arg14 : BitVec 32 := Scf.iv c1_i32_65 c1_i32_66 k0_t3
  let c3_i32_119 : BitVec 32 := 3#32
  let v144 : BitVec 32 := Scalar.muli arg14 c3_i32_119
  let c0_i32_103 : BitVec 32 := 0#32
  let c1_i32_105 : BitVec 32 := 1#32
  let arg15 : BitVec 32 := Scf.iv c0_i32_103 c1_i32_105 k0_t4
  let v145 : BitVec 32 := Scalar.addi v144 arg15
  let c6_i32_121 : BitVec 32 := 6#32
  let v147 : BitVec 32 := Scalar.remsi v145 c6_i32_121
  let c0_i32_132 : BitVec 32 := 0#32
  let c0_i32_133 : BitVec 32 := 0#32
  ![v147.toNat, 0, 0]
def k0_off17 (k0_t3 : Fin k0_t3_loop.trips) (k0_t4 : Fin k0_t4_loop.trips) : Fin 2 → Nat :=
  let c1_i32_65 : BitVec 32 := 1#32
  let c1_i32_66 : BitVec 32 := 1#32
  let arg14 : BitVec 32 := Scf.iv c1_i32_65 c1_i32_66 k0_t3
  let c3_i32_119 : BitVec 32 := 3#32
  let v144 : BitVec 32 := Scalar.muli arg14 c3_i32_119
  let c0_i32_103 : BitVec 32 := 0#32
  let c1_i32_105 : BitVec 32 := 1#32
  let arg15 : BitVec 32 := Scf.iv c0_i32_103 c1_i32_105 k0_t4
  let v145 : BitVec 32 := Scalar.addi v144 arg15
  let c0_i32_123 : BitVec 32 := 0#32
  let v149 : BitVec 1 := Scalar.cmpi .sgt v145 c0_i32_123
  let v150 : BitVec 32 := Scalar.extui v149
  let c0_i32_124 : BitVec 32 := 0#32
  let v151 : BitVec 1 := Scalar.cmpi .slt v145 c0_i32_124
  let v152 : BitVec 32 := Scalar.extui v151
  let v153 : BitVec 32 := Scalar.subi v150 v152
  let c3_i32_122 : BitVec 32 := 3#32
  let c0_i32_125 : BitVec 32 := 0#32
  let v154 : BitVec 1 := Scalar.cmpi .sgt c3_i32_122 c0_i32_125
  let v155 : BitVec 32 := Scalar.extui v154
  let c0_i32_126 : BitVec 32 := 0#32
  let v156 : BitVec 1 := Scalar.cmpi .slt c3_i32_122 c0_i32_126
  let v157 : BitVec 32 := Scalar.extui v156
  let v158 : BitVec 32 := Scalar.subi v155 v157
  let v159 : BitVec 1 := Scalar.cmpi .ne v153 v158
  let v160 : BitVec 32 := Scalar.remsi v145 c3_i32_122
  let c0_i32_127 : BitVec 32 := 0#32
  let v161 : BitVec 1 := Scalar.cmpi .ne v160 c0_i32_127
  let v162 : BitVec 1 := Scalar.andi v159 v161
  let v148 : BitVec 32 := Scalar.divsi v145 c3_i32_122
  let c1_i32_128 : BitVec 32 := 1#32
  let v163 : BitVec 32 := Scalar.subi v148 c1_i32_128
  let v164 : BitVec 32 := Scalar.select v162 v163 v148
  let c3_i32_129 : BitVec 32 := 3#32
  let v165 : BitVec 32 := Scalar.muli v164 c3_i32_129
  let v166 : BitVec 32 := Scalar.subi v145 v165
  let c7168_i32_130 : BitVec 32 := 7168#32
  let v167 : BitVec 32 := Scalar.muli v166 c7168_i32_130
  let c128_i32_131 : BitVec 32 := 128#32
  let v168 : BitVec 32 := Scalar.muli v164 c128_i32_131
  let v169 : BitVec 32 := v168
  ![v167.toNat, v169.toNat]
def k0_cond2 (k0_t3 : Fin k0_t3_loop.trips) (k0_t4 : Fin k0_t4_loop.trips) : BitVec 1 :=
  let c1_i32_65 : BitVec 32 := 1#32
  let c1_i32_66 : BitVec 32 := 1#32
  let arg14 : BitVec 32 := Scf.iv c1_i32_65 c1_i32_66 k0_t3
  let c3_i32_119 : BitVec 32 := 3#32
  let v144 : BitVec 32 := Scalar.muli arg14 c3_i32_119
  let c0_i32_103 : BitVec 32 := 0#32
  let c1_i32_105 : BitVec 32 := 1#32
  let arg15 : BitVec 32 := Scf.iv c0_i32_103 c1_i32_105 k0_t4
  let v145 : BitVec 32 := Scalar.addi v144 arg15
  let c3_i32_134 : BitVec 32 := 3#32
  let v175 : BitVec 32 := Scalar.subi v145 c3_i32_134
  let c6_i32_136 : BitVec 32 := 6#32
  let v177 : BitVec 1 := Scalar.cmpi .sge v175 c6_i32_136
  let v178 : BitVec 32 := Scalar.extui v177
  let c0_i32_137 : BitVec 32 := 0#32
  let v179 : BitVec 1 := Scalar.cmpi .ne v178 c0_i32_137
  v179

def k0_mult19 (k0_t3 : Fin k0_t3_loop.trips) (k0_t4 : Fin k0_t4_loop.trips) : BitVec 32 :=
  let c1_i32_65 : BitVec 32 := 1#32
  let c1_i32_66 : BitVec 32 := 1#32
  let arg14 : BitVec 32 := Scf.iv c1_i32_65 c1_i32_66 k0_t3
  let c3_i32_119 : BitVec 32 := 3#32
  let v144 : BitVec 32 := Scalar.muli arg14 c3_i32_119
  let c0_i32_103 : BitVec 32 := 0#32
  let c1_i32_105 : BitVec 32 := 1#32
  let arg15 : BitVec 32 := Scf.iv c0_i32_103 c1_i32_105 k0_t4
  let v145 : BitVec 32 := Scalar.addi v144 arg15
  let c3_i32_134 : BitVec 32 := 3#32
  let v175 : BitVec 32 := Scalar.subi v145 c3_i32_134
  let c6_i32_193 : BitVec 32 := 6#32
  let v312 : BitVec 32 := Scalar.subi v175 c6_i32_193
  let c0_i32_196 : BitVec 32 := 0#32
  let v315 : BitVec 1 := Scalar.cmpi .sgt v312 c0_i32_196
  let v316 : BitVec 32 := Scalar.extui v315
  let c0_i32_197 : BitVec 32 := 0#32
  let v317 : BitVec 1 := Scalar.cmpi .slt v312 c0_i32_197
  let v318 : BitVec 32 := Scalar.extui v317
  let v319 : BitVec 32 := Scalar.subi v316 v318
  let c3_i32_195 : BitVec 32 := 3#32
  let c0_i32_198 : BitVec 32 := 0#32
  let v320 : BitVec 1 := Scalar.cmpi .sgt c3_i32_195 c0_i32_198
  let v321 : BitVec 32 := Scalar.extui v320
  let c0_i32_199 : BitVec 32 := 0#32
  let v322 : BitVec 1 := Scalar.cmpi .slt c3_i32_195 c0_i32_199
  let v323 : BitVec 32 := Scalar.extui v322
  let v324 : BitVec 32 := Scalar.subi v321 v323
  let v325 : BitVec 1 := Scalar.cmpi .ne v319 v324
  let v326 : BitVec 32 := Scalar.remsi v312 c3_i32_195
  let c0_i32_200 : BitVec 32 := 0#32
  let v327 : BitVec 1 := Scalar.cmpi .ne v326 c0_i32_200
  let v328 : BitVec 1 := Scalar.andi v325 v327
  let v314 : BitVec 32 := Scalar.divsi v312 c3_i32_195
  let c1_i32_201 : BitVec 32 := 1#32
  let v329 : BitVec 32 := Scalar.subi v314 c1_i32_201
  let v330 : BitVec 32 := Scalar.select v328 v329 v314
  let c128_i32_204 : BitVec 32 := 128#32
  let v334 : BitVec 32 := Scalar.muli v330 c128_i32_204
  v334
def k0_off18 (k0_t3 : Fin k0_t3_loop.trips) (k0_t4 : Fin k0_t4_loop.trips) : Fin 1 → Nat :=
  let c1_i32_65 : BitVec 32 := 1#32
  let c1_i32_66 : BitVec 32 := 1#32
  let arg14 : BitVec 32 := Scf.iv c1_i32_65 c1_i32_66 k0_t3
  let c3_i32_119 : BitVec 32 := 3#32
  let v144 : BitVec 32 := Scalar.muli arg14 c3_i32_119
  let c0_i32_103 : BitVec 32 := 0#32
  let c1_i32_105 : BitVec 32 := 1#32
  let arg15 : BitVec 32 := Scf.iv c0_i32_103 c1_i32_105 k0_t4
  let v145 : BitVec 32 := Scalar.addi v144 arg15
  let c3_i32_134 : BitVec 32 := 3#32
  let v175 : BitVec 32 := Scalar.subi v145 c3_i32_134
  let c6_i32_193 : BitVec 32 := 6#32
  let v312 : BitVec 32 := Scalar.subi v175 c6_i32_193
  let c6_i32_194 : BitVec 32 := 6#32
  let v313 : BitVec 32 := Scalar.remsi v312 c6_i32_194
  ![v313.toNat]
def k0_off19 (k0_t3 : Fin k0_t3_loop.trips) (k0_t4 : Fin k0_t4_loop.trips) : Fin 2 → Nat :=
  let c1_i32_65 : BitVec 32 := 1#32
  let c1_i32_66 : BitVec 32 := 1#32
  let arg14 : BitVec 32 := Scf.iv c1_i32_65 c1_i32_66 k0_t3
  let c3_i32_119 : BitVec 32 := 3#32
  let v144 : BitVec 32 := Scalar.muli arg14 c3_i32_119
  let c0_i32_103 : BitVec 32 := 0#32
  let c1_i32_105 : BitVec 32 := 1#32
  let arg15 : BitVec 32 := Scf.iv c0_i32_103 c1_i32_105 k0_t4
  let v145 : BitVec 32 := Scalar.addi v144 arg15
  let c3_i32_134 : BitVec 32 := 3#32
  let v175 : BitVec 32 := Scalar.subi v145 c3_i32_134
  let c6_i32_193 : BitVec 32 := 6#32
  let v312 : BitVec 32 := Scalar.subi v175 c6_i32_193
  let c0_i32_196 : BitVec 32 := 0#32
  let v315 : BitVec 1 := Scalar.cmpi .sgt v312 c0_i32_196
  let v316 : BitVec 32 := Scalar.extui v315
  let c0_i32_197 : BitVec 32 := 0#32
  let v317 : BitVec 1 := Scalar.cmpi .slt v312 c0_i32_197
  let v318 : BitVec 32 := Scalar.extui v317
  let v319 : BitVec 32 := Scalar.subi v316 v318
  let c3_i32_195 : BitVec 32 := 3#32
  let c0_i32_198 : BitVec 32 := 0#32
  let v320 : BitVec 1 := Scalar.cmpi .sgt c3_i32_195 c0_i32_198
  let v321 : BitVec 32 := Scalar.extui v320
  let c0_i32_199 : BitVec 32 := 0#32
  let v322 : BitVec 1 := Scalar.cmpi .slt c3_i32_195 c0_i32_199
  let v323 : BitVec 32 := Scalar.extui v322
  let v324 : BitVec 32 := Scalar.subi v321 v323
  let v325 : BitVec 1 := Scalar.cmpi .ne v319 v324
  let v326 : BitVec 32 := Scalar.remsi v312 c3_i32_195
  let c0_i32_200 : BitVec 32 := 0#32
  let v327 : BitVec 1 := Scalar.cmpi .ne v326 c0_i32_200
  let v328 : BitVec 1 := Scalar.andi v325 v327
  let v314 : BitVec 32 := Scalar.divsi v312 c3_i32_195
  let c1_i32_201 : BitVec 32 := 1#32
  let v329 : BitVec 32 := Scalar.subi v314 c1_i32_201
  let v330 : BitVec 32 := Scalar.select v328 v329 v314
  let c3_i32_202 : BitVec 32 := 3#32
  let v331 : BitVec 32 := Scalar.muli v330 c3_i32_202
  let v332 : BitVec 32 := Scalar.subi v312 v331
  let c7168_i32_203 : BitVec 32 := 7168#32
  let v333 : BitVec 32 := Scalar.muli v332 c7168_i32_203
  let c128_i32_204 : BitVec 32 := 128#32
  let v334 : BitVec 32 := Scalar.muli v330 c128_i32_204
  let v335 : BitVec 32 := v334
  ![v333.toNat, v335.toNat]
def k0_off20 (k0_t3 : Fin k0_t3_loop.trips) (k0_t4 : Fin k0_t4_loop.trips) : Fin 3 → Nat :=
  let c1_i32_65 : BitVec 32 := 1#32
  let c1_i32_66 : BitVec 32 := 1#32
  let arg14 : BitVec 32 := Scf.iv c1_i32_65 c1_i32_66 k0_t3
  let c3_i32_119 : BitVec 32 := 3#32
  let v144 : BitVec 32 := Scalar.muli arg14 c3_i32_119
  let c0_i32_103 : BitVec 32 := 0#32
  let c1_i32_105 : BitVec 32 := 1#32
  let arg15 : BitVec 32 := Scf.iv c0_i32_103 c1_i32_105 k0_t4
  let v145 : BitVec 32 := Scalar.addi v144 arg15
  let c3_i32_134 : BitVec 32 := 3#32
  let v175 : BitVec 32 := Scalar.subi v145 c3_i32_134
  let c6_i32_193 : BitVec 32 := 6#32
  let v312 : BitVec 32 := Scalar.subi v175 c6_i32_193
  let c6_i32_194 : BitVec 32 := 6#32
  let v313 : BitVec 32 := Scalar.remsi v312 c6_i32_194
  let c0_i32_205 : BitVec 32 := 0#32
  let c0_i32_206 : BitVec 32 := 0#32
  ![v313.toNat, 0, 0]
def k0_mult20 : BitVec 32 :=
  let c0_i32_138 : BitVec 32 := 0#32
  let c7168_i32_139 : BitVec 32 := 7168#32
  let v180 : BitVec 32 := Scalar.muli c0_i32_138 c7168_i32_139
  v180
def k0_mult21 (k0_t4 : Fin k0_t4_loop.trips) : BitVec 32 :=
  let c0_i32_103 : BitVec 32 := 0#32
  let c1_i32_105 : BitVec 32 := 1#32
  let arg15 : BitVec 32 := Scf.iv c0_i32_103 c1_i32_105 k0_t4
  let c7168_i32_140 : BitVec 32 := 7168#32
  let v182 : BitVec 32 := Scalar.muli arg15 c7168_i32_140
  let c0_i32_138 : BitVec 32 := 0#32
  let c7168_i32_141 : BitVec 32 := 7168#32
  let v183 : BitVec 32 := Scalar.muli c0_i32_138 c7168_i32_141
  let v184 : BitVec 32 := Scalar.addi v182 v183
  let c0_i32_143 : BitVec 32 := 0#32
  let v186 : BitVec 1 := Scalar.cmpi .sgt v184 c0_i32_143
  let v187 : BitVec 32 := Scalar.extui v186
  let c0_i32_144 : BitVec 32 := 0#32
  let v188 : BitVec 1 := Scalar.cmpi .slt v184 c0_i32_144
  let v189 : BitVec 32 := Scalar.extui v188
  let v190 : BitVec 32 := Scalar.subi v187 v189
  let c2_i32_142 : BitVec 32 := 2#32
  let c0_i32_145 : BitVec 32 := 0#32
  let v191 : BitVec 1 := Scalar.cmpi .sgt c2_i32_142 c0_i32_145
  let v192 : BitVec 32 := Scalar.extui v191
  let c0_i32_146 : BitVec 32 := 0#32
  let v193 : BitVec 1 := Scalar.cmpi .slt c2_i32_142 c0_i32_146
  let v194 : BitVec 32 := Scalar.extui v193
  let v195 : BitVec 32 := Scalar.subi v192 v194
  let v196 : BitVec 1 := Scalar.cmpi .ne v190 v195
  let v197 : BitVec 32 := Scalar.remsi v184 c2_i32_142
  let c0_i32_147 : BitVec 32 := 0#32
  let v198 : BitVec 1 := Scalar.cmpi .ne v197 c0_i32_147
  let v199 : BitVec 1 := Scalar.andi v196 v198
  let v185 : BitVec 32 := Scalar.divsi v184 c2_i32_142
  let c1_i32_148 : BitVec 32 := 1#32
  let v200 : BitVec 32 := Scalar.subi v185 c1_i32_148
  let v201 : BitVec 32 := Scalar.select v199 v200 v185
  v201
def k0_off21 (k0_t4 : Fin k0_t4_loop.trips) : Fin 3 → Nat :=
  let c0_i32_103 : BitVec 32 := 0#32
  let c1_i32_105 : BitVec 32 := 1#32
  let arg15 : BitVec 32 := Scf.iv c0_i32_103 c1_i32_105 k0_t4
  let c7168_i32_140 : BitVec 32 := 7168#32
  let v182 : BitVec 32 := Scalar.muli arg15 c7168_i32_140
  let c0_i32_138 : BitVec 32 := 0#32
  let c7168_i32_141 : BitVec 32 := 7168#32
  let v183 : BitVec 32 := Scalar.muli c0_i32_138 c7168_i32_141
  let v184 : BitVec 32 := Scalar.addi v182 v183
  let c0_i32_143 : BitVec 32 := 0#32
  let v186 : BitVec 1 := Scalar.cmpi .sgt v184 c0_i32_143
  let v187 : BitVec 32 := Scalar.extui v186
  let c0_i32_144 : BitVec 32 := 0#32
  let v188 : BitVec 1 := Scalar.cmpi .slt v184 c0_i32_144
  let v189 : BitVec 32 := Scalar.extui v188
  let v190 : BitVec 32 := Scalar.subi v187 v189
  let c2_i32_142 : BitVec 32 := 2#32
  let c0_i32_145 : BitVec 32 := 0#32
  let v191 : BitVec 1 := Scalar.cmpi .sgt c2_i32_142 c0_i32_145
  let v192 : BitVec 32 := Scalar.extui v191
  let c0_i32_146 : BitVec 32 := 0#32
  let v193 : BitVec 1 := Scalar.cmpi .slt c2_i32_142 c0_i32_146
  let v194 : BitVec 32 := Scalar.extui v193
  let v195 : BitVec 32 := Scalar.subi v192 v194
  let v196 : BitVec 1 := Scalar.cmpi .ne v190 v195
  let v197 : BitVec 32 := Scalar.remsi v184 c2_i32_142
  let c0_i32_147 : BitVec 32 := 0#32
  let v198 : BitVec 1 := Scalar.cmpi .ne v197 c0_i32_147
  let v199 : BitVec 1 := Scalar.andi v196 v198
  let v185 : BitVec 32 := Scalar.divsi v184 c2_i32_142
  let c1_i32_148 : BitVec 32 := 1#32
  let v200 : BitVec 32 := Scalar.subi v185 c1_i32_148
  let v201 : BitVec 32 := Scalar.select v199 v200 v185
  let v202 : BitVec 32 := v201
  let v203 : Index := Scalar.indexCast v202
  let c0_149 : Index := 0#32
  ![v203.toNat, 0, 0]
def k0_off22 (k0_t3 : Fin k0_t3_loop.trips) (k0_t4 : Fin k0_t4_loop.trips) : Fin 3 → Nat :=
  let c1_i32_65 : BitVec 32 := 1#32
  let c1_i32_66 : BitVec 32 := 1#32
  let arg14 : BitVec 32 := Scf.iv c1_i32_65 c1_i32_66 k0_t3
  let c3_i32_119 : BitVec 32 := 3#32
  let v144 : BitVec 32 := Scalar.muli arg14 c3_i32_119
  let c0_i32_103 : BitVec 32 := 0#32
  let c1_i32_105 : BitVec 32 := 1#32
  let arg15 : BitVec 32 := Scf.iv c0_i32_103 c1_i32_105 k0_t4
  let v145 : BitVec 32 := Scalar.addi v144 arg15
  let c3_i32_134 : BitVec 32 := 3#32
  let v175 : BitVec 32 := Scalar.subi v145 c3_i32_134
  let c6_i32_135 : BitVec 32 := 6#32
  let v176 : BitVec 32 := Scalar.remsi v175 c6_i32_135
  let v217 : Index := Scalar.indexCast v176
  let c0_i32_138 : BitVec 32 := 0#32
  let c7168_i32_139 : BitVec 32 := 7168#32
  let v180 : BitVec 32 := Scalar.muli c0_i32_138 c7168_i32_139
  let v181 : BitVec 32 := v180
  let v218 : Index := Scalar.indexCast v181
  let c0_154 : Index := 0#32
  ![v217.toNat, v218.toNat, 0]
def k0_mult22 : BitVec 32 :=
  let c0_i32_138 : BitVec 32 := 0#32
  let c7168_i32_155 : BitVec 32 := 7168#32
  let v222 : BitVec 32 := Scalar.muli c0_i32_138 c7168_i32_155
  v222
def k0_mult23 (k0_t4 : Fin k0_t4_loop.trips) : BitVec 32 :=
  let c0_i32_103 : BitVec 32 := 0#32
  let c1_i32_105 : BitVec 32 := 1#32
  let arg15 : BitVec 32 := Scf.iv c0_i32_103 c1_i32_105 k0_t4
  let c7168_i32_156 : BitVec 32 := 7168#32
  let v224 : BitVec 32 := Scalar.muli arg15 c7168_i32_156
  let c0_i32_138 : BitVec 32 := 0#32
  let c7168_i32_157 : BitVec 32 := 7168#32
  let v225 : BitVec 32 := Scalar.muli c0_i32_138 c7168_i32_157
  let v226 : BitVec 32 := Scalar.addi v224 v225
  let c0_i32_159 : BitVec 32 := 0#32
  let v228 : BitVec 1 := Scalar.cmpi .sgt v226 c0_i32_159
  let v229 : BitVec 32 := Scalar.extui v228
  let c0_i32_160 : BitVec 32 := 0#32
  let v230 : BitVec 1 := Scalar.cmpi .slt v226 c0_i32_160
  let v231 : BitVec 32 := Scalar.extui v230
  let v232 : BitVec 32 := Scalar.subi v229 v231
  let c2_i32_158 : BitVec 32 := 2#32
  let c0_i32_161 : BitVec 32 := 0#32
  let v233 : BitVec 1 := Scalar.cmpi .sgt c2_i32_158 c0_i32_161
  let v234 : BitVec 32 := Scalar.extui v233
  let c0_i32_162 : BitVec 32 := 0#32
  let v235 : BitVec 1 := Scalar.cmpi .slt c2_i32_158 c0_i32_162
  let v236 : BitVec 32 := Scalar.extui v235
  let v237 : BitVec 32 := Scalar.subi v234 v236
  let v238 : BitVec 1 := Scalar.cmpi .ne v232 v237
  let v239 : BitVec 32 := Scalar.remsi v226 c2_i32_158
  let c0_i32_163 : BitVec 32 := 0#32
  let v240 : BitVec 1 := Scalar.cmpi .ne v239 c0_i32_163
  let v241 : BitVec 1 := Scalar.andi v238 v240
  let v227 : BitVec 32 := Scalar.divsi v226 c2_i32_158
  let c1_i32_164 : BitVec 32 := 1#32
  let v242 : BitVec 32 := Scalar.subi v227 c1_i32_164
  let v243 : BitVec 32 := Scalar.select v241 v242 v227
  v243
def k0_off23 (k0_t3 : Fin k0_t3_loop.trips) (k0_t4 : Fin k0_t4_loop.trips) : Fin 3 → Nat :=
  let c1_i32_65 : BitVec 32 := 1#32
  let c1_i32_66 : BitVec 32 := 1#32
  let arg14 : BitVec 32 := Scf.iv c1_i32_65 c1_i32_66 k0_t3
  let c3_i32_119 : BitVec 32 := 3#32
  let v144 : BitVec 32 := Scalar.muli arg14 c3_i32_119
  let c0_i32_103 : BitVec 32 := 0#32
  let c1_i32_105 : BitVec 32 := 1#32
  let arg15 : BitVec 32 := Scf.iv c0_i32_103 c1_i32_105 k0_t4
  let v145 : BitVec 32 := Scalar.addi v144 arg15
  let c6_i32_120 : BitVec 32 := 6#32
  let v146 : BitVec 32 := Scalar.remsi v145 c6_i32_120
  let v261 : Index := Scalar.indexCast v146
  let c0_i32_138 : BitVec 32 := 0#32
  let c7168_i32_155 : BitVec 32 := 7168#32
  let v222 : BitVec 32 := Scalar.muli c0_i32_138 c7168_i32_155
  let v223 : BitVec 32 := v222
  let v262 : Index := Scalar.indexCast v223
  let c0_170 : Index := 0#32
  ![v261.toNat, v262.toNat, 0]
def k0_mult24 (k0_t3 : Fin k0_t3_loop.trips) (k0_t4 : Fin k0_t4_loop.trips) : BitVec 32 :=
  let c1_i32_65 : BitVec 32 := 1#32
  let c1_i32_66 : BitVec 32 := 1#32
  let arg14 : BitVec 32 := Scf.iv c1_i32_65 c1_i32_66 k0_t3
  let c3_i32_119 : BitVec 32 := 3#32
  let v144 : BitVec 32 := Scalar.muli arg14 c3_i32_119
  let c0_i32_103 : BitVec 32 := 0#32
  let c1_i32_105 : BitVec 32 := 1#32
  let arg15 : BitVec 32 := Scf.iv c0_i32_103 c1_i32_105 k0_t4
  let v145 : BitVec 32 := Scalar.addi v144 arg15
  let c3_i32_134 : BitVec 32 := 3#32
  let v175 : BitVec 32 := Scalar.subi v145 c3_i32_134
  let c0_i32_180 : BitVec 32 := 0#32
  let v282 : BitVec 1 := Scalar.cmpi .sgt v175 c0_i32_180
  let v283 : BitVec 32 := Scalar.extui v282
  let c0_i32_181 : BitVec 32 := 0#32
  let v284 : BitVec 1 := Scalar.cmpi .slt v175 c0_i32_181
  let v285 : BitVec 32 := Scalar.extui v284
  let v286 : BitVec 32 := Scalar.subi v283 v285
  let c3_i32_179 : BitVec 32 := 3#32
  let c0_i32_182 : BitVec 32 := 0#32
  let v287 : BitVec 1 := Scalar.cmpi .sgt c3_i32_179 c0_i32_182
  let v288 : BitVec 32 := Scalar.extui v287
  let c0_i32_183 : BitVec 32 := 0#32
  let v289 : BitVec 1 := Scalar.cmpi .slt c3_i32_179 c0_i32_183
  let v290 : BitVec 32 := Scalar.extui v289
  let v291 : BitVec 32 := Scalar.subi v288 v290
  let v292 : BitVec 1 := Scalar.cmpi .ne v286 v291
  let v293 : BitVec 32 := Scalar.remsi v175 c3_i32_179
  let c0_i32_184 : BitVec 32 := 0#32
  let v294 : BitVec 1 := Scalar.cmpi .ne v293 c0_i32_184
  let v295 : BitVec 1 := Scalar.andi v292 v294
  let v281 : BitVec 32 := Scalar.divsi v175 c3_i32_179
  let c1_i32_185 : BitVec 32 := 1#32
  let v296 : BitVec 32 := Scalar.subi v281 c1_i32_185
  let v297 : BitVec 32 := Scalar.select v295 v296 v281
  let c128_i32_188 : BitVec 32 := 128#32
  let v301 : BitVec 32 := Scalar.muli v297 c128_i32_188
  v301
def k0_off24 (k0_t3 : Fin k0_t3_loop.trips) (k0_t4 : Fin k0_t4_loop.trips) : Fin 1 → Nat :=
  let c1_i32_65 : BitVec 32 := 1#32
  let c1_i32_66 : BitVec 32 := 1#32
  let arg14 : BitVec 32 := Scf.iv c1_i32_65 c1_i32_66 k0_t3
  let c3_i32_119 : BitVec 32 := 3#32
  let v144 : BitVec 32 := Scalar.muli arg14 c3_i32_119
  let c0_i32_103 : BitVec 32 := 0#32
  let c1_i32_105 : BitVec 32 := 1#32
  let arg15 : BitVec 32 := Scf.iv c0_i32_103 c1_i32_105 k0_t4
  let v145 : BitVec 32 := Scalar.addi v144 arg15
  let c3_i32_134 : BitVec 32 := 3#32
  let v175 : BitVec 32 := Scalar.subi v145 c3_i32_134
  let c6_i32_178 : BitVec 32 := 6#32
  let v280 : BitVec 32 := Scalar.remsi v175 c6_i32_178
  ![v280.toNat]
def k0_off25 (k0_t3 : Fin k0_t3_loop.trips) (k0_t4 : Fin k0_t4_loop.trips) : Fin 2 → Nat :=
  let c1_i32_65 : BitVec 32 := 1#32
  let c1_i32_66 : BitVec 32 := 1#32
  let arg14 : BitVec 32 := Scf.iv c1_i32_65 c1_i32_66 k0_t3
  let c3_i32_119 : BitVec 32 := 3#32
  let v144 : BitVec 32 := Scalar.muli arg14 c3_i32_119
  let c0_i32_103 : BitVec 32 := 0#32
  let c1_i32_105 : BitVec 32 := 1#32
  let arg15 : BitVec 32 := Scf.iv c0_i32_103 c1_i32_105 k0_t4
  let v145 : BitVec 32 := Scalar.addi v144 arg15
  let c3_i32_134 : BitVec 32 := 3#32
  let v175 : BitVec 32 := Scalar.subi v145 c3_i32_134
  let c0_i32_180 : BitVec 32 := 0#32
  let v282 : BitVec 1 := Scalar.cmpi .sgt v175 c0_i32_180
  let v283 : BitVec 32 := Scalar.extui v282
  let c0_i32_181 : BitVec 32 := 0#32
  let v284 : BitVec 1 := Scalar.cmpi .slt v175 c0_i32_181
  let v285 : BitVec 32 := Scalar.extui v284
  let v286 : BitVec 32 := Scalar.subi v283 v285
  let c3_i32_179 : BitVec 32 := 3#32
  let c0_i32_182 : BitVec 32 := 0#32
  let v287 : BitVec 1 := Scalar.cmpi .sgt c3_i32_179 c0_i32_182
  let v288 : BitVec 32 := Scalar.extui v287
  let c0_i32_183 : BitVec 32 := 0#32
  let v289 : BitVec 1 := Scalar.cmpi .slt c3_i32_179 c0_i32_183
  let v290 : BitVec 32 := Scalar.extui v289
  let v291 : BitVec 32 := Scalar.subi v288 v290
  let v292 : BitVec 1 := Scalar.cmpi .ne v286 v291
  let v293 : BitVec 32 := Scalar.remsi v175 c3_i32_179
  let c0_i32_184 : BitVec 32 := 0#32
  let v294 : BitVec 1 := Scalar.cmpi .ne v293 c0_i32_184
  let v295 : BitVec 1 := Scalar.andi v292 v294
  let v281 : BitVec 32 := Scalar.divsi v175 c3_i32_179
  let c1_i32_185 : BitVec 32 := 1#32
  let v296 : BitVec 32 := Scalar.subi v281 c1_i32_185
  let v297 : BitVec 32 := Scalar.select v295 v296 v281
  let c3_i32_186 : BitVec 32 := 3#32
  let v298 : BitVec 32 := Scalar.muli v297 c3_i32_186
  let v299 : BitVec 32 := Scalar.subi v175 v298
  let c7168_i32_187 : BitVec 32 := 7168#32
  let v300 : BitVec 32 := Scalar.muli v299 c7168_i32_187
  let c128_i32_188 : BitVec 32 := 128#32
  let v301 : BitVec 32 := Scalar.muli v297 c128_i32_188
  let v302 : BitVec 32 := v301
  ![v300.toNat, v302.toNat]
def k0_off26 (k0_t3 : Fin k0_t3_loop.trips) (k0_t4 : Fin k0_t4_loop.trips) : Fin 3 → Nat :=
  let c1_i32_65 : BitVec 32 := 1#32
  let c1_i32_66 : BitVec 32 := 1#32
  let arg14 : BitVec 32 := Scf.iv c1_i32_65 c1_i32_66 k0_t3
  let c3_i32_119 : BitVec 32 := 3#32
  let v144 : BitVec 32 := Scalar.muli arg14 c3_i32_119
  let c0_i32_103 : BitVec 32 := 0#32
  let c1_i32_105 : BitVec 32 := 1#32
  let arg15 : BitVec 32 := Scf.iv c0_i32_103 c1_i32_105 k0_t4
  let v145 : BitVec 32 := Scalar.addi v144 arg15
  let c3_i32_134 : BitVec 32 := 3#32
  let v175 : BitVec 32 := Scalar.subi v145 c3_i32_134
  let c6_i32_178 : BitVec 32 := 6#32
  let v280 : BitVec 32 := Scalar.remsi v175 c6_i32_178
  let c0_i32_189 : BitVec 32 := 0#32
  let c0_i32_190 : BitVec 32 := 0#32
  ![v280.toNat, 0, 0]
def k0_cond3 (k0_t3 : Fin k0_t3_loop.trips) (k0_t4 : Fin k0_t4_loop.trips) : BitVec 1 :=
  let c1_i32_65 : BitVec 32 := 1#32
  let c1_i32_66 : BitVec 32 := 1#32
  let arg14 : BitVec 32 := Scf.iv c1_i32_65 c1_i32_66 k0_t3
  let c3_i32_119 : BitVec 32 := 3#32
  let v144 : BitVec 32 := Scalar.muli arg14 c3_i32_119
  let c0_i32_103 : BitVec 32 := 0#32
  let c1_i32_105 : BitVec 32 := 1#32
  let arg15 : BitVec 32 := Scf.iv c0_i32_103 c1_i32_105 k0_t4
  let v145 : BitVec 32 := Scalar.addi v144 arg15
  let c6_i32_191 : BitVec 32 := 6#32
  let v308 : BitVec 32 := Scalar.addi v145 c6_i32_191
  let c84_i32 : BitVec 32 := 84#32
  let v309 : BitVec 1 := Scalar.cmpi .slt v308 c84_i32
  let v310 : BitVec 32 := Scalar.extui v309
  let c0_i32_192 : BitVec 32 := 0#32
  let v311 : BitVec 1 := Scalar.cmpi .ne v310 c0_i32_192
  v311

def k0_mult25 (k0_t3 : Fin k0_t3_loop.trips) (k0_t4 : Fin k0_t4_loop.trips) : BitVec 32 :=
  let c1_i32_65 : BitVec 32 := 1#32
  let c1_i32_66 : BitVec 32 := 1#32
  let arg14 : BitVec 32 := Scf.iv c1_i32_65 c1_i32_66 k0_t3
  let c3_i32_119 : BitVec 32 := 3#32
  let v144 : BitVec 32 := Scalar.muli arg14 c3_i32_119
  let c0_i32_103 : BitVec 32 := 0#32
  let c1_i32_105 : BitVec 32 := 1#32
  let arg15 : BitVec 32 := Scf.iv c0_i32_103 c1_i32_105 k0_t4
  let v145 : BitVec 32 := Scalar.addi v144 arg15
  let c6_i32_193 : BitVec 32 := 6#32
  let v312 : BitVec 32 := Scalar.addi v145 c6_i32_193
  let c0_i32_196 : BitVec 32 := 0#32
  let v315 : BitVec 1 := Scalar.cmpi .sgt v312 c0_i32_196
  let v316 : BitVec 32 := Scalar.extui v315
  let c0_i32_197 : BitVec 32 := 0#32
  let v317 : BitVec 1 := Scalar.cmpi .slt v312 c0_i32_197
  let v318 : BitVec 32 := Scalar.extui v317
  let v319 : BitVec 32 := Scalar.subi v316 v318
  let c3_i32_195 : BitVec 32 := 3#32
  let c0_i32_198 : BitVec 32 := 0#32
  let v320 : BitVec 1 := Scalar.cmpi .sgt c3_i32_195 c0_i32_198
  let v321 : BitVec 32 := Scalar.extui v320
  let c0_i32_199 : BitVec 32 := 0#32
  let v322 : BitVec 1 := Scalar.cmpi .slt c3_i32_195 c0_i32_199
  let v323 : BitVec 32 := Scalar.extui v322
  let v324 : BitVec 32 := Scalar.subi v321 v323
  let v325 : BitVec 1 := Scalar.cmpi .ne v319 v324
  let v326 : BitVec 32 := Scalar.remsi v312 c3_i32_195
  let c0_i32_200 : BitVec 32 := 0#32
  let v327 : BitVec 1 := Scalar.cmpi .ne v326 c0_i32_200
  let v328 : BitVec 1 := Scalar.andi v325 v327
  let v314 : BitVec 32 := Scalar.divsi v312 c3_i32_195
  let c1_i32_201 : BitVec 32 := 1#32
  let v329 : BitVec 32 := Scalar.subi v314 c1_i32_201
  let v330 : BitVec 32 := Scalar.select v328 v329 v314
  let c128_i32_204 : BitVec 32 := 128#32
  let v334 : BitVec 32 := Scalar.muli v330 c128_i32_204
  v334
def k0_off27 (k0_t3 : Fin k0_t3_loop.trips) (k0_t4 : Fin k0_t4_loop.trips) : Fin 1 → Nat :=
  let c1_i32_65 : BitVec 32 := 1#32
  let c1_i32_66 : BitVec 32 := 1#32
  let arg14 : BitVec 32 := Scf.iv c1_i32_65 c1_i32_66 k0_t3
  let c3_i32_119 : BitVec 32 := 3#32
  let v144 : BitVec 32 := Scalar.muli arg14 c3_i32_119
  let c0_i32_103 : BitVec 32 := 0#32
  let c1_i32_105 : BitVec 32 := 1#32
  let arg15 : BitVec 32 := Scf.iv c0_i32_103 c1_i32_105 k0_t4
  let v145 : BitVec 32 := Scalar.addi v144 arg15
  let c6_i32_193 : BitVec 32 := 6#32
  let v312 : BitVec 32 := Scalar.addi v145 c6_i32_193
  let c6_i32_194 : BitVec 32 := 6#32
  let v313 : BitVec 32 := Scalar.remsi v312 c6_i32_194
  ![v313.toNat]
def k0_off28 (k0_t3 : Fin k0_t3_loop.trips) (k0_t4 : Fin k0_t4_loop.trips) : Fin 3 → Nat :=
  let c1_i32_65 : BitVec 32 := 1#32
  let c1_i32_66 : BitVec 32 := 1#32
  let arg14 : BitVec 32 := Scf.iv c1_i32_65 c1_i32_66 k0_t3
  let c3_i32_119 : BitVec 32 := 3#32
  let v144 : BitVec 32 := Scalar.muli arg14 c3_i32_119
  let c0_i32_103 : BitVec 32 := 0#32
  let c1_i32_105 : BitVec 32 := 1#32
  let arg15 : BitVec 32 := Scf.iv c0_i32_103 c1_i32_105 k0_t4
  let v145 : BitVec 32 := Scalar.addi v144 arg15
  let c6_i32_193 : BitVec 32 := 6#32
  let v312 : BitVec 32 := Scalar.addi v145 c6_i32_193
  let c6_i32_194 : BitVec 32 := 6#32
  let v313 : BitVec 32 := Scalar.remsi v312 c6_i32_194
  let c0_i32_205 : BitVec 32 := 0#32
  let c0_i32_206 : BitVec 32 := 0#32
  ![v313.toNat, 0, 0]
def k0_off29 (k0_t3 : Fin k0_t3_loop.trips) (k0_t4 : Fin k0_t4_loop.trips) : Fin 2 → Nat :=
  let c1_i32_65 : BitVec 32 := 1#32
  let c1_i32_66 : BitVec 32 := 1#32
  let arg14 : BitVec 32 := Scf.iv c1_i32_65 c1_i32_66 k0_t3
  let c3_i32_119 : BitVec 32 := 3#32
  let v144 : BitVec 32 := Scalar.muli arg14 c3_i32_119
  let c0_i32_103 : BitVec 32 := 0#32
  let c1_i32_105 : BitVec 32 := 1#32
  let arg15 : BitVec 32 := Scf.iv c0_i32_103 c1_i32_105 k0_t4
  let v145 : BitVec 32 := Scalar.addi v144 arg15
  let c6_i32_193 : BitVec 32 := 6#32
  let v312 : BitVec 32 := Scalar.addi v145 c6_i32_193
  let c0_i32_196 : BitVec 32 := 0#32
  let v315 : BitVec 1 := Scalar.cmpi .sgt v312 c0_i32_196
  let v316 : BitVec 32 := Scalar.extui v315
  let c0_i32_197 : BitVec 32 := 0#32
  let v317 : BitVec 1 := Scalar.cmpi .slt v312 c0_i32_197
  let v318 : BitVec 32 := Scalar.extui v317
  let v319 : BitVec 32 := Scalar.subi v316 v318
  let c3_i32_195 : BitVec 32 := 3#32
  let c0_i32_198 : BitVec 32 := 0#32
  let v320 : BitVec 1 := Scalar.cmpi .sgt c3_i32_195 c0_i32_198
  let v321 : BitVec 32 := Scalar.extui v320
  let c0_i32_199 : BitVec 32 := 0#32
  let v322 : BitVec 1 := Scalar.cmpi .slt c3_i32_195 c0_i32_199
  let v323 : BitVec 32 := Scalar.extui v322
  let v324 : BitVec 32 := Scalar.subi v321 v323
  let v325 : BitVec 1 := Scalar.cmpi .ne v319 v324
  let v326 : BitVec 32 := Scalar.remsi v312 c3_i32_195
  let c0_i32_200 : BitVec 32 := 0#32
  let v327 : BitVec 1 := Scalar.cmpi .ne v326 c0_i32_200
  let v328 : BitVec 1 := Scalar.andi v325 v327
  let v314 : BitVec 32 := Scalar.divsi v312 c3_i32_195
  let c1_i32_201 : BitVec 32 := 1#32
  let v329 : BitVec 32 := Scalar.subi v314 c1_i32_201
  let v330 : BitVec 32 := Scalar.select v328 v329 v314
  let c3_i32_202 : BitVec 32 := 3#32
  let v331 : BitVec 32 := Scalar.muli v330 c3_i32_202
  let v332 : BitVec 32 := Scalar.subi v312 v331
  let c7168_i32_203 : BitVec 32 := 7168#32
  let v333 : BitVec 32 := Scalar.muli v332 c7168_i32_203
  let c128_i32_204 : BitVec 32 := 128#32
  let v334 : BitVec 32 := Scalar.muli v330 c128_i32_204
  let v335 : BitVec 32 := v334
  ![v333.toNat, v335.toNat]
def k0_off30 (k0_t3 : Fin k0_t3_loop.trips) : Fin 2 → Nat :=
  let c1_i32_65 : BitVec 32 := 1#32
  let c1_i32_66 : BitVec 32 := 1#32
  let arg14 : BitVec 32 := Scf.iv c1_i32_65 c1_i32_66 k0_t3
  let c1_i32_113 : BitVec 32 := 1#32
  let v135 : BitVec 32 := Scalar.muli arg14 c1_i32_113
  let c0_i32_114 : BitVec 32 := 0#32
  let v136 : BitVec 32 := Scalar.addi v135 c0_i32_114
  let v137 : Index := Scalar.indexCast v136
  let c0_115 : Index := 0#32
  ![v137.toNat, 0]
@[reducible] def k0_t5_loop : Scf.Loop 32 :=
  let c0_i32_68 : BitVec 32 := 0#32
  let c3_i32_69 : BitVec 32 := 3#32
  let v77 : BitVec 32 := Scalar.addi c0_i32_68 c3_i32_69
  let c1_i32_70 : BitVec 32 := 1#32
  ⟨c0_i32_68, v77, c1_i32_70⟩
def k0_mult26 (k0_t5 : Fin k0_t5_loop.trips) : BitVec 32 :=
  let c81_i32_100 : BitVec 32 := 81#32
  let c0_i32_68 : BitVec 32 := 0#32
  let c1_i32_70 : BitVec 32 := 1#32
  let arg14 : BitVec 32 := Scf.iv c0_i32_68 c1_i32_70 k0_t5
  let v120 : BitVec 32 := Scalar.addi c81_i32_100 arg14
  let c6_i32_101 : BitVec 32 := 6#32
  let v121 : BitVec 32 := Scalar.subi v120 c6_i32_101
  let c0_i32_104 : BitVec 32 := 0#32
  let v124 : BitVec 1 := Scalar.cmpi .sgt v121 c0_i32_104
  let v125 : BitVec 32 := Scalar.extui v124
  let c0_i32_105 : BitVec 32 := 0#32
  let v126 : BitVec 1 := Scalar.cmpi .slt v121 c0_i32_105
  let v127 : BitVec 32 := Scalar.extui v126
  let v128 : BitVec 32 := Scalar.subi v125 v127
  let c3_i32_103 : BitVec 32 := 3#32
  let c0_i32_106 : BitVec 32 := 0#32
  let v129 : BitVec 1 := Scalar.cmpi .sgt c3_i32_103 c0_i32_106
  let v130 : BitVec 32 := Scalar.extui v129
  let c0_i32_107 : BitVec 32 := 0#32
  let v131 : BitVec 1 := Scalar.cmpi .slt c3_i32_103 c0_i32_107
  let v132 : BitVec 32 := Scalar.extui v131
  let v133 : BitVec 32 := Scalar.subi v130 v132
  let v134 : BitVec 1 := Scalar.cmpi .ne v128 v133
  let v135 : BitVec 32 := Scalar.remsi v121 c3_i32_103
  let c0_i32_108 : BitVec 32 := 0#32
  let v136 : BitVec 1 := Scalar.cmpi .ne v135 c0_i32_108
  let v137 : BitVec 1 := Scalar.andi v134 v136
  let v123 : BitVec 32 := Scalar.divsi v121 c3_i32_103
  let c1_i32_109 : BitVec 32 := 1#32
  let v138 : BitVec 32 := Scalar.subi v123 c1_i32_109
  let v139 : BitVec 32 := Scalar.select v137 v138 v123
  let c128_i32_112 : BitVec 32 := 128#32
  let v143 : BitVec 32 := Scalar.muli v139 c128_i32_112
  v143
def k0_off31 (k0_t5 : Fin k0_t5_loop.trips) : Fin 1 → Nat :=
  let c81_i32_100 : BitVec 32 := 81#32
  let c0_i32_68 : BitVec 32 := 0#32
  let c1_i32_70 : BitVec 32 := 1#32
  let arg14 : BitVec 32 := Scf.iv c0_i32_68 c1_i32_70 k0_t5
  let v120 : BitVec 32 := Scalar.addi c81_i32_100 arg14
  let c6_i32_101 : BitVec 32 := 6#32
  let v121 : BitVec 32 := Scalar.subi v120 c6_i32_101
  let c6_i32_102 : BitVec 32 := 6#32
  let v122 : BitVec 32 := Scalar.remsi v121 c6_i32_102
  ![v122.toNat]
def k0_off32 (k0_t5 : Fin k0_t5_loop.trips) : Fin 2 → Nat :=
  let c81_i32_100 : BitVec 32 := 81#32
  let c0_i32_68 : BitVec 32 := 0#32
  let c1_i32_70 : BitVec 32 := 1#32
  let arg14 : BitVec 32 := Scf.iv c0_i32_68 c1_i32_70 k0_t5
  let v120 : BitVec 32 := Scalar.addi c81_i32_100 arg14
  let c6_i32_101 : BitVec 32 := 6#32
  let v121 : BitVec 32 := Scalar.subi v120 c6_i32_101
  let c0_i32_104 : BitVec 32 := 0#32
  let v124 : BitVec 1 := Scalar.cmpi .sgt v121 c0_i32_104
  let v125 : BitVec 32 := Scalar.extui v124
  let c0_i32_105 : BitVec 32 := 0#32
  let v126 : BitVec 1 := Scalar.cmpi .slt v121 c0_i32_105
  let v127 : BitVec 32 := Scalar.extui v126
  let v128 : BitVec 32 := Scalar.subi v125 v127
  let c3_i32_103 : BitVec 32 := 3#32
  let c0_i32_106 : BitVec 32 := 0#32
  let v129 : BitVec 1 := Scalar.cmpi .sgt c3_i32_103 c0_i32_106
  let v130 : BitVec 32 := Scalar.extui v129
  let c0_i32_107 : BitVec 32 := 0#32
  let v131 : BitVec 1 := Scalar.cmpi .slt c3_i32_103 c0_i32_107
  let v132 : BitVec 32 := Scalar.extui v131
  let v133 : BitVec 32 := Scalar.subi v130 v132
  let v134 : BitVec 1 := Scalar.cmpi .ne v128 v133
  let v135 : BitVec 32 := Scalar.remsi v121 c3_i32_103
  let c0_i32_108 : BitVec 32 := 0#32
  let v136 : BitVec 1 := Scalar.cmpi .ne v135 c0_i32_108
  let v137 : BitVec 1 := Scalar.andi v134 v136
  let v123 : BitVec 32 := Scalar.divsi v121 c3_i32_103
  let c1_i32_109 : BitVec 32 := 1#32
  let v138 : BitVec 32 := Scalar.subi v123 c1_i32_109
  let v139 : BitVec 32 := Scalar.select v137 v138 v123
  let c3_i32_110 : BitVec 32 := 3#32
  let v140 : BitVec 32 := Scalar.muli v139 c3_i32_110
  let v141 : BitVec 32 := Scalar.subi v121 v140
  let c7168_i32_111 : BitVec 32 := 7168#32
  let v142 : BitVec 32 := Scalar.muli v141 c7168_i32_111
  let c128_i32_112 : BitVec 32 := 128#32
  let v143 : BitVec 32 := Scalar.muli v139 c128_i32_112
  let v144 : BitVec 32 := v143
  ![v142.toNat, v144.toNat]
def k0_off33 (k0_t5 : Fin k0_t5_loop.trips) : Fin 3 → Nat :=
  let c81_i32_100 : BitVec 32 := 81#32
  let c0_i32_68 : BitVec 32 := 0#32
  let c1_i32_70 : BitVec 32 := 1#32
  let arg14 : BitVec 32 := Scf.iv c0_i32_68 c1_i32_70 k0_t5
  let v120 : BitVec 32 := Scalar.addi c81_i32_100 arg14
  let c6_i32_101 : BitVec 32 := 6#32
  let v121 : BitVec 32 := Scalar.subi v120 c6_i32_101
  let c6_i32_102 : BitVec 32 := 6#32
  let v122 : BitVec 32 := Scalar.remsi v121 c6_i32_102
  let c0_i32_113 : BitVec 32 := 0#32
  let c0_i32_114 : BitVec 32 := 0#32
  ![v122.toNat, 0, 0]
def k0_mult27 : BitVec 32 :=
  let c0_i32_116 : BitVec 32 := 0#32
  let c7168_i32_117 : BitVec 32 := 7168#32
  let v151 : BitVec 32 := Scalar.muli c0_i32_116 c7168_i32_117
  v151
def k0_mult28 (k0_t5 : Fin k0_t5_loop.trips) : BitVec 32 :=
  let c0_i32_68 : BitVec 32 := 0#32
  let c1_i32_70 : BitVec 32 := 1#32
  let arg14 : BitVec 32 := Scf.iv c0_i32_68 c1_i32_70 k0_t5
  let c7168_i32_118 : BitVec 32 := 7168#32
  let v153 : BitVec 32 := Scalar.muli arg14 c7168_i32_118
  let c0_i32_116 : BitVec 32 := 0#32
  let c7168_i32_119 : BitVec 32 := 7168#32
  let v154 : BitVec 32 := Scalar.muli c0_i32_116 c7168_i32_119
  let v155 : BitVec 32 := Scalar.addi v153 v154
  let c0_i32_121 : BitVec 32 := 0#32
  let v157 : BitVec 1 := Scalar.cmpi .sgt v155 c0_i32_121
  let v158 : BitVec 32 := Scalar.extui v157
  let c0_i32_122 : BitVec 32 := 0#32
  let v159 : BitVec 1 := Scalar.cmpi .slt v155 c0_i32_122
  let v160 : BitVec 32 := Scalar.extui v159
  let v161 : BitVec 32 := Scalar.subi v158 v160
  let c2_i32_120 : BitVec 32 := 2#32
  let c0_i32_123 : BitVec 32 := 0#32
  let v162 : BitVec 1 := Scalar.cmpi .sgt c2_i32_120 c0_i32_123
  let v163 : BitVec 32 := Scalar.extui v162
  let c0_i32_124 : BitVec 32 := 0#32
  let v164 : BitVec 1 := Scalar.cmpi .slt c2_i32_120 c0_i32_124
  let v165 : BitVec 32 := Scalar.extui v164
  let v166 : BitVec 32 := Scalar.subi v163 v165
  let v167 : BitVec 1 := Scalar.cmpi .ne v161 v166
  let v168 : BitVec 32 := Scalar.remsi v155 c2_i32_120
  let c0_i32_125 : BitVec 32 := 0#32
  let v169 : BitVec 1 := Scalar.cmpi .ne v168 c0_i32_125
  let v170 : BitVec 1 := Scalar.andi v167 v169
  let v156 : BitVec 32 := Scalar.divsi v155 c2_i32_120
  let c1_i32_126 : BitVec 32 := 1#32
  let v171 : BitVec 32 := Scalar.subi v156 c1_i32_126
  let v172 : BitVec 32 := Scalar.select v170 v171 v156
  v172
def k0_off34 (k0_t5 : Fin k0_t5_loop.trips) : Fin 3 → Nat :=
  let c0_i32_68 : BitVec 32 := 0#32
  let c1_i32_70 : BitVec 32 := 1#32
  let arg14 : BitVec 32 := Scf.iv c0_i32_68 c1_i32_70 k0_t5
  let c7168_i32_118 : BitVec 32 := 7168#32
  let v153 : BitVec 32 := Scalar.muli arg14 c7168_i32_118
  let c0_i32_116 : BitVec 32 := 0#32
  let c7168_i32_119 : BitVec 32 := 7168#32
  let v154 : BitVec 32 := Scalar.muli c0_i32_116 c7168_i32_119
  let v155 : BitVec 32 := Scalar.addi v153 v154
  let c0_i32_121 : BitVec 32 := 0#32
  let v157 : BitVec 1 := Scalar.cmpi .sgt v155 c0_i32_121
  let v158 : BitVec 32 := Scalar.extui v157
  let c0_i32_122 : BitVec 32 := 0#32
  let v159 : BitVec 1 := Scalar.cmpi .slt v155 c0_i32_122
  let v160 : BitVec 32 := Scalar.extui v159
  let v161 : BitVec 32 := Scalar.subi v158 v160
  let c2_i32_120 : BitVec 32 := 2#32
  let c0_i32_123 : BitVec 32 := 0#32
  let v162 : BitVec 1 := Scalar.cmpi .sgt c2_i32_120 c0_i32_123
  let v163 : BitVec 32 := Scalar.extui v162
  let c0_i32_124 : BitVec 32 := 0#32
  let v164 : BitVec 1 := Scalar.cmpi .slt c2_i32_120 c0_i32_124
  let v165 : BitVec 32 := Scalar.extui v164
  let v166 : BitVec 32 := Scalar.subi v163 v165
  let v167 : BitVec 1 := Scalar.cmpi .ne v161 v166
  let v168 : BitVec 32 := Scalar.remsi v155 c2_i32_120
  let c0_i32_125 : BitVec 32 := 0#32
  let v169 : BitVec 1 := Scalar.cmpi .ne v168 c0_i32_125
  let v170 : BitVec 1 := Scalar.andi v167 v169
  let v156 : BitVec 32 := Scalar.divsi v155 c2_i32_120
  let c1_i32_126 : BitVec 32 := 1#32
  let v171 : BitVec 32 := Scalar.subi v156 c1_i32_126
  let v172 : BitVec 32 := Scalar.select v170 v171 v156
  let v173 : BitVec 32 := v172
  let v174 : Index := Scalar.indexCast v173
  let c0_127 : Index := 0#32
  ![v174.toNat, 0, 0]
def k0_off35 (k0_t5 : Fin k0_t5_loop.trips) : Fin 3 → Nat :=
  let c81_i32_100 : BitVec 32 := 81#32
  let c0_i32_68 : BitVec 32 := 0#32
  let c1_i32_70 : BitVec 32 := 1#32
  let arg14 : BitVec 32 := Scf.iv c0_i32_68 c1_i32_70 k0_t5
  let v120 : BitVec 32 := Scalar.addi c81_i32_100 arg14
  let c6_i32_115 : BitVec 32 := 6#32
  let v150 : BitVec 32 := Scalar.remsi v120 c6_i32_115
  let v188 : Index := Scalar.indexCast v150
  let c0_i32_116 : BitVec 32 := 0#32
  let c7168_i32_117 : BitVec 32 := 7168#32
  let v151 : BitVec 32 := Scalar.muli c0_i32_116 c7168_i32_117
  let v152 : BitVec 32 := v151
  let v189 : Index := Scalar.indexCast v152
  let c0_132 : Index := 0#32
  ![v188.toNat, v189.toNat, 0]
def k0_mult29 (k0_t5 : Fin k0_t5_loop.trips) : BitVec 32 :=
  let c81_i32_100 : BitVec 32 := 81#32
  let c0_i32_68 : BitVec 32 := 0#32
  let c1_i32_70 : BitVec 32 := 1#32
  let arg14 : BitVec 32 := Scf.iv c0_i32_68 c1_i32_70 k0_t5
  let v120 : BitVec 32 := Scalar.addi c81_i32_100 arg14
  let c0_i32_136 : BitVec 32 := 0#32
  let v195 : BitVec 1 := Scalar.cmpi .sgt v120 c0_i32_136
  let v196 : BitVec 32 := Scalar.extui v195
  let c0_i32_137 : BitVec 32 := 0#32
  let v197 : BitVec 1 := Scalar.cmpi .slt v120 c0_i32_137
  let v198 : BitVec 32 := Scalar.extui v197
  let v199 : BitVec 32 := Scalar.subi v196 v198
  let c3_i32_135 : BitVec 32 := 3#32
  let c0_i32_138 : BitVec 32 := 0#32
  let v200 : BitVec 1 := Scalar.cmpi .sgt c3_i32_135 c0_i32_138
  let v201 : BitVec 32 := Scalar.extui v200
  let c0_i32_139 : BitVec 32 := 0#32
  let v202 : BitVec 1 := Scalar.cmpi .slt c3_i32_135 c0_i32_139
  let v203 : BitVec 32 := Scalar.extui v202
  let v204 : BitVec 32 := Scalar.subi v201 v203
  let v205 : BitVec 1 := Scalar.cmpi .ne v199 v204
  let v206 : BitVec 32 := Scalar.remsi v120 c3_i32_135
  let c0_i32_140 : BitVec 32 := 0#32
  let v207 : BitVec 1 := Scalar.cmpi .ne v206 c0_i32_140
  let v208 : BitVec 1 := Scalar.andi v205 v207
  let v194 : BitVec 32 := Scalar.divsi v120 c3_i32_135
  let c1_i32_141 : BitVec 32 := 1#32
  let v209 : BitVec 32 := Scalar.subi v194 c1_i32_141
  let v210 : BitVec 32 := Scalar.select v208 v209 v194
  let c128_i32_144 : BitVec 32 := 128#32
  let v214 : BitVec 32 := Scalar.muli v210 c128_i32_144
  v214
def k0_off36 (k0_t5 : Fin k0_t5_loop.trips) : Fin 1 → Nat :=
  let c81_i32_100 : BitVec 32 := 81#32
  let c0_i32_68 : BitVec 32 := 0#32
  let c1_i32_70 : BitVec 32 := 1#32
  let arg14 : BitVec 32 := Scf.iv c0_i32_68 c1_i32_70 k0_t5
  let v120 : BitVec 32 := Scalar.addi c81_i32_100 arg14
  let c6_i32_134 : BitVec 32 := 6#32
  let v193 : BitVec 32 := Scalar.remsi v120 c6_i32_134
  ![v193.toNat]
def k0_off37 (k0_t5 : Fin k0_t5_loop.trips) : Fin 2 → Nat :=
  let c81_i32_100 : BitVec 32 := 81#32
  let c0_i32_68 : BitVec 32 := 0#32
  let c1_i32_70 : BitVec 32 := 1#32
  let arg14 : BitVec 32 := Scf.iv c0_i32_68 c1_i32_70 k0_t5
  let v120 : BitVec 32 := Scalar.addi c81_i32_100 arg14
  let c0_i32_136 : BitVec 32 := 0#32
  let v195 : BitVec 1 := Scalar.cmpi .sgt v120 c0_i32_136
  let v196 : BitVec 32 := Scalar.extui v195
  let c0_i32_137 : BitVec 32 := 0#32
  let v197 : BitVec 1 := Scalar.cmpi .slt v120 c0_i32_137
  let v198 : BitVec 32 := Scalar.extui v197
  let v199 : BitVec 32 := Scalar.subi v196 v198
  let c3_i32_135 : BitVec 32 := 3#32
  let c0_i32_138 : BitVec 32 := 0#32
  let v200 : BitVec 1 := Scalar.cmpi .sgt c3_i32_135 c0_i32_138
  let v201 : BitVec 32 := Scalar.extui v200
  let c0_i32_139 : BitVec 32 := 0#32
  let v202 : BitVec 1 := Scalar.cmpi .slt c3_i32_135 c0_i32_139
  let v203 : BitVec 32 := Scalar.extui v202
  let v204 : BitVec 32 := Scalar.subi v201 v203
  let v205 : BitVec 1 := Scalar.cmpi .ne v199 v204
  let v206 : BitVec 32 := Scalar.remsi v120 c3_i32_135
  let c0_i32_140 : BitVec 32 := 0#32
  let v207 : BitVec 1 := Scalar.cmpi .ne v206 c0_i32_140
  let v208 : BitVec 1 := Scalar.andi v205 v207
  let v194 : BitVec 32 := Scalar.divsi v120 c3_i32_135
  let c1_i32_141 : BitVec 32 := 1#32
  let v209 : BitVec 32 := Scalar.subi v194 c1_i32_141
  let v210 : BitVec 32 := Scalar.select v208 v209 v194
  let c3_i32_142 : BitVec 32 := 3#32
  let v211 : BitVec 32 := Scalar.muli v210 c3_i32_142
  let v212 : BitVec 32 := Scalar.subi v120 v211
  let c7168_i32_143 : BitVec 32 := 7168#32
  let v213 : BitVec 32 := Scalar.muli v212 c7168_i32_143
  let c128_i32_144 : BitVec 32 := 128#32
  let v214 : BitVec 32 := Scalar.muli v210 c128_i32_144
  let v215 : BitVec 32 := v214
  ![v213.toNat, v215.toNat]
def k0_off38 (k0_t5 : Fin k0_t5_loop.trips) : Fin 3 → Nat :=
  let c81_i32_100 : BitVec 32 := 81#32
  let c0_i32_68 : BitVec 32 := 0#32
  let c1_i32_70 : BitVec 32 := 1#32
  let arg14 : BitVec 32 := Scf.iv c0_i32_68 c1_i32_70 k0_t5
  let v120 : BitVec 32 := Scalar.addi c81_i32_100 arg14
  let c6_i32_134 : BitVec 32 := 6#32
  let v193 : BitVec 32 := Scalar.remsi v120 c6_i32_134
  let c0_i32_145 : BitVec 32 := 0#32
  let c0_i32_146 : BitVec 32 := 0#32
  ![v193.toNat, 0, 0]
def k0_mult30 : BitVec 32 :=
  let c3328_i32 : BitVec 32 := 3328#32
  c3328_i32
def k0_mult31 : BitVec 32 :=
  let c3328_i32_77 : BitVec 32 := 3328#32
  c3328_i32_77
def k0_mult32 : BitVec 32 :=
  let c3328_i32_82 : BitVec 32 := 3328#32
  c3328_i32_82
def k0_mult33 : BitVec 32 :=
  let c3456_i32 : BitVec 32 := 3456#32
  c3456_i32
def k0_mult34 : BitVec 32 :=
  let c3456_i32_91 : BitVec 32 := 3456#32
  c3456_i32_91
def k0_mult35 : BitVec 32 :=
  let c3456_i32_96 : BitVec 32 := 3456#32
  c3456_i32_96
abbrev stage0_0 : Fin 1 → Memref sig .tc .vmem S28x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S21x1024x3584 : Shape := ⟨3, ![21, 1024, 3584]⟩
abbrev S21x1024x28 : Shape := ⟨3, ![21, 1024, 28]⟩
abbrev S3584 : Shape := ⟨1, ![3584]⟩
abbrev S21x1024x28x128 : Shape := ⟨4, ![21, 1024, 28, 128]⟩
abbrev S21x1024x28x1 : Shape := ⟨4, ![21, 1024, 28, 1]⟩
abbrev S1x1x3584 : Shape := ⟨3, ![1, 1, 3584]⟩

abbrev nBuf : Space → Nat
  | .hbm => 4
  | .vmem => 4
  | .smem => 0
  | _ => 0

abbrev bufTy : (tb : Table) → Fin (tcTables nBuf tb) → BufTy
  | .hbm, ⟨0, _⟩ => ⟨S21x1024x3584, .fp8e4m3⟩
  | .hbm, ⟨1, _⟩ => ⟨S21x1024x28, .f32⟩
  | .hbm, ⟨2, _⟩ => ⟨S21x1024x3584, .i8⟩
  | .hbm, ⟨3, _⟩ => ⟨S3584, .f32⟩
  | .local _ .vmem, ⟨0, _⟩ => ⟨S21x1024x3584, .fp8e4m3⟩
  | .local _ .vmem, ⟨1, _⟩ => ⟨S21x1024x28, .f32⟩
  | .local _ .vmem, ⟨2, _⟩ => ⟨S21x1024x3584, .i8⟩
  | .local _ .vmem, ⟨3, _⟩ => ⟨S3584, .f32⟩
  | _, _ => ⟨S21x1024x3584, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S21x1024x3584 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S21x1024x28 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S21x1024x3584 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S3584 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Proof.Rings.lean ====
/-
  The two rings of tile transfers the kernel keeps in flight, over abstract resources: 84 tiles travel in order
  through six slots each way. Before item `k` the inbound ring has items `k … k+5` in flight (those that exist), every
  other source tile home; before item `o` the outbound ring has items `o-6 … o-1` in flight (those that exist), the tiles
  before them written and the tiles from `o` on not yet. Each turn opens one slot and closes it again.
-/
module

public import Idealize.ShloMosaic.Lib.Ring
public import Idealize.ShloMosaic.Lib.Ring.Trips
public import Idealize.ShloMosaic.Lib.Tactic

@[expose] public section

noncomputable section

namespace Cert.Proof.Rings

open Idealize.ShloMosaic
open Idealize.SL Idealize.SL.RA Idealize.SL.BI
open scoped Idealize.SL.BI
open Idealize.SL.BI.BIBase Idealize.SL.BI.Laws Idealize.SL.ProofMode Idealize.SL.Sem

variable {M : Type} [URA M]

theorem entails_of_eq {P Q : sProp M} (e : P = Q) : P ⊢ Q := e ▸ .rfl

section In
variable (home : Fin 84 → sProp M) (infl : Fin 6 → Fin 84 → sProp M) (free : Fin 6 → sProp M)

/-- The slot that carries item `p`: in flight with it while it exists, else free. -/
def roleIn (p : ℕ) : sProp M := if p < 84 then infl (Ring.sl 6 p) (Ring.bk 84 p) else free (Ring.sl 6 p)
/-- The five slots after item `k`'s. -/
def tailIn (k : ℕ) : sProp M :=
  iprop(roleIn infl free (k + 1) ∗ roleIn infl free (k + 2) ∗ roleIn infl free (k + 3) ∗ roleIn infl free (k + 4) ∗ roleIn infl free (k + 5))
/-- The inbound ring before item `k`. -/
def inRing (k : ℕ) : sProp M := iprop(bigSep (Ring.homeSet 6 k) home ∗ roleIn infl free k ∗ tailIn infl free k)
/-- What a turn that issues item `k + 6` leaves alone. -/
def inRest (k : ℕ) : sProp M := iprop(bigSep ((Ring.homeSet 6 k).erase (Ring.bk 84 (k + 6))) home ∗ tailIn infl free k)
/-- What a turn that issues nothing leaves alone. -/
def inRestE (k : ℕ) : sProp M := iprop(bigSep (Ring.homeSet 6 k) home ∗ tailIn infl free k)

theorem inRing_open (k : ℕ) (h : k + 6 < 84) :
    inRing home infl free k ⊢ iprop(infl (Ring.sl 6 k) (Ring.bk 84 k) ∗ home (Ring.bk 84 (k + 6)) ∗ inRest home infl free k) := by
  have e : bigSep (Ring.homeSet 6 k) home
      = iprop(home (Ring.bk 84 (k + 6)) ∗ bigSep ((Ring.homeSet 6 k).erase (Ring.bk 84 (k + 6))) home) := by
    conv_lhs => rw [Ring.homeSet_out 6 k h, bigSep_insert (Ring.bkL_not_mem_erase 6 k)]
    rfl
  unfold inRing inRest
  rw [e, show roleIn infl free k = infl (Ring.sl 6 k) (Ring.bk 84 k) from if_pos (by omega)]
  iintro ⟨⟨H1, H2⟩, H3, H4⟩
  isplitl [H3]; · iexact H3
  isplitl [H1]; · iexact H1
  isplitl [H2]; · iexact H2
  iexact H4

theorem inRing_close (k : ℕ) (h : k + 6 < 84) :
    iprop(infl (Ring.sl 6 k) (Ring.bk 84 (k + 6)) ∗ home (Ring.bk 84 k) ∗ inRest home infl free k) ⊢ inRing home infl free (k + 1) := by
  have e : bigSep (Ring.homeSet 6 (k + 1)) home
      = iprop(home (Ring.bk 84 k) ∗ bigSep ((Ring.homeSet 6 k).erase (Ring.bk 84 (k + 6))) home) := by
    conv_lhs => rw [Ring.homeSet_succ 6 k h, bigSep_insert (Ring.bk_not_mem_erase 6 k (by omega) (by decide))]
    rfl
  have e6 : roleIn infl free (k + 1 + 5) = infl (Ring.sl 6 k) (Ring.bk 84 (k + 6)) := by
    rw [show roleIn infl free (k + 1 + 5) = infl (Ring.sl 6 (k + 6)) (Ring.bk 84 (k + 6)) from if_pos h, Ring.sl_add]
  unfold inRing inRest tailIn
  rw [e, e6]
  iintro ⟨H1, H2, H3, T1, T2, T3, T4, T5⟩
  isplitl [H2 H3]
  · isplitl [H2]; · iexact H2
    iexact H3
  isplitl [T1]; · iexact T1
  isplitl [T2]; · iexact T2
  isplitl [T3]; · iexact T3
  isplitl [T4]; · iexact T4
  isplitl [T5]; · iexact T5
  iexact H1

theorem inRing_openE (k : ℕ) (h : k < 84) :
    inRing home infl free k ⊢ iprop(infl (Ring.sl 6 k) (Ring.bk 84 k) ∗ inRestE home infl free k) := by
  unfold inRing inRestE
  rw [show roleIn infl free k = infl (Ring.sl 6 k) (Ring.bk 84 k) from if_pos h]
  iintro ⟨H1, H3, H4⟩
  isplitl [H3]; · iexact H3
  isplitl [H1]; · iexact H1
  iexact H4

theorem inRing_closeE (k : ℕ) (hk : k < 84) (h : 84 ≤ k + 6) :
    iprop(free (Ring.sl 6 k) ∗ home (Ring.bk 84 k) ∗ inRestE home infl free k) ⊢ inRing home infl free (k + 1) := by
  have es : Ring.homeSet (NB := 84) 6 (k + 1) = insert (Ring.bk 84 k) (Ring.homeSet 6 k) := by
    ext b; simp only [Finset.mem_insert, Ring.mem_homeSet, Fin.ext_iff, Ring.bk_val hk]; have := b.isLt; omega
  have hn : Ring.bk 84 k ∉ Ring.homeSet (NB := 84) 6 k := by rw [Ring.mem_homeSet, Ring.bk_val hk]; omega
  have e : bigSep (Ring.homeSet 6 (k + 1)) home = iprop(home (Ring.bk 84 k) ∗ bigSep (Ring.homeSet 6 k) home) := by
    rw [es, bigSep_insert hn]; rfl
  have e6 : roleIn infl free (k + 1 + 5) = free (Ring.sl 6 k) := by
    rw [show roleIn infl free (k + 1 + 5) = free (Ring.sl 6 (k + 6)) from if_neg (by omega), Ring.sl_add]
  unfold inRing inRestE tailIn
  rw [e, e6]
  iintro ⟨H1, H2, H3, T1, T2, T3, T4, T5⟩
  isplitl [H2 H3]
  · isplitl [H2]; · iexact H2
    iexact H3
  isplitl [T1]; · iexact T1
  isplitl [T2]; · iexact T2
  isplitl [T3]; · iexact T3
  isplitl [T4]; · iexact T4
  isplitl [T5]; · iexact T5
  iexact H1

/-- At the start: the first six tiles apart from the rest, -/
theorem homes_zero : bigSep Finset.univ home
    = iprop(home 0 ∗ home 1 ∗ home 2 ∗ home 3 ∗ home 4 ∗ home 5 ∗ bigSep (Ring.homeSet 6 0) home) := by
  have e : (Finset.univ : Finset (Fin 84)) = insert 0 (insert 1 (insert 2 (insert 3 (insert 4 (insert 5 (Ring.homeSet (NB := 84) 6 0)))))) := by
    decide +kernel
  rw [e, bigSep_insert (by decide +kernel), bigSep_insert (by decide +kernel), bigSep_insert (by decide +kernel),
    bigSep_insert (by decide +kernel), bigSep_insert (by decide +kernel), bigSep_insert (by decide +kernel)]
  rfl
/-- and in flight, are the ring before item 0; -/
theorem inRing_zero : iprop(bigSep (Ring.homeSet 6 0) home ∗ infl 0 0 ∗ infl 1 1 ∗ infl 2 2 ∗ infl 3 3 ∗ infl 4 4 ∗ infl 5 5)
    ⊢ inRing home infl free 0 := .rfl
/-- after the last item every tile is home and every slot free. -/
theorem inRing_end : inRing home infl free 84 ⊢ iprop(bigSep Finset.univ home ∗ free 0 ∗ free 1 ∗ free 2 ∗ free 3 ∗ free 4 ∗ free 5) := by
  have e : Ring.homeSet (NB := 84) 6 84 = Finset.univ := by decide +kernel
  unfold inRing; rw [e]; exact .rfl

end In

section Out
variable (ahead behind : Fin 84 → sProp M) (infl : Fin 6 → Fin 84 → sProp M) (free : Fin 6 → sProp M)

/-- The tiles not yet issued, and the tiles written. -/
def aheadS (o : ℕ) : Finset (Fin 84) := Finset.univ.filter fun b => o ≤ b.val
def behindS (o : ℕ) : Finset (Fin 84) := Finset.univ.filter fun b => b.val + 6 < o
/-- The slot that carried item `p - 6`: in flight with it once it exists, else free. -/
def roleOut (p : ℕ) : sProp M := if 6 ≤ p then infl (Ring.sl 6 p) (Ring.bk 84 (p - 6)) else free (Ring.sl 6 p)
def tailOut (o : ℕ) : sProp M :=
  iprop(roleOut infl free (o + 1) ∗ roleOut infl free (o + 2) ∗ roleOut infl free (o + 3) ∗ roleOut infl free (o + 4) ∗ roleOut infl free (o + 5))
/-- The outbound ring before item `o`. -/
def outRing (o : ℕ) : sProp M :=
  iprop(bigSep (aheadS o) ahead ∗ bigSep (behindS o) behind ∗ roleOut infl free o ∗ tailOut infl free o)
/-- What a turn leaves alone. -/
def outRest (o : ℕ) : sProp M :=
  iprop(bigSep (aheadS (o + 1)) ahead ∗ bigSep (behindS o) behind ∗ tailOut infl free o)

theorem ahead_out (o : ℕ) (h : o < 84) : bigSep (aheadS o) ahead = iprop(ahead (Ring.bk 84 o) ∗ bigSep (aheadS (o + 1)) ahead) := by
  have es : aheadS o = insert (Ring.bk 84 o) (aheadS (o + 1)) := by
    ext b; simp only [aheadS, Finset.mem_insert, Finset.mem_filter, Finset.mem_univ, true_and, Fin.ext_iff, Ring.bk_val h]; omega
  have hn : Ring.bk 84 o ∉ aheadS (o + 1) := by
    simp only [aheadS, Finset.mem_filter, Finset.mem_univ, true_and, Ring.bk_val h]; omega
  rw [es, bigSep_insert hn]; rfl

theorem behind_in (o : ℕ) (h6 : 6 ≤ o) (h : o < 84 + 6) : bigSep (behindS (o + 1)) behind = iprop(behind (Ring.bk 84 (o - 6)) ∗ bigSep (behindS o) behind) := by
  have hv : (Ring.bk 84 (o - 6)).val = o - 6 := Ring.bk_val (by omega)
  have es : behindS (o + 1) = insert (Ring.bk 84 (o - 6)) (behindS o) := by
    ext b; simp only [behindS, Finset.mem_insert, Finset.mem_filter, Finset.mem_univ, true_and, Fin.ext_iff, hv]; omega
  have hn : Ring.bk 84 (o - 6) ∉ behindS o := by
    simp only [behindS, Finset.mem_filter, Finset.mem_univ, true_and, hv]; omega
  rw [es, bigSep_insert hn]; rfl

theorem outRing_open (o : ℕ) (h6 : 6 ≤ o) (h : o < 84) :
    outRing ahead behind infl free o ⊢ iprop(infl (Ring.sl 6 o) (Ring.bk 84 (o - 6)) ∗ ahead (Ring.bk 84 o) ∗ outRest ahead behind infl free o) := by
  unfold outRing outRest
  rw [ahead_out ahead o h, show roleOut infl free o = infl (Ring.sl 6 o) (Ring.bk 84 (o - 6)) from if_pos h6]
  iintro ⟨⟨H1, H2⟩, H3, H4, H5⟩
  isplitl [H4]; · iexact H4
  isplitl [H1]; · iexact H1
  isplitl [H2]; · iexact H2
  isplitl [H3]; · iexact H3
  iexact H5

theorem outRing_openF (o : ℕ) (h6 : o < 6) :
    outRing ahead behind infl free o ⊢ iprop(free (Ring.sl 6 o) ∗ ahead (Ring.bk 84 o) ∗ outRest ahead behind infl free o) := by
  unfold outRing outRest
  rw [ahead_out ahead o (by omega), show roleOut infl free o = free (Ring.sl 6 o) from if_neg (by omega)]
  iintro ⟨⟨H1, H2⟩, H3, H4, H5⟩
  isplitl [H4]; · iexact H4
  isplitl [H1]; · iexact H1
  isplitl [H2]; · iexact H2
  isplitl [H3]; · iexact H3
  iexact H5

theorem role_next (o : ℕ) : roleOut infl free (o + 1 + 5) = infl (Ring.sl 6 o) (Ring.bk 84 o) := by
  rw [show roleOut infl free (o + 1 + 5) = infl (Ring.sl 6 (o + 6)) (Ring.bk 84 (o + 6 - 6)) from if_pos (by omega), Ring.sl_add,
    Nat.add_sub_cancel]

theorem outRing_close (o : ℕ) (h6 : 6 ≤ o) (h : o < 84) :
    iprop(infl (Ring.sl 6 o) (Ring.bk 84 o) ∗ behind (Ring.bk 84 (o - 6)) ∗ outRest ahead behind infl free o) ⊢ outRing ahead behind infl free (o + 1) := by
  unfold outRing outRest tailOut
  rw [behind_in behind o h6 (by omega), role_next]
  iintro ⟨H1, H2, H3, H4, T1, T2, T3, T4, T5⟩
  isplitl [H3]; · iexact H3
  isplitl [H2 H4]
  · isplitl [H2]; · iexact H2
    iexact H4
  isplitl [T1]; · iexact T1
  isplitl [T2]; · iexact T2
  isplitl [T3]; · iexact T3
  isplitl [T4]; · iexact T4
  isplitl [T5]; · iexact T5
  iexact H1

theorem outRing_closeF (o : ℕ) (h6 : o < 6) :
    iprop(infl (Ring.sl 6 o) (Ring.bk 84 o) ∗ outRest ahead behind infl free o) ⊢ outRing ahead behind infl free (o + 1) := by
  have e : behindS (o + 1) = behindS o := by
    ext b; simp only [behindS, Finset.mem_filter, Finset.mem_univ, true_and]; omega
  unfold outRing outRest tailOut
  rw [e, role_next]
  iintro ⟨H1, H3, H4, T1, T2, T3, T4, T5⟩
  isplitl [H3]; · iexact H3
  isplitl [H4]; · iexact H4
  isplitl [T1]; · iexact T1
  isplitl [T2]; · iexact T2
  isplitl [T3]; · iexact T3
  isplitl [T4]; · iexact T4
  isplitl [T5]; · iexact T5
  iexact H1

/-- At the start nothing is written and every slot is free; -/
theorem outRing_zero : iprop(bigSep Finset.univ ahead ∗ free 0 ∗ free 1 ∗ free 2 ∗ free 3 ∗ free 4 ∗ free 5) ⊢ outRing ahead behind infl free 0 := by
  have e1 : aheadS 0 = Finset.univ := by decide +kernel
  have e2 : behindS 0 = ∅ := by decide +kernel
  unfold outRing; rw [e1, e2, bigSep_empty]
  iintro ⟨H1, H2⟩
  isplitl [H1]; · iexact H1
  isplitr; · iempintro
  iexact H2
/-- after the last item the last six are in flight, -/
theorem outRing_end : outRing ahead behind infl free 84
    ⊢ iprop(bigSep (behindS 84) behind ∗ infl 0 78 ∗ infl 1 79 ∗ infl 2 80 ∗ infl 3 81 ∗ infl 4 82 ∗ infl 5 83) := by
  unfold outRing
  iintro ⟨-, H⟩; iexact H
/-- and once waited for, every tile is written. -/
theorem behind_all : iprop(behind 78 ∗ behind 79 ∗ behind 80 ∗ behind 81 ∗ behind 82 ∗ behind 83 ∗ bigSep (behindS 84) behind) ⊢ bigSep Finset.univ behind := by
  have e : (Finset.univ : Finset (Fin 84)) = insert 78 (insert 79 (insert 80 (insert 81 (insert 82 (insert 83 (behindS 84)))))) := by
    decide +kernel
  rw [e, bigSep_insert (by decide +kernel), bigSep_insert (by decide +kernel), bigSep_insert (by decide +kernel),
    bigSep_insert (by decide +kernel), bigSep_insert (by decide +kernel), bigSep_insert (by decide +kernel)]
  exact .rfl

end Out

-- a ring is opened by the theorems above only
attribute [irreducible] inRing outRing inRest inRestE outRest

end Cert.Proof.Rings

end
-- ==== Proof.Kernel.Names.lean ====
/-
  Canonical names for the slices `Kernel.lean`'s kernel takes: the 84 tiles of the codes and of the result, the six slots
  and the six semaphores of either ring, the three pieces of the scales. Every printed offset is one of these at the trip
  it belongs to (the offsets' closed forms are decided over the trips, of which there are at most 81), so the executor
  meets a transfer under the same name where it is started and where it is waited for.
-/
module

public import proofs.«01_k».proof.Defs
public import proofs.«01_k».proof.Proof.Gen.Kernel.Launch
public import proofs.«01_k».proof.Proof.Gen.Kernel.Skeleton
public import proofs.«01_k».proof.Proof.Gen.Kernel.Loops
public import proofs.«01_k».proof.Proof.Gen.Kernel.Points
public import Idealize.ShloMosaic.Lib.Ring
public import Idealize.ShloMosaic.Lib.Affine
public import Idealize.ShloMosaic.Lib.Tactic
public import proofs.«01_k».proof.Proof.Rings

@[expose] public section

noncomputable section

namespace Cert.Proof.Kernel

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-! ## Whole buffers -/

abbrev xM : Memref sig .tc .hbm S21504x3584 .fp8e4m3 := Memref.whole main_v0
abbrev gM : Memref sig .tc .hbm S21x28x1024 .f32 := Memref.whole main_v1
abbrev yM : Memref sig .tc .hbm S21504x3584 .i8 := Memref.whole main_v2_0
abbrev ibM : Memref sig .tc .vmem S6x7168x128 .fp8e4m3 := Memref.whole cc0_scratch0
abbrev obM : Memref sig .tc .vmem S6x7168x128 .i8 := Memref.whole cc0_scratch1
abbrev xbM : Memref sig .tc .vmem S10752x128 .i32 := Memref.whole cc0_scratch2
abbrev sgM : Memref sig .tc .vmem S21x28x1024 .f32 := Memref.whole cc0_scratch3
abbrev sbM : Memref sig .tc .vmem S10752x128 .i32 := Memref.whole cc0_scratch4
abbrev amM : Memref sig .tc .vmem S16x128 .bf16 := Memref.whole cc0_scratch5
abbrev ivM : Memref sig .tc .vmem S1x128 .f32 := Memref.whole cc0_scratch6

/-! ## Names -/

abbrev tileOff (b : Fin 84) : Fin 2 → Nat := ![7168 * (b.val % 3), 128 * (b.val / 3)]
theorem tileOff_inb (b : Fin 84) : ∀ a, tileOff b a + S7168x128.size a ≤ S21504x3584.size a := by
  have := b.isLt; intro a; fin_cases a
  · show 7168 * (b.val % 3) + 7168 ≤ 21504; omega
  · show 128 * (b.val / 3) + 128 ≤ 3584; omega
abbrev slotOff (s : Fin 6) : Fin 3 → Nat := ![s.val, 0, 0]
theorem slotOff_inb (s : Fin 6) : ∀ a, slotOff s a + S1x7168x128.size a ≤ S6x7168x128.size a := by
  have := s.isLt; intro a; fin_cases a
  · show s.val + 1 ≤ 6; omega
  · show 0 + 7168 ≤ 7168; omega
  · show 0 + 128 ≤ 128; omega
abbrev semOff (s : Fin 6) : Fin 1 → Nat := ![s.val]
theorem semOff_inb (s : Fin 6) : ∀ a, semOff s a + S1.size a ≤ S6.size a := by
  have := s.isLt; intro a; fin_cases a; show s.val + 1 ≤ 6; omega
abbrev gOff (j : Fin 3) : Fin 3 → Nat := ![7 * j.val, 0, 0]
theorem gOff_inb (j : Fin 3) : ∀ a, gOff j a + S7x28x1024.size a ≤ S21x28x1024.size a := by
  have := j.isLt; intro a; fin_cases a
  · show 7 * j.val + 7 ≤ 21; omega
  · show 0 + 28 ≤ 28; omega
  · show 0 + 1024 ≤ 1024; omega
abbrev gsemOff (j : Fin 3) : Fin 1 → Nat := ![j.val]
theorem gsemOff_inb (j : Fin 3) : ∀ a, gsemOff j a + S1.size a ≤ S3.size a := by
  have := j.isLt; intro a; fin_cases a; show j.val + 1 ≤ 3; omega

/-- Tile `b` of the codes: row chunk `b % 3`, channel block `b / 3`. -/
def tIn (b : Fin 84) : Memref sig .tc .hbm S7168x128 .fp8e4m3 :=
  xM.slice (Rect.unit (s := S21504x3584) (tileOff b) S7168x128.size (tileOff_inb b)) (fun _ => rfl)
/-- Tile `b` of the result. -/
def tOut (b : Fin 84) : Memref sig .tc .hbm S7168x128 .i8 :=
  yM.slice (Rect.unit (s := S21504x3584) (tileOff b) S7168x128.size (tileOff_inb b)) (fun _ => rfl)
/-- Slot `s` of the inbound and of the outbound buffer. -/
def sIn (s : Fin 6) : Memref sig .tc .vmem S7168x128 .fp8e4m3 :=
  (ibM.slice (Rect.unit (s := S6x7168x128) (slotOff s) S1x7168x128.size (slotOff_inb s)) (fun _ => rfl)).squeeze S7168x128 squeezes_S1x7168x128_S7168x128
def sOut (s : Fin 6) : Memref sig .tc .vmem S7168x128 .i8 :=
  (obM.slice (Rect.unit (s := S6x7168x128) (slotOff s) S1x7168x128.size (slotOff_inb s)) (fun _ => rfl)).squeeze S7168x128 squeezes_S1x7168x128_S7168x128
/-- Their DMA semaphores. -/
def cIn (s : Fin 6) : DmaSems sig S_ := (cc0_scratch7.slice (Rect.unit (s := S6) (semOff s) S1.size (semOff_inb s))).squeeze S_ squeezes_S1_S_
def cOut (s : Fin 6) : DmaSems sig S_ := (cc0_scratch8.slice (Rect.unit (s := S6) (semOff s) S1.size (semOff_inb s))).squeeze S_ squeezes_S1_S_
/-- Piece `j` of the scales, seven batches: where it lies, where it is staged, its semaphore. -/
def gIn (j : Fin 3) : Memref sig .tc .hbm S7x28x1024 .f32 :=
  gM.slice (Rect.unit (s := S21x28x1024) (gOff j) S7x28x1024.size (gOff_inb j)) (fun _ => rfl)
def gSt (j : Fin 3) : Memref sig .tc .vmem S7x28x1024 .f32 :=
  sgM.slice (Rect.unit (s := S21x28x1024) (gOff j) S7x28x1024.size (gOff_inb j)) (fun _ => rfl)
def cG (j : Fin 3) : DmaSems sig S_ := (cc0_scratch9.slice (Rect.unit (s := S3) (gsemOff j) S1.size (gsemOff_inb j))).squeeze S_ squeezes_S1_S_

instance (s : Fin 6) : ClosedOff (slotOff s) := ⟨slotOff s, rfl⟩
instance (b : Fin 84) : ClosedOff (tileOff b) := ⟨tileOff b, rfl⟩
instance (j : Fin 3) : ClosedOff (gOff j) := ⟨gOff j, rfl⟩

/-- The item of trip `(a, b)` of the middle loops, and the item its outbound copy carries. -/
def kk (a b : ℕ) : ℕ := 3 * (a + 1) + b
def oo (a b : ℕ) : ℕ := 3 * a + b
/-- The item trip `t` of the last loop sends out. -/
def o5 (t : ℕ) : ℕ := 81 + t

/-! ## One name per slice -/

theorem cIn_congr {off : Fin 1 → Nat} {s : Fin 6} (e : off = semOff s) (hh) :
    (cc0_scratch7.slice (Rect.unit (s := S6) off S1.size hh)).squeeze S_ squeezes_S1_S_ = cIn s :=
  congrArg (fun A : DmaSems sig S1 => A.squeeze S_ squeezes_S1_S_) (SemArray.slice_unit_congr _ e _ _)
theorem cOut_congr {off : Fin 1 → Nat} {s : Fin 6} (e : off = semOff s) (hh) :
    (cc0_scratch8.slice (Rect.unit (s := S6) off S1.size hh)).squeeze S_ squeezes_S1_S_ = cOut s :=
  congrArg (fun A : DmaSems sig S1 => A.squeeze S_ squeezes_S1_S_) (SemArray.slice_unit_congr _ e _ _)
theorem cG_congr {off : Fin 1 → Nat} {j : Fin 3} (e : off = gsemOff j) (hh) :
    (cc0_scratch9.slice (Rect.unit (s := S3) off S1.size hh)).squeeze S_ squeezes_S1_S_ = cG j :=
  congrArg (fun A : DmaSems sig S1 => A.squeeze S_ squeezes_S1_S_) (SemArray.slice_unit_congr _ e _ _)
theorem sIn_congr {off : Fin 3 → Nat} {s : Fin 6} (e : off = slotOff s) (hh hs) :
    (ibM.slice (Rect.unit (s := S6x7168x128) off S1x7168x128.size hh) hs).squeeze S7168x128 squeezes_S1x7168x128_S7168x128 = sIn s :=
  congrArg (fun M : Memref sig .tc .vmem S1x7168x128 .fp8e4m3 => M.squeeze S7168x128 squeezes_S1x7168x128_S7168x128) (Memref.slice_unit_congr _ e _ _ _ _)
theorem sOut_congr {off : Fin 3 → Nat} {s : Fin 6} (e : off = slotOff s) (hh hs) :
    (obM.slice (Rect.unit (s := S6x7168x128) off S1x7168x128.size hh) hs).squeeze S7168x128 squeezes_S1x7168x128_S7168x128 = sOut s :=
  congrArg (fun M : Memref sig .tc .vmem S1x7168x128 .i8 => M.squeeze S7168x128 squeezes_S1x7168x128_S7168x128) (Memref.slice_unit_congr _ e _ _ _ _)
theorem tIn_congr {off : Fin 2 → Nat} {b : Fin 84} (e : off = tileOff b) (hh hs) :
    xM.slice (Rect.unit (s := S21504x3584) off S7168x128.size hh) hs = tIn b := Memref.slice_unit_congr _ e _ _ _ (fun _ => rfl)
theorem tOut_congr {off : Fin 2 → Nat} {b : Fin 84} (e : off = tileOff b) (hh hs) :
    yM.slice (Rect.unit (s := S21504x3584) off S7168x128.size hh) hs = tOut b := Memref.slice_unit_congr _ e _ _ _ (fun _ => rfl)
theorem gIn_congr {off : Fin 3 → Nat} {j : Fin 3} (e : off = gOff j) (hh hs) :
    gM.slice (Rect.unit (s := S21x28x1024) off S7x28x1024.size hh) hs = gIn j := Memref.slice_unit_congr _ e _ _ _ (fun _ => rfl)
theorem gSt_congr {off : Fin 3 → Nat} {j : Fin 3} (e : off = gOff j) (hh hs) :
    sgM.slice (Rect.unit (s := S21x28x1024) off S7x28x1024.size hh) hs = gSt j := Memref.slice_unit_congr _ e _ _ _ (fun _ => rfl)

/-! ### Literal slices: the prologue's and the last waits' -/

@[sl_canon] theorem L1 (hh) : (cc0_scratch9.slice (Rect.unit (s := S3) (![0]) S1.size hh)).squeeze S_ squeezes_S1_S_ = cG 0 := cG_congr (by decide) _
@[sl_canon] theorem L2 (hh hs) : gM.slice (Rect.unit (s := S21x28x1024) (![0, 0, 0]) S7x28x1024.size hh) hs = gIn 0 := gIn_congr (by decide) _ _
@[sl_canon] theorem L3 (hh hs) : sgM.slice (Rect.unit (s := S21x28x1024) (![0, 0, 0]) S7x28x1024.size hh) hs = gSt 0 := gSt_congr (by decide) _ _
@[sl_canon] theorem L4 (hh) : (cc0_scratch9.slice (Rect.unit (s := S3) (![1]) S1.size hh)).squeeze S_ squeezes_S1_S_ = cG 1 := cG_congr (by decide) _
@[sl_canon] theorem L5 (hh hs) : gM.slice (Rect.unit (s := S21x28x1024) (![7, 0, 0]) S7x28x1024.size hh) hs = gIn 1 := gIn_congr (by decide) _ _
@[sl_canon] theorem L6 (hh hs) : sgM.slice (Rect.unit (s := S21x28x1024) (![7, 0, 0]) S7x28x1024.size hh) hs = gSt 1 := gSt_congr (by decide) _ _
@[sl_canon] theorem L7 (hh) : (cc0_scratch9.slice (Rect.unit (s := S3) (![2]) S1.size hh)).squeeze S_ squeezes_S1_S_ = cG 2 := cG_congr (by decide) _
@[sl_canon] theorem L8 (hh hs) : gM.slice (Rect.unit (s := S21x28x1024) (![14, 0, 0]) S7x28x1024.size hh) hs = gIn 2 := gIn_congr (by decide) _ _
@[sl_canon] theorem L9 (hh hs) : sgM.slice (Rect.unit (s := S21x28x1024) (![14, 0, 0]) S7x28x1024.size hh) hs = gSt 2 := gSt_congr (by decide) _ _
@[sl_canon] theorem L10 (hh) : (cc0_scratch7.slice (Rect.unit (s := S6) (k0_off1 0#32) S1.size hh)).squeeze S_ squeezes_S1_S_ = cIn 0 := cIn_congr (by decide) _
@[sl_canon] theorem L11 (hh hs) : (ibM.slice (Rect.unit (s := S6x7168x128) (k0_off2 0#32) S1x7168x128.size hh) hs).squeeze S7168x128 squeezes_S1x7168x128_S7168x128 = sIn 0 := sIn_congr (by decide) _ _
@[sl_canon] theorem L12 (hh hs) : xM.slice (Rect.unit (s := S21504x3584) (![0, 0]) S7168x128.size hh) hs = tIn 0 := tIn_congr (by decide) _ _
@[sl_canon] theorem L13 (hh) : (cc0_scratch7.slice (Rect.unit (s := S6) (k0_off1 1#32) S1.size hh)).squeeze S_ squeezes_S1_S_ = cIn 1 := cIn_congr (by decide) _
@[sl_canon] theorem L14 (hh hs) : (ibM.slice (Rect.unit (s := S6x7168x128) (k0_off2 1#32) S1x7168x128.size hh) hs).squeeze S7168x128 squeezes_S1x7168x128_S7168x128 = sIn 1 := sIn_congr (by decide) _ _
@[sl_canon] theorem L15 (hh hs) : xM.slice (Rect.unit (s := S21504x3584) (![7168, 0]) S7168x128.size hh) hs = tIn 1 := tIn_congr (by decide) _ _
@[sl_canon] theorem L16 (hh) : (cc0_scratch7.slice (Rect.unit (s := S6) (k0_off1 2#32) S1.size hh)).squeeze S_ squeezes_S1_S_ = cIn 2 := cIn_congr (by decide) _
@[sl_canon] theorem L17 (hh hs) : (ibM.slice (Rect.unit (s := S6x7168x128) (k0_off2 2#32) S1x7168x128.size hh) hs).squeeze S7168x128 squeezes_S1x7168x128_S7168x128 = sIn 2 := sIn_congr (by decide) _ _
@[sl_canon] theorem L18 (hh hs) : xM.slice (Rect.unit (s := S21504x3584) (![14336, 0]) S7168x128.size hh) hs = tIn 2 := tIn_congr (by decide) _ _
@[sl_canon] theorem L19 (hh) : (cc0_scratch7.slice (Rect.unit (s := S6) (k0_off1 3#32) S1.size hh)).squeeze S_ squeezes_S1_S_ = cIn 3 := cIn_congr (by decide) _
@[sl_canon] theorem L20 (hh hs) : (ibM.slice (Rect.unit (s := S6x7168x128) (k0_off2 3#32) S1x7168x128.size hh) hs).squeeze S7168x128 squeezes_S1x7168x128_S7168x128 = sIn 3 := sIn_congr (by decide) _ _
@[sl_canon] theorem L21 (hh hs) : xM.slice (Rect.unit (s := S21504x3584) (![0, 128]) S7168x128.size hh) hs = tIn 3 := tIn_congr (by decide) _ _
@[sl_canon] theorem L22 (hh) : (cc0_scratch7.slice (Rect.unit (s := S6) (k0_off1 4#32) S1.size hh)).squeeze S_ squeezes_S1_S_ = cIn 4 := cIn_congr (by decide) _
@[sl_canon] theorem L23 (hh hs) : (ibM.slice (Rect.unit (s := S6x7168x128) (k0_off2 4#32) S1x7168x128.size hh) hs).squeeze S7168x128 squeezes_S1x7168x128_S7168x128 = sIn 4 := sIn_congr (by decide) _ _
@[sl_canon] theorem L24 (hh hs) : xM.slice (Rect.unit (s := S21504x3584) (![7168, 128]) S7168x128.size hh) hs = tIn 4 := tIn_congr (by decide) _ _
@[sl_canon] theorem L25 (hh) : (cc0_scratch7.slice (Rect.unit (s := S6) (k0_off1 5#32) S1.size hh)).squeeze S_ squeezes_S1_S_ = cIn 5 := cIn_congr (by decide) _
@[sl_canon] theorem L26 (hh hs) : (ibM.slice (Rect.unit (s := S6x7168x128) (k0_off2 5#32) S1x7168x128.size hh) hs).squeeze S7168x128 squeezes_S1x7168x128_S7168x128 = sIn 5 := sIn_congr (by decide) _ _
@[sl_canon] theorem L27 (hh hs) : xM.slice (Rect.unit (s := S21504x3584) (![14336, 128]) S7168x128.size hh) hs = tIn 5 := tIn_congr (by decide) _ _
@[sl_canon] theorem L28 (hh) : (cc0_scratch8.slice (Rect.unit (s := S6) (k0_off1 78#32) S1.size hh)).squeeze S_ squeezes_S1_S_ = cOut 0 := cOut_congr (by decide) _
@[sl_canon] theorem L29 (hh hs) : (obM.slice (Rect.unit (s := S6x7168x128) (k0_off2 78#32) S1x7168x128.size hh) hs).squeeze S7168x128 squeezes_S1x7168x128_S7168x128 = sOut 0 := sOut_congr (by decide) _ _
@[sl_canon] theorem L30 (hh hs) : yM.slice (Rect.unit (s := S21504x3584) (![0, 3328]) S7168x128.size hh) hs = tOut 78 := tOut_congr (by decide) _ _
@[sl_canon] theorem L31 (hh) : (cc0_scratch8.slice (Rect.unit (s := S6) (k0_off1 79#32) S1.size hh)).squeeze S_ squeezes_S1_S_ = cOut 1 := cOut_congr (by decide) _
@[sl_canon] theorem L32 (hh hs) : (obM.slice (Rect.unit (s := S6x7168x128) (k0_off2 79#32) S1x7168x128.size hh) hs).squeeze S7168x128 squeezes_S1x7168x128_S7168x128 = sOut 1 := sOut_congr (by decide) _ _
@[sl_canon] theorem L33 (hh hs) : yM.slice (Rect.unit (s := S21504x3584) (![7168, 3328]) S7168x128.size hh) hs = tOut 79 := tOut_congr (by decide) _ _
@[sl_canon] theorem L34 (hh) : (cc0_scratch8.slice (Rect.unit (s := S6) (k0_off1 80#32) S1.size hh)).squeeze S_ squeezes_S1_S_ = cOut 2 := cOut_congr (by decide) _
@[sl_canon] theorem L35 (hh hs) : (obM.slice (Rect.unit (s := S6x7168x128) (k0_off2 80#32) S1x7168x128.size hh) hs).squeeze S7168x128 squeezes_S1x7168x128_S7168x128 = sOut 2 := sOut_congr (by decide) _ _
@[sl_canon] theorem L36 (hh hs) : yM.slice (Rect.unit (s := S21504x3584) (![14336, 3328]) S7168x128.size hh) hs = tOut 80 := tOut_congr (by decide) _ _
@[sl_canon] theorem L37 (hh) : (cc0_scratch8.slice (Rect.unit (s := S6) (k0_off1 81#32) S1.size hh)).squeeze S_ squeezes_S1_S_ = cOut 3 := cOut_congr (by decide) _
@[sl_canon] theorem L38 (hh hs) : (obM.slice (Rect.unit (s := S6x7168x128) (k0_off2 81#32) S1x7168x128.size hh) hs).squeeze S7168x128 squeezes_S1x7168x128_S7168x128 = sOut 3 := sOut_congr (by decide) _ _
@[sl_canon] theorem L39 (hh hs) : yM.slice (Rect.unit (s := S21504x3584) (![0, 3456]) S7168x128.size hh) hs = tOut 81 := tOut_congr (by decide) _ _
@[sl_canon] theorem L40 (hh) : (cc0_scratch8.slice (Rect.unit (s := S6) (k0_off1 82#32) S1.size hh)).squeeze S_ squeezes_S1_S_ = cOut 4 := cOut_congr (by decide) _
@[sl_canon] theorem L41 (hh hs) : (obM.slice (Rect.unit (s := S6x7168x128) (k0_off2 82#32) S1x7168x128.size hh) hs).squeeze S7168x128 squeezes_S1x7168x128_S7168x128 = sOut 4 := sOut_congr (by decide) _ _
@[sl_canon] theorem L42 (hh hs) : yM.slice (Rect.unit (s := S21504x3584) (![7168, 3456]) S7168x128.size hh) hs = tOut 82 := tOut_congr (by decide) _ _
@[sl_canon] theorem L43 (hh) : (cc0_scratch8.slice (Rect.unit (s := S6) (k0_off1 83#32) S1.size hh)).squeeze S_ squeezes_S1_S_ = cOut 5 := cOut_congr (by decide) _
@[sl_canon] theorem L44 (hh hs) : (obM.slice (Rect.unit (s := S6x7168x128) (k0_off2 83#32) S1x7168x128.size hh) hs).squeeze S7168x128 squeezes_S1x7168x128_S7168x128 = sOut 5 := sOut_congr (by decide) _ _
@[sl_canon] theorem L45 (hh hs) : yM.slice (Rect.unit (s := S21504x3584) (![14336, 3456]) S7168x128.size hh) hs = tOut 83 := tOut_congr (by decide) _ _

/-! ### The first loop: pieces of the scales -/

theorem off3_eq : ∀ (k : Fin k0_t1_loop.trips), k0_off3 k = gsemOff (Ring.bk 3 k.val) := by decide +kernel
@[sl_canon] theorem N3_cG (k : Fin k0_t1_loop.trips) (hh) : (cc0_scratch9.slice (Rect.unit (s := S3) (k0_off3 k) S1.size hh)).squeeze S_ squeezes_S1_S_ = cG (Ring.bk 3 k.val) := cG_congr (off3_eq k) _
theorem off4_eq : ∀ (k : Fin k0_t1_loop.trips), k0_off4 k = gOff (Ring.bk 3 k.val) := by decide +kernel
@[sl_canon] theorem N4_gIn (k : Fin k0_t1_loop.trips) (hh hs) : gM.slice (Rect.unit (s := S21x28x1024) (k0_off4 k) S7x28x1024.size hh) hs = gIn (Ring.bk 3 k.val) := gIn_congr (off4_eq k) _ _
@[sl_canon] theorem N4_gSt (k : Fin k0_t1_loop.trips) (hh hs) : sgM.slice (Rect.unit (s := S21x28x1024) (k0_off4 k) S7x28x1024.size hh) hs = gSt (Ring.bk 3 k.val) := gSt_congr (off4_eq k) _ _
theorem off5_0 : ∀ k : Fin k0_t1_loop.trips, k0_off5 k 0#32 = ![7 * k.val + 0, 0, 0] := by decide +kernel
instance (k : Fin k0_t1_loop.trips) : ClosedOff (k0_off5 k 0#32) := ⟨![7 * k.val + 0, 0, 0], off5_0 k⟩
theorem off5_1 : ∀ k : Fin k0_t1_loop.trips, k0_off5 k 1#32 = ![7 * k.val + 1, 0, 0] := by decide +kernel
instance (k : Fin k0_t1_loop.trips) : ClosedOff (k0_off5 k 1#32) := ⟨![7 * k.val + 1, 0, 0], off5_1 k⟩
theorem off5_2 : ∀ k : Fin k0_t1_loop.trips, k0_off5 k 2#32 = ![7 * k.val + 2, 0, 0] := by decide +kernel
instance (k : Fin k0_t1_loop.trips) : ClosedOff (k0_off5 k 2#32) := ⟨![7 * k.val + 2, 0, 0], off5_2 k⟩
theorem off5_3 : ∀ k : Fin k0_t1_loop.trips, k0_off5 k 3#32 = ![7 * k.val + 3, 0, 0] := by decide +kernel
instance (k : Fin k0_t1_loop.trips) : ClosedOff (k0_off5 k 3#32) := ⟨![7 * k.val + 3, 0, 0], off5_3 k⟩
theorem off5_4 : ∀ k : Fin k0_t1_loop.trips, k0_off5 k 4#32 = ![7 * k.val + 4, 0, 0] := by decide +kernel
instance (k : Fin k0_t1_loop.trips) : ClosedOff (k0_off5 k 4#32) := ⟨![7 * k.val + 4, 0, 0], off5_4 k⟩
theorem off5_5 : ∀ k : Fin k0_t1_loop.trips, k0_off5 k 5#32 = ![7 * k.val + 5, 0, 0] := by decide +kernel
instance (k : Fin k0_t1_loop.trips) : ClosedOff (k0_off5 k 5#32) := ⟨![7 * k.val + 5, 0, 0], off5_5 k⟩
theorem off5_6 : ∀ k : Fin k0_t1_loop.trips, k0_off5 k 6#32 = ![7 * k.val + 6, 0, 0] := by decide +kernel
instance (k : Fin k0_t1_loop.trips) : ClosedOff (k0_off5 k 6#32) := ⟨![7 * k.val + 6, 0, 0], off5_6 k⟩
theorem off6_0 : ∀ k : Fin k0_t1_loop.trips, k0_off6 k 0#32 = ![3584 * k.val + 0, 0] := by decide +kernel
instance (k : Fin k0_t1_loop.trips) : ClosedOff (k0_off6 k 0#32) := ⟨![3584 * k.val + 0, 0], off6_0 k⟩
theorem off6_1 : ∀ k : Fin k0_t1_loop.trips, k0_off6 k 1#32 = ![3584 * k.val + 512, 0] := by decide +kernel
instance (k : Fin k0_t1_loop.trips) : ClosedOff (k0_off6 k 1#32) := ⟨![3584 * k.val + 512, 0], off6_1 k⟩
theorem off6_2 : ∀ k : Fin k0_t1_loop.trips, k0_off6 k 2#32 = ![3584 * k.val + 1024, 0] := by decide +kernel
instance (k : Fin k0_t1_loop.trips) : ClosedOff (k0_off6 k 2#32) := ⟨![3584 * k.val + 1024, 0], off6_2 k⟩
theorem off6_3 : ∀ k : Fin k0_t1_loop.trips, k0_off6 k 3#32 = ![3584 * k.val + 1536, 0] := by decide +kernel
instance (k : Fin k0_t1_loop.trips) : ClosedOff (k0_off6 k 3#32) := ⟨![3584 * k.val + 1536, 0], off6_3 k⟩
theorem off6_4 : ∀ k : Fin k0_t1_loop.trips, k0_off6 k 4#32 = ![3584 * k.val + 2048, 0] := by decide +kernel
instance (k : Fin k0_t1_loop.trips) : ClosedOff (k0_off6 k 4#32) := ⟨![3584 * k.val + 2048, 0], off6_4 k⟩
theorem off6_5 : ∀ k : Fin k0_t1_loop.trips, k0_off6 k 5#32 = ![3584 * k.val + 2560, 0] := by decide +kernel
instance (k : Fin k0_t1_loop.trips) : ClosedOff (k0_off6 k 5#32) := ⟨![3584 * k.val + 2560, 0], off6_5 k⟩
theorem off6_6 : ∀ k : Fin k0_t1_loop.trips, k0_off6 k 6#32 = ![3584 * k.val + 3072, 0] := by decide +kernel
instance (k : Fin k0_t1_loop.trips) : ClosedOff (k0_off6 k 6#32) := ⟨![3584 * k.val + 3072, 0], off6_6 k⟩

/-! ### The second loop: the first block's items -/

theorem off7_eq : ∀ (k : Fin k0_t2_loop.trips), k0_off7 k = semOff (Ring.sl 6 k.val) := by decide +kernel
@[sl_canon] theorem N7_cIn (k : Fin k0_t2_loop.trips) (hh) : (cc0_scratch7.slice (Rect.unit (s := S6) (k0_off7 k) S1.size hh)).squeeze S_ squeezes_S1_S_ = cIn (Ring.sl 6 k.val) := cIn_congr (off7_eq k) _
theorem off8_eq : ∀ (k : Fin k0_t2_loop.trips), k0_off8 k = slotOff (Ring.sl 6 k.val) := by decide +kernel
@[sl_canon] theorem N8_sIn (k : Fin k0_t2_loop.trips) (hh hs) : (ibM.slice (Rect.unit (s := S6x7168x128) (k0_off8 k) S1x7168x128.size hh) hs).squeeze S7168x128 squeezes_S1x7168x128_S7168x128 = sIn (Ring.sl 6 k.val) := sIn_congr (off8_eq k) _ _
theorem off9_eq : ∀ (k : Fin k0_t2_loop.trips), k0_off9 k = tileOff (Ring.bk 84 k.val) := by decide +kernel
@[sl_canon] theorem N9_tIn (k : Fin k0_t2_loop.trips) (hh hs) : xM.slice (Rect.unit (s := S21504x3584) (k0_off9 k) S7168x128.size hh) hs = tIn (Ring.bk 84 k.val) := tIn_congr (off9_eq k) _ _
theorem off10_eq : ∀ (k : Fin k0_t2_loop.trips), k0_off10 k = ![3584 * k.val, 0] := by decide +kernel
instance (k : Fin k0_t2_loop.trips) : ClosedOff (k0_off10 k) := ⟨![3584 * k.val, 0], off10_eq k⟩
theorem off11_eq : ∀ (k : Fin k0_t2_loop.trips), k0_off11 k = slotOff (Ring.sl 6 k.val) := by decide +kernel
instance (k : Fin k0_t2_loop.trips) : ClosedOff (k0_off11 k) := ⟨slotOff (Ring.sl 6 k.val), off11_eq k⟩
theorem off12_eq : ∀ (k : Fin k0_t2_loop.trips), k0_off12 k = semOff (Ring.sl 6 k.val) := by decide +kernel
@[sl_canon] theorem N12_cIn (k : Fin k0_t2_loop.trips) (hh) : (cc0_scratch7.slice (Rect.unit (s := S6) (k0_off12 k) S1.size hh)).squeeze S_ squeezes_S1_S_ = cIn (Ring.sl 6 k.val) := cIn_congr (off12_eq k) _
theorem off13_eq : ∀ (k : Fin k0_t2_loop.trips), k0_off13 k = slotOff (Ring.sl 6 k.val) := by decide +kernel
@[sl_canon] theorem N13_sIn (k : Fin k0_t2_loop.trips) (hh hs) : (ibM.slice (Rect.unit (s := S6x7168x128) (k0_off13 k) S1x7168x128.size hh) hs).squeeze S7168x128 squeezes_S1x7168x128_S7168x128 = sIn (Ring.sl 6 k.val) := sIn_congr (off13_eq k) _ _
theorem off14_eq : ∀ (k : Fin k0_t2_loop.trips), k0_off14 k = tileOff (Ring.bk 84 (k.val + 6)) := by decide +kernel
@[sl_canon] theorem N14_tIn (k : Fin k0_t2_loop.trips) (hh hs) : xM.slice (Rect.unit (s := S21504x3584) (k0_off14 k) S7168x128.size hh) hs = tIn (Ring.bk 84 (k.val + 6)) := tIn_congr (off14_eq k) _ _
theorem cond1_eq : ∀ k : Fin k0_t2_loop.trips, k0_cond1 k = 1#1 := by decide +kernel

/-! ### The middle loops -/

theorem off15_eq : ∀ (a : Fin k0_t3_loop.trips) (b : Fin k0_t4_loop.trips), k0_off15 a b = semOff (Ring.sl 6 (kk a.val b.val)) := by decide +kernel
@[sl_canon] theorem N15_cIn (a : Fin k0_t3_loop.trips) (b : Fin k0_t4_loop.trips) (hh) : (cc0_scratch7.slice (Rect.unit (s := S6) (k0_off15 a b) S1.size hh)).squeeze S_ squeezes_S1_S_ = cIn (Ring.sl 6 (kk a.val b.val)) := cIn_congr (off15_eq a b) _
theorem off16_eq : ∀ (a : Fin k0_t3_loop.trips) (b : Fin k0_t4_loop.trips), k0_off16 a b = slotOff (Ring.sl 6 (kk a.val b.val)) := by decide +kernel
@[sl_canon] theorem N16_sIn (a : Fin k0_t3_loop.trips) (b : Fin k0_t4_loop.trips) (hh hs) : (ibM.slice (Rect.unit (s := S6x7168x128) (k0_off16 a b) S1x7168x128.size hh) hs).squeeze S7168x128 squeezes_S1x7168x128_S7168x128 = sIn (Ring.sl 6 (kk a.val b.val)) := sIn_congr (off16_eq a b) _ _
theorem off17_eq : ∀ (a : Fin k0_t3_loop.trips) (b : Fin k0_t4_loop.trips), k0_off17 a b = tileOff (Ring.bk 84 (kk a.val b.val)) := by decide +kernel
@[sl_canon] theorem N17_tIn (a : Fin k0_t3_loop.trips) (b : Fin k0_t4_loop.trips) (hh hs) : xM.slice (Rect.unit (s := S21504x3584) (k0_off17 a b) S7168x128.size hh) hs = tIn (Ring.bk 84 (kk a.val b.val)) := tIn_congr (off17_eq a b) _ _
theorem cond2_iff : ∀ (a : Fin k0_t3_loop.trips) (b : Fin k0_t4_loop.trips), k0_cond2 a b = 1#1 ↔ 6 ≤ oo a.val b.val := by decide +kernel
theorem cond3_iff : ∀ (a : Fin k0_t3_loop.trips) (b : Fin k0_t4_loop.trips), k0_cond3 a b = 1#1 ↔ kk a.val b.val + 6 < 84 := by decide +kernel
theorem off18_eq : ∀ (a : Fin k0_t3_loop.trips) (b : Fin k0_t4_loop.trips), 6 ≤ oo a.val b.val → k0_off18 a b = semOff (Ring.sl 6 (oo a.val b.val)) := by decide +kernel
@[sl_canon] theorem N18_cOut (a : Fin k0_t3_loop.trips) (b : Fin k0_t4_loop.trips) (h : 6 ≤ oo a.val b.val) (hh) : (cc0_scratch8.slice (Rect.unit (s := S6) (k0_off18 a b) S1.size hh)).squeeze S_ squeezes_S1_S_ = cOut (Ring.sl 6 (oo a.val b.val)) := cOut_congr (off18_eq a b h) _
theorem off19_eq : ∀ (a : Fin k0_t3_loop.trips) (b : Fin k0_t4_loop.trips), 6 ≤ oo a.val b.val → k0_off19 a b = tileOff (Ring.bk 84 (oo a.val b.val - 6)) := by decide +kernel
@[sl_canon] theorem N19_tOut (a : Fin k0_t3_loop.trips) (b : Fin k0_t4_loop.trips) (h : 6 ≤ oo a.val b.val) (hh hs) : yM.slice (Rect.unit (s := S21504x3584) (k0_off19 a b) S7168x128.size hh) hs = tOut (Ring.bk 84 (oo a.val b.val - 6)) := tOut_congr (off19_eq a b h) _ _
theorem off20_eq : ∀ (a : Fin k0_t3_loop.trips) (b : Fin k0_t4_loop.trips), 6 ≤ oo a.val b.val → k0_off20 a b = slotOff (Ring.sl 6 (oo a.val b.val)) := by decide +kernel
@[sl_canon] theorem N20_sOut (a : Fin k0_t3_loop.trips) (b : Fin k0_t4_loop.trips) (h : 6 ≤ oo a.val b.val) (hh hs) : (obM.slice (Rect.unit (s := S6x7168x128) (k0_off20 a b) S1x7168x128.size hh) hs).squeeze S7168x128 squeezes_S1x7168x128_S7168x128 = sOut (Ring.sl 6 (oo a.val b.val)) := sOut_congr (off20_eq a b h) _ _
theorem off21_eq : ∀ (b : Fin k0_t4_loop.trips), k0_off21 b = ![3584 * b.val, 0] := by decide +kernel
instance (b : Fin k0_t4_loop.trips) : ClosedOff (k0_off21 b) := ⟨![3584 * b.val, 0], off21_eq b⟩
theorem off22_eq : ∀ (a : Fin k0_t3_loop.trips) (b : Fin k0_t4_loop.trips), k0_off22 a b = slotOff (Ring.sl 6 (oo a.val b.val)) := by decide +kernel
instance (a : Fin k0_t3_loop.trips) (b : Fin k0_t4_loop.trips) : ClosedOff (k0_off22 a b) := ⟨slotOff (Ring.sl 6 (oo a.val b.val)), off22_eq a b⟩
theorem off23_eq : ∀ (a : Fin k0_t3_loop.trips) (b : Fin k0_t4_loop.trips), k0_off23 a b = slotOff (Ring.sl 6 (kk a.val b.val)) := by decide +kernel
instance (a : Fin k0_t3_loop.trips) (b : Fin k0_t4_loop.trips) : ClosedOff (k0_off23 a b) := ⟨slotOff (Ring.sl 6 (kk a.val b.val)), off23_eq a b⟩
theorem off24_eq : ∀ (a : Fin k0_t3_loop.trips) (b : Fin k0_t4_loop.trips), k0_off24 a b = semOff (Ring.sl 6 (oo a.val b.val)) := by decide +kernel
@[sl_canon] theorem N24_cOut (a : Fin k0_t3_loop.trips) (b : Fin k0_t4_loop.trips) (hh) : (cc0_scratch8.slice (Rect.unit (s := S6) (k0_off24 a b) S1.size hh)).squeeze S_ squeezes_S1_S_ = cOut (Ring.sl 6 (oo a.val b.val)) := cOut_congr (off24_eq a b) _
theorem off25_eq : ∀ (a : Fin k0_t3_loop.trips) (b : Fin k0_t4_loop.trips), k0_off25 a b = tileOff (Ring.bk 84 (oo a.val b.val)) := by decide +kernel
@[sl_canon] theorem N25_tOut (a : Fin k0_t3_loop.trips) (b : Fin k0_t4_loop.trips) (hh hs) : yM.slice (Rect.unit (s := S21504x3584) (k0_off25 a b) S7168x128.size hh) hs = tOut (Ring.bk 84 (oo a.val b.val)) := tOut_congr (off25_eq a b) _ _
theorem off26_eq : ∀ (a : Fin k0_t3_loop.trips) (b : Fin k0_t4_loop.trips), k0_off26 a b = slotOff (Ring.sl 6 (oo a.val b.val)) := by decide +kernel
@[sl_canon] theorem N26_sOut (a : Fin k0_t3_loop.trips) (b : Fin k0_t4_loop.trips) (hh hs) : (obM.slice (Rect.unit (s := S6x7168x128) (k0_off26 a b) S1x7168x128.size hh) hs).squeeze S7168x128 squeezes_S1x7168x128_S7168x128 = sOut (Ring.sl 6 (oo a.val b.val)) := sOut_congr (off26_eq a b) _ _
theorem off27_eq : ∀ (a : Fin k0_t3_loop.trips) (b : Fin k0_t4_loop.trips), kk a.val b.val + 6 < 84 → k0_off27 a b = semOff (Ring.sl 6 (kk a.val b.val)) := by decide +kernel
@[sl_canon] theorem N27_cIn (a : Fin k0_t3_loop.trips) (b : Fin k0_t4_loop.trips) (h : kk a.val b.val + 6 < 84) (hh) : (cc0_scratch7.slice (Rect.unit (s := S6) (k0_off27 a b) S1.size hh)).squeeze S_ squeezes_S1_S_ = cIn (Ring.sl 6 (kk a.val b.val)) := cIn_congr (off27_eq a b h) _
theorem off28_eq : ∀ (a : Fin k0_t3_loop.trips) (b : Fin k0_t4_loop.trips), kk a.val b.val + 6 < 84 → k0_off28 a b = slotOff (Ring.sl 6 (kk a.val b.val)) := by decide +kernel
@[sl_canon] theorem N28_sIn (a : Fin k0_t3_loop.trips) (b : Fin k0_t4_loop.trips) (h : kk a.val b.val + 6 < 84) (hh hs) : (ibM.slice (Rect.unit (s := S6x7168x128) (k0_off28 a b) S1x7168x128.size hh) hs).squeeze S7168x128 squeezes_S1x7168x128_S7168x128 = sIn (Ring.sl 6 (kk a.val b.val)) := sIn_congr (off28_eq a b h) _ _
theorem off29_eq : ∀ (a : Fin k0_t3_loop.trips) (b : Fin k0_t4_loop.trips), kk a.val b.val + 6 < 84 → k0_off29 a b = tileOff (Ring.bk 84 (kk a.val b.val + 6)) := by decide +kernel
@[sl_canon] theorem N29_tIn (a : Fin k0_t3_loop.trips) (b : Fin k0_t4_loop.trips) (h : kk a.val b.val + 6 < 84) (hh hs) : xM.slice (Rect.unit (s := S21504x3584) (k0_off29 a b) S7168x128.size hh) hs = tIn (Ring.bk 84 (kk a.val b.val + 6)) := tIn_congr (off29_eq a b h) _ _
theorem off30_eq : ∀ (a : Fin k0_t3_loop.trips), k0_off30 a = ![a.val + 1, 0] := by decide +kernel
instance (a : Fin k0_t3_loop.trips) : ClosedOff (k0_off30 a) := ⟨![a.val + 1, 0], off30_eq a⟩

/-! ### The last loop -/

theorem off31_eq : ∀ (k : Fin k0_t5_loop.trips), k0_off31 k = semOff (Ring.sl 6 (o5 k.val)) := by decide +kernel
@[sl_canon] theorem N31_cOut (k : Fin k0_t5_loop.trips) (hh) : (cc0_scratch8.slice (Rect.unit (s := S6) (k0_off31 k) S1.size hh)).squeeze S_ squeezes_S1_S_ = cOut (Ring.sl 6 (o5 k.val)) := cOut_congr (off31_eq k) _
theorem off32_eq : ∀ (k : Fin k0_t5_loop.trips), k0_off32 k = tileOff (Ring.bk 84 (o5 k.val - 6)) := by decide +kernel
@[sl_canon] theorem N32_tOut (k : Fin k0_t5_loop.trips) (hh hs) : yM.slice (Rect.unit (s := S21504x3584) (k0_off32 k) S7168x128.size hh) hs = tOut (Ring.bk 84 (o5 k.val - 6)) := tOut_congr (off32_eq k) _ _
theorem off33_eq : ∀ (k : Fin k0_t5_loop.trips), k0_off33 k = slotOff (Ring.sl 6 (o5 k.val)) := by decide +kernel
@[sl_canon] theorem N33_sOut (k : Fin k0_t5_loop.trips) (hh hs) : (obM.slice (Rect.unit (s := S6x7168x128) (k0_off33 k) S1x7168x128.size hh) hs).squeeze S7168x128 squeezes_S1x7168x128_S7168x128 = sOut (Ring.sl 6 (o5 k.val)) := sOut_congr (off33_eq k) _ _
theorem off34_eq : ∀ (k : Fin k0_t5_loop.trips), k0_off34 k = ![3584 * k.val, 0] := by decide +kernel
instance (k : Fin k0_t5_loop.trips) : ClosedOff (k0_off34 k) := ⟨![3584 * k.val, 0], off34_eq k⟩
theorem off35_eq : ∀ (k : Fin k0_t5_loop.trips), k0_off35 k = slotOff (Ring.sl 6 (o5 k.val)) := by decide +kernel
instance (k : Fin k0_t5_loop.trips) : ClosedOff (k0_off35 k) := ⟨slotOff (Ring.sl 6 (o5 k.val)), off35_eq k⟩
theorem off36_eq : ∀ (k : Fin k0_t5_loop.trips), k0_off36 k = semOff (Ring.sl 6 (o5 k.val)) := by decide +kernel
@[sl_canon] theorem N36_cOut (k : Fin k0_t5_loop.trips) (hh) : (cc0_scratch8.slice (Rect.unit (s := S6) (k0_off36 k) S1.size hh)).squeeze S_ squeezes_S1_S_ = cOut (Ring.sl 6 (o5 k.val)) := cOut_congr (off36_eq k) _
theorem off37_eq : ∀ (k : Fin k0_t5_loop.trips), k0_off37 k = tileOff (Ring.bk 84 (o5 k.val)) := by decide +kernel
@[sl_canon] theorem N37_tOut (k : Fin k0_t5_loop.trips) (hh hs) : yM.slice (Rect.unit (s := S21504x3584) (k0_off37 k) S7168x128.size hh) hs = tOut (Ring.bk 84 (o5 k.val)) := tOut_congr (off37_eq k) _ _
theorem off38_eq : ∀ (k : Fin k0_t5_loop.trips), k0_off38 k = slotOff (Ring.sl 6 (o5 k.val)) := by decide +kernel
@[sl_canon] theorem N38_sOut (k : Fin k0_t5_loop.trips) (hh hs) : (obM.slice (Rect.unit (s := S6x7168x128) (k0_off38 k) S1x7168x128.size hh) hs).squeeze S7168x128 squeezes_S1x7168x128_S7168x128 = sOut (Ring.sl 6 (o5 k.val)) := sOut_congr (off38_eq k) _ _

end Cert.Proof.Kernel

end
-- ==== Proof.Kernel.Pieces.lean ====
/-
  What the kernel of `Kernel.lean` holds between two trips of its loops: the inbound ring before item `k`, the outbound ring
  before item `o`, its scratch buffers at anything, the waits it owes.
-/
module

public import proofs.«01_k».proof.Proof.Kernel.Names

@[expose] public section

noncomputable section

namespace Cert.Proof.Kernel

open Cert.Kernel Cert.Kernel.Gen Cert.Proof.Rings
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [BitOps F]

/-- The pipeline library's algebra beside the counters the kernel's own transfers ride on. -/
abbrev UU (nD : Nat) (τ : Topo) : Type := UR sig nD τ × Counters
local notation "𝕄" => MT nD τ sig Unit (Elt F) ℕ (UU nD τ) ℕ
abbrev EP : Emb (UR sig nD τ) (MT nD τ sig Unit (Elt F) ℕ (UU nD τ) ℕ) := embL
abbrev 𝒱₀ : Variants := Variants.none

section Pieces
variable (c : Dev nD) (XA : Buf (Elt F) (xM.view.loc (c : Thread nD τ))) (GA : Buf (Elt F) (gM.view.loc (c : Thread nD τ)))

/-! ### Inbound -/

abbrev cInP (s : Fin 6) : sProp 𝕄 := semVal ((c : Thread nD τ), SemLoc.dma (cIn s).sem) 0
abbrev sInP (s : Fin 6) (f : Buf (Elt F) ((sIn s).view.loc (c : Thread nD τ))) : sProp 𝕄 :=
  (sIn s).view.loc (c : Thread nD τ) ↦[(sIn s).view.set]{fullShare} f
/-- Tile `b` of the codes home, at the codes' contents. -/
abbrev tInP (b : Fin 84) : sProp 𝕄 := (tIn b).view.loc (c : Thread nD τ) ↦[(tIn b).view.set]{fullShare} XA
/-- Tile `b`'s codes. -/
abbrev pIn (b : Fin 84) : S7168x128.Idx → Elt F .fp8e4m3 := ReadAs.same.apply ((tIn b).view.read (Elt F) XA)
/-- What tile `b`'s transfer leaves in slot `s`. -/
abbrev landIn (s : Fin 6) (b : Fin 84) (f : Buf (Elt F) ((sIn s).view.loc (c : Thread nD τ))) : Buf (Elt F) ((sIn s).view.loc (c : Thread nD τ)) :=
  (sIn s).view.writes (Elt F) f [⟨Rect.whole S7168x128, pIn c XA b⟩]
abbrev flIn (s : Fin 6) (b : Fin 84) (f : Buf (Elt F) ((sIn s).view.loc (c : Thread nD τ))) : sProp 𝕄 :=
  Transfers.Flight countersEmb (c : Thread nD τ) (SemLoc.dma (cIn s).sem) () 28672 iprop(sInP c s (landIn c XA s b f) ∗ tInP c XA b)
abbrev inflIn (s : Fin 6) (b : Fin 84) : sProp 𝕄 := iprop(∃ f, flIn c XA s b f)
abbrev freeIn (s : Fin 6) : sProp 𝕄 := iprop((∃ f, sInP (F := F) c s f) ∗ cInP c s)

/-- A transfer into slot `s` over what the transfer before it left there, as the executor states it. -/
theorem flIn_after (s : Fin 6) (b b' : Fin 84) :
    flIn c XA s b' ((sIn s).view.writes (Elt F) (sIn s).view.junk [⟨Rect.whole S7168x128, pIn c XA b⟩])
      = Transfers.Flight countersEmb (c : Thread nD τ) (SemLoc.dma (cIn s).sem) () 28672
          iprop(((sIn s).view.loc (c : Thread nD τ) ↦[(sIn s).view.set]{fullShare}
                  (sIn s).view.writes (Elt F) (sIn s).view.junk [⟨Rect.whole S7168x128, pIn c XA b'⟩, ⟨Rect.whole S7168x128, pIn c XA b⟩])
                ∗ tInP c XA b') := by
  simp only [flIn, landIn, sInP, View.writes]

/-! ### Outbound -/

abbrev cOutP (s : Fin 6) : sProp 𝕄 := semVal ((c : Thread nD τ), SemLoc.dma (cOut s).sem) 0
abbrev sOutP (s : Fin 6) (f : Buf (Elt F) ((sOut s).view.loc (c : Thread nD τ))) : sProp 𝕄 :=
  (sOut s).view.loc (c : Thread nD τ) ↦[(sOut s).view.set]{fullShare} f
abbrev tOutP (b : Fin 84) (f : Buf (Elt F) ((tOut b).view.loc (c : Thread nD τ))) : sProp 𝕄 :=
  (tOut b).view.loc (c : Thread nD τ) ↦[(tOut b).view.set]{fullShare} f
/-- Slot `s`, holding `g`, on its way to tile `b` of the result. -/
abbrev flOut (s : Fin 6) (b : Fin 84) (f : Buf (Elt F) ((tOut b).view.loc (c : Thread nD τ))) (g : Buf (Elt F) ((sOut s).view.loc (c : Thread nD τ))) : sProp 𝕄 :=
  Transfers.Flight countersEmb (c : Thread nD τ) (SemLoc.dma (cOut s).sem) () 28672
    iprop(tOutP c b ((tOut b).view.writes (Elt F) f [⟨Rect.whole S7168x128, ReadAs.same.apply ((sOut s).view.read (Elt F) g)⟩]) ∗ sOutP c s g)
abbrev inflOut (s : Fin 6) (b : Fin 84) : sProp 𝕄 := iprop(∃ f g, flOut (F := F) c s b f g)
abbrev freeOut (s : Fin 6) : sProp 𝕄 := iprop((∃ f, sOutP (F := F) c s f) ∗ cOutP c s)
abbrev homeOut (b : Fin 84) : sProp 𝕄 := iprop(∃ f, tOutP (F := F) c b f)

/-! ### The scales -/

abbrev cGP (j : Fin 3) : sProp 𝕄 := semVal ((c : Thread nD τ), SemLoc.dma (cG j).sem) 0
abbrev gStP (j : Fin 3) (f : Buf (Elt F) ((gSt j).view.loc (c : Thread nD τ))) : sProp 𝕄 :=
  (gSt j).view.loc (c : Thread nD τ) ↦[(gSt j).view.set]{fullShare} f
abbrev gInP (j : Fin 3) : sProp 𝕄 := (gIn j).view.loc (c : Thread nD τ) ↦[(gIn j).view.set]{fullShare} GA
abbrev pG (j : Fin 3) : S7x28x1024.Idx → Elt F .f32 := ReadAs.same.apply ((gIn j).view.read (Elt F) GA)
abbrev landG (j : Fin 3) (f : Buf (Elt F) ((gSt j).view.loc (c : Thread nD τ))) : Buf (Elt F) ((gSt j).view.loc (c : Thread nD τ)) :=
  (gSt j).view.writes (Elt F) f [⟨Rect.whole S7x28x1024, pG c GA j⟩]
abbrev flG (j : Fin 3) (f : Buf (Elt F) ((gSt j).view.loc (c : Thread nD τ))) : sProp 𝕄 :=
  Transfers.Flight countersEmb (c : Thread nD τ) (SemLoc.dma (cG j).sem) () 25088 iprop(gStP c j (landG c GA j f) ∗ gInP c GA j)
/-- Piece `j` in flight, or staged. -/
abbrev inflG (j : Fin 3) : sProp 𝕄 := iprop(∃ f, flG c GA j f)
abbrev doneG (j : Fin 3) : sProp 𝕄 := iprop((∃ f, gStP (F := F) c j f) ∗ gInP c GA j ∗ cGP c j)
/-- The scales before trip `k` of the first loop. -/
@[irreducible] def scalesAt (k : ℕ) : sProp 𝕄 := bigSep Finset.univ fun j : Fin 3 => if j.val < k then doneG c GA j else inflG c GA j

/-! ### All of it -/

abbrev xbP (f : Buf (Elt F) (xbM.view.loc (c : Thread nD τ))) : sProp 𝕄 := xbM.view.loc (c : Thread nD τ) ↦[xbM.view.set]{fullShare} f
abbrev sbP (f : Buf (Elt F) (sbM.view.loc (c : Thread nD τ))) : sProp 𝕄 := sbM.view.loc (c : Thread nD τ) ↦[sbM.view.set]{fullShare} f
abbrev amP (f : Buf (Elt F) (amM.view.loc (c : Thread nD τ))) : sProp 𝕄 := amM.view.loc (c : Thread nD τ) ↦[amM.view.set]{fullShare} f
abbrev ivP (f : Buf (Elt F) (ivM.view.loc (c : Thread nD τ))) : sProp 𝕄 := ivM.view.loc (c : Thread nD τ) ↦[ivM.view.set]{fullShare} f
abbrev iRing (k : ℕ) : sProp 𝕄 := inRing (tInP c XA) (inflIn c XA) (freeIn c) k
abbrev oRing (o : ℕ) : sProp 𝕄 := outRing (homeOut (F := F) c) (homeOut c) (inflOut c) (freeOut c) o

/-- Before the item `k` comes in and the item `o` goes out. -/
def res (k o : ℕ) : sProp 𝕄 :=
  iprop(iRing c XA k ∗ oRing (F := F) c o ∗ (∃ f, xbP (F := F) c f) ∗ (∃ f, sbP (F := F) c f) ∗ (∃ f, amP (F := F) c f) ∗ (∃ f, ivP (F := F) c f)
    ∗ ∃ W, owes (c : Thread nD τ) 0 W)

end Pieces

end Cert.Proof.Kernel

end
-- ==== Proof.Kernel.Middle.lean ====
/-
  A trip of the middle loops: item `k` comes in, item `o` goes out.
-/
module

public import proofs.«01_k».proof.Proof.Kernel.Pieces

@[expose] public section

noncomputable section

namespace Cert.Proof.Kernel

open Cert.Kernel Cert.Kernel.Gen Cert.Proof.Rings
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [BitOps F]

local notation "𝕄" => MT nD τ sig Unit (Elt F) ℕ (UU nD τ) ℕ

section Trip
variable (c : Dev nD) (XA : Buf (Elt F) (xM.view.loc (c : Thread nD τ))) (GA : Buf (Elt F) (gM.view.loc (c : Thread nD τ)))
  (arg3 : Memref sig .tc .vmem S28x128 .f32) (harg3 : arg3.IsWhole)

abbrev body4 (a : Fin k0_t3_loop.trips) (w : BitVec 32) (b : Fin k0_t4_loop.trips) : Prog (TpuEff nD τ sig (Elt F) Λ₀ .tc) Unit :=
  k0_t4_body (F := F) xM (Memref.isWhole_whole _) gM (Memref.isWhole_whole _) yM (Memref.isWhole_whole _) arg3 harg3 ibM (Memref.isWhole_whole _) obM (Memref.isWhole_whole _) xbM (Memref.isWhole_whole _) sgM (Memref.isWhole_whole _) sbM (Memref.isWhole_whole _) amM (Memref.isWhole_whole _) ivM (Memref.isWhole_whole _) cc0_scratch7 cc0_scratch8 cc0_scratch9 a w b ()

set_option maxHeartbeats 2000000 in
set_option backward.proofsInPublic true in
theorem step4 (a : Fin k0_t3_loop.trips) (w : BitVec 32) (b : Fin k0_t4_loop.trips) :
    res c XA (kk a.val b.val) (oo a.val b.val) ⊢ wp Idealize.ShloMosaic.frame (wpE (defs₀ (F := F)) 𝒱₀ (c : Thread nD τ) none) Set.univ (body4 (F := F) arg3 harg3 a w b)
      (fun _ => res c XA (kk a.val (b.val + 1)) (oo a.val (b.val + 1))) := by
  have ha : a.val < 27 := Nat.lt_of_lt_of_eq a.isLt (by decide)
  have hb : b.val < 3 := Nat.lt_of_lt_of_eq b.isLt (by decide)
  have hk : kk a.val b.val < 84 := by unfold kk; omega
  have ho : oo a.val b.val < 84 := by unfold oo; omega
  rw [show kk a.val (b.val + 1) = kk a.val b.val + 1 from rfl, show oo a.val (b.val + 1) = oo a.val b.val + 1 from rfl]
  unfold res
  by_cases h2 : 6 ≤ oo a.val b.val
  · have h2' := (cond2_iff a b).2 h2
    by_cases h3 : kk a.val b.val + 6 < 84
    · have h3' := (cond3_iff a b).2 h3
      iintro ⟨HI, HO, ⟨%fx, Hx⟩, ⟨%fs, Hs⟩, ⟨%fa, Ha⟩, ⟨%fi, Hi⟩, ⟨%W, HW⟩⟩
      ihave HI' := (inRing_open (tInP c XA) (inflIn c XA) (freeIn c) _ h3) $$ HI
      icases HI' with ⟨⟨%f0, HF⟩, Hn, HIr⟩
      ihave HO' := (outRing_open (homeOut (F := F) c) (homeOut c) (inflOut c) (freeOut c) _ h2 ho) $$ HO
      icases HO' with ⟨⟨%f1, %g1, HG⟩, ⟨%f2, Hd⟩, HOr⟩
      dsimp only [body4]
      sl_unfold [k0_t4_body]
      sl_exec
      sl_step
      isplitl [HF HF_src HIr]
      · iapply (inRing_close (tInP c XA) (inflIn c XA) (freeIn c) _ h3)
        isplitl [HF]
        · iexists ((sIn (Ring.sl 6 (kk a.val b.val))).view.writes (Elt F) (sIn (Ring.sl 6 (kk a.val b.val))).view.junk [⟨Rect.whole S7168x128, pIn c XA (Ring.bk 84 (kk a.val b.val))⟩])
          irw [flIn_after]
          iexact HF
        isplitl [HF_src]; · iexact HF_src
        iexact HIr
      isplitl [HG HG_dst HOr]
      · iapply (outRing_close (homeOut (F := F) c) (homeOut c) (inflOut c) (freeOut c) _ h2 ho)
        isplitl [HG]; · iexists f2; iexists _; iexact HG
        isplitl [HG_dst]; · iexists _; iexact HG_dst
        iexact HOr
      isplitl [Hx]; · iexists _; iexact Hx
      isplitl [Hs]; · iexists _; iexact Hs
      isplitl [Ha]; · iexists _; iexact Ha
      isplitl [Hi]; · iexists _; iexact Hi
      iexists _; iexact HW
    · have h3' : ¬ k0_cond3 a b = 1#1 := fun h => h3 ((cond3_iff a b).1 h)
      iintro ⟨HI, HO, ⟨%fx, Hx⟩, ⟨%fs, Hs⟩, ⟨%fa, Ha⟩, ⟨%fi, Hi⟩, ⟨%W, HW⟩⟩
      ihave HI' := (inRing_openE (tInP c XA) (inflIn c XA) (freeIn c) _ hk) $$ HI
      icases HI' with ⟨⟨%f0, HF⟩, HIr⟩
      ihave HO' := (outRing_open (homeOut (F := F) c) (homeOut c) (inflOut c) (freeOut c) _ h2 ho) $$ HO
      icases HO' with ⟨⟨%f1, %g1, HG⟩, ⟨%f2, Hd⟩, HOr⟩
      dsimp only [body4]
      sl_unfold [k0_t4_body]
      sl_exec
      sl_step
      isplitl [HF HF_src HF_dst HIr]
      · iapply (inRing_closeE (tInP c XA) (inflIn c XA) (freeIn c) _ hk (by omega))
        isplitl [HF HF_dst]
        · isplitl [HF_dst]; · iexists _; iexact HF_dst
          iexact HF
        isplitl [HF_src]; · iexact HF_src
        iexact HIr
      isplitl [HG HG_dst HOr]
      · iapply (outRing_close (homeOut (F := F) c) (homeOut c) (inflOut c) (freeOut c) _ h2 ho)
        isplitl [HG]; · iexists f2; iexists _; iexact HG
        isplitl [HG_dst]; · iexists _; iexact HG_dst
        iexact HOr
      isplitl [Hx]; · iexists _; iexact Hx
      isplitl [Hs]; · iexists _; iexact Hs
      isplitl [Ha]; · iexists _; iexact Ha
      isplitl [Hi]; · iexists _; iexact Hi
      iexists _; iexact HW
  · have h2' : ¬ k0_cond2 a b = 1#1 := fun h => h2 ((cond2_iff a b).1 h)
    have h3 : kk a.val b.val + 6 < 84 := by unfold kk; unfold oo at h2; omega
    have h3' := (cond3_iff a b).2 h3
    · skip
      iintro ⟨HI, HO, ⟨%fx, Hx⟩, ⟨%fs, Hs⟩, ⟨%fa, Ha⟩, ⟨%fi, Hi⟩, ⟨%W, HW⟩⟩
      ihave HI' := (inRing_open (tInP c XA) (inflIn c XA) (freeIn c) _ h3) $$ HI
      icases HI' with ⟨⟨%f0, HF⟩, Hn, HIr⟩
      ihave HO' := (outRing_openF (homeOut (F := F) c) (homeOut c) (inflOut c) (freeOut c) _ (by omega)) $$ HO
      icases HO' with ⟨⟨⟨%g1, Hsl⟩, HG⟩, ⟨%f2, Hd⟩, HOr⟩
      dsimp only [body4]
      sl_unfold [k0_t4_body]
      sl_exec
      sl_step
      isplitl [HF HF_src HIr]
      · iapply (inRing_close (tInP c XA) (inflIn c XA) (freeIn c) _ h3)
        isplitl [HF]
        · iexists ((sIn (Ring.sl 6 (kk a.val b.val))).view.writes (Elt F) (sIn (Ring.sl 6 (kk a.val b.val))).view.junk [⟨Rect.whole S7168x128, pIn c XA (Ring.bk 84 (kk a.val b.val))⟩])
          irw [flIn_after]
          iexact HF
        isplitl [HF_src]; · iexact HF_src
        iexact HIr
      isplitl [HG HOr]
      · iapply (outRing_closeF (homeOut (F := F) c) (homeOut c) (inflOut c) (freeOut c) _ (by omega))
        isplitl [HG]; · iexists f2; iexists _; iexact HG
        iexact HOr
      isplitl [Hx]; · iexists _; iexact Hx
      isplitl [Hs]; · iexists _; iexact Hs
      isplitl [Ha]; · iexists _; iexact Ha
      isplitl [Hi]; · iexists _; iexact Hi
      iexists _; iexact HW

end Trip

end Cert.Proof.Kernel

end
-- ==== Proof.Kernel.Loops.lean ====
/-
  The loops' invariants: the staged scales, the first block's items, the middle blocks, the last block's results.
-/
module

public import proofs.«01_k».proof.Proof.Kernel.Middle

@[expose] public section

noncomputable section

namespace Cert.Proof.Kernel

open Cert.Kernel Cert.Kernel.Gen Cert.Proof.Rings
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [BitOps F]

local notation "𝕄" => MT nD τ sig Unit (Elt F) ℕ (UU nD τ) ℕ

section Loops
variable (c : Dev nD) (XA : Buf (Elt F) (xM.view.loc (c : Thread nD τ))) (GA : Buf (Elt F) (gM.view.loc (c : Thread nD τ)))
  (arg3 : Memref sig .tc .vmem S28x128 .f32) (harg3 : arg3.IsWhole)

/-! ### The first loop: the scales staged, widened and packed -/

/-- What trip `k` of the first loop leaves alone. -/
def scalesRest (k : ℕ) : sProp 𝕄 :=
  bigSep (Finset.univ.erase (Ring.bk 3 k)) fun j : Fin 3 => if j.val < k then doneG c GA j else inflG c GA j

theorem scales_open (k : ℕ) (h : k < 3) : scalesAt c GA k ⊢ iprop(inflG c GA (Ring.bk 3 k) ∗ scalesRest c GA k) := by
  have hv : (Ring.bk 3 k).val = k := Ring.bk_val h
  have e : scalesAt c GA k = iprop(inflG c GA (Ring.bk 3 k) ∗ scalesRest c GA k) := by
    unfold scalesAt scalesRest
    conv_lhs => rw [← Finset.insert_erase (Finset.mem_univ (Ring.bk 3 k)), bigSep_insert (Finset.notMem_erase _ _)]
    rw [if_neg (by omega)]; rfl
  rw [e]
theorem scales_close (k : ℕ) (h : k < 3) : iprop(doneG c GA (Ring.bk 3 k) ∗ scalesRest c GA k) ⊢ scalesAt c GA (k + 1) := by
  have hv : (Ring.bk 3 k).val = k := Ring.bk_val h
  have e : scalesAt c GA (k + 1) = iprop(doneG c GA (Ring.bk 3 k) ∗ scalesRest c GA k) := by
    unfold scalesAt scalesRest
    conv_lhs => rw [← Finset.insert_erase (Finset.mem_univ (Ring.bk 3 k)), bigSep_insert (Finset.notMem_erase _ _)]
    rw [if_pos (by omega)]
    have e' : ∀ j ∈ Finset.univ.erase (Ring.bk 3 k), (if j.val < k + 1 then doneG c GA j else inflG c GA j) = (if j.val < k then doneG c GA j else inflG c GA j) := by
      intro j hj
      have hne : j.val ≠ k := fun h => (Finset.ne_of_mem_erase hj) (Fin.ext (h.trans hv.symm))
      by_cases h1 : j.val < k
      · rw [if_pos h1, if_pos (by omega)]
      · rw [if_neg h1, if_neg (by omega)]
    rw [bigSep_congr e']; rfl
  rw [e]

def res1 (k : ℕ) : sProp 𝕄 := iprop(scalesAt c GA k ∗ (∃ f, sbP (F := F) c f) ∗ ∃ W, owes (c : Thread nD τ) 0 W)

abbrev body1 (k : Fin k0_t1_loop.trips) : Prog (TpuEff nD τ sig (Elt F) Λ₀ .tc) Unit :=
  k0_t1_body (F := F) xM (Memref.isWhole_whole _) gM (Memref.isWhole_whole _) yM (Memref.isWhole_whole _) arg3 harg3 ibM (Memref.isWhole_whole _) obM (Memref.isWhole_whole _) xbM (Memref.isWhole_whole _) sgM (Memref.isWhole_whole _) sbM (Memref.isWhole_whole _) amM (Memref.isWhole_whole _) ivM (Memref.isWhole_whole _) cc0_scratch7 cc0_scratch8 cc0_scratch9 k ()

set_option maxHeartbeats 2000000 in
set_option backward.proofsInPublic true in
theorem step1 (k : Fin k0_t1_loop.trips) :
    res1 c GA k.val ⊢ wp Idealize.ShloMosaic.frame (wpE (defs₀ (F := F)) 𝒱₀ (c : Thread nD τ) none) Set.univ (body1 (F := F) arg3 harg3 k) (fun _ => res1 c GA (k.val + 1)) := by
  have hk : k.val < 3 := Nat.lt_of_lt_of_eq k.isLt (by decide)
  have hv : (Ring.bk 3 k.val).val = k.val := Ring.bk_val hk
  unfold res1
  iintro ⟨HS, ⟨%fs, Hs⟩, ⟨%W, HW⟩⟩
  ihave HS' := (scales_open c GA _ hk) $$ HS
  icases HS' with ⟨⟨%f0, HF⟩, HSr⟩
  dsimp only [body1]
  sl_unfold [k0_t1_body]
  sl_exec
  sl_step
  isplitl [HF HF_src HF_dst HSr]
  · iapply (scales_close c GA _ hk)
    isplitl [HF HF_src HF_dst]
    · isplitl [HF_dst]; · iexists _; iexact HF_dst
      isplitl [HF_src]; · iexact HF_src
      iexact HF
    iexact HSr
  isplitl [Hs]; · iexists _; iexact Hs
  iexists _; iexact HW

set_option warn.classDefReducibility false in
@[sl_loop] def loopInv1 : LoopInvTy_k0_t1 (F := F) Unit ℕ (UU nD τ) ℕ 𝒱₀ c none Set.univ xM (Memref.isWhole_whole _) gM (Memref.isWhole_whole _) yM (Memref.isWhole_whole _) arg3 harg3 ibM (Memref.isWhole_whole _) obM (Memref.isWhole_whole _) xbM (Memref.isWhole_whole _) sgM (Memref.isWhole_whole _) sbM (Memref.isWhole_whole _) amM (Memref.isWhole_whole _) ivM (Memref.isWhole_whole _) cc0_scratch7 cc0_scratch8 cc0_scratch9 where
  inv k _ := res1 c GA k
  step k _ := step1 c GA arg3 harg3 k

/-! ### The second loop: the first block's items -/

abbrev body2 (k : Fin k0_t2_loop.trips) : Prog (TpuEff nD τ sig (Elt F) Λ₀ .tc) Unit :=
  k0_t2_body (F := F) xM (Memref.isWhole_whole _) gM (Memref.isWhole_whole _) yM (Memref.isWhole_whole _) arg3 harg3 ibM (Memref.isWhole_whole _) obM (Memref.isWhole_whole _) xbM (Memref.isWhole_whole _) sgM (Memref.isWhole_whole _) sbM (Memref.isWhole_whole _) amM (Memref.isWhole_whole _) ivM (Memref.isWhole_whole _) cc0_scratch7 cc0_scratch8 cc0_scratch9 k ()

set_option maxHeartbeats 2000000 in
set_option backward.proofsInPublic true in
theorem step2 (k : Fin k0_t2_loop.trips) :
    res c XA k.val 0 ⊢ wp Idealize.ShloMosaic.frame (wpE (defs₀ (F := F)) 𝒱₀ (c : Thread nD τ) none) Set.univ (body2 (F := F) arg3 harg3 k) (fun _ => res c XA (k.val + 1) 0) := by
  have hk : k.val < 3 := Nat.lt_of_lt_of_eq k.isLt (by decide)
  have h3 : k.val + 6 < 84 := by omega
  have h3' := cond1_eq k
  unfold res
  iintro ⟨HI, HO, ⟨%fx, Hx⟩, ⟨%fs, Hs⟩, ⟨%fa, Ha⟩, ⟨%fi, Hi⟩, ⟨%W, HW⟩⟩
  ihave HI' := (inRing_open (tInP c XA) (inflIn c XA) (freeIn c) _ h3) $$ HI
  icases HI' with ⟨⟨%f0, HF⟩, Hn, HIr⟩
  dsimp only [body2]
  sl_unfold [k0_t2_body]
  sl_exec
  sl_step
  isplitl [HF HF_src HIr]
  · iapply (inRing_close (tInP c XA) (inflIn c XA) (freeIn c) _ h3)
    isplitl [HF]
    · iexists ((sIn (Ring.sl 6 k.val)).view.writes (Elt F) (sIn (Ring.sl 6 k.val)).view.junk [⟨Rect.whole S7168x128, pIn c XA (Ring.bk 84 k.val)⟩])
      irw [flIn_after]
      iexact HF
    isplitl [HF_src]; · iexact HF_src
    iexact HIr
  isplitl [HO]; · iexact HO
  isplitl [Hx]; · iexists _; iexact Hx
  isplitl [Hs]; · iexists _; iexact Hs
  isplitl [Ha]; · iexists _; iexact Ha
  isplitl [Hi]; · iexists _; iexact Hi
  iexists _; iexact HW

set_option warn.classDefReducibility false in
@[sl_loop] def loopInv2 : LoopInvTy_k0_t2 (F := F) Unit ℕ (UU nD τ) ℕ 𝒱₀ c none Set.univ xM (Memref.isWhole_whole _) gM (Memref.isWhole_whole _) yM (Memref.isWhole_whole _) arg3 harg3 ibM (Memref.isWhole_whole _) obM (Memref.isWhole_whole _) xbM (Memref.isWhole_whole _) sgM (Memref.isWhole_whole _) sbM (Memref.isWhole_whole _) amM (Memref.isWhole_whole _) ivM (Memref.isWhole_whole _) cc0_scratch7 cc0_scratch8 cc0_scratch9 where
  inv k _ := res c XA k 0
  step k _ := step2 c XA arg3 harg3 k

/-! ### The middle loops -/

set_option warn.classDefReducibility false in
@[sl_loop] def loopInv4 (a : Fin k0_t3_loop.trips) (w : BitVec 32) : LoopInvTy_k0_t4 (F := F) Unit ℕ (UU nD τ) ℕ 𝒱₀ c none Set.univ xM (Memref.isWhole_whole _) gM (Memref.isWhole_whole _) yM (Memref.isWhole_whole _) arg3 harg3 ibM (Memref.isWhole_whole _) obM (Memref.isWhole_whole _) xbM (Memref.isWhole_whole _) sgM (Memref.isWhole_whole _) sbM (Memref.isWhole_whole _) amM (Memref.isWhole_whole _) ivM (Memref.isWhole_whole _) cc0_scratch7 cc0_scratch8 cc0_scratch9 a w where
  inv b _ := res c XA (kk a.val b) (oo a.val b)
  step b _ := step4 c XA arg3 harg3 a w b

abbrev scP (f : Buf (Elt F) (arg3.view.loc (c : Thread nD τ))) : sProp 𝕄 := arg3.view.loc (c : Thread nD τ) ↦[arg3.view.set]{fullShare} f

def res3 (a : ℕ) : sProp 𝕄 := iprop(res c XA (kk a 0) (oo a 0) ∗ ∃ f, scP (F := F) c arg3 f)

abbrev body3 (a : Fin k0_t3_loop.trips) : Prog (TpuEff nD τ sig (Elt F) Λ₀ .tc) Unit :=
  k0_t3_body (F := F) xM (Memref.isWhole_whole _) gM (Memref.isWhole_whole _) yM (Memref.isWhole_whole _) arg3 harg3 ibM (Memref.isWhole_whole _) obM (Memref.isWhole_whole _) xbM (Memref.isWhole_whole _) sgM (Memref.isWhole_whole _) sbM (Memref.isWhole_whole _) amM (Memref.isWhole_whole _) ivM (Memref.isWhole_whole _) cc0_scratch7 cc0_scratch8 cc0_scratch9 a ()

theorem kk_next (a : ℕ) : kk a k0_t4_loop.trips = kk (a + 1) 0 := by
  have e : k0_t4_loop.trips = 3 := by decide
  rw [e]; unfold kk; omega
theorem oo_next (a : ℕ) : oo a k0_t4_loop.trips = oo (a + 1) 0 := by
  have e : k0_t4_loop.trips = 3 := by decide
  rw [e]; unfold oo; omega

set_option maxHeartbeats 2000000 in
set_option backward.proofsInPublic true in
theorem step3 (a : Fin k0_t3_loop.trips) :
    res3 c XA arg3 a.val ⊢ wp Idealize.ShloMosaic.frame (wpE (defs₀ (F := F)) 𝒱₀ (c : Thread nD τ) none) Set.univ (body3 (F := F) arg3 harg3 a) (fun _ => res3 c XA arg3 (a.val + 1)) := by
  unfold res3 res
  iintro ⟨⟨HI, HO, ⟨%fx, Hx⟩, ⟨%fs, Hs⟩, ⟨%fa, Ha⟩, ⟨%fi, Hi⟩, ⟨%W, HW⟩⟩, ⟨%f3, H3⟩⟩
  dsimp only [body3]
  sl_unfold [k0_t3_body]
  sl_exec
  sl_step
  isplitr [H3]
  · isplitl [HI]; · iapply (entails_of_eq (congrArg (iRing c XA) (kk_next a.val))); iexact HI
    isplitl [HO]; · iapply (entails_of_eq (congrArg (oRing (F := F) c) (oo_next a.val))); iexact HO
    isplitl [Hx]; · iexists _; iexact Hx
    isplitl [Hs]; · iexists _; iexact Hs
    isplitl [Ha]; · iexists _; iexact Ha
    isplitl [Hi]; · iexists _; iexact Hi
    iexists _; iexact HW
  iexists _; iexact H3

set_option warn.classDefReducibility false in
@[sl_loop] def loopInv3 : LoopInvTy_k0_t3 (F := F) Unit ℕ (UU nD τ) ℕ 𝒱₀ c none Set.univ xM (Memref.isWhole_whole _) gM (Memref.isWhole_whole _) yM (Memref.isWhole_whole _) arg3 harg3 ibM (Memref.isWhole_whole _) obM (Memref.isWhole_whole _) xbM (Memref.isWhole_whole _) sgM (Memref.isWhole_whole _) sbM (Memref.isWhole_whole _) amM (Memref.isWhole_whole _) ivM (Memref.isWhole_whole _) cc0_scratch7 cc0_scratch8 cc0_scratch9 where
  inv a _ := res3 c XA arg3 a
  step a _ := step3 c XA arg3 harg3 a

/-! ### The last loop -/

abbrev body5 (k : Fin k0_t5_loop.trips) : Prog (TpuEff nD τ sig (Elt F) Λ₀ .tc) Unit :=
  k0_t5_body (F := F) xM (Memref.isWhole_whole _) gM (Memref.isWhole_whole _) yM (Memref.isWhole_whole _) arg3 harg3 ibM (Memref.isWhole_whole _) obM (Memref.isWhole_whole _) xbM (Memref.isWhole_whole _) sgM (Memref.isWhole_whole _) sbM (Memref.isWhole_whole _) amM (Memref.isWhole_whole _) ivM (Memref.isWhole_whole _) cc0_scratch7 cc0_scratch8 cc0_scratch9 k ()

set_option maxHeartbeats 2000000 in
set_option backward.proofsInPublic true in
theorem step5 (k : Fin k0_t5_loop.trips) :
    res c XA 84 (o5 k.val) ⊢ wp Idealize.ShloMosaic.frame (wpE (defs₀ (F := F)) 𝒱₀ (c : Thread nD τ) none) Set.univ (body5 (F := F) arg3 harg3 k) (fun _ => res c XA 84 (o5 (k.val + 1))) := by
  have hk : k.val < 3 := Nat.lt_of_lt_of_eq k.isLt (by decide)
  have h2 : 6 ≤ o5 k.val := by unfold o5; omega
  have ho : o5 k.val < 84 := by unfold o5; omega
  rw [show o5 (k.val + 1) = o5 k.val + 1 from rfl]
  unfold res
  iintro ⟨HI, HO, ⟨%fx, Hx⟩, ⟨%fs, Hs⟩, ⟨%fa, Ha⟩, ⟨%fi, Hi⟩, ⟨%W, HW⟩⟩
  ihave HO' := (outRing_open (homeOut (F := F) c) (homeOut c) (inflOut c) (freeOut c) _ h2 ho) $$ HO
  icases HO' with ⟨⟨%f1, %g1, HG⟩, ⟨%f2, Hd⟩, HOr⟩
  dsimp only [body5]
  sl_unfold [k0_t5_body]
  sl_exec
  sl_step
  isplitl [HI]; · iexact HI
  isplitl [HG HG_dst HOr]
  · iapply (outRing_close (homeOut (F := F) c) (homeOut c) (inflOut c) (freeOut c) _ h2 ho)
    isplitl [HG]; · iexists f2; iexists _; iexact HG
    isplitl [HG_dst]; · iexists _; iexact HG_dst
    iexact HOr
  isplitl [Hx]; · iexists _; iexact Hx
  isplitl [Hs]; · iexists _; iexact Hs
  isplitl [Ha]; · iexists _; iexact Ha
  isplitl [Hi]; · iexists _; iexact Hi
  iexists _; iexact HW

set_option warn.classDefReducibility false in
@[sl_loop] def loopInv5 : LoopInvTy_k0_t5 (F := F) Unit ℕ (UU nD τ) ℕ 𝒱₀ c none Set.univ xM (Memref.isWhole_whole _) gM (Memref.isWhole_whole _) yM (Memref.isWhole_whole _) arg3 harg3 ibM (Memref.isWhole_whole _) obM (Memref.isWhole_whole _) xbM (Memref.isWhole_whole _) sgM (Memref.isWhole_whole _) sbM (Memref.isWhole_whole _) amM (Memref.isWhole_whole _) ivM (Memref.isWhole_whole _) cc0_scratch7 cc0_scratch8 cc0_scratch9 where
  inv k _ := res c XA 84 (o5 k)
  step k _ := step5 c XA arg3 harg3 k

end Loops

end Cert.Proof.Kernel

end
-- ==== Proof.Kernel.Body.lean ====
/-
  The kernel's body: the rings primed, the five loops, the last six results waited for.
-/
module

public import proofs.«01_k».proof.Proof.Kernel.Loops

@[expose] public section

noncomputable section

namespace Cert.Proof.Kernel

open Cert.Kernel Cert.Kernel.Gen Cert.Proof.Rings
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [BitOps F]

local notation "𝕄" => MT nD τ sig Unit (Elt F) ℕ (UU nD τ) ℕ

section Body
variable (c : Dev nD) (XA : Buf (Elt F) (xM.view.loc (c : Thread nD τ))) (GA : Buf (Elt F) (gM.view.loc (c : Thread nD τ)))
  (arg3 : Memref sig .tc .vmem S28x128 .f32) (harg3 : arg3.IsWhole)

abbrev bodyG : Prog (TpuEff nD τ sig (Elt F) Λ₀ .tc) PUnit :=
  cc0_fp8_to_int8 (F := F) xM (Memref.isWhole_whole _) gM (Memref.isWhole_whole _) yM (Memref.isWhole_whole _) arg3 harg3 ibM (Memref.isWhole_whole _) obM (Memref.isWhole_whole _) xbM (Memref.isWhole_whole _) sgM (Memref.isWhole_whole _) sbM (Memref.isWhole_whole _) amM (Memref.isWhole_whole _) ivM (Memref.isWhole_whole _) cc0_scratch7 cc0_scratch8 cc0_scratch9

/-- What the body is handed and hands back, the owed waits apart: every tile of the codes and every piece of the scales
    home at its contents, every tile of the result at anything, every slot, every scratch buffer and every cell its own. -/
def keep : sProp 𝕄 :=
  iprop(bigSep Finset.univ (tInP c XA) ∗ bigSep Finset.univ (homeOut (F := F) c)
    ∗ (freeIn (F := F) c 0 ∗ freeIn (F := F) c 1 ∗ freeIn (F := F) c 2 ∗ freeIn (F := F) c 3 ∗ freeIn (F := F) c 4 ∗ freeIn (F := F) c 5)
    ∗ (freeOut (F := F) c 0 ∗ freeOut (F := F) c 1 ∗ freeOut (F := F) c 2 ∗ freeOut (F := F) c 3 ∗ freeOut (F := F) c 4 ∗ freeOut (F := F) c 5)
    ∗ (doneG c GA 0 ∗ doneG c GA 1 ∗ doneG c GA 2)
    ∗ (∃ f, xbP (F := F) c f) ∗ (∃ f, sbP (F := F) c f) ∗ (∃ f, amP (F := F) c f) ∗ (∃ f, ivP (F := F) c f))

theorem scales_zero : iprop(inflG c GA 0 ∗ inflG c GA 1 ∗ inflG c GA 2) ⊢ scalesAt c GA 0 := by
  unfold scalesAt
  rw [bigSep_univ_eq_bigSepL [(0 : Fin 3), (1 : Fin 3), (2 : Fin 3)] (by decide) (by decide)]
  exact .rfl
theorem scales_end : scalesAt c GA 3 ⊢ iprop(doneG c GA 0 ∗ doneG c GA 1 ∗ doneG c GA 2) := by
  unfold scalesAt
  rw [bigSep_univ_eq_bigSepL [(0 : Fin 3), (1 : Fin 3), (2 : Fin 3)] (by decide) (by decide)]
  exact .rfl

set_option maxHeartbeats 4000000 in
theorem bodyRun (W : Waits sig Unit) (Q : PUnit → sProp 𝕄) :
    iprop((keep c XA GA ∗ (∃ f, scP (F := F) c arg3 f) ∗ owes (c : Thread nD τ) 0 W)
        ∗ (keep c XA GA ∗ (∃ f, scP (F := F) c arg3 f) ∗ (∃ W', owes (c : Thread nD τ) 0 W') -∗ Q ⟨⟩))
      ⊢ wp Idealize.ShloMosaic.frame (wpE (defs₀ (F := F)) 𝒱₀ (c : Thread nD τ) none) Set.univ (bodyG (F := F) arg3 harg3) Q := by
  unfold keep
  rw [homes_zero (tInP c XA)]
  iintro ⟨⟨⟨⟨T0, T1, T2, T3, T4, T5, Hh⟩, HB, ⟨⟨⟨%i0, I0⟩, C0⟩, ⟨⟨%i1, I1⟩, C1⟩, ⟨⟨%i2, I2⟩, C2⟩, ⟨⟨%i3, I3⟩, C3⟩, ⟨⟨%i4, I4⟩, C4⟩, ⟨%i5, I5⟩, C5⟩,
    HFo, ⟨⟨⟨%s0, S0⟩, G0, D0⟩, ⟨⟨%s1, S1⟩, G1, D1⟩, ⟨%s2, S2⟩, G2, D2⟩, ⟨%fx, Hx⟩, ⟨%fs, Hs⟩, ⟨%fa, Ha⟩, ⟨%fi, Hi⟩⟩, ⟨%f3, H3⟩, HW⟩, Hk⟩
  (set_option sl_exec.stopBefore "k0_part14" in sl_exec)
  -- the prologue done: the rings and the scales before their first trips
  ihave HI := (inRing_zero (tInP c XA) (inflIn c XA) (freeIn c)) $$ [Hh C0 C1 C2 C3 C4 C5]
  · isplitl [Hh]; · iexact Hh
    isplitl [C0]; · iexists _; iexact C0
    isplitl [C1]; · iexists _; iexact C1
    isplitl [C2]; · iexists _; iexact C2
    isplitl [C3]; · iexists _; iexact C3
    isplitl [C4]; · iexists _; iexact C4
    iexists _; iexact C5
  ihave HO := (outRing_zero (homeOut (F := F) c) (homeOut c) (inflOut c) (freeOut c)) $$ [HB HFo]
  · isplitl [HB]; · iexact HB
    iexact HFo
  ihave HS := (scales_zero c GA) $$ [D0 D1 D2]
  · isplitl [D0]; · iexists _; iexact D0
    isplitl [D1]; · iexists _; iexact D1
    iexists _; iexact D2
  sl_exec
  -- the last six results waited for
  ihave HO := (entails_of_eq (congrArg (oRing (F := F) c) (show o5 (Scf.trips k0_t5_loop.lb k0_t5_loop.ub k0_t5_loop.st) = 84 from rfl))) $$ HO
  ihave HO := (outRing_end (homeOut (F := F) c) (homeOut c) (inflOut c) (freeOut c)) $$ HO
  icases HO with ⟨HB, ⟨%t0, %u0, F0⟩, ⟨%t1, %u1, F1⟩, ⟨%t2, %u2, F2⟩, ⟨%t3, %u3, F3⟩, ⟨%t4, %u4, F4⟩, ⟨%t5, %u5, F5⟩⟩
  sl_exec
  ihave HB := (behind_all (homeOut (F := F) c)) $$ [HB F0_dst F1_dst F2_dst F3_dst F4_dst F5_dst]
  · isplitl [F0_dst]; · iexists _; iexact F0_dst
    isplitl [F1_dst]; · iexists _; iexact F1_dst
    isplitl [F2_dst]; · iexists _; iexact F2_dst
    isplitl [F3_dst]; · iexists _; iexact F3_dst
    isplitl [F4_dst]; · iexists _; iexact F4_dst
    isplitl [F5_dst]; · iexists _; iexact F5_dst
    iexact HB
  ihave HI := (inRing_end (tInP c XA) (inflIn c XA) (freeIn c)) $$ HI
  icases HI with ⟨HA, I0, I1, I2, I3, I4, I5⟩
  ihave HS := (entails_of_eq (congrArg (scalesAt c GA) (show Scf.trips k0_t1_loop.lb k0_t1_loop.ub k0_t1_loop.st = 3 from rfl))) $$ HS
  ihave HS := (scales_end c GA) $$ HS
  icases HS with ⟨D0, D1, D2⟩
  rw [← homes_zero (tInP c XA), wp_ret]
  imodintro
  iapply Hk
  isplitr [H3 HW]
  · isplitl [HA]; · iexact HA
    isplitl [HB]; · iexact HB
    isplitl [I0 I1 I2 I3 I4 I5]
    · isplitl [I0]; · iexact I0
      isplitl [I1]; · iexact I1
      isplitl [I2]; · iexact I2
      isplitl [I3]; · iexact I3
      isplitl [I4]; · iexact I4
      iexact I5
    isplitl [F0 F0_src F1 F1_src F2 F2_src F3 F3_src F4 F4_src F5 F5_src]
    · isplitl [F0 F0_src]
      · isplitl [F0_src]; · iexists _; iexact F0_src
        iexact F0
      isplitl [F1 F1_src]
      · isplitl [F1_src]; · iexists _; iexact F1_src
        iexact F1
      isplitl [F2 F2_src]
      · isplitl [F2_src]; · iexists _; iexact F2_src
        iexact F2
      isplitl [F3 F3_src]
      · isplitl [F3_src]; · iexists _; iexact F3_src
        iexact F3
      isplitl [F4 F4_src]
      · isplitl [F4_src]; · iexists _; iexact F4_src
        iexact F4
      isplitl [F5_src]; · iexists _; iexact F5_src
      iexact F5
    isplitl [D0 D1 D2]
    · isplitl [D0]; · iexact D0
      isplitl [D1]; · iexact D1
      iexact D2
    isplitl [Hx]; · iexists _; iexact Hx
    isplitl [Hs]; · iexists _; iexact Hs
    isplitl [Ha]; · iexists _; iexact Ha
    iexists _; iexact Hi
  isplitl [H3]; · iexists _; iexact H3
  iexists _; iexact HW

end Body

end Cert.Proof.Kernel

end
-- ==== Proof.Kernel.Split.lean ====
/-
  The whole arrays as their tiles, slots and pieces: a buffer held whole is its blocks held one by one.
-/
module

public import proofs.«01_k».proof.Proof.Kernel.Body

@[expose] public section

noncomputable section

namespace Cert.Proof.Kernel

open Cert.Kernel Cert.Kernel.Gen Cert.Proof.Rings
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [BitOps F]

local notation "𝕄" => MT nD τ sig Unit (Elt F) ℕ (UU nD τ) ℕ

section Sets
abbrev TS (b : Fin 84) : Finset S21504x3584.Idx := (Rect.unit (s := S21504x3584) (tileOff b) S7168x128.size (tileOff_inb b)).set
abbrev LS (s : Fin 6) : Finset S6x7168x128.Idx := (Rect.unit (s := S6x7168x128) (slotOff s) S1x7168x128.size (slotOff_inb s)).set
abbrev PS (j : Fin 3) : Finset S21x28x1024.Idx := (Rect.unit (s := S21x28x1024) (gOff j) S7x28x1024.size (gOff_inb j)).set

theorem tIn_set (b : Fin 84) : (tIn b).view.set = TS b := View.set_slice_whole _ _
theorem tOut_set (b : Fin 84) : (tOut b).view.set = TS b := View.set_slice_whole _ _
theorem sIn_set (s : Fin 6) : (sIn s).view.set = LS s := (View.set_reshape _ _).trans (View.set_slice_whole _ _)
theorem sOut_set (s : Fin 6) : (sOut s).view.set = LS s := (View.set_reshape _ _).trans (View.set_slice_whole _ _)
theorem gIn_set (j : Fin 3) : (gIn j).view.set = PS j := View.set_slice_whole _ _
theorem gSt_set (j : Fin 3) : (gSt j).view.set = PS j := View.set_slice_whole _ _

theorem mem_TS (b : Fin 84) (y : S21504x3584.Idx) : y ∈ TS b ↔ (y 0).val / 7168 = b.val % 3 ∧ (y 1).val / 128 = b.val / 3 := by
  rw [Rect.mem_set_unit]
  constructor
  · intro H
    have a0 : 7168 * (b.val % 3) ≤ (y 0).val ∧ (y 0).val < 7168 * (b.val % 3) + 7168 := H 0
    have a1 : 128 * (b.val / 3) ≤ (y 1).val ∧ (y 1).val < 128 * (b.val / 3) + 128 := H 1
    omega
  · intro H i; fin_cases i
    · show 7168 * (b.val % 3) ≤ (y 0).val ∧ (y 0).val < 7168 * (b.val % 3) + 7168; omega
    · show 128 * (b.val / 3) ≤ (y 1).val ∧ (y 1).val < 128 * (b.val / 3) + 128; omega
theorem mem_LS (s : Fin 6) (y : S6x7168x128.Idx) : y ∈ LS s ↔ (y 0).val = s.val := by
  rw [Rect.mem_set_unit]
  have h1 : (y 1).val < 7168 := (y 1).isLt
  have h2 : (y 2).val < 128 := (y 2).isLt
  constructor
  · intro H; have a0 : s.val ≤ (y 0).val ∧ (y 0).val < s.val + 1 := H 0; omega
  · intro H i; fin_cases i
    · show s.val ≤ (y 0).val ∧ (y 0).val < s.val + 1; omega
    · show 0 ≤ (y 1).val ∧ (y 1).val < 0 + 7168; omega
    · show 0 ≤ (y 2).val ∧ (y 2).val < 0 + 128; omega
theorem mem_PS (j : Fin 3) (y : S21x28x1024.Idx) : y ∈ PS j ↔ (y 0).val / 7 = j.val := by
  rw [Rect.mem_set_unit]
  have h1 : (y 1).val < 28 := (y 1).isLt
  have h2 : (y 2).val < 1024 := (y 2).isLt
  constructor
  · intro H; have a0 : 7 * j.val ≤ (y 0).val ∧ (y 0).val < 7 * j.val + 7 := H 0; omega
  · intro H i; fin_cases i
    · show 7 * j.val ≤ (y 0).val ∧ (y 0).val < 7 * j.val + 7; omega
    · show 0 ≤ (y 1).val ∧ (y 1).val < 0 + 28; omega
    · show 0 ≤ (y 2).val ∧ (y 2).val < 0 + 1024; omega

/-- The tile an element of the array lies in. -/
def tileOf (y : S21504x3584.Idx) : Fin 84 :=
  ⟨3 * ((y 1).val / 128) + (y 0).val / 7168, by
    have h0 : (y 0).val < 21504 := (y 0).isLt
    have h1 : (y 1).val < 3584 := (y 1).isLt
    omega⟩
theorem mem_tileOf (y : S21504x3584.Idx) : y ∈ TS (tileOf y) := by
  have h0 : (y 0).val < 21504 := (y 0).isLt
  rw [mem_TS]; show _ = (3 * ((y 1).val / 128) + (y 0).val / 7168) % 3 ∧ _ = (3 * ((y 1).val / 128) + (y 0).val / 7168) / 3
  omega

theorem TS_disjoint : ∀ b b' : Fin 84, b ≠ b' → Disjoint (TS b) (TS b') := by
  intro b b' hne; rw [Finset.disjoint_left]; intro y hy hy'; rw [mem_TS] at hy hy'; exact hne (Fin.ext (by omega))
theorem TS_cover : (Finset.univ : Finset (Fin 84)).biUnion TS = Finset.univ := by
  ext y; simp only [Finset.mem_biUnion, Finset.mem_univ, true_and, iff_true]; exact ⟨tileOf y, mem_tileOf y⟩
theorem LS_disjoint : ∀ b b' : Fin 6, b ≠ b' → Disjoint (LS b) (LS b') := by
  intro b b' hne; rw [Finset.disjoint_left]; intro y hy hy'; rw [mem_LS] at hy hy'; exact hne (Fin.ext (by omega))
theorem LS_cover : (Finset.univ : Finset (Fin 6)).biUnion LS = Finset.univ := by
  ext y; simp only [Finset.mem_biUnion, Finset.mem_univ, true_and, iff_true]; exact ⟨(y 0).cast (by decide), by rw [mem_LS]; rfl⟩
theorem PS_disjoint : ∀ b b' : Fin 3, b ≠ b' → Disjoint (PS b) (PS b') := by
  intro b b' hne; rw [Finset.disjoint_left]; intro y hy hy'; rw [mem_PS] at hy hy'; exact hne (Fin.ext (by omega))
theorem PS_cover : (Finset.univ : Finset (Fin 3)).biUnion PS = Finset.univ := by
  ext y; simp only [Finset.mem_biUnion, Finset.mem_univ, true_and, iff_true]
  have h0 : (y 0).val < 21 := (y 0).isLt
  exact ⟨⟨(y 0).val / 7, by omega⟩, by rw [mem_PS]⟩
end Sets

section Split
variable (c : Dev nD)

theorem six (Φ : Fin 6 → sProp 𝕄) : bigSep Finset.univ Φ = iprop(Φ 0 ∗ Φ 1 ∗ Φ 2 ∗ Φ 3 ∗ Φ 4 ∗ Φ 5) :=
  bigSep_univ_eq_bigSepL [(0 : Fin 6), 1, 2, 3, 4, 5] (by decide) (by decide) Φ
theorem three (Φ : Fin 3 → sProp 𝕄) : bigSep Finset.univ Φ = iprop(Φ 0 ∗ Φ 1 ∗ Φ 2) :=
  bigSep_univ_eq_bigSepL [(0 : Fin 3), 1, 2] (by decide) (by decide) Φ

/-- The codes whole are their 84 tiles. -/
theorem codes_eq (f : Buf (Elt F) ((c : Thread nD τ).loc main_v0)) :
    (((c : Thread nD τ).loc main_v0) ↦{fullShare} f : sProp 𝕄) = bigSep Finset.univ (tInP (F := F) c f) := by
  rw [Ring.pointsTo_blocks (ℓ := (c : Thread nD τ).loc main_v0) TS TS_disjoint TS_cover]
  exact bigSep_congr fun b _ => by rw [← tIn_set]; rfl
/-- The result whole is its 84 tiles. -/
theorem result_eq (f : Buf (Elt F) ((c : Thread nD τ).loc main_v2_0)) :
    (((c : Thread nD τ).loc main_v2_0) ↦{fullShare} f : sProp 𝕄) = bigSep Finset.univ fun b => tOutP (F := F) c b f := by
  rw [Ring.pointsTo_blocks (ℓ := (c : Thread nD τ).loc main_v2_0) TS TS_disjoint TS_cover]
  exact bigSep_congr fun b _ => by rw [← tOut_set]; rfl
/-- The scales whole are their three pieces. -/
theorem scalesIn_eq (f : Buf (Elt F) ((c : Thread nD τ).loc main_v1)) :
    (((c : Thread nD τ).loc main_v1) ↦{fullShare} f : sProp 𝕄) = iprop(gInP (F := F) c f 0 ∗ gInP c f 1 ∗ gInP c f 2) := by
  rw [Ring.pointsTo_blocks (ℓ := (c : Thread nD τ).loc main_v1) PS PS_disjoint PS_cover,
    ← three (gInP (F := F) c f)]
  exact bigSep_congr fun b _ => by rw [← gIn_set]; rfl

theorem tOutP_eq (b : Fin 84) (f) : tOutP (F := F) c b f = (((c : Thread nD τ).loc main_v2_0) ↦[TS b]{fullShare} f : sProp 𝕄) :=
  congrArg (fun S => (_ ↦[S]{fullShare} f : sProp 𝕄)) (tOut_set b)
theorem sInP_eq (s : Fin 6) (f) : sInP (F := F) c s f = (((c : Thread nD τ).loc cc0_scratch0) ↦[LS s]{fullShare} f : sProp 𝕄) :=
  congrArg (fun S => (_ ↦[S]{fullShare} f : sProp 𝕄)) (sIn_set s)
theorem sOutP_eq (s : Fin 6) (f) : sOutP (F := F) c s f = (((c : Thread nD τ).loc cc0_scratch1) ↦[LS s]{fullShare} f : sProp 𝕄) :=
  congrArg (fun S => (_ ↦[S]{fullShare} f : sProp 𝕄)) (sOut_set s)
theorem gStP_eq (j : Fin 3) (f) : gStP (F := F) c j f = (((c : Thread nD τ).loc cc0_scratch3) ↦[PS j]{fullShare} f : sProp 𝕄) :=
  congrArg (fun S => (_ ↦[S]{fullShare} f : sProp 𝕄)) (gSt_set j)

/-- A buffer owned at anything is its blocks owned at anything, and back: the result, the two rings' buffers, the staged scales. -/
theorem out_split : iprop(∃ f : Buf (Elt F) ((c : Thread nD τ).loc main_v2_0), ((c : Thread nD τ).loc main_v2_0) ↦{fullShare} f)
    ⊢ bigSep Finset.univ (homeOut (F := F) c) := by
  iintro ⟨%f, H⟩
  ihave H := (entails_of_eq (result_eq c f)) $$ H
  have h : bigSep Finset.univ (fun b => tOutP (F := F) c b f) ⊢ bigSep Finset.univ (homeOut (F := F) c) :=
    bigSep_mono fun b _ => (by iintro H; iexists f; iexact H : tOutP (F := F) c b f ⊢ homeOut (F := F) c b)
  iapply h
  iexact H
theorem out_join : bigSep Finset.univ (homeOut (F := F) c)
    ⊢ (iprop(∃ f : Buf (Elt F) ((c : Thread nD τ).loc main_v2_0), ((c : Thread nD τ).loc main_v2_0) ↦{fullShare} f) : sProp 𝕄) := by
  have e : (homeOut (F := F) c) = fun b => iprop(∃ f, ((c : Thread nD τ).loc main_v2_0) ↦[TS b]{fullShare} f) := by
    funext b; unfold homeOut; simp only [tOutP_eq]; rfl
  rw [e]
  exact Ring.pointsTo_blocks_join_exists (ℓ := (c : Thread nD τ).loc main_v2_0) TS TS_disjoint TS_cover default

theorem inBuf_split : iprop(∃ f : Buf (Elt F) ((c : Thread nD τ).loc cc0_scratch0), ((c : Thread nD τ).loc cc0_scratch0) ↦{fullShare} f)
    ⊢ (iprop((∃ f, sInP (F := F) c 0 f) ∗ (∃ f, sInP (F := F) c 1 f) ∗ (∃ f, sInP (F := F) c 2 f) ∗ (∃ f, sInP (F := F) c 3 f) ∗ (∃ f, sInP (F := F) c 4 f) ∗ (∃ f, sInP (F := F) c 5 f)) : sProp 𝕄) := by
  iintro ⟨%f, H⟩
  rw [← six (fun s => iprop(∃ f, sInP (F := F) c s f))]
  ihave H := (entails_of_eq (Ring.pointsTo_blocks (Ix := Unit) (Name := ℕ) (U := UU nD τ) (Lvl := ℕ) (q := fullShare) (ℓ := (c : Thread nD τ).loc cc0_scratch0) LS LS_disjoint LS_cover f)) $$ H
  have h : bigSep Finset.univ (fun s => (((c : Thread nD τ).loc cc0_scratch0) ↦[LS s]{fullShare} f : sProp 𝕄))
      ⊢ bigSep Finset.univ (fun s => iprop(∃ f, sInP (F := F) c s f)) :=
    bigSep_mono fun s _ => (by iintro H; iexists f; iapply (entails_of_eq (sInP_eq c s f).symm); iexact H :
      (((c : Thread nD τ).loc cc0_scratch0) ↦[LS s]{fullShare} f : sProp 𝕄) ⊢ iprop(∃ f, sInP (F := F) c s f))
  iapply h
  iexact H
theorem inBuf_join : iprop((∃ f, sInP (F := F) c 0 f) ∗ (∃ f, sInP (F := F) c 1 f) ∗ (∃ f, sInP (F := F) c 2 f) ∗ (∃ f, sInP (F := F) c 3 f) ∗ (∃ f, sInP (F := F) c 4 f) ∗ (∃ f, sInP (F := F) c 5 f))
    ⊢ (iprop(∃ f : Buf (Elt F) ((c : Thread nD τ).loc cc0_scratch0), ((c : Thread nD τ).loc cc0_scratch0) ↦{fullShare} f) : sProp 𝕄) := by
  have e : (fun s => iprop(∃ f, sInP (F := F) c s f)) = fun s => iprop(∃ f, ((c : Thread nD τ).loc cc0_scratch0) ↦[LS s]{fullShare} f) := by
    funext s; simp only [sInP_eq]; rfl
  rw [← six (fun s => iprop(∃ f, sInP (F := F) c s f)), e]
  exact Ring.pointsTo_blocks_join_exists (ℓ := (c : Thread nD τ).loc cc0_scratch0) LS LS_disjoint LS_cover default

theorem outBuf_split : iprop(∃ f : Buf (Elt F) ((c : Thread nD τ).loc cc0_scratch1), ((c : Thread nD τ).loc cc0_scratch1) ↦{fullShare} f)
    ⊢ (iprop((∃ f, sOutP (F := F) c 0 f) ∗ (∃ f, sOutP (F := F) c 1 f) ∗ (∃ f, sOutP (F := F) c 2 f) ∗ (∃ f, sOutP (F := F) c 3 f) ∗ (∃ f, sOutP (F := F) c 4 f) ∗ (∃ f, sOutP (F := F) c 5 f)) : sProp 𝕄) := by
  iintro ⟨%f, H⟩
  rw [← six (fun s => iprop(∃ f, sOutP (F := F) c s f))]
  ihave H := (entails_of_eq (Ring.pointsTo_blocks (Ix := Unit) (Name := ℕ) (U := UU nD τ) (Lvl := ℕ) (q := fullShare) (ℓ := (c : Thread nD τ).loc cc0_scratch1) LS LS_disjoint LS_cover f)) $$ H
  have h : bigSep Finset.univ (fun s => (((c : Thread nD τ).loc cc0_scratch1) ↦[LS s]{fullShare} f : sProp 𝕄))
      ⊢ bigSep Finset.univ (fun s => iprop(∃ f, sOutP (F := F) c s f)) :=
    bigSep_mono fun s _ => (by iintro H; iexists f; iapply (entails_of_eq (sOutP_eq c s f).symm); iexact H :
      (((c : Thread nD τ).loc cc0_scratch1) ↦[LS s]{fullShare} f : sProp 𝕄) ⊢ iprop(∃ f, sOutP (F := F) c s f))
  iapply h
  iexact H
theorem outBuf_join : iprop((∃ f, sOutP (F := F) c 0 f) ∗ (∃ f, sOutP (F := F) c 1 f) ∗ (∃ f, sOutP (F := F) c 2 f) ∗ (∃ f, sOutP (F := F) c 3 f) ∗ (∃ f, sOutP (F := F) c 4 f) ∗ (∃ f, sOutP (F := F) c 5 f))
    ⊢ (iprop(∃ f : Buf (Elt F) ((c : Thread nD τ).loc cc0_scratch1), ((c : Thread nD τ).loc cc0_scratch1) ↦{fullShare} f) : sProp 𝕄) := by
  have e : (fun s => iprop(∃ f, sOutP (F := F) c s f)) = fun s => iprop(∃ f, ((c : Thread nD τ).loc cc0_scratch1) ↦[LS s]{fullShare} f) := by
    funext s; simp only [sOutP_eq]; rfl
  rw [← six (fun s => iprop(∃ f, sOutP (F := F) c s f)), e]
  exact Ring.pointsTo_blocks_join_exists (ℓ := (c : Thread nD τ).loc cc0_scratch1) LS LS_disjoint LS_cover default

theorem stage_split : iprop(∃ f : Buf (Elt F) ((c : Thread nD τ).loc cc0_scratch3), ((c : Thread nD τ).loc cc0_scratch3) ↦{fullShare} f)
    ⊢ (iprop((∃ f, gStP (F := F) c 0 f) ∗ (∃ f, gStP (F := F) c 1 f) ∗ (∃ f, gStP (F := F) c 2 f)) : sProp 𝕄) := by
  iintro ⟨%f, H⟩
  rw [← three (fun s => iprop(∃ f, gStP (F := F) c s f))]
  ihave H := (entails_of_eq (Ring.pointsTo_blocks (Ix := Unit) (Name := ℕ) (U := UU nD τ) (Lvl := ℕ) (q := fullShare) (ℓ := (c : Thread nD τ).loc cc0_scratch3) PS PS_disjoint PS_cover f)) $$ H
  have h : bigSep Finset.univ (fun s => (((c : Thread nD τ).loc cc0_scratch3) ↦[PS s]{fullShare} f : sProp 𝕄))
      ⊢ bigSep Finset.univ (fun s => iprop(∃ f, gStP (F := F) c s f)) :=
    bigSep_mono fun s _ => (by iintro H; iexists f; iapply (entails_of_eq (gStP_eq c s f).symm); iexact H :
      (((c : Thread nD τ).loc cc0_scratch3) ↦[PS s]{fullShare} f : sProp 𝕄) ⊢ iprop(∃ f, gStP (F := F) c s f))
  iapply h
  iexact H
theorem stage_join : iprop((∃ f, gStP (F := F) c 0 f) ∗ (∃ f, gStP (F := F) c 1 f) ∗ (∃ f, gStP (F := F) c 2 f))
    ⊢ (iprop(∃ f : Buf (Elt F) ((c : Thread nD τ).loc cc0_scratch3), ((c : Thread nD τ).loc cc0_scratch3) ↦{fullShare} f) : sProp 𝕄) := by
  have e : (fun s => iprop(∃ f, gStP (F := F) c s f)) = fun s => iprop(∃ f, ((c : Thread nD τ).loc cc0_scratch3) ↦[PS s]{fullShare} f) := by
    funext s; simp only [gStP_eq]; rfl
  rw [← three (fun s => iprop(∃ f, gStP (F := F) c s f)), e]
  exact Ring.pointsTo_blocks_join_exists (ℓ := (c : Thread nD τ).loc cc0_scratch3) PS PS_disjoint PS_cover default

end Split

end Cert.Proof.Kernel

end
-- ==== Proof.Kernel.Launch.lean ====
/-
  The run of @main: the launch of the one region around the body's run, the argument arrays unchanged, every counter at zero.
-/
module

public import proofs.«01_k».proof.Proof.Kernel.Split
public import proofs.«01_k».proof.Proof.Gen.Kernel.Frame
public import Idealize.ShloMosaic.Lib.Pipeline.FrameSuffixR
public import Idealize.ShloMosaic.Lib.Pipeline.KitQuiescent

@[expose] public section

noncomputable section

namespace Cert.Proof.Kernel

open Cert.Kernel Cert.Kernel.Gen Cert.Proof.Rings
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [BitOps F]

local notation "𝕄" => MT nD τ sig Unit (Elt F) ℕ (UU nD τ) ℕ

variable (m : (ℓ : Loc nD τ sig) → Buf (Elt F) ℓ) (ρ : Dev nD → PrngReg)

abbrev osem : Fin 6 ⊕ Fin 6 ⊕ Fin 3 → SemLoc sig
  | .inl s => .dma (cIn s).sem
  | .inr (.inl s) => .dma (cOut s).sem
  | .inr (.inr j) => .dma (cG j).sem
theorem ownSemFacts : Pipeline.OwnSemFacts spec0 osem := by decide

/-- The kernel's own cells at zero, ring by ring. -/
theorem ownSems0_eq (c : Dev nD) : (Pipeline.ownSems0 (Ix := Unit) (Name := ℕ) (U := UU nD τ) (Lvl := ℕ) (Val := Elt F) (τ := τ) osem c : sProp 𝕄)
    = iprop((cInP c 0 ∗ cInP c 1 ∗ cInP c 2 ∗ cInP c 3 ∗ cInP c 4 ∗ cInP c 5) ∗ (cOutP c 0 ∗ cOutP c 1 ∗ cOutP c 2 ∗ cOutP c 3 ∗ cOutP c 4 ∗ cOutP c 5) ∗ (cGP c 0 ∗ cGP c 1 ∗ cGP c 2)) := by
  unfold Pipeline.ownSems0
  rw [bigSep_univ_eq_bigSepL [(.inl 0 : Fin 6 ⊕ Fin 6 ⊕ Fin 3), .inl 1, .inl 2, .inl 3, .inl 4, .inl 5,
    .inr (.inl 0), .inr (.inl 1), .inr (.inl 2), .inr (.inl 3), .inr (.inl 4), .inr (.inl 5), .inr (.inr 0), .inr (.inr 1), .inr (.inr 2)] (by decide) (by decide)]
  refine Entails.antisymm ?_ ?_
  · show iprop(cInP (F := F) c 0 ∗ cInP (F := F) c 1 ∗ cInP (F := F) c 2 ∗ cInP (F := F) c 3 ∗ cInP (F := F) c 4 ∗ cInP (F := F) c 5 ∗ cOutP (F := F) c 0 ∗ cOutP (F := F) c 1 ∗ cOutP (F := F) c 2 ∗ cOutP (F := F) c 3 ∗ cOutP (F := F) c 4 ∗ cOutP (F := F) c 5 ∗ cGP (F := F) c 0 ∗ cGP (F := F) c 1 ∗ cGP (F := F) c 2) ⊢ _
    iintro ⟨A0, A1, A2, A3, A4, A5, B0, B1, B2, B3, B4, B5, G0, G1, G2⟩
    isplitl [A0 A1 A2 A3 A4 A5]
    · isplitl [A0]; · iexact A0
      isplitl [A1]; · iexact A1
      isplitl [A2]; · iexact A2
      isplitl [A3]; · iexact A3
      isplitl [A4]; · iexact A4
      iexact A5
    isplitl [B0 B1 B2 B3 B4 B5]
    · isplitl [B0]; · iexact B0
      isplitl [B1]; · iexact B1
      isplitl [B2]; · iexact B2
      isplitl [B3]; · iexact B3
      isplitl [B4]; · iexact B4
      iexact B5
    isplitl [G0]; · iexact G0
    isplitl [G1]; · iexact G1
    iexact G2
  · show _ ⊢ iprop(cInP (F := F) c 0 ∗ cInP (F := F) c 1 ∗ cInP (F := F) c 2 ∗ cInP (F := F) c 3 ∗ cInP (F := F) c 4 ∗ cInP (F := F) c 5 ∗ cOutP (F := F) c 0 ∗ cOutP (F := F) c 1 ∗ cOutP (F := F) c 2 ∗ cOutP (F := F) c 3 ∗ cOutP (F := F) c 4 ∗ cOutP (F := F) c 5 ∗ cGP (F := F) c 0 ∗ cGP (F := F) c 1 ∗ cGP (F := F) c 2)
    iintro ⟨⟨A0, A1, A2, A3, A4, A5⟩, ⟨B0, B1, B2, B3, B4, B5⟩, ⟨G0, G1, G2⟩⟩
    isplitl [A0]; · iexact A0
    isplitl [A1]; · iexact A1
    isplitl [A2]; · iexact A2
    isplitl [A3]; · iexact A3
    isplitl [A4]; · iexact A4
    isplitl [A5]; · iexact A5
    isplitl [B0]; · iexact B0
    isplitl [B1]; · iexact B1
    isplitl [B2]; · iexact B2
    isplitl [B3]; · iexact B3
    isplitl [B4]; · iexact B4
    isplitl [B5]; · iexact B5
    isplitl [G0]; · iexact G0
    isplitl [G1]; · iexact G1
    iexact G2

/-- The two arrays read, the one written, the two the later host lines write. -/
abbrev HH : Finset (Ref sig .tc) := {main_v0, main_v1}
abbrev RR : Finset (Ref sig .tc) := {main_v2_0}
abbrev TT : Finset (Ref sig .tc) := {main_v3, main_v4}

/-- The region invariant, the same before and after the one point. -/
def Φ (c : Dev nD) : sProp 𝕄 := iprop(keep c (V m c main_v0) (V m c main_v1) ∗ ∃ r, prngReg c r)

theorem hh_eq (c : Dev nD) : (bigSep HH fun b => ((c.tc : Thread nD τ).loc b) ↦{fullShare} V m c b : sProp 𝕄)
    = iprop((((c : Thread nD τ).loc main_v0) ↦{fullShare} V m c main_v0) ∗ (((c : Thread nD τ).loc main_v1) ↦{fullShare} V m c main_v1)) := by
  rw [show HH = insert main_v0 {main_v1} from rfl, bigSep_insert (by decide), bigSep_singleton]; rfl
theorem rr_eq (c : Dev nD) : (Pipeline.owned RR c : sProp 𝕄)
    = iprop(∃ f : Buf (Elt F) ((c : Thread nD τ).loc main_v2_0), ((c : Thread nD τ).loc main_v2_0) ↦{fullShare} f) := by
  unfold Pipeline.owned; rw [bigSep_singleton]

/-- A whole buffer's view is the buffer. -/
theorem whole_eq (c : Dev nD) (b : Ref sig .tc) (f : Buf (Elt F) ((c : Thread nD τ).loc b)) :
    (((c : Thread nD τ).loc b) ↦{fullShare} f : sProp 𝕄)
      = ((Memref.whole b).view.loc (c : Thread nD τ) ↦[(Memref.whole b).view.set]{fullShare} f) := by
  rw [show (Memref.whole b).view.set = Finset.univ from View.set_whole _]

/-- The launch hands the body what it asks for, -/
theorem Φ_intro (c : Dev nD) : Pipeline.ΦDR osem spec0 HH RR (V m) c ⊢ Φ m c := by
  rw [Pipeline.ΦDR_eq, scopedRest0_eq, ownSems0_eq, hh_eq, rr_eq]
  rw [codes_eq, scalesIn_eq]
  unfold Φ keep
  iintro ⟨⟨S0, S1, S2, S3, S4, S5, S6⟩, Hr, ⟨⟨A0, A1, A2, A3, A4, A5⟩, ⟨B0, B1, B2, B3, B4, B5⟩, ⟨C0, C1, C2⟩⟩, ⟨HX, ⟨G0, G1, G2⟩⟩, HY⟩
  ihave HY := (out_split c) $$ HY
  ihave S0 := (inBuf_split c) $$ S0
  icases S0 with ⟨I0, I1, I2, I3, I4, I5⟩
  ihave S1 := (outBuf_split c) $$ S1
  icases S1 with ⟨O0, O1, O2, O3, O4, O5⟩
  ihave S3 := (stage_split c) $$ S3
  icases S3 with ⟨P0, P1, P2⟩
  isplitr [Hr]
  · isplitl [HX]; · iexact HX
    isplitl [HY]; · iexact HY
    isplitl [I0 I1 I2 I3 I4 I5 A0 A1 A2 A3 A4 A5]
    · isplitl [I0 A0]
      · isplitl [I0]; · iexact I0
        iexact A0
      isplitl [I1 A1]
      · isplitl [I1]; · iexact I1
        iexact A1
      isplitl [I2 A2]
      · isplitl [I2]; · iexact I2
        iexact A2
      isplitl [I3 A3]
      · isplitl [I3]; · iexact I3
        iexact A3
      isplitl [I4 A4]
      · isplitl [I4]; · iexact I4
        iexact A4
      isplitl [I5]; · iexact I5
      iexact A5
    isplitl [O0 O1 O2 O3 O4 O5 B0 B1 B2 B3 B4 B5]
    · isplitl [O0 B0]
      · isplitl [O0]; · iexact O0
        iexact B0
      isplitl [O1 B1]
      · isplitl [O1]; · iexact O1
        iexact B1
      isplitl [O2 B2]
      · isplitl [O2]; · iexact O2
        iexact B2
      isplitl [O3 B3]
      · isplitl [O3]; · iexact O3
        iexact B3
      isplitl [O4 B4]
      · isplitl [O4]; · iexact O4
        iexact B4
      isplitl [O5]; · iexact O5
      iexact B5
    isplitl [P0 P1 P2 G0 G1 G2 C0 C1 C2]
    · isplitl [P0 G0 C0]
      · isplitl [P0]; · iexact P0
        isplitl [G0]; · iexact G0
        iexact C0
      isplitl [P1 G1 C1]
      · isplitl [P1]; · iexact P1
        isplitl [G1]; · iexact G1
        iexact C1
      isplitl [P2]; · iexact P2
      isplitl [G2]; · iexact G2
      iexact C2
    isplitl [S2]; · icases S2 with ⟨%f, S2⟩; iexists f; iapply (entails_of_eq (whole_eq (F := F) c cc0_scratch2 f)); iexact S2
    isplitl [S4]; · icases S4 with ⟨%f, S4⟩; iexists f; iapply (entails_of_eq (whole_eq (F := F) c cc0_scratch4 f)); iexact S4
    isplitl [S5]; · icases S5 with ⟨%f, S5⟩; iexists f; iapply (entails_of_eq (whole_eq (F := F) c cc0_scratch5 f)); iexact S5
    icases S6 with ⟨%f, S6⟩; iexists f; iapply (entails_of_eq (whole_eq (F := F) c cc0_scratch6 f)); iexact S6
  iexact Hr
/-- and takes it back. -/
theorem Φ_elim (c : Dev nD) : Φ m c ⊢ Pipeline.ΦDR osem spec0 HH RR (V m) c := by
  rw [Pipeline.ΦDR_eq, scopedRest0_eq, ownSems0_eq, hh_eq, rr_eq]
  rw [codes_eq, scalesIn_eq]
  unfold Φ keep
  iintro ⟨⟨HX, HY, ⟨⟨I0, A0⟩, ⟨I1, A1⟩, ⟨I2, A2⟩, ⟨I3, A3⟩, ⟨I4, A4⟩, I5, A5⟩, ⟨⟨O0, B0⟩, ⟨O1, B1⟩, ⟨O2, B2⟩, ⟨O3, B3⟩, ⟨O4, B4⟩, O5, B5⟩,
    ⟨⟨P0, G0, C0⟩, ⟨P1, G1, C1⟩, P2, G2, C2⟩, S2, S4, S5, S6⟩, Hr⟩
  ihave HY := (out_join c) $$ HY
  ihave S0 := (inBuf_join c) $$ [I0 I1 I2 I3 I4 I5]
  · isplitl [I0]; · iexact I0
    isplitl [I1]; · iexact I1
    isplitl [I2]; · iexact I2
    isplitl [I3]; · iexact I3
    isplitl [I4]; · iexact I4
    iexact I5
  ihave S1 := (outBuf_join c) $$ [O0 O1 O2 O3 O4 O5]
  · isplitl [O0]; · iexact O0
    isplitl [O1]; · iexact O1
    isplitl [O2]; · iexact O2
    isplitl [O3]; · iexact O3
    isplitl [O4]; · iexact O4
    iexact O5
  ihave S3 := (stage_join c) $$ [P0 P1 P2]
  · isplitl [P0]; · iexact P0
    isplitl [P1]; · iexact P1
    iexact P2
  isplitl [S0 S1 S2 S3 S4 S5 S6]
  · isplitl [S0]; · iexact S0
    isplitl [S1]; · iexact S1
    isplitl [S2]; · icases S2 with ⟨%f, S2⟩; iexists f; iapply (entails_of_eq (whole_eq (F := F) c cc0_scratch2 f).symm); iexact S2
    isplitl [S3]; · iexact S3
    isplitl [S4]; · icases S4 with ⟨%f, S4⟩; iexists f; iapply (entails_of_eq (whole_eq (F := F) c cc0_scratch4 f).symm); iexact S4
    isplitl [S5]; · icases S5 with ⟨%f, S5⟩; iexists f; iapply (entails_of_eq (whole_eq (F := F) c cc0_scratch5 f).symm); iexact S5
    icases S6 with ⟨%f, S6⟩; iexists f; iapply (entails_of_eq (whole_eq (F := F) c cc0_scratch6 f).symm); iexact S6
  isplitl [Hr]; · iexact Hr
  isplitl [A0 A1 A2 A3 A4 A5 B0 B1 B2 B3 B4 B5 C0 C1 C2]
  · isplitl [A0 A1 A2 A3 A4 A5]
    · isplitl [A0]; · iexact A0
      isplitl [A1]; · iexact A1
      isplitl [A2]; · iexact A2
      isplitl [A3]; · iexact A3
      isplitl [A4]; · iexact A4
      iexact A5
    isplitl [B0 B1 B2 B3 B4 B5]
    · isplitl [B0]; · iexact B0
      isplitl [B1]; · iexact B1
      isplitl [B2]; · iexact B2
      isplitl [B3]; · iexact B3
      isplitl [B4]; · iexact B4
      iexact B5
    isplitl [C0]; · iexact C0
    isplitl [C1]; · iexact C1
    iexact C2
  isplitl [HX G0 G1 G2]
  · isplitl [HX]; · iexact HX
    isplitl [G0]; · iexact G0
    isplitl [G1]; · iexact G1
    iexact G2
  iexact HY

/-! ## The pipeline's proof data: its one window's block is forgotten -/

def dats (_ : Fin 1) (c : Dev nD) : Dat τ (Elt F) Unit ℕ (UU nD τ) ℕ cfg0 c where
  A w := V m c (Pipeline.arrRef spec0 w)
  after _ _ := default
  Φ _ := Φ m c
  q _ := fullShare
  owed _ := 0

theorem defs_tc : (defs₀ (F := F)) .tc cfg0.body = fun a => bodyG (F := F) (win0_0.stage (a.2 0)) (hstage0_0 0) := rfl
theorem prog_eq (t : Fin cfg0.N) : (defs₀ (F := F)) .tc cfg0.body (cfg0.bodyArgs t (cfg0.slots t))
    = bodyG (F := F) (win0_0.stage (cfg0.slots t 0)) (hstage0_0 0) := (congrFun defs_tc _).trans rfl

set_option backward.isDefEq.respectTransparency.types false in
theorem body_obligation (c : Dev nD) : BodyObligationLoose (dats (F := F) m 0 c) (defs₀ (F := F)) 𝒱₀ () Set.univ (fun _ => true) := fun t => by
  simp only [bigSep_W0]
  rw [show (dats m 0 c).Φ t.castSucc = Φ m c from rfl, show (dats m 0 c).Φ t.succ = Φ m c from rfl]
  unfold Dat.owesAt Pipeline.owesWithin
  rw [show (dats m 0 c).owed t.castSucc = 0 from rfl, show (dats m 0 c).owed t.succ = 0 from rfl]
  unfold owns Φ
  iintro ⟨⟨HK, Hr⟩, ⟨%W, -, HW⟩, ⟨%X, %g, -, Hg⟩⟩
  sl_rw [prog_eq t]
  iapply (bodyRun c (V m c main_v0) (V m c main_v1) (win0_0.stage (cfg0.slots t 0)) (hstage0_0 0) W)
  isplitl [HK HW Hg]
  · isplitl [HK]; · iexact HK
    isplitl [Hg]; · iexists g; iexact Hg
    iexact HW
  · iintro ⟨HK, ⟨%f, Hg⟩, ⟨%W', HW⟩⟩
    isplitl [HK Hr]
    · isplitl [HK]; · iexact HK
      iexact Hr
    isplitl [HW]
    · iexists W'; isplitr; · ipureintro; exact fun _ _ => Or.inl trivial
      iexact HW
    iexists _; iexists f; isplitr; · ipureintro; rfl
    iexact Hg

/-! ## The run -/

set_option maxHeartbeats 800000 in
/-- @main around the region, at this algebra. -/
theorem hmain' : Pipeline.HMainK (Ix := Unit) (Name := ℕ) (U := Pipeline.UD sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) main_chain

theorem sfx_writes : ∀ ops ∈ ([hostOps1] : List (List (HloOp τ sig (Elt F)))), ∀ op ∈ ops,
    ∀ b : Ref sig .tc, Proc.devRef .tc b ∈ op.writes → b ∈ TT := by
  intro ops hops op hop b hb
  simp only [List.mem_cons, List.mem_nil_iff, or_false] at hops
  rcases hops with rfl
  simp only [hostOps1, List.mem_cons, List.mem_nil_iff, or_false] at hop
  rcases hop with rfl | rfl
  all_goals
    rw [StableHlo.reshape_writes, Finset.mem_singleton] at hb
    by_contra hne
    exact StableHlo.devRef_ne_of_ne (by rintro rfl; exact hne (by decide)) hb

set_option backward.isDefEq.respectTransparency.types false in
/-- From any memory with zero counters: every weakly fair execution of @main terminates with the argument arrays unchanged and every
    counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  Pipeline.θ_run_frame_dmaR_around_T_forget (Q' := _) cfgs (dats m) (0 : Fin 1) launch0 osem defs₀ 𝒱₀ (fun _ => true) ownSemFacts HH RR TT
    (by decide) (by decide) m ρ main
    (hbody := fun c => body_obligation m c) (hshare := fun c => (dats m 0 c).share_full fun _ => rfl) (howed := fun _ _ => rfl)
    (V₀ := V0 m) (opss := [hostOps1]) (hsub := sfx_sub) (hfresh := sfx_fresh) (hkeep := sfx_keeps) (hT := sfx_writes)
    (hmain := hmain' m) (hA := fun _ _ => rfl) (hin := fun c => Φ_intro m c) (hout := fun c => Φ_elim m c)
    (hQ' := fun r h => ⟨fun c => ⟨((h.1 c).2 main_arg0 (by decide)).trans (V_main_arg0 m c), ((h.1 c).2 main_arg1 (by decide)).trans (V_main_arg1 m c)⟩, h.2⟩)

end Cert.Proof.Kernel

end
-- ==== Proof.KernelIdeal.Names.lean ====
/-
  Canonical names for the slices `KernelIdeal.lean`'s kernel takes: the 84 tiles of the codes and of the result, the six slots
  and the six semaphores of either ring, the three pieces of the scales. Every printed offset is one of these at the trip
  it belongs to (the offsets' closed forms are decided over the trips, of which there are at most 81), so the executor
  meets a transfer under the same name where it is started and where it is waited for.
-/
module

public import proofs.«01_k».proof.Defs
public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import Idealize.ShloMosaic.Lib.Ring
public import Idealize.ShloMosaic.Lib.Affine
public import Idealize.ShloMosaic.Lib.Tactic
public import proofs.«01_k».proof.Proof.Rings
public import proofs.«01_k».proof.Proof.Kernel.Launch

@[expose] public section

noncomputable section

namespace Cert.Proof.KernelIdeal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-! ## Whole buffers -/

abbrev xM : Memref sig .tc .hbm S21504x3584 .fp8e4m3 := Memref.whole main_v0
abbrev gM : Memref sig .tc .hbm S21x28x1024 .f32 := Memref.whole main_v1
abbrev yM : Memref sig .tc .hbm S21504x3584 .i8 := Memref.whole main_v2_0
abbrev ibM : Memref sig .tc .vmem S6x7168x128 .fp8e4m3 := Memref.whole cc0_scratch0
abbrev obM : Memref sig .tc .vmem S6x7168x128 .i8 := Memref.whole cc0_scratch1
abbrev xbM : Memref sig .tc .vmem S10752x2x128 .bf16 := Memref.whole cc0_scratch2
abbrev sgM : Memref sig .tc .vmem S21x28x1024 .f32 := Memref.whole cc0_scratch3
abbrev sbM : Memref sig .tc .vmem S10752x2x128 .bf16 := Memref.whole cc0_scratch4
abbrev amM : Memref sig .tc .vmem S16x128 .bf16 := Memref.whole cc0_scratch5
abbrev ivM : Memref sig .tc .vmem S1x128 .f32 := Memref.whole cc0_scratch6

/-! ## Names -/

abbrev tileOff (b : Fin 84) : Fin 2 → Nat := ![7168 * (b.val % 3), 128 * (b.val / 3)]
theorem tileOff_inb (b : Fin 84) : ∀ a, tileOff b a + S7168x128.size a ≤ S21504x3584.size a := by
  have := b.isLt; intro a; fin_cases a
  · show 7168 * (b.val % 3) + 7168 ≤ 21504; omega
  · show 128 * (b.val / 3) + 128 ≤ 3584; omega
abbrev slotOff (s : Fin 6) : Fin 3 → Nat := ![s.val, 0, 0]
theorem slotOff_inb (s : Fin 6) : ∀ a, slotOff s a + S1x7168x128.size a ≤ S6x7168x128.size a := by
  have := s.isLt; intro a; fin_cases a
  · show s.val + 1 ≤ 6; omega
  · show 0 + 7168 ≤ 7168; omega
  · show 0 + 128 ≤ 128; omega
abbrev semOff (s : Fin 6) : Fin 1 → Nat := ![s.val]
theorem semOff_inb (s : Fin 6) : ∀ a, semOff s a + S1.size a ≤ S6.size a := by
  have := s.isLt; intro a; fin_cases a; show s.val + 1 ≤ 6; omega
abbrev gOff (j : Fin 3) : Fin 3 → Nat := ![7 * j.val, 0, 0]
theorem gOff_inb (j : Fin 3) : ∀ a, gOff j a + S7x28x1024.size a ≤ S21x28x1024.size a := by
  have := j.isLt; intro a; fin_cases a
  · show 7 * j.val + 7 ≤ 21; omega
  · show 0 + 28 ≤ 28; omega
  · show 0 + 1024 ≤ 1024; omega
abbrev gsemOff (j : Fin 3) : Fin 1 → Nat := ![j.val]
theorem gsemOff_inb (j : Fin 3) : ∀ a, gsemOff j a + S1.size a ≤ S3.size a := by
  have := j.isLt; intro a; fin_cases a; show j.val + 1 ≤ 3; omega

/-- Tile `b` of the codes: row chunk `b % 3`, channel block `b / 3`. -/
def tIn (b : Fin 84) : Memref sig .tc .hbm S7168x128 .fp8e4m3 :=
  xM.slice (Rect.unit (s := S21504x3584) (tileOff b) S7168x128.size (tileOff_inb b)) (fun _ => rfl)
/-- Tile `b` of the result. -/
def tOut (b : Fin 84) : Memref sig .tc .hbm S7168x128 .i8 :=
  yM.slice (Rect.unit (s := S21504x3584) (tileOff b) S7168x128.size (tileOff_inb b)) (fun _ => rfl)
/-- Slot `s` of the inbound and of the outbound buffer. -/
def sIn (s : Fin 6) : Memref sig .tc .vmem S7168x128 .fp8e4m3 :=
  (ibM.slice (Rect.unit (s := S6x7168x128) (slotOff s) S1x7168x128.size (slotOff_inb s)) (fun _ => rfl)).squeeze S7168x128 squeezes_S1x7168x128_S7168x128
def sOut (s : Fin 6) : Memref sig .tc .vmem S7168x128 .i8 :=
  (obM.slice (Rect.unit (s := S6x7168x128) (slotOff s) S1x7168x128.size (slotOff_inb s)) (fun _ => rfl)).squeeze S7168x128 squeezes_S1x7168x128_S7168x128
/-- Their DMA semaphores. -/
def cIn (s : Fin 6) : DmaSems sig S_ := (cc0_scratch7.slice (Rect.unit (s := S6) (semOff s) S1.size (semOff_inb s))).squeeze S_ squeezes_S1_S_
def cOut (s : Fin 6) : DmaSems sig S_ := (cc0_scratch8.slice (Rect.unit (s := S6) (semOff s) S1.size (semOff_inb s))).squeeze S_ squeezes_S1_S_
/-- Piece `j` of the scales, seven batches: where it lies, where it is staged, its semaphore. -/
def gIn (j : Fin 3) : Memref sig .tc .hbm S7x28x1024 .f32 :=
  gM.slice (Rect.unit (s := S21x28x1024) (gOff j) S7x28x1024.size (gOff_inb j)) (fun _ => rfl)
def gSt (j : Fin 3) : Memref sig .tc .vmem S7x28x1024 .f32 :=
  sgM.slice (Rect.unit (s := S21x28x1024) (gOff j) S7x28x1024.size (gOff_inb j)) (fun _ => rfl)
def cG (j : Fin 3) : DmaSems sig S_ := (cc0_scratch9.slice (Rect.unit (s := S3) (gsemOff j) S1.size (gsemOff_inb j))).squeeze S_ squeezes_S1_S_

instance (s : Fin 6) : ClosedOff (slotOff s) := ⟨slotOff s, rfl⟩
instance (b : Fin 84) : ClosedOff (tileOff b) := ⟨tileOff b, rfl⟩
instance (j : Fin 3) : ClosedOff (gOff j) := ⟨gOff j, rfl⟩

/-- The item of trip `(a, b)` of the middle loops, and the item its outbound copy carries. -/
def kk (a b : ℕ) : ℕ := 3 * (a + 1) + b
def oo (a b : ℕ) : ℕ := 3 * a + b
/-- The item trip `t` of the last loop sends out. -/
def o5 (t : ℕ) : ℕ := 81 + t

/-! ## One name per slice -/

theorem cIn_congr {off : Fin 1 → Nat} {s : Fin 6} (e : off = semOff s) (hh) :
    (cc0_scratch7.slice (Rect.unit (s := S6) off S1.size hh)).squeeze S_ squeezes_S1_S_ = cIn s :=
  congrArg (fun A : DmaSems sig S1 => A.squeeze S_ squeezes_S1_S_) (SemArray.slice_unit_congr _ e _ _)
theorem cOut_congr {off : Fin 1 → Nat} {s : Fin 6} (e : off = semOff s) (hh) :
    (cc0_scratch8.slice (Rect.unit (s := S6) off S1.size hh)).squeeze S_ squeezes_S1_S_ = cOut s :=
  congrArg (fun A : DmaSems sig S1 => A.squeeze S_ squeezes_S1_S_) (SemArray.slice_unit_congr _ e _ _)
theorem cG_congr {off : Fin 1 → Nat} {j : Fin 3} (e : off = gsemOff j) (hh) :
    (cc0_scratch9.slice (Rect.unit (s := S3) off S1.size hh)).squeeze S_ squeezes_S1_S_ = cG j :=
  congrArg (fun A : DmaSems sig S1 => A.squeeze S_ squeezes_S1_S_) (SemArray.slice_unit_congr _ e _ _)
theorem sIn_congr {off : Fin 3 → Nat} {s : Fin 6} (e : off = slotOff s) (hh hs) :
    (ibM.slice (Rect.unit (s := S6x7168x128) off S1x7168x128.size hh) hs).squeeze S7168x128 squeezes_S1x7168x128_S7168x128 = sIn s :=
  congrArg (fun M : Memref sig .tc .vmem S1x7168x128 .fp8e4m3 => M.squeeze S7168x128 squeezes_S1x7168x128_S7168x128) (Memref.slice_unit_congr _ e _ _ _ _)
theorem sOut_congr {off : Fin 3 → Nat} {s : Fin 6} (e : off = slotOff s) (hh hs) :
    (obM.slice (Rect.unit (s := S6x7168x128) off S1x7168x128.size hh) hs).squeeze S7168x128 squeezes_S1x7168x128_S7168x128 = sOut s :=
  congrArg (fun M : Memref sig .tc .vmem S1x7168x128 .i8 => M.squeeze S7168x128 squeezes_S1x7168x128_S7168x128) (Memref.slice_unit_congr _ e _ _ _ _)
theorem tIn_congr {off : Fin 2 → Nat} {b : Fin 84} (e : off = tileOff b) (hh hs) :
    xM.slice (Rect.unit (s := S21504x3584) off S7168x128.size hh) hs = tIn b := Memref.slice_unit_congr _ e _ _ _ (fun _ => rfl)
theorem tOut_congr {off : Fin 2 → Nat} {b : Fin 84} (e : off = tileOff b) (hh hs) :
    yM.slice (Rect.unit (s := S21504x3584) off S7168x128.size hh) hs = tOut b := Memref.slice_unit_congr _ e _ _ _ (fun _ => rfl)
theorem gIn_congr {off : Fin 3 → Nat} {j : Fin 3} (e : off = gOff j) (hh hs) :
    gM.slice (Rect.unit (s := S21x28x1024) off S7x28x1024.size hh) hs = gIn j := Memref.slice_unit_congr _ e _ _ _ (fun _ => rfl)
theorem gSt_congr {off : Fin 3 → Nat} {j : Fin 3} (e : off = gOff j) (hh hs) :
    sgM.slice (Rect.unit (s := S21x28x1024) off S7x28x1024.size hh) hs = gSt j := Memref.slice_unit_congr _ e _ _ _ (fun _ => rfl)

/-! ### Literal slices: the prologue's and the last waits' -/

@[sl_canon] theorem L1 (hh) : (cc0_scratch9.slice (Rect.unit (s := S3) (![0]) S1.size hh)).squeeze S_ squeezes_S1_S_ = cG 0 := cG_congr (by decide) _
@[sl_canon] theorem L2 (hh hs) : gM.slice (Rect.unit (s := S21x28x1024) (![0, 0, 0]) S7x28x1024.size hh) hs = gIn 0 := gIn_congr (by decide) _ _
@[sl_canon] theorem L3 (hh hs) : sgM.slice (Rect.unit (s := S21x28x1024) (![0, 0, 0]) S7x28x1024.size hh) hs = gSt 0 := gSt_congr (by decide) _ _
@[sl_canon] theorem L4 (hh) : (cc0_scratch9.slice (Rect.unit (s := S3) (![1]) S1.size hh)).squeeze S_ squeezes_S1_S_ = cG 1 := cG_congr (by decide) _
@[sl_canon] theorem L5 (hh hs) : gM.slice (Rect.unit (s := S21x28x1024) (![7, 0, 0]) S7x28x1024.size hh) hs = gIn 1 := gIn_congr (by decide) _ _
@[sl_canon] theorem L6 (hh hs) : sgM.slice (Rect.unit (s := S21x28x1024) (![7, 0, 0]) S7x28x1024.size hh) hs = gSt 1 := gSt_congr (by decide) _ _
@[sl_canon] theorem L7 (hh) : (cc0_scratch9.slice (Rect.unit (s := S3) (![2]) S1.size hh)).squeeze S_ squeezes_S1_S_ = cG 2 := cG_congr (by decide) _
@[sl_canon] theorem L8 (hh hs) : gM.slice (Rect.unit (s := S21x28x1024) (![14, 0, 0]) S7x28x1024.size hh) hs = gIn 2 := gIn_congr (by decide) _ _
@[sl_canon] theorem L9 (hh hs) : sgM.slice (Rect.unit (s := S21x28x1024) (![14, 0, 0]) S7x28x1024.size hh) hs = gSt 2 := gSt_congr (by decide) _ _
@[sl_canon] theorem L10 (hh) : (cc0_scratch7.slice (Rect.unit (s := S6) (k0_off1 0#32) S1.size hh)).squeeze S_ squeezes_S1_S_ = cIn 0 := cIn_congr (by decide) _
@[sl_canon] theorem L11 (hh hs) : (ibM.slice (Rect.unit (s := S6x7168x128) (k0_off2 0#32) S1x7168x128.size hh) hs).squeeze S7168x128 squeezes_S1x7168x128_S7168x128 = sIn 0 := sIn_congr (by decide) _ _
@[sl_canon] theorem L12 (hh hs) : xM.slice (Rect.unit (s := S21504x3584) (![0, 0]) S7168x128.size hh) hs = tIn 0 := tIn_congr (by decide) _ _
@[sl_canon] theorem L13 (hh) : (cc0_scratch7.slice (Rect.unit (s := S6) (k0_off1 1#32) S1.size hh)).squeeze S_ squeezes_S1_S_ = cIn 1 := cIn_congr (by decide) _
@[sl_canon] theorem L14 (hh hs) : (ibM.slice (Rect.unit (s := S6x7168x128) (k0_off2 1#32) S1x7168x128.size hh) hs).squeeze S7168x128 squeezes_S1x7168x128_S7168x128 = sIn 1 := sIn_congr (by decide) _ _
@[sl_canon] theorem L15 (hh hs) : xM.slice (Rect.unit (s := S21504x3584) (![7168, 0]) S7168x128.size hh) hs = tIn 1 := tIn_congr (by decide) _ _
@[sl_canon] theorem L16 (hh) : (cc0_scratch7.slice (Rect.unit (s := S6) (k0_off1 2#32) S1.size hh)).squeeze S_ squeezes_S1_S_ = cIn 2 := cIn_congr (by decide) _
@[sl_canon] theorem L17 (hh hs) : (ibM.slice (Rect.unit (s := S6x7168x128) (k0_off2 2#32) S1x7168x128.size hh) hs).squeeze S7168x128 squeezes_S1x7168x128_S7168x128 = sIn 2 := sIn_congr (by decide) _ _
@[sl_canon] theorem L18 (hh hs) : xM.slice (Rect.unit (s := S21504x3584) (![14336, 0]) S7168x128.size hh) hs = tIn 2 := tIn_congr (by decide) _ _
@[sl_canon] theorem L19 (hh) : (cc0_scratch7.slice (Rect.unit (s := S6) (k0_off1 3#32) S1.size hh)).squeeze S_ squeezes_S1_S_ = cIn 3 := cIn_congr (by decide) _
@[sl_canon] theorem L20 (hh hs) : (ibM.slice (Rect.unit (s := S6x7168x128) (k0_off2 3#32) S1x7168x128.size hh) hs).squeeze S7168x128 squeezes_S1x7168x128_S7168x128 = sIn 3 := sIn_congr (by decide) _ _
@[sl_canon] theorem L21 (hh hs) : xM.slice (Rect.unit (s := S21504x3584) (![0, 128]) S7168x128.size hh) hs = tIn 3 := tIn_congr (by decide) _ _
@[sl_canon] theorem L22 (hh) : (cc0_scratch7.slice (Rect.unit (s := S6) (k0_off1 4#32) S1.size hh)).squeeze S_ squeezes_S1_S_ = cIn 4 := cIn_congr (by decide) _
@[sl_canon] theorem L23 (hh hs) : (ibM.slice (Rect.unit (s := S6x7168x128) (k0_off2 4#32) S1x7168x128.size hh) hs).squeeze S7168x128 squeezes_S1x7168x128_S7168x128 = sIn 4 := sIn_congr (by decide) _ _
@[sl_canon] theorem L24 (hh hs) : xM.slice (Rect.unit (s := S21504x3584) (![7168, 128]) S7168x128.size hh) hs = tIn 4 := tIn_congr (by decide) _ _
@[sl_canon] theorem L25 (hh) : (cc0_scratch7.slice (Rect.unit (s := S6) (k0_off1 5#32) S1.size hh)).squeeze S_ squeezes_S1_S_ = cIn 5 := cIn_congr (by decide) _
@[sl_canon] theorem L26 (hh hs) : (ibM.slice (Rect.unit (s := S6x7168x128) (k0_off2 5#32) S1x7168x128.size hh) hs).squeeze S7168x128 squeezes_S1x7168x128_S7168x128 = sIn 5 := sIn_congr (by decide) _ _
@[sl_canon] theorem L27 (hh hs) : xM.slice (Rect.unit (s := S21504x3584) (![14336, 128]) S7168x128.size hh) hs = tIn 5 := tIn_congr (by decide) _ _
@[sl_canon] theorem L28 (hh) : (cc0_scratch8.slice (Rect.unit (s := S6) (k0_off1 78#32) S1.size hh)).squeeze S_ squeezes_S1_S_ = cOut 0 := cOut_congr (by decide) _
@[sl_canon] theorem L29 (hh hs) : (obM.slice (Rect.unit (s := S6x7168x128) (k0_off2 78#32) S1x7168x128.size hh) hs).squeeze S7168x128 squeezes_S1x7168x128_S7168x128 = sOut 0 := sOut_congr (by decide) _ _
@[sl_canon] theorem L30 (hh hs) : yM.slice (Rect.unit (s := S21504x3584) (![0, 3328]) S7168x128.size hh) hs = tOut 78 := tOut_congr (by decide) _ _
@[sl_canon] theorem L31 (hh) : (cc0_scratch8.slice (Rect.unit (s := S6) (k0_off1 79#32) S1.size hh)).squeeze S_ squeezes_S1_S_ = cOut 1 := cOut_congr (by decide) _
@[sl_canon] theorem L32 (hh hs) : (obM.slice (Rect.unit (s := S6x7168x128) (k0_off2 79#32) S1x7168x128.size hh) hs).squeeze S7168x128 squeezes_S1x7168x128_S7168x128 = sOut 1 := sOut_congr (by decide) _ _
@[sl_canon] theorem L33 (hh hs) : yM.slice (Rect.unit (s := S21504x3584) (![7168, 3328]) S7168x128.size hh) hs = tOut 79 := tOut_congr (by decide) _ _
@[sl_canon] theorem L34 (hh) : (cc0_scratch8.slice (Rect.unit (s := S6) (k0_off1 80#32) S1.size hh)).squeeze S_ squeezes_S1_S_ = cOut 2 := cOut_congr (by decide) _
@[sl_canon] theorem L35 (hh hs) : (obM.slice (Rect.unit (s := S6x7168x128) (k0_off2 80#32) S1x7168x128.size hh) hs).squeeze S7168x128 squeezes_S1x7168x128_S7168x128 = sOut 2 := sOut_congr (by decide) _ _
@[sl_canon] theorem L36 (hh hs) : yM.slice (Rect.unit (s := S21504x3584) (![14336, 3328]) S7168x128.size hh) hs = tOut 80 := tOut_congr (by decide) _ _
@[sl_canon] theorem L37 (hh) : (cc0_scratch8.slice (Rect.unit (s := S6) (k0_off1 81#32) S1.size hh)).squeeze S_ squeezes_S1_S_ = cOut 3 := cOut_congr (by decide) _
@[sl_canon] theorem L38 (hh hs) : (obM.slice (Rect.unit (s := S6x7168x128) (k0_off2 81#32) S1x7168x128.size hh) hs).squeeze S7168x128 squeezes_S1x7168x128_S7168x128 = sOut 3 := sOut_congr (by decide) _ _
@[sl_canon] theorem L39 (hh hs) : yM.slice (Rect.unit (s := S21504x3584) (![0, 3456]) S7168x128.size hh) hs = tOut 81 := tOut_congr (by decide) _ _
@[sl_canon] theorem L40 (hh) : (cc0_scratch8.slice (Rect.unit (s := S6) (k0_off1 82#32) S1.size hh)).squeeze S_ squeezes_S1_S_ = cOut 4 := cOut_congr (by decide) _
@[sl_canon] theorem L41 (hh hs) : (obM.slice (Rect.unit (s := S6x7168x128) (k0_off2 82#32) S1x7168x128.size hh) hs).squeeze S7168x128 squeezes_S1x7168x128_S7168x128 = sOut 4 := sOut_congr (by decide) _ _
@[sl_canon] theorem L42 (hh hs) : yM.slice (Rect.unit (s := S21504x3584) (![7168, 3456]) S7168x128.size hh) hs = tOut 82 := tOut_congr (by decide) _ _
@[sl_canon] theorem L43 (hh) : (cc0_scratch8.slice (Rect.unit (s := S6) (k0_off1 83#32) S1.size hh)).squeeze S_ squeezes_S1_S_ = cOut 5 := cOut_congr (by decide) _
@[sl_canon] theorem L44 (hh hs) : (obM.slice (Rect.unit (s := S6x7168x128) (k0_off2 83#32) S1x7168x128.size hh) hs).squeeze S7168x128 squeezes_S1x7168x128_S7168x128 = sOut 5 := sOut_congr (by decide) _ _
@[sl_canon] theorem L45 (hh hs) : yM.slice (Rect.unit (s := S21504x3584) (![14336, 3456]) S7168x128.size hh) hs = tOut 83 := tOut_congr (by decide) _ _

/-! ### The first loop: pieces of the scales -/

theorem off3_eq : ∀ (k : Fin k0_t1_loop.trips), k0_off3 k = gsemOff (Ring.bk 3 k.val) := by decide +kernel
@[sl_canon] theorem N3_cG (k : Fin k0_t1_loop.trips) (hh) : (cc0_scratch9.slice (Rect.unit (s := S3) (k0_off3 k) S1.size hh)).squeeze S_ squeezes_S1_S_ = cG (Ring.bk 3 k.val) := cG_congr (off3_eq k) _
theorem off4_eq : ∀ (k : Fin k0_t1_loop.trips), k0_off4 k = gOff (Ring.bk 3 k.val) := by decide +kernel
@[sl_canon] theorem N4_gIn (k : Fin k0_t1_loop.trips) (hh hs) : gM.slice (Rect.unit (s := S21x28x1024) (k0_off4 k) S7x28x1024.size hh) hs = gIn (Ring.bk 3 k.val) := gIn_congr (off4_eq k) _ _
@[sl_canon] theorem N4_gSt (k : Fin k0_t1_loop.trips) (hh hs) : sgM.slice (Rect.unit (s := S21x28x1024) (k0_off4 k) S7x28x1024.size hh) hs = gSt (Ring.bk 3 k.val) := gSt_congr (off4_eq k) _ _
theorem off5_0 : ∀ k : Fin k0_t1_loop.trips, k0_off5 k 0#32 = ![7 * k.val + 0, 0, 0] := by decide +kernel
instance (k : Fin k0_t1_loop.trips) : ClosedOff (k0_off5 k 0#32) := ⟨![7 * k.val + 0, 0, 0], off5_0 k⟩
theorem off5_1 : ∀ k : Fin k0_t1_loop.trips, k0_off5 k 1#32 = ![7 * k.val + 1, 0, 0] := by decide +kernel
instance (k : Fin k0_t1_loop.trips) : ClosedOff (k0_off5 k 1#32) := ⟨![7 * k.val + 1, 0, 0], off5_1 k⟩
theorem off5_2 : ∀ k : Fin k0_t1_loop.trips, k0_off5 k 2#32 = ![7 * k.val + 2, 0, 0] := by decide +kernel
instance (k : Fin k0_t1_loop.trips) : ClosedOff (k0_off5 k 2#32) := ⟨![7 * k.val + 2, 0, 0], off5_2 k⟩
theorem off5_3 : ∀ k : Fin k0_t1_loop.trips, k0_off5 k 3#32 = ![7 * k.val + 3, 0, 0] := by decide +kernel
instance (k : Fin k0_t1_loop.trips) : ClosedOff (k0_off5 k 3#32) := ⟨![7 * k.val + 3, 0, 0], off5_3 k⟩
theorem off5_4 : ∀ k : Fin k0_t1_loop.trips, k0_off5 k 4#32 = ![7 * k.val + 4, 0, 0] := by decide +kernel
instance (k : Fin k0_t1_loop.trips) : ClosedOff (k0_off5 k 4#32) := ⟨![7 * k.val + 4, 0, 0], off5_4 k⟩
theorem off5_5 : ∀ k : Fin k0_t1_loop.trips, k0_off5 k 5#32 = ![7 * k.val + 5, 0, 0] := by decide +kernel
instance (k : Fin k0_t1_loop.trips) : ClosedOff (k0_off5 k 5#32) := ⟨![7 * k.val + 5, 0, 0], off5_5 k⟩
theorem off5_6 : ∀ k : Fin k0_t1_loop.trips, k0_off5 k 6#32 = ![7 * k.val + 6, 0, 0] := by decide +kernel
instance (k : Fin k0_t1_loop.trips) : ClosedOff (k0_off5 k 6#32) := ⟨![7 * k.val + 6, 0, 0], off5_6 k⟩
theorem off6_0 : ∀ k : Fin k0_t1_loop.trips, k0_off6 k 0#32 = ![3584 * k.val + 0, 0, 0] := by decide +kernel
instance (k : Fin k0_t1_loop.trips) : ClosedOff (k0_off6 k 0#32) := ⟨![3584 * k.val + 0, 0, 0], off6_0 k⟩
theorem off6_1 : ∀ k : Fin k0_t1_loop.trips, k0_off6 k 1#32 = ![3584 * k.val + 512, 0, 0] := by decide +kernel
instance (k : Fin k0_t1_loop.trips) : ClosedOff (k0_off6 k 1#32) := ⟨![3584 * k.val + 512, 0, 0], off6_1 k⟩
theorem off6_2 : ∀ k : Fin k0_t1_loop.trips, k0_off6 k 2#32 = ![3584 * k.val + 1024, 0, 0] := by decide +kernel
instance (k : Fin k0_t1_loop.trips) : ClosedOff (k0_off6 k 2#32) := ⟨![3584 * k.val + 1024, 0, 0], off6_2 k⟩
theorem off6_3 : ∀ k : Fin k0_t1_loop.trips, k0_off6 k 3#32 = ![3584 * k.val + 1536, 0, 0] := by decide +kernel
instance (k : Fin k0_t1_loop.trips) : ClosedOff (k0_off6 k 3#32) := ⟨![3584 * k.val + 1536, 0, 0], off6_3 k⟩
theorem off6_4 : ∀ k : Fin k0_t1_loop.trips, k0_off6 k 4#32 = ![3584 * k.val + 2048, 0, 0] := by decide +kernel
instance (k : Fin k0_t1_loop.trips) : ClosedOff (k0_off6 k 4#32) := ⟨![3584 * k.val + 2048, 0, 0], off6_4 k⟩
theorem off6_5 : ∀ k : Fin k0_t1_loop.trips, k0_off6 k 5#32 = ![3584 * k.val + 2560, 0, 0] := by decide +kernel
instance (k : Fin k0_t1_loop.trips) : ClosedOff (k0_off6 k 5#32) := ⟨![3584 * k.val + 2560, 0, 0], off6_5 k⟩
theorem off6_6 : ∀ k : Fin k0_t1_loop.trips, k0_off6 k 6#32 = ![3584 * k.val + 3072, 0, 0] := by decide +kernel
instance (k : Fin k0_t1_loop.trips) : ClosedOff (k0_off6 k 6#32) := ⟨![3584 * k.val + 3072, 0, 0], off6_6 k⟩

/-! ### The second loop: the first block's items -/

theorem off7_eq : ∀ (k : Fin k0_t2_loop.trips), k0_off7 k = semOff (Ring.sl 6 k.val) := by decide +kernel
@[sl_canon] theorem N7_cIn (k : Fin k0_t2_loop.trips) (hh) : (cc0_scratch7.slice (Rect.unit (s := S6) (k0_off7 k) S1.size hh)).squeeze S_ squeezes_S1_S_ = cIn (Ring.sl 6 k.val) := cIn_congr (off7_eq k) _
theorem off8_eq : ∀ (k : Fin k0_t2_loop.trips), k0_off8 k = slotOff (Ring.sl 6 k.val) := by decide +kernel
@[sl_canon] theorem N8_sIn (k : Fin k0_t2_loop.trips) (hh hs) : (ibM.slice (Rect.unit (s := S6x7168x128) (k0_off8 k) S1x7168x128.size hh) hs).squeeze S7168x128 squeezes_S1x7168x128_S7168x128 = sIn (Ring.sl 6 k.val) := sIn_congr (off8_eq k) _ _
theorem off9_eq : ∀ (k : Fin k0_t2_loop.trips), k0_off9 k = tileOff (Ring.bk 84 k.val) := by decide +kernel
@[sl_canon] theorem N9_tIn (k : Fin k0_t2_loop.trips) (hh hs) : xM.slice (Rect.unit (s := S21504x3584) (k0_off9 k) S7168x128.size hh) hs = tIn (Ring.bk 84 k.val) := tIn_congr (off9_eq k) _ _
theorem off10_eq : ∀ (k : Fin k0_t2_loop.trips), k0_off10 k = ![3584 * k.val, 0, 0] := by decide +kernel
instance (k : Fin k0_t2_loop.trips) : ClosedOff (k0_off10 k) := ⟨![3584 * k.val, 0, 0], off10_eq k⟩
theorem off11_eq : ∀ (k : Fin k0_t2_loop.trips), k0_off11 k = slotOff (Ring.sl 6 k.val) := by decide +kernel
instance (k : Fin k0_t2_loop.trips) : ClosedOff (k0_off11 k) := ⟨slotOff (Ring.sl 6 k.val), off11_eq k⟩
theorem off12_eq : ∀ (k : Fin k0_t2_loop.trips), k0_off12 k = semOff (Ring.sl 6 k.val) := by decide +kernel
@[sl_canon] theorem N12_cIn (k : Fin k0_t2_loop.trips) (hh) : (cc0_scratch7.slice (Rect.unit (s := S6) (k0_off12 k) S1.size hh)).squeeze S_ squeezes_S1_S_ = cIn (Ring.sl 6 k.val) := cIn_congr (off12_eq k) _
theorem off13_eq : ∀ (k : Fin k0_t2_loop.trips), k0_off13 k = slotOff (Ring.sl 6 k.val) := by decide +kernel
@[sl_canon] theorem N13_sIn (k : Fin k0_t2_loop.trips) (hh hs) : (ibM.slice (Rect.unit (s := S6x7168x128) (k0_off13 k) S1x7168x128.size hh) hs).squeeze S7168x128 squeezes_S1x7168x128_S7168x128 = sIn (Ring.sl 6 k.val) := sIn_congr (off13_eq k) _ _
theorem off14_eq : ∀ (k : Fin k0_t2_loop.trips), k0_off14 k = tileOff (Ring.bk 84 (k.val + 6)) := by decide +kernel
@[sl_canon] theorem N14_tIn (k : Fin k0_t2_loop.trips) (hh hs) : xM.slice (Rect.unit (s := S21504x3584) (k0_off14 k) S7168x128.size hh) hs = tIn (Ring.bk 84 (k.val + 6)) := tIn_congr (off14_eq k) _ _
theorem cond1_eq : ∀ k : Fin k0_t2_loop.trips, k0_cond1 k = 1#1 := by decide +kernel

/-! ### The middle loops -/

theorem off15_eq : ∀ (a : Fin k0_t3_loop.trips) (b : Fin k0_t4_loop.trips), k0_off15 a b = semOff (Ring.sl 6 (kk a.val b.val)) := by decide +kernel
@[sl_canon] theorem N15_cIn (a : Fin k0_t3_loop.trips) (b : Fin k0_t4_loop.trips) (hh) : (cc0_scratch7.slice (Rect.unit (s := S6) (k0_off15 a b) S1.size hh)).squeeze S_ squeezes_S1_S_ = cIn (Ring.sl 6 (kk a.val b.val)) := cIn_congr (off15_eq a b) _
theorem off16_eq : ∀ (a : Fin k0_t3_loop.trips) (b : Fin k0_t4_loop.trips), k0_off16 a b = slotOff (Ring.sl 6 (kk a.val b.val)) := by decide +kernel
@[sl_canon] theorem N16_sIn (a : Fin k0_t3_loop.trips) (b : Fin k0_t4_loop.trips) (hh hs) : (ibM.slice (Rect.unit (s := S6x7168x128) (k0_off16 a b) S1x7168x128.size hh) hs).squeeze S7168x128 squeezes_S1x7168x128_S7168x128 = sIn (Ring.sl 6 (kk a.val b.val)) := sIn_congr (off16_eq a b) _ _
theorem off17_eq : ∀ (a : Fin k0_t3_loop.trips) (b : Fin k0_t4_loop.trips), k0_off17 a b = tileOff (Ring.bk 84 (kk a.val b.val)) := by decide +kernel
@[sl_canon] theorem N17_tIn (a : Fin k0_t3_loop.trips) (b : Fin k0_t4_loop.trips) (hh hs) : xM.slice (Rect.unit (s := S21504x3584) (k0_off17 a b) S7168x128.size hh) hs = tIn (Ring.bk 84 (kk a.val b.val)) := tIn_congr (off17_eq a b) _ _
theorem cond2_iff : ∀ (a : Fin k0_t3_loop.trips) (b : Fin k0_t4_loop.trips), k0_cond2 a b = 1#1 ↔ 6 ≤ oo a.val b.val := by decide +kernel
theorem cond3_iff : ∀ (a : Fin k0_t3_loop.trips) (b : Fin k0_t4_loop.trips), k0_cond3 a b = 1#1 ↔ kk a.val b.val + 6 < 84 := by decide +kernel
theorem off18_eq : ∀ (a : Fin k0_t3_loop.trips) (b : Fin k0_t4_loop.trips), 6 ≤ oo a.val b.val → k0_off18 a b = semOff (Ring.sl 6 (oo a.val b.val)) := by decide +kernel
@[sl_canon] theorem N18_cOut (a : Fin k0_t3_loop.trips) (b : Fin k0_t4_loop.trips) (h : 6 ≤ oo a.val b.val) (hh) : (cc0_scratch8.slice (Rect.unit (s := S6) (k0_off18 a b) S1.size hh)).squeeze S_ squeezes_S1_S_ = cOut (Ring.sl 6 (oo a.val b.val)) := cOut_congr (off18_eq a b h) _
theorem off19_eq : ∀ (a : Fin k0_t3_loop.trips) (b : Fin k0_t4_loop.trips), 6 ≤ oo a.val b.val → k0_off19 a b = tileOff (Ring.bk 84 (oo a.val b.val - 6)) := by decide +kernel
@[sl_canon] theorem N19_tOut (a : Fin k0_t3_loop.trips) (b : Fin k0_t4_loop.trips) (h : 6 ≤ oo a.val b.val) (hh hs) : yM.slice (Rect.unit (s := S21504x3584) (k0_off19 a b) S7168x128.size hh) hs = tOut (Ring.bk 84 (oo a.val b.val - 6)) := tOut_congr (off19_eq a b h) _ _
theorem off20_eq : ∀ (a : Fin k0_t3_loop.trips) (b : Fin k0_t4_loop.trips), 6 ≤ oo a.val b.val → k0_off20 a b = slotOff (Ring.sl 6 (oo a.val b.val)) := by decide +kernel
@[sl_canon] theorem N20_sOut (a : Fin k0_t3_loop.trips) (b : Fin k0_t4_loop.trips) (h : 6 ≤ oo a.val b.val) (hh hs) : (obM.slice (Rect.unit (s := S6x7168x128) (k0_off20 a b) S1x7168x128.size hh) hs).squeeze S7168x128 squeezes_S1x7168x128_S7168x128 = sOut (Ring.sl 6 (oo a.val b.val)) := sOut_congr (off20_eq a b h) _ _
theorem off21_eq : ∀ (b : Fin k0_t4_loop.trips), k0_off21 b = ![3584 * b.val, 0, 0] := by decide +kernel
instance (b : Fin k0_t4_loop.trips) : ClosedOff (k0_off21 b) := ⟨![3584 * b.val, 0, 0], off21_eq b⟩
theorem off22_eq : ∀ (a : Fin k0_t3_loop.trips) (b : Fin k0_t4_loop.trips), k0_off22 a b = slotOff (Ring.sl 6 (oo a.val b.val)) := by decide +kernel
instance (a : Fin k0_t3_loop.trips) (b : Fin k0_t4_loop.trips) : ClosedOff (k0_off22 a b) := ⟨slotOff (Ring.sl 6 (oo a.val b.val)), off22_eq a b⟩
theorem off23_eq : ∀ (a : Fin k0_t3_loop.trips) (b : Fin k0_t4_loop.trips), k0_off23 a b = slotOff (Ring.sl 6 (kk a.val b.val)) := by decide +kernel
instance (a : Fin k0_t3_loop.trips) (b : Fin k0_t4_loop.trips) : ClosedOff (k0_off23 a b) := ⟨slotOff (Ring.sl 6 (kk a.val b.val)), off23_eq a b⟩
theorem off24_eq : ∀ (a : Fin k0_t3_loop.trips) (b : Fin k0_t4_loop.trips), k0_off24 a b = semOff (Ring.sl 6 (oo a.val b.val)) := by decide +kernel
@[sl_canon] theorem N24_cOut (a : Fin k0_t3_loop.trips) (b : Fin k0_t4_loop.trips) (hh) : (cc0_scratch8.slice (Rect.unit (s := S6) (k0_off24 a b) S1.size hh)).squeeze S_ squeezes_S1_S_ = cOut (Ring.sl 6 (oo a.val b.val)) := cOut_congr (off24_eq a b) _
theorem off25_eq : ∀ (a : Fin k0_t3_loop.trips) (b : Fin k0_t4_loop.trips), k0_off25 a b = tileOff (Ring.bk 84 (oo a.val b.val)) := by decide +kernel
@[sl_canon] theorem N25_tOut (a : Fin k0_t3_loop.trips) (b : Fin k0_t4_loop.trips) (hh hs) : yM.slice (Rect.unit (s := S21504x3584) (k0_off25 a b) S7168x128.size hh) hs = tOut (Ring.bk 84 (oo a.val b.val)) := tOut_congr (off25_eq a b) _ _
theorem off26_eq : ∀ (a : Fin k0_t3_loop.trips) (b : Fin k0_t4_loop.trips), k0_off26 a b = slotOff (Ring.sl 6 (oo a.val b.val)) := by decide +kernel
@[sl_canon] theorem N26_sOut (a : Fin k0_t3_loop.trips) (b : Fin k0_t4_loop.trips) (hh hs) : (obM.slice (Rect.unit (s := S6x7168x128) (k0_off26 a b) S1x7168x128.size hh) hs).squeeze S7168x128 squeezes_S1x7168x128_S7168x128 = sOut (Ring.sl 6 (oo a.val b.val)) := sOut_congr (off26_eq a b) _ _
theorem off27_eq : ∀ (a : Fin k0_t3_loop.trips) (b : Fin k0_t4_loop.trips), kk a.val b.val + 6 < 84 → k0_off27 a b = semOff (Ring.sl 6 (kk a.val b.val)) := by decide +kernel
@[sl_canon] theorem N27_cIn (a : Fin k0_t3_loop.trips) (b : Fin k0_t4_loop.trips) (h : kk a.val b.val + 6 < 84) (hh) : (cc0_scratch7.slice (Rect.unit (s := S6) (k0_off27 a b) S1.size hh)).squeeze S_ squeezes_S1_S_ = cIn (Ring.sl 6 (kk a.val b.val)) := cIn_congr (off27_eq a b h) _
theorem off28_eq : ∀ (a : Fin k0_t3_loop.trips) (b : Fin k0_t4_loop.trips), kk a.val b.val + 6 < 84 → k0_off28 a b = slotOff (Ring.sl 6 (kk a.val b.val)) := by decide +kernel
@[sl_canon] theorem N28_sIn (a : Fin k0_t3_loop.trips) (b : Fin k0_t4_loop.trips) (h : kk a.val b.val + 6 < 84) (hh hs) : (ibM.slice (Rect.unit (s := S6x7168x128) (k0_off28 a b) S1x7168x128.size hh) hs).squeeze S7168x128 squeezes_S1x7168x128_S7168x128 = sIn (Ring.sl 6 (kk a.val b.val)) := sIn_congr (off28_eq a b h) _ _
theorem off29_eq : ∀ (a : Fin k0_t3_loop.trips) (b : Fin k0_t4_loop.trips), kk a.val b.val + 6 < 84 → k0_off29 a b = tileOff (Ring.bk 84 (kk a.val b.val + 6)) := by decide +kernel
@[sl_canon] theorem N29_tIn (a : Fin k0_t3_loop.trips) (b : Fin k0_t4_loop.trips) (h : kk a.val b.val + 6 < 84) (hh hs) : xM.slice (Rect.unit (s := S21504x3584) (k0_off29 a b) S7168x128.size hh) hs = tIn (Ring.bk 84 (kk a.val b.val + 6)) := tIn_congr (off29_eq a b h) _ _
theorem off30_eq : ∀ (a : Fin k0_t3_loop.trips), k0_off30 a = ![a.val + 1, 0] := by decide +kernel
instance (a : Fin k0_t3_loop.trips) : ClosedOff (k0_off30 a) := ⟨![a.val + 1, 0], off30_eq a⟩

/-! ### The last loop -/

theorem off31_eq : ∀ (k : Fin k0_t5_loop.trips), k0_off31 k = semOff (Ring.sl 6 (o5 k.val)) := by decide +kernel
@[sl_canon] theorem N31_cOut (k : Fin k0_t5_loop.trips) (hh) : (cc0_scratch8.slice (Rect.unit (s := S6) (k0_off31 k) S1.size hh)).squeeze S_ squeezes_S1_S_ = cOut (Ring.sl 6 (o5 k.val)) := cOut_congr (off31_eq k) _
theorem off32_eq : ∀ (k : Fin k0_t5_loop.trips), k0_off32 k = tileOff (Ring.bk 84 (o5 k.val - 6)) := by decide +kernel
@[sl_canon] theorem N32_tOut (k : Fin k0_t5_loop.trips) (hh hs) : yM.slice (Rect.unit (s := S21504x3584) (k0_off32 k) S7168x128.size hh) hs = tOut (Ring.bk 84 (o5 k.val - 6)) := tOut_congr (off32_eq k) _ _
theorem off33_eq : ∀ (k : Fin k0_t5_loop.trips), k0_off33 k = slotOff (Ring.sl 6 (o5 k.val)) := by decide +kernel
@[sl_canon] theorem N33_sOut (k : Fin k0_t5_loop.trips) (hh hs) : (obM.slice (Rect.unit (s := S6x7168x128) (k0_off33 k) S1x7168x128.size hh) hs).squeeze S7168x128 squeezes_S1x7168x128_S7168x128 = sOut (Ring.sl 6 (o5 k.val)) := sOut_congr (off33_eq k) _ _
theorem off34_eq : ∀ (k : Fin k0_t5_loop.trips), k0_off34 k = ![3584 * k.val, 0, 0] := by decide +kernel
instance (k : Fin k0_t5_loop.trips) : ClosedOff (k0_off34 k) := ⟨![3584 * k.val, 0, 0], off34_eq k⟩
theorem off35_eq : ∀ (k : Fin k0_t5_loop.trips), k0_off35 k = slotOff (Ring.sl 6 (o5 k.val)) := by decide +kernel
instance (k : Fin k0_t5_loop.trips) : ClosedOff (k0_off35 k) := ⟨slotOff (Ring.sl 6 (o5 k.val)), off35_eq k⟩
theorem off36_eq : ∀ (k : Fin k0_t5_loop.trips), k0_off36 k = semOff (Ring.sl 6 (o5 k.val)) := by decide +kernel
@[sl_canon] theorem N36_cOut (k : Fin k0_t5_loop.trips) (hh) : (cc0_scratch8.slice (Rect.unit (s := S6) (k0_off36 k) S1.size hh)).squeeze S_ squeezes_S1_S_ = cOut (Ring.sl 6 (o5 k.val)) := cOut_congr (off36_eq k) _
theorem off37_eq : ∀ (k : Fin k0_t5_loop.trips), k0_off37 k = tileOff (Ring.bk 84 (o5 k.val)) := by decide +kernel
@[sl_canon] theorem N37_tOut (k : Fin k0_t5_loop.trips) (hh hs) : yM.slice (Rect.unit (s := S21504x3584) (k0_off37 k) S7168x128.size hh) hs = tOut (Ring.bk 84 (o5 k.val)) := tOut_congr (off37_eq k) _ _
theorem off38_eq : ∀ (k : Fin k0_t5_loop.trips), k0_off38 k = slotOff (Ring.sl 6 (o5 k.val)) := by decide +kernel
@[sl_canon] theorem N38_sOut (k : Fin k0_t5_loop.trips) (hh hs) : (obM.slice (Rect.unit (s := S6x7168x128) (k0_off38 k) S1x7168x128.size hh) hs).squeeze S7168x128 squeezes_S1x7168x128_S7168x128 = sOut (Ring.sl 6 (o5 k.val)) := sOut_congr (off38_eq k) _ _

end Cert.Proof.KernelIdeal

end
-- ==== Proof.KernelIdeal.Pieces.lean ====
/-
  What the kernel of `KernelIdeal.lean` holds between two trips of its loops: the inbound ring before item `k`, the outbound ring
  before item `o`, its scratch buffers at anything, the waits it owes.
-/
module

public import proofs.«01_k».proof.Proof.KernelIdeal.Names

@[expose] public section

noncomputable section

namespace Cert.Proof.KernelIdeal

open Cert.KernelIdeal Cert.KernelIdeal.Gen Cert.Proof.Rings
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The pipeline library's algebra beside the counters the kernel's own transfers ride on. -/
abbrev UU (nD : Nat) (τ : Topo) : Type := UR sig nD τ × Counters
local notation "𝕄" => MT nD τ sig Unit (Elt F) ℕ (UU nD τ) ℕ
abbrev EP : Emb (UR sig nD τ) (MT nD τ sig Unit (Elt F) ℕ (UU nD τ) ℕ) := embL
abbrev 𝒱₀ : Variants := Variants.none

section Pieces
variable (c : Dev nD) (XA : Buf (Elt F) (xM.view.loc (c : Thread nD τ))) (GA : Buf (Elt F) (gM.view.loc (c : Thread nD τ)))

/-! ### Inbound -/

abbrev cInP (s : Fin 6) : sProp 𝕄 := semVal ((c : Thread nD τ), SemLoc.dma (cIn s).sem) 0
abbrev sInP (s : Fin 6) (f : Buf (Elt F) ((sIn s).view.loc (c : Thread nD τ))) : sProp 𝕄 :=
  (sIn s).view.loc (c : Thread nD τ) ↦[(sIn s).view.set]{fullShare} f
/-- Tile `b` of the codes home, at the codes' contents. -/
abbrev tInP (b : Fin 84) : sProp 𝕄 := (tIn b).view.loc (c : Thread nD τ) ↦[(tIn b).view.set]{fullShare} XA
/-- Tile `b`'s codes. -/
abbrev pIn (b : Fin 84) : S7168x128.Idx → Elt F .fp8e4m3 := ReadAs.same.apply ((tIn b).view.read (Elt F) XA)
/-- What tile `b`'s transfer leaves in slot `s`. -/
abbrev landIn (s : Fin 6) (b : Fin 84) (f : Buf (Elt F) ((sIn s).view.loc (c : Thread nD τ))) : Buf (Elt F) ((sIn s).view.loc (c : Thread nD τ)) :=
  (sIn s).view.writes (Elt F) f [⟨Rect.whole S7168x128, pIn c XA b⟩]
abbrev flIn (s : Fin 6) (b : Fin 84) (f : Buf (Elt F) ((sIn s).view.loc (c : Thread nD τ))) : sProp 𝕄 :=
  Transfers.Flight countersEmb (c : Thread nD τ) (SemLoc.dma (cIn s).sem) () 28672 iprop(sInP c s (landIn c XA s b f) ∗ tInP c XA b)
abbrev inflIn (s : Fin 6) (b : Fin 84) : sProp 𝕄 := iprop(∃ f, flIn c XA s b f)
abbrev freeIn (s : Fin 6) : sProp 𝕄 := iprop((∃ f, sInP (F := F) c s f) ∗ cInP c s)

/-- A transfer into slot `s` over what the transfer before it left there, as the executor states it. -/
theorem flIn_after (s : Fin 6) (b b' : Fin 84) :
    flIn c XA s b' ((sIn s).view.writes (Elt F) (sIn s).view.junk [⟨Rect.whole S7168x128, pIn c XA b⟩])
      = Transfers.Flight countersEmb (c : Thread nD τ) (SemLoc.dma (cIn s).sem) () 28672
          iprop(((sIn s).view.loc (c : Thread nD τ) ↦[(sIn s).view.set]{fullShare}
                  (sIn s).view.writes (Elt F) (sIn s).view.junk [⟨Rect.whole S7168x128, pIn c XA b'⟩, ⟨Rect.whole S7168x128, pIn c XA b⟩])
                ∗ tInP c XA b') := by
  simp only [flIn, landIn, sInP, View.writes]

/-! ### Outbound -/

abbrev cOutP (s : Fin 6) : sProp 𝕄 := semVal ((c : Thread nD τ), SemLoc.dma (cOut s).sem) 0
abbrev sOutP (s : Fin 6) (f : Buf (Elt F) ((sOut s).view.loc (c : Thread nD τ))) : sProp 𝕄 :=
  (sOut s).view.loc (c : Thread nD τ) ↦[(sOut s).view.set]{fullShare} f
abbrev tOutP (b : Fin 84) (f : Buf (Elt F) ((tOut b).view.loc (c : Thread nD τ))) : sProp 𝕄 :=
  (tOut b).view.loc (c : Thread nD τ) ↦[(tOut b).view.set]{fullShare} f
/-- Slot `s`, holding `g`, on its way to tile `b` of the result. -/
abbrev flOut (s : Fin 6) (b : Fin 84) (f : Buf (Elt F) ((tOut b).view.loc (c : Thread nD τ))) (g : Buf (Elt F) ((sOut s).view.loc (c : Thread nD τ))) : sProp 𝕄 :=
  Transfers.Flight countersEmb (c : Thread nD τ) (SemLoc.dma (cOut s).sem) () 28672
    iprop(tOutP c b ((tOut b).view.writes (Elt F) f [⟨Rect.whole S7168x128, ReadAs.same.apply ((sOut s).view.read (Elt F) g)⟩]) ∗ sOutP c s g)
abbrev inflOut (s : Fin 6) (b : Fin 84) : sProp 𝕄 := iprop(∃ f g, flOut (F := F) c s b f g)
abbrev freeOut (s : Fin 6) : sProp 𝕄 := iprop((∃ f, sOutP (F := F) c s f) ∗ cOutP c s)
abbrev homeOut (b : Fin 84) : sProp 𝕄 := iprop(∃ f, tOutP (F := F) c b f)

/-! ### The scales -/

abbrev cGP (j : Fin 3) : sProp 𝕄 := semVal ((c : Thread nD τ), SemLoc.dma (cG j).sem) 0
abbrev gStP (j : Fin 3) (f : Buf (Elt F) ((gSt j).view.loc (c : Thread nD τ))) : sProp 𝕄 :=
  (gSt j).view.loc (c : Thread nD τ) ↦[(gSt j).view.set]{fullShare} f
abbrev gInP (j : Fin 3) : sProp 𝕄 := (gIn j).view.loc (c : Thread nD τ) ↦[(gIn j).view.set]{fullShare} GA
abbrev pG (j : Fin 3) : S7x28x1024.Idx → Elt F .f32 := ReadAs.same.apply ((gIn j).view.read (Elt F) GA)
abbrev landG (j : Fin 3) (f : Buf (Elt F) ((gSt j).view.loc (c : Thread nD τ))) : Buf (Elt F) ((gSt j).view.loc (c : Thread nD τ)) :=
  (gSt j).view.writes (Elt F) f [⟨Rect.whole S7x28x1024, pG c GA j⟩]
abbrev flG (j : Fin 3) (f : Buf (Elt F) ((gSt j).view.loc (c : Thread nD τ))) : sProp 𝕄 :=
  Transfers.Flight countersEmb (c : Thread nD τ) (SemLoc.dma (cG j).sem) () 25088 iprop(gStP c j (landG c GA j f) ∗ gInP c GA j)
/-- Piece `j` in flight, or staged. -/
abbrev inflG (j : Fin 3) : sProp 𝕄 := iprop(∃ f, flG c GA j f)
abbrev doneG (j : Fin 3) : sProp 𝕄 := iprop((∃ f, gStP (F := F) c j f) ∗ gInP c GA j ∗ cGP c j)
/-- The scales before trip `k` of the first loop. -/
@[irreducible] def scalesAt (k : ℕ) : sProp 𝕄 := bigSep Finset.univ fun j : Fin 3 => if j.val < k then doneG c GA j else inflG c GA j

/-! ### All of it -/

abbrev xbP (f : Buf (Elt F) (xbM.view.loc (c : Thread nD τ))) : sProp 𝕄 := xbM.view.loc (c : Thread nD τ) ↦[xbM.view.set]{fullShare} f
abbrev sbP (f : Buf (Elt F) (sbM.view.loc (c : Thread nD τ))) : sProp 𝕄 := sbM.view.loc (c : Thread nD τ) ↦[sbM.view.set]{fullShare} f
abbrev amP (f : Buf (Elt F) (amM.view.loc (c : Thread nD τ))) : sProp 𝕄 := amM.view.loc (c : Thread nD τ) ↦[amM.view.set]{fullShare} f
abbrev ivP (f : Buf (Elt F) (ivM.view.loc (c : Thread nD τ))) : sProp 𝕄 := ivM.view.loc (c : Thread nD τ) ↦[ivM.view.set]{fullShare} f
abbrev iRing (k : ℕ) : sProp 𝕄 := inRing (tInP c XA) (inflIn c XA) (freeIn c) k
abbrev oRing (o : ℕ) : sProp 𝕄 := outRing (homeOut (F := F) c) (homeOut c) (inflOut c) (freeOut c) o

/-- Before the item `k` comes in and the item `o` goes out. -/
def res (k o : ℕ) : sProp 𝕄 :=
  iprop(iRing c XA k ∗ oRing (F := F) c o ∗ (∃ f, xbP (F := F) c f) ∗ (∃ f, sbP (F := F) c f) ∗ (∃ f, amP (F := F) c f) ∗ (∃ f, ivP (F := F) c f)
    ∗ ∃ W, owes (c : Thread nD τ) 0 W)

end Pieces

end Cert.Proof.KernelIdeal

end
-- ==== Proof.KernelIdeal.Middle.lean ====
/-
  A trip of the middle loops: item `k` comes in, item `o` goes out.
-/
module

public import proofs.«01_k».proof.Proof.KernelIdeal.Pieces

@[expose] public section

noncomputable section

namespace Cert.Proof.KernelIdeal

open Cert.KernelIdeal Cert.KernelIdeal.Gen Cert.Proof.Rings
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UU nD τ) ℕ

section Trip
variable (c : Dev nD) (XA : Buf (Elt F) (xM.view.loc (c : Thread nD τ))) (GA : Buf (Elt F) (gM.view.loc (c : Thread nD τ)))
  (arg3 : Memref sig .tc .vmem S28x128 .f32) (harg3 : arg3.IsWhole)

abbrev body4 (a : Fin k0_t3_loop.trips) (w : BitVec 32) (b : Fin k0_t4_loop.trips) : Prog (TpuEff nD τ sig (Elt F) Λ₀ .tc) Unit :=
  k0_t4_body (F := F) xM (Memref.isWhole_whole _) gM (Memref.isWhole_whole _) yM (Memref.isWhole_whole _) arg3 harg3 ibM (Memref.isWhole_whole _) obM (Memref.isWhole_whole _) xbM (Memref.isWhole_whole _) sgM (Memref.isWhole_whole _) sbM (Memref.isWhole_whole _) amM (Memref.isWhole_whole _) ivM (Memref.isWhole_whole _) cc0_scratch7 cc0_scratch8 cc0_scratch9 a w b ()

set_option maxHeartbeats 2000000 in
set_option backward.proofsInPublic true in
theorem step4 (a : Fin k0_t3_loop.trips) (w : BitVec 32) (b : Fin k0_t4_loop.trips) :
    res c XA (kk a.val b.val) (oo a.val b.val) ⊢ wp Idealize.ShloMosaic.frame (wpE (defs₀ (F := F)) 𝒱₀ (c : Thread nD τ) none) Set.univ (body4 (F := F) arg3 harg3 a w b)
      (fun _ => res c XA (kk a.val (b.val + 1)) (oo a.val (b.val + 1))) := by
  have ha : a.val < 27 := Nat.lt_of_lt_of_eq a.isLt (by decide)
  have hb : b.val < 3 := Nat.lt_of_lt_of_eq b.isLt (by decide)
  have hk : kk a.val b.val < 84 := by unfold kk; omega
  have ho : oo a.val b.val < 84 := by unfold oo; omega
  rw [show kk a.val (b.val + 1) = kk a.val b.val + 1 from rfl, show oo a.val (b.val + 1) = oo a.val b.val + 1 from rfl]
  unfold res
  by_cases h2 : 6 ≤ oo a.val b.val
  · have h2' := (cond2_iff a b).2 h2
    by_cases h3 : kk a.val b.val + 6 < 84
    · have h3' := (cond3_iff a b).2 h3
      iintro ⟨HI, HO, ⟨%fx, Hx⟩, ⟨%fs, Hs⟩, ⟨%fa, Ha⟩, ⟨%fi, Hi⟩, ⟨%W, HW⟩⟩
      ihave HI' := (inRing_open (tInP c XA) (inflIn c XA) (freeIn c) _ h3) $$ HI
      icases HI' with ⟨⟨%f0, HF⟩, Hn, HIr⟩
      ihave HO' := (outRing_open (homeOut (F := F) c) (homeOut c) (inflOut c) (freeOut c) _ h2 ho) $$ HO
      icases HO' with ⟨⟨%f1, %g1, HG⟩, ⟨%f2, Hd⟩, HOr⟩
      dsimp only [body4]
      sl_unfold [k0_t4_body]
      sl_exec
      sl_step
      isplitl [HF HF_src HIr]
      · iapply (inRing_close (tInP c XA) (inflIn c XA) (freeIn c) _ h3)
        isplitl [HF]
        · iexists ((sIn (Ring.sl 6 (kk a.val b.val))).view.writes (Elt F) (sIn (Ring.sl 6 (kk a.val b.val))).view.junk [⟨Rect.whole S7168x128, pIn c XA (Ring.bk 84 (kk a.val b.val))⟩])
          irw [flIn_after]
          iexact HF
        isplitl [HF_src]; · iexact HF_src
        iexact HIr
      isplitl [HG HG_dst HOr]
      · iapply (outRing_close (homeOut (F := F) c) (homeOut c) (inflOut c) (freeOut c) _ h2 ho)
        isplitl [HG]; · iexists f2; iexists _; iexact HG
        isplitl [HG_dst]; · iexists _; iexact HG_dst
        iexact HOr
      isplitl [Hx]; · iexists _; iexact Hx
      isplitl [Hs]; · iexists _; iexact Hs
      isplitl [Ha]; · iexists _; iexact Ha
      isplitl [Hi]; · iexists _; iexact Hi
      iexists _; iexact HW
    · have h3' : ¬ k0_cond3 a b = 1#1 := fun h => h3 ((cond3_iff a b).1 h)
      iintro ⟨HI, HO, ⟨%fx, Hx⟩, ⟨%fs, Hs⟩, ⟨%fa, Ha⟩, ⟨%fi, Hi⟩, ⟨%W, HW⟩⟩
      ihave HI' := (inRing_openE (tInP c XA) (inflIn c XA) (freeIn c) _ hk) $$ HI
      icases HI' with ⟨⟨%f0, HF⟩, HIr⟩
      ihave HO' := (outRing_open (homeOut (F := F) c) (homeOut c) (inflOut c) (freeOut c) _ h2 ho) $$ HO
      icases HO' with ⟨⟨%f1, %g1, HG⟩, ⟨%f2, Hd⟩, HOr⟩
      dsimp only [body4]
      sl_unfold [k0_t4_body]
      sl_exec
      sl_step
      isplitl [HF HF_src HF_dst HIr]
      · iapply (inRing_closeE (tInP c XA) (inflIn c XA) (freeIn c) _ hk (by omega))
        isplitl [HF HF_dst]
        · isplitl [HF_dst]; · iexists _; iexact HF_dst
          iexact HF
        isplitl [HF_src]; · iexact HF_src
        iexact HIr
      isplitl [HG HG_dst HOr]
      · iapply (outRing_close (homeOut (F := F) c) (homeOut c) (inflOut c) (freeOut c) _ h2 ho)
        isplitl [HG]; · iexists f2; iexists _; iexact HG
        isplitl [HG_dst]; · iexists _; iexact HG_dst
        iexact HOr
      isplitl [Hx]; · iexists _; iexact Hx
      isplitl [Hs]; · iexists _; iexact Hs
      isplitl [Ha]; · iexists _; iexact Ha
      isplitl [Hi]; · iexists _; iexact Hi
      iexists _; iexact HW
  · have h2' : ¬ k0_cond2 a b = 1#1 := fun h => h2 ((cond2_iff a b).1 h)
    have h3 : kk a.val b.val + 6 < 84 := by unfold kk; unfold oo at h2; omega
    have h3' := (cond3_iff a b).2 h3
    · skip
      iintro ⟨HI, HO, ⟨%fx, Hx⟩, ⟨%fs, Hs⟩, ⟨%fa, Ha⟩, ⟨%fi, Hi⟩, ⟨%W, HW⟩⟩
      ihave HI' := (inRing_open (tInP c XA) (inflIn c XA) (freeIn c) _ h3) $$ HI
      icases HI' with ⟨⟨%f0, HF⟩, Hn, HIr⟩
      ihave HO' := (outRing_openF (homeOut (F := F) c) (homeOut c) (inflOut c) (freeOut c) _ (by omega)) $$ HO
      icases HO' with ⟨⟨⟨%g1, Hsl⟩, HG⟩, ⟨%f2, Hd⟩, HOr⟩
      dsimp only [body4]
      sl_unfold [k0_t4_body]
      sl_exec
      sl_step
      isplitl [HF HF_src HIr]
      · iapply (inRing_close (tInP c XA) (inflIn c XA) (freeIn c) _ h3)
        isplitl [HF]
        · iexists ((sIn (Ring.sl 6 (kk a.val b.val))).view.writes (Elt F) (sIn (Ring.sl 6 (kk a.val b.val))).view.junk [⟨Rect.whole S7168x128, pIn c XA (Ring.bk 84 (kk a.val b.val))⟩])
          irw [flIn_after]
          iexact HF
        isplitl [HF_src]; · iexact HF_src
        iexact HIr
      isplitl [HG HOr]
      · iapply (outRing_closeF (homeOut (F := F) c) (homeOut c) (inflOut c) (freeOut c) _ (by omega))
        isplitl [HG]; · iexists f2; iexists _; iexact HG
        iexact HOr
      isplitl [Hx]; · iexists _; iexact Hx
      isplitl [Hs]; · iexists _; iexact Hs
      isplitl [Ha]; · iexists _; iexact Ha
      isplitl [Hi]; · iexists _; iexact Hi
      iexists _; iexact HW

end Trip

end Cert.Proof.KernelIdeal

end
-- ==== Proof.KernelIdeal.Loops.lean ====
/-
  The loops' invariants: the staged scales, the first block's items, the middle blocks, the last block's results.
-/
module

public import proofs.«01_k».proof.Proof.KernelIdeal.Middle

@[expose] public section

noncomputable section

namespace Cert.Proof.KernelIdeal

open Cert.KernelIdeal Cert.KernelIdeal.Gen Cert.Proof.Rings
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UU nD τ) ℕ

section Loops
variable (c : Dev nD) (XA : Buf (Elt F) (xM.view.loc (c : Thread nD τ))) (GA : Buf (Elt F) (gM.view.loc (c : Thread nD τ)))
  (arg3 : Memref sig .tc .vmem S28x128 .f32) (harg3 : arg3.IsWhole)

/-! ### The first loop: the scales staged, widened and packed -/

/-- What trip `k` of the first loop leaves alone. -/
def scalesRest (k : ℕ) : sProp 𝕄 :=
  bigSep (Finset.univ.erase (Ring.bk 3 k)) fun j : Fin 3 => if j.val < k then doneG c GA j else inflG c GA j

theorem scales_open (k : ℕ) (h : k < 3) : scalesAt c GA k ⊢ iprop(inflG c GA (Ring.bk 3 k) ∗ scalesRest c GA k) := by
  have hv : (Ring.bk 3 k).val = k := Ring.bk_val h
  have e : scalesAt c GA k = iprop(inflG c GA (Ring.bk 3 k) ∗ scalesRest c GA k) := by
    unfold scalesAt scalesRest
    conv_lhs => rw [← Finset.insert_erase (Finset.mem_univ (Ring.bk 3 k)), bigSep_insert (Finset.notMem_erase _ _)]
    rw [if_neg (by omega)]; rfl
  rw [e]
theorem scales_close (k : ℕ) (h : k < 3) : iprop(doneG c GA (Ring.bk 3 k) ∗ scalesRest c GA k) ⊢ scalesAt c GA (k + 1) := by
  have hv : (Ring.bk 3 k).val = k := Ring.bk_val h
  have e : scalesAt c GA (k + 1) = iprop(doneG c GA (Ring.bk 3 k) ∗ scalesRest c GA k) := by
    unfold scalesAt scalesRest
    conv_lhs => rw [← Finset.insert_erase (Finset.mem_univ (Ring.bk 3 k)), bigSep_insert (Finset.notMem_erase _ _)]
    rw [if_pos (by omega)]
    have e' : ∀ j ∈ Finset.univ.erase (Ring.bk 3 k), (if j.val < k + 1 then doneG c GA j else inflG c GA j) = (if j.val < k then doneG c GA j else inflG c GA j) := by
      intro j hj
      have hne : j.val ≠ k := fun h => (Finset.ne_of_mem_erase hj) (Fin.ext (h.trans hv.symm))
      by_cases h1 : j.val < k
      · rw [if_pos h1, if_pos (by omega)]
      · rw [if_neg h1, if_neg (by omega)]
    rw [bigSep_congr e']; rfl
  rw [e]

def res1 (k : ℕ) : sProp 𝕄 := iprop(scalesAt c GA k ∗ (∃ f, sbP (F := F) c f) ∗ ∃ W, owes (c : Thread nD τ) 0 W)

abbrev body1 (k : Fin k0_t1_loop.trips) : Prog (TpuEff nD τ sig (Elt F) Λ₀ .tc) Unit :=
  k0_t1_body (F := F) xM (Memref.isWhole_whole _) gM (Memref.isWhole_whole _) yM (Memref.isWhole_whole _) arg3 harg3 ibM (Memref.isWhole_whole _) obM (Memref.isWhole_whole _) xbM (Memref.isWhole_whole _) sgM (Memref.isWhole_whole _) sbM (Memref.isWhole_whole _) amM (Memref.isWhole_whole _) ivM (Memref.isWhole_whole _) cc0_scratch7 cc0_scratch8 cc0_scratch9 k ()

set_option maxHeartbeats 2000000 in
set_option backward.proofsInPublic true in
theorem step1 (k : Fin k0_t1_loop.trips) :
    res1 c GA k.val ⊢ wp Idealize.ShloMosaic.frame (wpE (defs₀ (F := F)) 𝒱₀ (c : Thread nD τ) none) Set.univ (body1 (F := F) arg3 harg3 k) (fun _ => res1 c GA (k.val + 1)) := by
  have hk : k.val < 3 := Nat.lt_of_lt_of_eq k.isLt (by decide)
  have hv : (Ring.bk 3 k.val).val = k.val := Ring.bk_val hk
  unfold res1
  iintro ⟨HS, ⟨%fs, Hs⟩, ⟨%W, HW⟩⟩
  ihave HS' := (scales_open c GA _ hk) $$ HS
  icases HS' with ⟨⟨%f0, HF⟩, HSr⟩
  dsimp only [body1]
  sl_unfold [k0_t1_body]
  sl_exec
  sl_step
  isplitl [HF HF_src HF_dst HSr]
  · iapply (scales_close c GA _ hk)
    isplitl [HF HF_src HF_dst]
    · isplitl [HF_dst]; · iexists _; iexact HF_dst
      isplitl [HF_src]; · iexact HF_src
      iexact HF
    iexact HSr
  isplitl [Hs]; · iexists _; iexact Hs
  iexists _; iexact HW

set_option warn.classDefReducibility false in
@[sl_loop] def loopInv1 : LoopInvTy_k0_t1 (F := F) Unit ℕ (UU nD τ) ℕ 𝒱₀ c none Set.univ xM (Memref.isWhole_whole _) gM (Memref.isWhole_whole _) yM (Memref.isWhole_whole _) arg3 harg3 ibM (Memref.isWhole_whole _) obM (Memref.isWhole_whole _) xbM (Memref.isWhole_whole _) sgM (Memref.isWhole_whole _) sbM (Memref.isWhole_whole _) amM (Memref.isWhole_whole _) ivM (Memref.isWhole_whole _) cc0_scratch7 cc0_scratch8 cc0_scratch9 where
  inv k _ := res1 c GA k
  step k _ := step1 c GA arg3 harg3 k

/-! ### The second loop: the first block's items -/

abbrev body2 (k : Fin k0_t2_loop.trips) : Prog (TpuEff nD τ sig (Elt F) Λ₀ .tc) Unit :=
  k0_t2_body (F := F) xM (Memref.isWhole_whole _) gM (Memref.isWhole_whole _) yM (Memref.isWhole_whole _) arg3 harg3 ibM (Memref.isWhole_whole _) obM (Memref.isWhole_whole _) xbM (Memref.isWhole_whole _) sgM (Memref.isWhole_whole _) sbM (Memref.isWhole_whole _) amM (Memref.isWhole_whole _) ivM (Memref.isWhole_whole _) cc0_scratch7 cc0_scratch8 cc0_scratch9 k ()

set_option maxHeartbeats 2000000 in
set_option backward.proofsInPublic true in
theorem step2 (k : Fin k0_t2_loop.trips) :
    res c XA k.val 0 ⊢ wp Idealize.ShloMosaic.frame (wpE (defs₀ (F := F)) 𝒱₀ (c : Thread nD τ) none) Set.univ (body2 (F := F) arg3 harg3 k) (fun _ => res c XA (k.val + 1) 0) := by
  have hk : k.val < 3 := Nat.lt_of_lt_of_eq k.isLt (by decide)
  have h3 : k.val + 6 < 84 := by omega
  have h3' := cond1_eq k
  unfold res
  iintro ⟨HI, HO, ⟨%fx, Hx⟩, ⟨%fs, Hs⟩, ⟨%fa, Ha⟩, ⟨%fi, Hi⟩, ⟨%W, HW⟩⟩
  ihave HI' := (inRing_open (tInP c XA) (inflIn c XA) (freeIn c) _ h3) $$ HI
  icases HI' with ⟨⟨%f0, HF⟩, Hn, HIr⟩
  dsimp only [body2]
  sl_unfold [k0_t2_body]
  sl_exec
  sl_step
  isplitl [HF HF_src HIr]
  · iapply (inRing_close (tInP c XA) (inflIn c XA) (freeIn c) _ h3)
    isplitl [HF]
    · iexists ((sIn (Ring.sl 6 k.val)).view.writes (Elt F) (sIn (Ring.sl 6 k.val)).view.junk [⟨Rect.whole S7168x128, pIn c XA (Ring.bk 84 k.val)⟩])
      irw [flIn_after]
      iexact HF
    isplitl [HF_src]; · iexact HF_src
    iexact HIr
  isplitl [HO]; · iexact HO
  isplitl [Hx]; · iexists _; iexact Hx
  isplitl [Hs]; · iexists _; iexact Hs
  isplitl [Ha]; · iexists _; iexact Ha
  isplitl [Hi]; · iexists _; iexact Hi
  iexists _; iexact HW

set_option warn.classDefReducibility false in
@[sl_loop] def loopInv2 : LoopInvTy_k0_t2 (F := F) Unit ℕ (UU nD τ) ℕ 𝒱₀ c none Set.univ xM (Memref.isWhole_whole _) gM (Memref.isWhole_whole _) yM (Memref.isWhole_whole _) arg3 harg3 ibM (Memref.isWhole_whole _) obM (Memref.isWhole_whole _) xbM (Memref.isWhole_whole _) sgM (Memref.isWhole_whole _) sbM (Memref.isWhole_whole _) amM (Memref.isWhole_whole _) ivM (Memref.isWhole_whole _) cc0_scratch7 cc0_scratch8 cc0_scratch9 where
  inv k _ := res c XA k 0
  step k _ := step2 c XA arg3 harg3 k

/-! ### The middle loops -/

set_option warn.classDefReducibility false in
@[sl_loop] def loopInv4 (a : Fin k0_t3_loop.trips) (w : BitVec 32) : LoopInvTy_k0_t4 (F := F) Unit ℕ (UU nD τ) ℕ 𝒱₀ c none Set.univ xM (Memref.isWhole_whole _) gM (Memref.isWhole_whole _) yM (Memref.isWhole_whole _) arg3 harg3 ibM (Memref.isWhole_whole _) obM (Memref.isWhole_whole _) xbM (Memref.isWhole_whole _) sgM (Memref.isWhole_whole _) sbM (Memref.isWhole_whole _) amM (Memref.isWhole_whole _) ivM (Memref.isWhole_whole _) cc0_scratch7 cc0_scratch8 cc0_scratch9 a w where
  inv b _ := res c XA (kk a.val b) (oo a.val b)
  step b _ := step4 c XA arg3 harg3 a w b

abbrev scP (f : Buf (Elt F) (arg3.view.loc (c : Thread nD τ))) : sProp 𝕄 := arg3.view.loc (c : Thread nD τ) ↦[arg3.view.set]{fullShare} f

def res3 (a : ℕ) : sProp 𝕄 := iprop(res c XA (kk a 0) (oo a 0) ∗ ∃ f, scP (F := F) c arg3 f)

abbrev body3 (a : Fin k0_t3_loop.trips) : Prog (TpuEff nD τ sig (Elt F) Λ₀ .tc) Unit :=
  k0_t3_body (F := F) xM (Memref.isWhole_whole _) gM (Memref.isWhole_whole _) yM (Memref.isWhole_whole _) arg3 harg3 ibM (Memref.isWhole_whole _) obM (Memref.isWhole_whole _) xbM (Memref.isWhole_whole _) sgM (Memref.isWhole_whole _) sbM (Memref.isWhole_whole _) amM (Memref.isWhole_whole _) ivM (Memref.isWhole_whole _) cc0_scratch7 cc0_scratch8 cc0_scratch9 a ()

theorem kk_next (a : ℕ) : kk a k0_t4_loop.trips = kk (a + 1) 0 := by
  have e : k0_t4_loop.trips = 3 := by decide
  rw [e]; unfold kk; omega
theorem oo_next (a : ℕ) : oo a k0_t4_loop.trips = oo (a + 1) 0 := by
  have e : k0_t4_loop.trips = 3 := by decide
  rw [e]; unfold oo; omega

set_option maxHeartbeats 2000000 in
set_option backward.proofsInPublic true in
theorem step3 (a : Fin k0_t3_loop.trips) :
    res3 c XA arg3 a.val ⊢ wp Idealize.ShloMosaic.frame (wpE (defs₀ (F := F)) 𝒱₀ (c : Thread nD τ) none) Set.univ (body3 (F := F) arg3 harg3 a) (fun _ => res3 c XA arg3 (a.val + 1)) := by
  unfold res3 res
  iintro ⟨⟨HI, HO, ⟨%fx, Hx⟩, ⟨%fs, Hs⟩, ⟨%fa, Ha⟩, ⟨%fi, Hi⟩, ⟨%W, HW⟩⟩, ⟨%f3, H3⟩⟩
  dsimp only [body3]
  sl_unfold [k0_t3_body]
  sl_exec
  sl_step
  isplitr [H3]
  · isplitl [HI]; · iapply (entails_of_eq (congrArg (iRing c XA) (kk_next a.val))); iexact HI
    isplitl [HO]; · iapply (entails_of_eq (congrArg (oRing (F := F) c) (oo_next a.val))); iexact HO
    isplitl [Hx]; · iexists _; iexact Hx
    isplitl [Hs]; · iexists _; iexact Hs
    isplitl [Ha]; · iexists _; iexact Ha
    isplitl [Hi]; · iexists _; iexact Hi
    iexists _; iexact HW
  iexists _; iexact H3

set_option warn.classDefReducibility false in
@[sl_loop] def loopInv3 : LoopInvTy_k0_t3 (F := F) Unit ℕ (UU nD τ) ℕ 𝒱₀ c none Set.univ xM (Memref.isWhole_whole _) gM (Memref.isWhole_whole _) yM (Memref.isWhole_whole _) arg3 harg3 ibM (Memref.isWhole_whole _) obM (Memref.isWhole_whole _) xbM (Memref.isWhole_whole _) sgM (Memref.isWhole_whole _) sbM (Memref.isWhole_whole _) amM (Memref.isWhole_whole _) ivM (Memref.isWhole_whole _) cc0_scratch7 cc0_scratch8 cc0_scratch9 where
  inv a _ := res3 c XA arg3 a
  step a _ := step3 c XA arg3 harg3 a

/-! ### The last loop -/

abbrev body5 (k : Fin k0_t5_loop.trips) : Prog (TpuEff nD τ sig (Elt F) Λ₀ .tc) Unit :=
  k0_t5_body (F := F) xM (Memref.isWhole_whole _) gM (Memref.isWhole_whole _) yM (Memref.isWhole_whole _) arg3 harg3 ibM (Memref.isWhole_whole _) obM (Memref.isWhole_whole _) xbM (Memref.isWhole_whole _) sgM (Memref.isWhole_whole _) sbM (Memref.isWhole_whole _) amM (Memref.isWhole_whole _) ivM (Memref.isWhole_whole _) cc0_scratch7 cc0_scratch8 cc0_scratch9 k ()

set_option maxHeartbeats 2000000 in
set_option backward.proofsInPublic true in
theorem step5 (k : Fin k0_t5_loop.trips) :
    res c XA 84 (o5 k.val) ⊢ wp Idealize.ShloMosaic.frame (wpE (defs₀ (F := F)) 𝒱₀ (c : Thread nD τ) none) Set.univ (body5 (F := F) arg3 harg3 k) (fun _ => res c XA 84 (o5 (k.val + 1))) := by
  have hk : k.val < 3 := Nat.lt_of_lt_of_eq k.isLt (by decide)
  have h2 : 6 ≤ o5 k.val := by unfold o5; omega
  have ho : o5 k.val < 84 := by unfold o5; omega
  rw [show o5 (k.val + 1) = o5 k.val + 1 from rfl]
  unfold res
  iintro ⟨HI, HO, ⟨%fx, Hx⟩, ⟨%fs, Hs⟩, ⟨%fa, Ha⟩, ⟨%fi, Hi⟩, ⟨%W, HW⟩⟩
  ihave HO' := (outRing_open (homeOut (F := F) c) (homeOut c) (inflOut c) (freeOut c) _ h2 ho) $$ HO
  icases HO' with ⟨⟨%f1, %g1, HG⟩, ⟨%f2, Hd⟩, HOr⟩
  dsimp only [body5]
  sl_unfold [k0_t5_body]
  sl_exec
  sl_step
  isplitl [HI]; · iexact HI
  isplitl [HG HG_dst HOr]
  · iapply (outRing_close (homeOut (F := F) c) (homeOut c) (inflOut c) (freeOut c) _ h2 ho)
    isplitl [HG]; · iexists f2; iexists _; iexact HG
    isplitl [HG_dst]; · iexists _; iexact HG_dst
    iexact HOr
  isplitl [Hx]; · iexists _; iexact Hx
  isplitl [Hs]; · iexists _; iexact Hs
  isplitl [Ha]; · iexists _; iexact Ha
  isplitl [Hi]; · iexists _; iexact Hi
  iexists _; iexact HW

set_option warn.classDefReducibility false in
@[sl_loop] def loopInv5 : LoopInvTy_k0_t5 (F := F) Unit ℕ (UU nD τ) ℕ 𝒱₀ c none Set.univ xM (Memref.isWhole_whole _) gM (Memref.isWhole_whole _) yM (Memref.isWhole_whole _) arg3 harg3 ibM (Memref.isWhole_whole _) obM (Memref.isWhole_whole _) xbM (Memref.isWhole_whole _) sgM (Memref.isWhole_whole _) sbM (Memref.isWhole_whole _) amM (Memref.isWhole_whole _) ivM (Memref.isWhole_whole _) cc0_scratch7 cc0_scratch8 cc0_scratch9 where
  inv k _ := res c XA 84 (o5 k)
  step k _ := step5 c XA arg3 harg3 k

end Loops

end Cert.Proof.KernelIdeal

end
-- ==== Proof.KernelIdeal.Body.lean ====
/-
  The kernel's body: the rings primed, the five loops, the last six results waited for.
-/
module

public import proofs.«01_k».proof.Proof.KernelIdeal.Loops

@[expose] public section

noncomputable section

namespace Cert.Proof.KernelIdeal

open Cert.KernelIdeal Cert.KernelIdeal.Gen Cert.Proof.Rings
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UU nD τ) ℕ

section Body
variable (c : Dev nD) (XA : Buf (Elt F) (xM.view.loc (c : Thread nD τ))) (GA : Buf (Elt F) (gM.view.loc (c : Thread nD τ)))
  (arg3 : Memref sig .tc .vmem S28x128 .f32) (harg3 : arg3.IsWhole)

abbrev bodyG : Prog (TpuEff nD τ sig (Elt F) Λ₀ .tc) PUnit :=
  cc0_fp8_to_int8 (F := F) xM (Memref.isWhole_whole _) gM (Memref.isWhole_whole _) yM (Memref.isWhole_whole _) arg3 harg3 ibM (Memref.isWhole_whole _) obM (Memref.isWhole_whole _) xbM (Memref.isWhole_whole _) sgM (Memref.isWhole_whole _) sbM (Memref.isWhole_whole _) amM (Memref.isWhole_whole _) ivM (Memref.isWhole_whole _) cc0_scratch7 cc0_scratch8 cc0_scratch9

/-- What the body is handed and hands back, the owed waits apart: every tile of the codes and every piece of the scales
    home at its contents, every tile of the result at anything, every slot, every scratch buffer and every cell its own. -/
def keep : sProp 𝕄 :=
  iprop(bigSep Finset.univ (tInP c XA) ∗ bigSep Finset.univ (homeOut (F := F) c)
    ∗ (freeIn (F := F) c 0 ∗ freeIn (F := F) c 1 ∗ freeIn (F := F) c 2 ∗ freeIn (F := F) c 3 ∗ freeIn (F := F) c 4 ∗ freeIn (F := F) c 5)
    ∗ (freeOut (F := F) c 0 ∗ freeOut (F := F) c 1 ∗ freeOut (F := F) c 2 ∗ freeOut (F := F) c 3 ∗ freeOut (F := F) c 4 ∗ freeOut (F := F) c 5)
    ∗ (doneG c GA 0 ∗ doneG c GA 1 ∗ doneG c GA 2)
    ∗ (∃ f, xbP (F := F) c f) ∗ (∃ f, sbP (F := F) c f) ∗ (∃ f, amP (F := F) c f) ∗ (∃ f, ivP (F := F) c f))

theorem scales_zero : iprop(inflG c GA 0 ∗ inflG c GA 1 ∗ inflG c GA 2) ⊢ scalesAt c GA 0 := by
  unfold scalesAt
  rw [bigSep_univ_eq_bigSepL [(0 : Fin 3), (1 : Fin 3), (2 : Fin 3)] (by decide) (by decide)]
  exact .rfl
theorem scales_end : scalesAt c GA 3 ⊢ iprop(doneG c GA 0 ∗ doneG c GA 1 ∗ doneG c GA 2) := by
  unfold scalesAt
  rw [bigSep_univ_eq_bigSepL [(0 : Fin 3), (1 : Fin 3), (2 : Fin 3)] (by decide) (by decide)]
  exact .rfl

set_option maxHeartbeats 4000000 in
theorem bodyRun (W : Waits sig Unit) (Q : PUnit → sProp 𝕄) :
    iprop((keep c XA GA ∗ (∃ f, scP (F := F) c arg3 f) ∗ owes (c : Thread nD τ) 0 W)
        ∗ (keep c XA GA ∗ (∃ f, scP (F := F) c arg3 f) ∗ (∃ W', owes (c : Thread nD τ) 0 W') -∗ Q ⟨⟩))
      ⊢ wp Idealize.ShloMosaic.frame (wpE (defs₀ (F := F)) 𝒱₀ (c : Thread nD τ) none) Set.univ (bodyG (F := F) arg3 harg3) Q := by
  unfold keep
  rw [homes_zero (tInP c XA)]
  iintro ⟨⟨⟨⟨T0, T1, T2, T3, T4, T5, Hh⟩, HB, ⟨⟨⟨%i0, I0⟩, C0⟩, ⟨⟨%i1, I1⟩, C1⟩, ⟨⟨%i2, I2⟩, C2⟩, ⟨⟨%i3, I3⟩, C3⟩, ⟨⟨%i4, I4⟩, C4⟩, ⟨%i5, I5⟩, C5⟩,
    HFo, ⟨⟨⟨%s0, S0⟩, G0, D0⟩, ⟨⟨%s1, S1⟩, G1, D1⟩, ⟨%s2, S2⟩, G2, D2⟩, ⟨%fx, Hx⟩, ⟨%fs, Hs⟩, ⟨%fa, Ha⟩, ⟨%fi, Hi⟩⟩, ⟨%f3, H3⟩, HW⟩, Hk⟩
  (set_option sl_exec.stopBefore "k0_part14" in sl_exec)
  -- the prologue done: the rings and the scales before their first trips
  ihave HI := (inRing_zero (tInP c XA) (inflIn c XA) (freeIn c)) $$ [Hh C0 C1 C2 C3 C4 C5]
  · isplitl [Hh]; · iexact Hh
    isplitl [C0]; · iexists _; iexact C0
    isplitl [C1]; · iexists _; iexact C1
    isplitl [C2]; · iexists _; iexact C2
    isplitl [C3]; · iexists _; iexact C3
    isplitl [C4]; · iexists _; iexact C4
    iexists _; iexact C5
  ihave HO := (outRing_zero (homeOut (F := F) c) (homeOut c) (inflOut c) (freeOut c)) $$ [HB HFo]
  · isplitl [HB]; · iexact HB
    iexact HFo
  ihave HS := (scales_zero c GA) $$ [D0 D1 D2]
  · isplitl [D0]; · iexists _; iexact D0
    isplitl [D1]; · iexists _; iexact D1
    iexists _; iexact D2
  sl_exec
  -- the last six results waited for
  ihave HO := (entails_of_eq (congrArg (oRing (F := F) c) (show o5 (Scf.trips k0_t5_loop.lb k0_t5_loop.ub k0_t5_loop.st) = 84 from rfl))) $$ HO
  ihave HO := (outRing_end (homeOut (F := F) c) (homeOut c) (inflOut c) (freeOut c)) $$ HO
  icases HO with ⟨HB, ⟨%t0, %u0, F0⟩, ⟨%t1, %u1, F1⟩, ⟨%t2, %u2, F2⟩, ⟨%t3, %u3, F3⟩, ⟨%t4, %u4, F4⟩, ⟨%t5, %u5, F5⟩⟩
  sl_exec
  ihave HB := (behind_all (homeOut (F := F) c)) $$ [HB F0_dst F1_dst F2_dst F3_dst F4_dst F5_dst]
  · isplitl [F0_dst]; · iexists _; iexact F0_dst
    isplitl [F1_dst]; · iexists _; iexact F1_dst
    isplitl [F2_dst]; · iexists _; iexact F2_dst
    isplitl [F3_dst]; · iexists _; iexact F3_dst
    isplitl [F4_dst]; · iexists _; iexact F4_dst
    isplitl [F5_dst]; · iexists _; iexact F5_dst
    iexact HB
  ihave HI := (inRing_end (tInP c XA) (inflIn c XA) (freeIn c)) $$ HI
  icases HI with ⟨HA, I0, I1, I2, I3, I4, I5⟩
  ihave HS := (entails_of_eq (congrArg (scalesAt c GA) (show Scf.trips k0_t1_loop.lb k0_t1_loop.ub k0_t1_loop.st = 3 from rfl))) $$ HS
  ihave HS := (scales_end c GA) $$ HS
  icases HS with ⟨D0, D1, D2⟩
  rw [← homes_zero (tInP c XA), wp_ret]
  imodintro
  iapply Hk
  isplitr [H3 HW]
  · isplitl [HA]; · iexact HA
    isplitl [HB]; · iexact HB
    isplitl [I0 I1 I2 I3 I4 I5]
    · isplitl [I0]; · iexact I0
      isplitl [I1]; · iexact I1
      isplitl [I2]; · iexact I2
      isplitl [I3]; · iexact I3
      isplitl [I4]; · iexact I4
      iexact I5
    isplitl [F0 F0_src F1 F1_src F2 F2_src F3 F3_src F4 F4_src F5 F5_src]
    · isplitl [F0 F0_src]
      · isplitl [F0_src]; · iexists _; iexact F0_src
        iexact F0
      isplitl [F1 F1_src]
      · isplitl [F1_src]; · iexists _; iexact F1_src
        iexact F1
      isplitl [F2 F2_src]
      · isplitl [F2_src]; · iexists _; iexact F2_src
        iexact F2
      isplitl [F3 F3_src]
      · isplitl [F3_src]; · iexists _; iexact F3_src
        iexact F3
      isplitl [F4 F4_src]
      · isplitl [F4_src]; · iexists _; iexact F4_src
        iexact F4
      isplitl [F5_src]; · iexists _; iexact F5_src
      iexact F5
    isplitl [D0 D1 D2]
    · isplitl [D0]; · iexact D0
      isplitl [D1]; · iexact D1
      iexact D2
    isplitl [Hx]; · iexists _; iexact Hx
    isplitl [Hs]; · iexists _; iexact Hs
    isplitl [Ha]; · iexists _; iexact Ha
    iexists _; iexact Hi
  isplitl [H3]; · iexists _; iexact H3
  iexists _; iexact HW

end Body

end Cert.Proof.KernelIdeal

end
-- ==== Proof.KernelIdeal.Split.lean ====
/-
  The whole arrays as their tiles, slots and pieces: a buffer held whole is its blocks held one by one.
-/
module

public import proofs.«01_k».proof.Proof.KernelIdeal.Body

@[expose] public section

noncomputable section

namespace Cert.Proof.KernelIdeal

open Cert.KernelIdeal Cert.KernelIdeal.Gen Cert.Proof.Rings
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UU nD τ) ℕ

section Sets
abbrev TS (b : Fin 84) : Finset S21504x3584.Idx := (Rect.unit (s := S21504x3584) (tileOff b) S7168x128.size (tileOff_inb b)).set
abbrev LS (s : Fin 6) : Finset S6x7168x128.Idx := (Rect.unit (s := S6x7168x128) (slotOff s) S1x7168x128.size (slotOff_inb s)).set
abbrev PS (j : Fin 3) : Finset S21x28x1024.Idx := (Rect.unit (s := S21x28x1024) (gOff j) S7x28x1024.size (gOff_inb j)).set

theorem tIn_set (b : Fin 84) : (tIn b).view.set = TS b := View.set_slice_whole _ _
theorem tOut_set (b : Fin 84) : (tOut b).view.set = TS b := View.set_slice_whole _ _
theorem sIn_set (s : Fin 6) : (sIn s).view.set = LS s := (View.set_reshape _ _).trans (View.set_slice_whole _ _)
theorem sOut_set (s : Fin 6) : (sOut s).view.set = LS s := (View.set_reshape _ _).trans (View.set_slice_whole _ _)
theorem gIn_set (j : Fin 3) : (gIn j).view.set = PS j := View.set_slice_whole _ _
theorem gSt_set (j : Fin 3) : (gSt j).view.set = PS j := View.set_slice_whole _ _

theorem mem_TS (b : Fin 84) (y : S21504x3584.Idx) : y ∈ TS b ↔ (y 0).val / 7168 = b.val % 3 ∧ (y 1).val / 128 = b.val / 3 := by
  rw [Rect.mem_set_unit]
  constructor
  · intro H
    have a0 : 7168 * (b.val % 3) ≤ (y 0).val ∧ (y 0).val < 7168 * (b.val % 3) + 7168 := H 0
    have a1 : 128 * (b.val / 3) ≤ (y 1).val ∧ (y 1).val < 128 * (b.val / 3) + 128 := H 1
    omega
  · intro H i; fin_cases i
    · show 7168 * (b.val % 3) ≤ (y 0).val ∧ (y 0).val < 7168 * (b.val % 3) + 7168; omega
    · show 128 * (b.val / 3) ≤ (y 1).val ∧ (y 1).val < 128 * (b.val / 3) + 128; omega
theorem mem_LS (s : Fin 6) (y : S6x7168x128.Idx) : y ∈ LS s ↔ (y 0).val = s.val := by
  rw [Rect.mem_set_unit]
  have h1 : (y 1).val < 7168 := (y 1).isLt
  have h2 : (y 2).val < 128 := (y 2).isLt
  constructor
  · intro H; have a0 : s.val ≤ (y 0).val ∧ (y 0).val < s.val + 1 := H 0; omega
  · intro H i; fin_cases i
    · show s.val ≤ (y 0).val ∧ (y 0).val < s.val + 1; omega
    · show 0 ≤ (y 1).val ∧ (y 1).val < 0 + 7168; omega
    · show 0 ≤ (y 2).val ∧ (y 2).val < 0 + 128; omega
theorem mem_PS (j : Fin 3) (y : S21x28x1024.Idx) : y ∈ PS j ↔ (y 0).val / 7 = j.val := by
  rw [Rect.mem_set_unit]
  have h1 : (y 1).val < 28 := (y 1).isLt
  have h2 : (y 2).val < 1024 := (y 2).isLt
  constructor
  · intro H; have a0 : 7 * j.val ≤ (y 0).val ∧ (y 0).val < 7 * j.val + 7 := H 0; omega
  · intro H i; fin_cases i
    · show 7 * j.val ≤ (y 0).val ∧ (y 0).val < 7 * j.val + 7; omega
    · show 0 ≤ (y 1).val ∧ (y 1).val < 0 + 28; omega
    · show 0 ≤ (y 2).val ∧ (y 2).val < 0 + 1024; omega

/-- The tile an element of the array lies in. -/
def tileOf (y : S21504x3584.Idx) : Fin 84 :=
  ⟨3 * ((y 1).val / 128) + (y 0).val / 7168, by
    have h0 : (y 0).val < 21504 := (y 0).isLt
    have h1 : (y 1).val < 3584 := (y 1).isLt
    omega⟩
theorem mem_tileOf (y : S21504x3584.Idx) : y ∈ TS (tileOf y) := by
  have h0 : (y 0).val < 21504 := (y 0).isLt
  rw [mem_TS]; show _ = (3 * ((y 1).val / 128) + (y 0).val / 7168) % 3 ∧ _ = (3 * ((y 1).val / 128) + (y 0).val / 7168) / 3
  omega

theorem TS_disjoint : ∀ b b' : Fin 84, b ≠ b' → Disjoint (TS b) (TS b') := by
  intro b b' hne; rw [Finset.disjoint_left]; intro y hy hy'; rw [mem_TS] at hy hy'; exact hne (Fin.ext (by omega))
theorem TS_cover : (Finset.univ : Finset (Fin 84)).biUnion TS = Finset.univ := by
  ext y; simp only [Finset.mem_biUnion, Finset.mem_univ, true_and, iff_true]; exact ⟨tileOf y, mem_tileOf y⟩
theorem LS_disjoint : ∀ b b' : Fin 6, b ≠ b' → Disjoint (LS b) (LS b') := by
  intro b b' hne; rw [Finset.disjoint_left]; intro y hy hy'; rw [mem_LS] at hy hy'; exact hne (Fin.ext (by omega))
theorem LS_cover : (Finset.univ : Finset (Fin 6)).biUnion LS = Finset.univ := by
  ext y; simp only [Finset.mem_biUnion, Finset.mem_univ, true_and, iff_true]; exact ⟨(y 0).cast (by decide), by rw [mem_LS]; rfl⟩
theorem PS_disjoint : ∀ b b' : Fin 3, b ≠ b' → Disjoint (PS b) (PS b') := by
  intro b b' hne; rw [Finset.disjoint_left]; intro y hy hy'; rw [mem_PS] at hy hy'; exact hne (Fin.ext (by omega))
theorem PS_cover : (Finset.univ : Finset (Fin 3)).biUnion PS = Finset.univ := by
  ext y; simp only [Finset.mem_biUnion, Finset.mem_univ, true_and, iff_true]
  have h0 : (y 0).val < 21 := (y 0).isLt
  exact ⟨⟨(y 0).val / 7, by omega⟩, by rw [mem_PS]⟩
end Sets

section Split
variable (c : Dev nD)

theorem six (Φ : Fin 6 → sProp 𝕄) : bigSep Finset.univ Φ = iprop(Φ 0 ∗ Φ 1 ∗ Φ 2 ∗ Φ 3 ∗ Φ 4 ∗ Φ 5) :=
  bigSep_univ_eq_bigSepL [(0 : Fin 6), 1, 2, 3, 4, 5] (by decide) (by decide) Φ
theorem three (Φ : Fin 3 → sProp 𝕄) : bigSep Finset.univ Φ = iprop(Φ 0 ∗ Φ 1 ∗ Φ 2) :=
  bigSep_univ_eq_bigSepL [(0 : Fin 3), 1, 2] (by decide) (by decide) Φ

/-- The codes whole are their 84 tiles. -/
theorem codes_eq (f : Buf (Elt F) ((c : Thread nD τ).loc main_v0)) :
    (((c : Thread nD τ).loc main_v0) ↦{fullShare} f : sProp 𝕄) = bigSep Finset.univ (tInP (F := F) c f) := by
  rw [Ring.pointsTo_blocks (ℓ := (c : Thread nD τ).loc main_v0) TS TS_disjoint TS_cover]
  exact bigSep_congr fun b _ => by rw [← tIn_set]; rfl
/-- The result whole is its 84 tiles. -/
theorem result_eq (f : Buf (Elt F) ((c : Thread nD τ).loc main_v2_0)) :
    (((c : Thread nD τ).loc main_v2_0) ↦{fullShare} f : sProp 𝕄) = bigSep Finset.univ fun b => tOutP (F := F) c b f := by
  rw [Ring.pointsTo_blocks (ℓ := (c : Thread nD τ).loc main_v2_0) TS TS_disjoint TS_cover]
  exact bigSep_congr fun b _ => by rw [← tOut_set]; rfl
/-- The scales whole are their three pieces. -/
theorem scalesIn_eq (f : Buf (Elt F) ((c : Thread nD τ).loc main_v1)) :
    (((c : Thread nD τ).loc main_v1) ↦{fullShare} f : sProp 𝕄) = iprop(gInP (F := F) c f 0 ∗ gInP c f 1 ∗ gInP c f 2) := by
  rw [Ring.pointsTo_blocks (ℓ := (c : Thread nD τ).loc main_v1) PS PS_disjoint PS_cover,
    ← three (gInP (F := F) c f)]
  exact bigSep_congr fun b _ => by rw [← gIn_set]; rfl

theorem tOutP_eq (b : Fin 84) (f) : tOutP (F := F) c b f = (((c : Thread nD τ).loc main_v2_0) ↦[TS b]{fullShare} f : sProp 𝕄) :=
  congrArg (fun S => (_ ↦[S]{fullShare} f : sProp 𝕄)) (tOut_set b)
theorem sInP_eq (s : Fin 6) (f) : sInP (F := F) c s f = (((c : Thread nD τ).loc cc0_scratch0) ↦[LS s]{fullShare} f : sProp 𝕄) :=
  congrArg (fun S => (_ ↦[S]{fullShare} f : sProp 𝕄)) (sIn_set s)
theorem sOutP_eq (s : Fin 6) (f) : sOutP (F := F) c s f = (((c : Thread nD τ).loc cc0_scratch1) ↦[LS s]{fullShare} f : sProp 𝕄) :=
  congrArg (fun S => (_ ↦[S]{fullShare} f : sProp 𝕄)) (sOut_set s)
theorem gStP_eq (j : Fin 3) (f) : gStP (F := F) c j f = (((c : Thread nD τ).loc cc0_scratch3) ↦[PS j]{fullShare} f : sProp 𝕄) :=
  congrArg (fun S => (_ ↦[S]{fullShare} f : sProp 𝕄)) (gSt_set j)

/-- A buffer owned at anything is its blocks owned at anything, and back: the result, the two rings' buffers, the staged scales. -/
theorem out_split : iprop(∃ f : Buf (Elt F) ((c : Thread nD τ).loc main_v2_0), ((c : Thread nD τ).loc main_v2_0) ↦{fullShare} f)
    ⊢ bigSep Finset.univ (homeOut (F := F) c) := by
  iintro ⟨%f, H⟩
  ihave H := (entails_of_eq (result_eq c f)) $$ H
  have h : bigSep Finset.univ (fun b => tOutP (F := F) c b f) ⊢ bigSep Finset.univ (homeOut (F := F) c) :=
    bigSep_mono fun b _ => (by iintro H; iexists f; iexact H : tOutP (F := F) c b f ⊢ homeOut (F := F) c b)
  iapply h
  iexact H
theorem out_join : bigSep Finset.univ (homeOut (F := F) c)
    ⊢ (iprop(∃ f : Buf (Elt F) ((c : Thread nD τ).loc main_v2_0), ((c : Thread nD τ).loc main_v2_0) ↦{fullShare} f) : sProp 𝕄) := by
  have e : (homeOut (F := F) c) = fun b => iprop(∃ f, ((c : Thread nD τ).loc main_v2_0) ↦[TS b]{fullShare} f) := by
    funext b; unfold homeOut; simp only [tOutP_eq]; rfl
  rw [e]
  exact Ring.pointsTo_blocks_join_exists (ℓ := (c : Thread nD τ).loc main_v2_0) TS TS_disjoint TS_cover default

theorem inBuf_split : iprop(∃ f : Buf (Elt F) ((c : Thread nD τ).loc cc0_scratch0), ((c : Thread nD τ).loc cc0_scratch0) ↦{fullShare} f)
    ⊢ (iprop((∃ f, sInP (F := F) c 0 f) ∗ (∃ f, sInP (F := F) c 1 f) ∗ (∃ f, sInP (F := F) c 2 f) ∗ (∃ f, sInP (F := F) c 3 f) ∗ (∃ f, sInP (F := F) c 4 f) ∗ (∃ f, sInP (F := F) c 5 f)) : sProp 𝕄) := by
  iintro ⟨%f, H⟩
  rw [← six (fun s => iprop(∃ f, sInP (F := F) c s f))]
  ihave H := (entails_of_eq (Ring.pointsTo_blocks (Ix := Unit) (Name := ℕ) (U := UU nD τ) (Lvl := ℕ) (q := fullShare) (ℓ := (c : Thread nD τ).loc cc0_scratch0) LS LS_disjoint LS_cover f)) $$ H
  have h : bigSep Finset.univ (fun s => (((c : Thread nD τ).loc cc0_scratch0) ↦[LS s]{fullShare} f : sProp 𝕄))
      ⊢ bigSep Finset.univ (fun s => iprop(∃ f, sInP (F := F) c s f)) :=
    bigSep_mono fun s _ => (by iintro H; iexists f; iapply (entails_of_eq (sInP_eq c s f).symm); iexact H :
      (((c : Thread nD τ).loc cc0_scratch0) ↦[LS s]{fullShare} f : sProp 𝕄) ⊢ iprop(∃ f, sInP (F := F) c s f))
  iapply h
  iexact H
theorem inBuf_join : iprop((∃ f, sInP (F := F) c 0 f) ∗ (∃ f, sInP (F := F) c 1 f) ∗ (∃ f, sInP (F := F) c 2 f) ∗ (∃ f, sInP (F := F) c 3 f) ∗ (∃ f, sInP (F := F) c 4 f) ∗ (∃ f, sInP (F := F) c 5 f))
    ⊢ (iprop(∃ f : Buf (Elt F) ((c : Thread nD τ).loc cc0_scratch0), ((c : Thread nD τ).loc cc0_scratch0) ↦{fullShare} f) : sProp 𝕄) := by
  have e : (fun s => iprop(∃ f, sInP (F := F) c s f)) = fun s => iprop(∃ f, ((c : Thread nD τ).loc cc0_scratch0) ↦[LS s]{fullShare} f) := by
    funext s; simp only [sInP_eq]; rfl
  rw [← six (fun s => iprop(∃ f, sInP (F := F) c s f)), e]
  exact Ring.pointsTo_blocks_join_exists (ℓ := (c : Thread nD τ).loc cc0_scratch0) LS LS_disjoint LS_cover default

theorem outBuf_split : iprop(∃ f : Buf (Elt F) ((c : Thread nD τ).loc cc0_scratch1), ((c : Thread nD τ).loc cc0_scratch1) ↦{fullShare} f)
    ⊢ (iprop((∃ f, sOutP (F := F) c 0 f) ∗ (∃ f, sOutP (F := F) c 1 f) ∗ (∃ f, sOutP (F := F) c 2 f) ∗ (∃ f, sOutP (F := F) c 3 f) ∗ (∃ f, sOutP (F := F) c 4 f) ∗ (∃ f, sOutP (F := F) c 5 f)) : sProp 𝕄) := by
  iintro ⟨%f, H⟩
  rw [← six (fun s => iprop(∃ f, sOutP (F := F) c s f))]
  ihave H := (entails_of_eq (Ring.pointsTo_blocks (Ix := Unit) (Name := ℕ) (U := UU nD τ) (Lvl := ℕ) (q := fullShare) (ℓ := (c : Thread nD τ).loc cc0_scratch1) LS LS_disjoint LS_cover f)) $$ H
  have h : bigSep Finset.univ (fun s => (((c : Thread nD τ).loc cc0_scratch1) ↦[LS s]{fullShare} f : sProp 𝕄))
      ⊢ bigSep Finset.univ (fun s => iprop(∃ f, sOutP (F := F) c s f)) :=
    bigSep_mono fun s _ => (by iintro H; iexists f; iapply (entails_of_eq (sOutP_eq c s f).symm); iexact H :
      (((c : Thread nD τ).loc cc0_scratch1) ↦[LS s]{fullShare} f : sProp 𝕄) ⊢ iprop(∃ f, sOutP (F := F) c s f))
  iapply h
  iexact H
theorem outBuf_join : iprop((∃ f, sOutP (F := F) c 0 f) ∗ (∃ f, sOutP (F := F) c 1 f) ∗ (∃ f, sOutP (F := F) c 2 f) ∗ (∃ f, sOutP (F := F) c 3 f) ∗ (∃ f, sOutP (F := F) c 4 f) ∗ (∃ f, sOutP (F := F) c 5 f))
    ⊢ (iprop(∃ f : Buf (Elt F) ((c : Thread nD τ).loc cc0_scratch1), ((c : Thread nD τ).loc cc0_scratch1) ↦{fullShare} f) : sProp 𝕄) := by
  have e : (fun s => iprop(∃ f, sOutP (F := F) c s f)) = fun s => iprop(∃ f, ((c : Thread nD τ).loc cc0_scratch1) ↦[LS s]{fullShare} f) := by
    funext s; simp only [sOutP_eq]; rfl
  rw [← six (fun s => iprop(∃ f, sOutP (F := F) c s f)), e]
  exact Ring.pointsTo_blocks_join_exists (ℓ := (c : Thread nD τ).loc cc0_scratch1) LS LS_disjoint LS_cover default

theorem stage_split : iprop(∃ f : Buf (Elt F) ((c : Thread nD τ).loc cc0_scratch3), ((c : Thread nD τ).loc cc0_scratch3) ↦{fullShare} f)
    ⊢ (iprop((∃ f, gStP (F := F) c 0 f) ∗ (∃ f, gStP (F := F) c 1 f) ∗ (∃ f, gStP (F := F) c 2 f)) : sProp 𝕄) := by
  iintro ⟨%f, H⟩
  rw [← three (fun s => iprop(∃ f, gStP (F := F) c s f))]
  ihave H := (entails_of_eq (Ring.pointsTo_blocks (Ix := Unit) (Name := ℕ) (U := UU nD τ) (Lvl := ℕ) (q := fullShare) (ℓ := (c : Thread nD τ).loc cc0_scratch3) PS PS_disjoint PS_cover f)) $$ H
  have h : bigSep Finset.univ (fun s => (((c : Thread nD τ).loc cc0_scratch3) ↦[PS s]{fullShare} f : sProp 𝕄))
      ⊢ bigSep Finset.univ (fun s => iprop(∃ f, gStP (F := F) c s f)) :=
    bigSep_mono fun s _ => (by iintro H; iexists f; iapply (entails_of_eq (gStP_eq c s f).symm); iexact H :
      (((c : Thread nD τ).loc cc0_scratch3) ↦[PS s]{fullShare} f : sProp 𝕄) ⊢ iprop(∃ f, gStP (F := F) c s f))
  iapply h
  iexact H
theorem stage_join : iprop((∃ f, gStP (F := F) c 0 f) ∗ (∃ f, gStP (F := F) c 1 f) ∗ (∃ f, gStP (F := F) c 2 f))
    ⊢ (iprop(∃ f : Buf (Elt F) ((c : Thread nD τ).loc cc0_scratch3), ((c : Thread nD τ).loc cc0_scratch3) ↦{fullShare} f) : sProp 𝕄) := by
  have e : (fun s => iprop(∃ f, gStP (F := F) c s f)) = fun s => iprop(∃ f, ((c : Thread nD τ).loc cc0_scratch3) ↦[PS s]{fullShare} f) := by
    funext s; simp only [gStP_eq]; rfl
  rw [← three (fun s => iprop(∃ f, gStP (F := F) c s f)), e]
  exact Ring.pointsTo_blocks_join_exists (ℓ := (c : Thread nD τ).loc cc0_scratch3) PS PS_disjoint PS_cover default

end Split

end Cert.Proof.KernelIdeal

end
-- ==== Proof.KernelIdeal.Launch.lean ====
/-
  The run of @main: the launch of the one region around the body's run, the argument arrays unchanged, every counter at zero.
-/
module

public import proofs.«01_k».proof.Proof.KernelIdeal.Split
public import proofs.«01_k».proof.Proof.Gen.KernelIdeal.Frame
public import Idealize.ShloMosaic.Lib.Pipeline.FrameSuffixR
public import Idealize.ShloMosaic.Lib.Pipeline.KitQuiescent

@[expose] public section

noncomputable section

namespace Cert.Proof.KernelIdeal

open Cert.KernelIdeal Cert.KernelIdeal.Gen Cert.Proof.Rings
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UU nD τ) ℕ

variable (m : (ℓ : Loc nD τ sig) → Buf (Elt F) ℓ) (ρ : Dev nD → PrngReg)

abbrev osem : Fin 6 ⊕ Fin 6 ⊕ Fin 3 → SemLoc sig
  | .inl s => .dma (cIn s).sem
  | .inr (.inl s) => .dma (cOut s).sem
  | .inr (.inr j) => .dma (cG j).sem
theorem ownSemFacts : Pipeline.OwnSemFacts spec0 osem := by decide

/-- The kernel's own cells at zero, ring by ring. -/
theorem ownSems0_eq (c : Dev nD) : (Pipeline.ownSems0 (Ix := Unit) (Name := ℕ) (U := UU nD τ) (Lvl := ℕ) (Val := Elt F) (τ := τ) osem c : sProp 𝕄)
    = iprop((cInP c 0 ∗ cInP c 1 ∗ cInP c 2 ∗ cInP c 3 ∗ cInP c 4 ∗ cInP c 5) ∗ (cOutP c 0 ∗ cOutP c 1 ∗ cOutP c 2 ∗ cOutP c 3 ∗ cOutP c 4 ∗ cOutP c 5) ∗ (cGP c 0 ∗ cGP c 1 ∗ cGP c 2)) := by
  unfold Pipeline.ownSems0
  rw [bigSep_univ_eq_bigSepL [(.inl 0 : Fin 6 ⊕ Fin 6 ⊕ Fin 3), .inl 1, .inl 2, .inl 3, .inl 4, .inl 5,
    .inr (.inl 0), .inr (.inl 1), .inr (.inl 2), .inr (.inl 3), .inr (.inl 4), .inr (.inl 5), .inr (.inr 0), .inr (.inr 1), .inr (.inr 2)] (by decide) (by decide)]
  refine Entails.antisymm ?_ ?_
  · show iprop(cInP (F := F) c 0 ∗ cInP (F := F) c 1 ∗ cInP (F := F) c 2 ∗ cInP (F := F) c 3 ∗ cInP (F := F) c 4 ∗ cInP (F := F) c 5 ∗ cOutP (F := F) c 0 ∗ cOutP (F := F) c 1 ∗ cOutP (F := F) c 2 ∗ cOutP (F := F) c 3 ∗ cOutP (F := F) c 4 ∗ cOutP (F := F) c 5 ∗ cGP (F := F) c 0 ∗ cGP (F := F) c 1 ∗ cGP (F := F) c 2) ⊢ _
    iintro ⟨A0, A1, A2, A3, A4, A5, B0, B1, B2, B3, B4, B5, G0, G1, G2⟩
    isplitl [A0 A1 A2 A3 A4 A5]
    · isplitl [A0]; · iexact A0
      isplitl [A1]; · iexact A1
      isplitl [A2]; · iexact A2
      isplitl [A3]; · iexact A3
      isplitl [A4]; · iexact A4
      iexact A5
    isplitl [B0 B1 B2 B3 B4 B5]
    · isplitl [B0]; · iexact B0
      isplitl [B1]; · iexact B1
      isplitl [B2]; · iexact B2
      isplitl [B3]; · iexact B3
      isplitl [B4]; · iexact B4
      iexact B5
    isplitl [G0]; · iexact G0
    isplitl [G1]; · iexact G1
    iexact G2
  · show _ ⊢ iprop(cInP (F := F) c 0 ∗ cInP (F := F) c 1 ∗ cInP (F := F) c 2 ∗ cInP (F := F) c 3 ∗ cInP (F := F) c 4 ∗ cInP (F := F) c 5 ∗ cOutP (F := F) c 0 ∗ cOutP (F := F) c 1 ∗ cOutP (F := F) c 2 ∗ cOutP (F := F) c 3 ∗ cOutP (F := F) c 4 ∗ cOutP (F := F) c 5 ∗ cGP (F := F) c 0 ∗ cGP (F := F) c 1 ∗ cGP (F := F) c 2)
    iintro ⟨⟨A0, A1, A2, A3, A4, A5⟩, ⟨B0, B1, B2, B3, B4, B5⟩, ⟨G0, G1, G2⟩⟩
    isplitl [A0]; · iexact A0
    isplitl [A1]; · iexact A1
    isplitl [A2]; · iexact A2
    isplitl [A3]; · iexact A3
    isplitl [A4]; · iexact A4
    isplitl [A5]; · iexact A5
    isplitl [B0]; · iexact B0
    isplitl [B1]; · iexact B1
    isplitl [B2]; · iexact B2
    isplitl [B3]; · iexact B3
    isplitl [B4]; · iexact B4
    isplitl [B5]; · iexact B5
    isplitl [G0]; · iexact G0
    isplitl [G1]; · iexact G1
    iexact G2

/-- The two arrays read, the one written, the two the later host lines write. -/
abbrev HH : Finset (Ref sig .tc) := {main_v0, main_v1}
abbrev RR : Finset (Ref sig .tc) := {main_v2_0}
abbrev TT : Finset (Ref sig .tc) := {main_v3, main_v4}

/-- The region invariant, the same before and after the one point. -/
def Φ (c : Dev nD) : sProp 𝕄 := iprop(keep c (V m c main_v0) (V m c main_v1) ∗ ∃ r, prngReg c r)

theorem hh_eq (c : Dev nD) : (bigSep HH fun b => ((c.tc : Thread nD τ).loc b) ↦{fullShare} V m c b : sProp 𝕄)
    = iprop((((c : Thread nD τ).loc main_v0) ↦{fullShare} V m c main_v0) ∗ (((c : Thread nD τ).loc main_v1) ↦{fullShare} V m c main_v1)) := by
  rw [show HH = insert main_v0 {main_v1} from rfl, bigSep_insert (by decide), bigSep_singleton]; rfl
theorem rr_eq (c : Dev nD) : (Pipeline.owned RR c : sProp 𝕄)
    = iprop(∃ f : Buf (Elt F) ((c : Thread nD τ).loc main_v2_0), ((c : Thread nD τ).loc main_v2_0) ↦{fullShare} f) := by
  unfold Pipeline.owned; rw [bigSep_singleton]

/-- A whole buffer's view is the buffer. -/
theorem whole_eq (c : Dev nD) (b : Ref sig .tc) (f : Buf (Elt F) ((c : Thread nD τ).loc b)) :
    (((c : Thread nD τ).loc b) ↦{fullShare} f : sProp 𝕄)
      = ((Memref.whole b).view.loc (c : Thread nD τ) ↦[(Memref.whole b).view.set]{fullShare} f) := by
  rw [show (Memref.whole b).view.set = Finset.univ from View.set_whole _]

/-- The launch hands the body what it asks for, -/
theorem Φ_intro (c : Dev nD) : Pipeline.ΦDR osem spec0 HH RR (V m) c ⊢ Φ m c := by
  rw [Pipeline.ΦDR_eq, scopedRest0_eq, ownSems0_eq, hh_eq, rr_eq]
  rw [codes_eq, scalesIn_eq]
  unfold Φ keep
  iintro ⟨⟨S0, S1, S2, S3, S4, S5, S6⟩, Hr, ⟨⟨A0, A1, A2, A3, A4, A5⟩, ⟨B0, B1, B2, B3, B4, B5⟩, ⟨C0, C1, C2⟩⟩, ⟨HX, ⟨G0, G1, G2⟩⟩, HY⟩
  ihave HY := (out_split c) $$ HY
  ihave S0 := (inBuf_split c) $$ S0
  icases S0 with ⟨I0, I1, I2, I3, I4, I5⟩
  ihave S1 := (outBuf_split c) $$ S1
  icases S1 with ⟨O0, O1, O2, O3, O4, O5⟩
  ihave S3 := (stage_split c) $$ S3
  icases S3 with ⟨P0, P1, P2⟩
  isplitr [Hr]
  · isplitl [HX]; · iexact HX
    isplitl [HY]; · iexact HY
    isplitl [I0 I1 I2 I3 I4 I5 A0 A1 A2 A3 A4 A5]
    · isplitl [I0 A0]
      · isplitl [I0]; · iexact I0
        iexact A0
      isplitl [I1 A1]
      · isplitl [I1]; · iexact I1
        iexact A1
      isplitl [I2 A2]
      · isplitl [I2]; · iexact I2
        iexact A2
      isplitl [I3 A3]
      · isplitl [I3]; · iexact I3
        iexact A3
      isplitl [I4 A4]
      · isplitl [I4]; · iexact I4
        iexact A4
      isplitl [I5]; · iexact I5
      iexact A5
    isplitl [O0 O1 O2 O3 O4 O5 B0 B1 B2 B3 B4 B5]
    · isplitl [O0 B0]
      · isplitl [O0]; · iexact O0
        iexact B0
      isplitl [O1 B1]
      · isplitl [O1]; · iexact O1
        iexact B1
      isplitl [O2 B2]
      · isplitl [O2]; · iexact O2
        iexact B2
      isplitl [O3 B3]
      · isplitl [O3]; · iexact O3
        iexact B3
      isplitl [O4 B4]
      · isplitl [O4]; · iexact O4
        iexact B4
      isplitl [O5]; · iexact O5
      iexact B5
    isplitl [P0 P1 P2 G0 G1 G2 C0 C1 C2]
    · isplitl [P0 G0 C0]
      · isplitl [P0]; · iexact P0
        isplitl [G0]; · iexact G0
        iexact C0
      isplitl [P1 G1 C1]
      · isplitl [P1]; · iexact P1
        isplitl [G1]; · iexact G1
        iexact C1
      isplitl [P2]; · iexact P2
      isplitl [G2]; · iexact G2
      iexact C2
    isplitl [S2]; · icases S2 with ⟨%f, S2⟩; iexists f; iapply (entails_of_eq (whole_eq (F := F) c cc0_scratch2 f)); iexact S2
    isplitl [S4]; · icases S4 with ⟨%f, S4⟩; iexists f; iapply (entails_of_eq (whole_eq (F := F) c cc0_scratch4 f)); iexact S4
    isplitl [S5]; · icases S5 with ⟨%f, S5⟩; iexists f; iapply (entails_of_eq (whole_eq (F := F) c cc0_scratch5 f)); iexact S5
    icases S6 with ⟨%f, S6⟩; iexists f; iapply (entails_of_eq (whole_eq (F := F) c cc0_scratch6 f)); iexact S6
  iexact Hr
/-- and takes it back. -/
theorem Φ_elim (c : Dev nD) : Φ m c ⊢ Pipeline.ΦDR osem spec0 HH RR (V m) c := by
  rw [Pipeline.ΦDR_eq, scopedRest0_eq, ownSems0_eq, hh_eq, rr_eq]
  rw [codes_eq, scalesIn_eq]
  unfold Φ keep
  iintro ⟨⟨HX, HY, ⟨⟨I0, A0⟩, ⟨I1, A1⟩, ⟨I2, A2⟩, ⟨I3, A3⟩, ⟨I4, A4⟩, I5, A5⟩, ⟨⟨O0, B0⟩, ⟨O1, B1⟩, ⟨O2, B2⟩, ⟨O3, B3⟩, ⟨O4, B4⟩, O5, B5⟩,
    ⟨⟨P0, G0, C0⟩, ⟨P1, G1, C1⟩, P2, G2, C2⟩, S2, S4, S5, S6⟩, Hr⟩
  ihave HY := (out_join c) $$ HY
  ihave S0 := (inBuf_join c) $$ [I0 I1 I2 I3 I4 I5]
  · isplitl [I0]; · iexact I0
    isplitl [I1]; · iexact I1
    isplitl [I2]; · iexact I2
    isplitl [I3]; · iexact I3
    isplitl [I4]; · iexact I4
    iexact I5
  ihave S1 := (outBuf_join c) $$ [O0 O1 O2 O3 O4 O5]
  · isplitl [O0]; · iexact O0
    isplitl [O1]; · iexact O1
    isplitl [O2]; · iexact O2
    isplitl [O3]; · iexact O3
    isplitl [O4]; · iexact O4
    iexact O5
  ihave S3 := (stage_join c) $$ [P0 P1 P2]
  · isplitl [P0]; · iexact P0
    isplitl [P1]; · iexact P1
    iexact P2
  isplitl [S0 S1 S2 S3 S4 S5 S6]
  · isplitl [S0]; · iexact S0
    isplitl [S1]; · iexact S1
    isplitl [S2]; · icases S2 with ⟨%f, S2⟩; iexists f; iapply (entails_of_eq (whole_eq (F := F) c cc0_scratch2 f).symm); iexact S2
    isplitl [S3]; · iexact S3
    isplitl [S4]; · icases S4 with ⟨%f, S4⟩; iexists f; iapply (entails_of_eq (whole_eq (F := F) c cc0_scratch4 f).symm); iexact S4
    isplitl [S5]; · icases S5 with ⟨%f, S5⟩; iexists f; iapply (entails_of_eq (whole_eq (F := F) c cc0_scratch5 f).symm); iexact S5
    icases S6 with ⟨%f, S6⟩; iexists f; iapply (entails_of_eq (whole_eq (F := F) c cc0_scratch6 f).symm); iexact S6
  isplitl [Hr]; · iexact Hr
  isplitl [A0 A1 A2 A3 A4 A5 B0 B1 B2 B3 B4 B5 C0 C1 C2]
  · isplitl [A0 A1 A2 A3 A4 A5]
    · isplitl [A0]; · iexact A0
      isplitl [A1]; · iexact A1
      isplitl [A2]; · iexact A2
      isplitl [A3]; · iexact A3
      isplitl [A4]; · iexact A4
      iexact A5
    isplitl [B0 B1 B2 B3 B4 B5]
    · isplitl [B0]; · iexact B0
      isplitl [B1]; · iexact B1
      isplitl [B2]; · iexact B2
      isplitl [B3]; · iexact B3
      isplitl [B4]; · iexact B4
      iexact B5
    isplitl [C0]; · iexact C0
    isplitl [C1]; · iexact C1
    iexact C2
  isplitl [HX G0 G1 G2]
  · isplitl [HX]; · iexact HX
    isplitl [G0]; · iexact G0
    isplitl [G1]; · iexact G1
    iexact G2
  iexact HY

/-! ## The pipeline's proof data: its one window's block is forgotten -/

def dats (_ : Fin 1) (c : Dev nD) : Dat τ (Elt F) Unit ℕ (UU nD τ) ℕ cfg0 c where
  A w := V m c (Pipeline.arrRef spec0 w)
  after _ _ := default
  Φ _ := Φ m c
  q _ := fullShare
  owed _ := 0

theorem defs_tc : (defs₀ (F := F)) .tc cfg0.body = fun a => bodyG (F := F) (win0_0.stage (a.2 0)) (hstage0_0 0) := rfl
theorem prog_eq (t : Fin cfg0.N) : (defs₀ (F := F)) .tc cfg0.body (cfg0.bodyArgs t (cfg0.slots t))
    = bodyG (F := F) (win0_0.stage (cfg0.slots t 0)) (hstage0_0 0) := (congrFun defs_tc _).trans rfl

set_option backward.isDefEq.respectTransparency.types false in
theorem body_obligation (c : Dev nD) : BodyObligationLoose (dats (F := F) m 0 c) (defs₀ (F := F)) 𝒱₀ () Set.univ (fun _ => true) := fun t => by
  simp only [bigSep_W0]
  rw [show (dats m 0 c).Φ t.castSucc = Φ m c from rfl, show (dats m 0 c).Φ t.succ = Φ m c from rfl]
  unfold Dat.owesAt Pipeline.owesWithin
  rw [show (dats m 0 c).owed t.castSucc = 0 from rfl, show (dats m 0 c).owed t.succ = 0 from rfl]
  unfold owns Φ
  iintro ⟨⟨HK, Hr⟩, ⟨%W, -, HW⟩, ⟨%X, %g, -, Hg⟩⟩
  sl_rw [prog_eq t]
  iapply (bodyRun c (V m c main_v0) (V m c main_v1) (win0_0.stage (cfg0.slots t 0)) (hstage0_0 0) W)
  isplitl [HK HW Hg]
  · isplitl [HK]; · iexact HK
    isplitl [Hg]; · iexists g; iexact Hg
    iexact HW
  · iintro ⟨HK, ⟨%f, Hg⟩, ⟨%W', HW⟩⟩
    isplitl [HK Hr]
    · isplitl [HK]; · iexact HK
      iexact Hr
    isplitl [HW]
    · iexists W'; isplitr; · ipureintro; exact fun _ _ => Or.inl trivial
      iexact HW
    iexists _; iexists f; isplitr; · ipureintro; rfl
    iexact Hg

/-! ## The run -/

set_option maxHeartbeats 800000 in
/-- @main around the region, at this algebra. -/
theorem hmain' : Pipeline.HMainK (Ix := Unit) (Name := ℕ) (U := Pipeline.UD sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) main_chain

theorem sfx_writes : ∀ ops ∈ ([hostOps1] : List (List (HloOp τ sig (Elt F)))), ∀ op ∈ ops,
    ∀ b : Ref sig .tc, Proc.devRef .tc b ∈ op.writes → b ∈ TT := by
  intro ops hops op hop b hb
  simp only [List.mem_cons, List.mem_nil_iff, or_false] at hops
  rcases hops with rfl
  simp only [hostOps1, List.mem_cons, List.mem_nil_iff, or_false] at hop
  rcases hop with rfl | rfl
  all_goals
    rw [StableHlo.reshape_writes, Finset.mem_singleton] at hb
    by_contra hne
    exact StableHlo.devRef_ne_of_ne (by rintro rfl; exact hne (by decide)) hb

set_option backward.isDefEq.respectTransparency.types false in
/-- From any memory with zero counters: every weakly fair execution of @main terminates with the argument arrays unchanged and every
    counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  Pipeline.θ_run_frame_dmaR_around_T_forget (Q' := _) cfgs (dats m) (0 : Fin 1) launch0 osem defs₀ 𝒱₀ (fun _ => true) ownSemFacts HH RR TT
    (by decide) (by decide) m ρ main
    (hbody := fun c => body_obligation m c) (hshare := fun c => (dats m 0 c).share_full fun _ => rfl) (howed := fun _ _ => rfl)
    (V₀ := V0 m) (opss := [hostOps1]) (hsub := sfx_sub) (hfresh := sfx_fresh) (hkeep := sfx_keeps) (hT := sfx_writes)
    (hmain := hmain' m) (hA := fun _ _ => rfl) (hin := fun c => Φ_intro m c) (hout := fun c => Φ_elim m c)
    (hQ' := fun r h => ⟨fun c => ⟨((h.1 c).2 main_arg0 (by decide)).trans (V_main_arg0 m c), ((h.1 c).2 main_arg1 (by decide)).trans (V_main_arg1 m c)⟩, h.2⟩)

end Cert.Proof.KernelIdeal

end
-- ==== Proof.Value.Pay.lean ====
/-
  What the kernel's vector expressions are, element by element: the scales packed by pairs of rows, a tile dequantised, the
  running maxima, a block's scale and its inverse, a tile quantised.
-/
module

public import proofs.«01_k».proof.Proof.Gen.KernelIdeal.Skeleton
public import Idealize.ShloMosaic.Lib.Pointwise

@[expose] public section

noncomputable section

namespace Cert.Proof.Value

open Cert.KernelIdeal Cert.KernelIdeal.Gen
open Idealize.ShloMosaic Idealize.ShloMosaic.Pointwise

/-- The value at the row of either parity, from the two parities' values. -/
theorem by_parity {α : Type} {n : ℕ} (f : Fin n → α) (p e : ℕ) (he : e < 2) (h : 2 * p + 1 < n) (h0 : 2 * p < n) (h1 : 2 * p + e < n) :
    (if e % 2 = 0 then f ⟨2 * p, h0⟩ else f ⟨2 * p + 1, h⟩) = f ⟨2 * p + e, h1⟩ := by
  have : e = 0 ∨ e = 1 := by omega
  rcases this with rfl | rfl <;> rfl

/-- The value at a row's parity, from the two parities' values. -/
theorem at_parity {α : Type} (f : Fin 2 → α) (r : ℕ) (h : r % 2 < 2) : (if r % 2 = 0 then f 0 else f 1) = f ⟨r % 2, h⟩ := by
  have : r % 2 = 0 ∨ r % 2 = 1 := by omega
  rcases this with e | e <;> simp only [e] <;> rfl

/-! ### The scales, packed -/

theorem pay1_apply (v : Vec Ideal S1x28x1024 .f32) (p : Fin 512) (e : Fin 2) (g : Fin 28) :
    k0_pay1 v (ix3 p e g) = v (ix3 0 g ⟨2 * p.val + e.val, by omega⟩) := by
  pointwise [k0_pay1]
  exact by_parity (fun x => v (ix3 0 g x)) p.val e.val e.isLt (by omega) (by omega) (by omega)
theorem pay4_apply (v : Vec Ideal S1x28x1024 .f32) (p : Fin 512) (e : Fin 2) (g : Fin 28) :
    k0_pay4 v (ix3 p e g) = v (ix3 0 g ⟨2 * p.val + e.val, by omega⟩) := pay1_apply v p e g
theorem pay7_apply (v : Vec Ideal S1x28x1024 .f32) (p : Fin 512) (e : Fin 2) (g : Fin 28) :
    k0_pay7 v (ix3 p e g) = v (ix3 0 g ⟨2 * p.val + e.val, by omega⟩) := pay1_apply v p e g
theorem pay20_apply (v : Vec Ideal S1x28x1024 .f32) (p : Fin 512) (e : Fin 2) (g : Fin 28) :
    k0_pay20 v (ix3 p e g) = v (ix3 0 g ⟨2 * p.val + e.val, by omega⟩) := pay1_apply v p e g
theorem pay3_apply (v : Vec Ideal S1x28x1024 .f32) (p : Fin 512) (e : Fin 2) (g : Fin 28) :
    k0_pay3 (k0_pay2 v) (ix3 p e g) = v (ix3 0 g ⟨2 * p.val + e.val, by omega⟩) := pay1_apply v p e g
theorem pay6_apply (v : Vec Ideal S1x28x1024 .f32) (p : Fin 512) (e : Fin 2) (g : Fin 28) :
    k0_pay6 (k0_pay5 v) (ix3 p e g) = v (ix3 0 g ⟨2 * p.val + e.val, by omega⟩) := pay1_apply v p e g
theorem pay19_apply (v : Vec Ideal S1x28x1024 .f32) (p : Fin 512) (e : Fin 2) (g : Fin 28) :
    k0_pay19 (k0_pay8 v) (ix3 p e g) = v (ix3 0 g ⟨2 * p.val + e.val, by omega⟩) := pay1_apply v p e g

/-! ### A tile dequantised -/

theorem pay9_apply (raw : Vec Ideal S3584x2x128 .bf16) (v : Vec Ideal S1x7168x128 .fp8e4m3) (r : Fin 7168) (l : Fin 128) :
    k0_pay9 raw v (ix2 r l) = v (ix3 0 r l) * raw (ix3 ⟨r.val / 2, by omega⟩ ⟨r.val % 2, by omega⟩ 0) := by
  pointwise [k0_pay9]
  rw [← at_parity (fun e => raw (ix3 ⟨r.val / 2, by omega⟩ e 0)) r.val]

theorem pay10_apply (raw : Vec Ideal S3584x2x128 .bf16) (v : Vec Ideal S1x7168x128 .fp8e4m3) (p : Fin 3584) (e : Fin 2) (l : Fin 128) :
    k0_pay10 raw v (ix3 p e l) = k0_pay9 raw v (ix2 ⟨2 * p.val + e.val, by omega⟩ l) := by
  pointwise [k0_pay10]
  exact by_parity (fun x => k0_pay9 raw v (ix2 x l)) p.val e.val e.isLt (by omega) (by omega) (by omega)

/-- The lane the block's scale is gathered from is the block's number. -/
theorem lane_eq (w : BitVec 32) (hw : w.toNat < 28) :
    (Scalar.select (IntOp.cmpi CmpIPredicate.slt (Scalar.addi (Scalar.muli w 1#32) 0#32) 0#32)
      (IntOp.addi (Scalar.addi (Scalar.muli w 1#32) 0#32) 128#32) (Scalar.addi (Scalar.muli w 1#32) 0#32)).toNat % 128 = w.toNat := by
  have e : (Scalar.addi (Scalar.muli w 1#32) 0#32) = w := by
    show w * 1#32 + 0#32 = w
    simp
  rw [e]
  obtain ⟨n, hn, rfl⟩ : ∃ n, n < 28 ∧ w = BitVec.ofNat 32 n := ⟨w.toNat, hw, by simp⟩
  interval_cases n <;> rfl

theorem pay13_apply (w : BitVec 32) (hw : w.toNat < 28) (raw : Vec Ideal S3584x2x128 .bf16) (r : Fin 7168) (l : Fin 128) :
    k0_pay13 w raw (ix2 r l) = raw (ix3 ⟨r.val / 2, by omega⟩ ⟨r.val % 2, by omega⟩ ⟨w.toNat, by omega⟩) := by
  pointwise [k0_pay13]
  simp only [lane_eq w hw]
  rw [← at_parity (fun e => raw (ix3 ⟨r.val / 2, by omega⟩ e ⟨w.toNat, by omega⟩)) r.val]

theorem pay14_apply (s : FVec Ideal S7168x128 .bf16) (v : Vec Ideal S1x7168x128 .fp8e4m3) (r : Fin 7168) (l : Fin 128) :
    k0_pay14 s v (ix2 r l) = v (ix3 0 r l) * s (ix2 r l) := by
  pointwise [k0_pay14]

theorem pay15_apply (s : FVec Ideal S7168x128 .bf16) (v : Vec Ideal S1x7168x128 .fp8e4m3) (p : Fin 3584) (e : Fin 2) (l : Fin 128) :
    k0_pay15 s v (ix3 p e l) = k0_pay14 s v (ix2 ⟨2 * p.val + e.val, by omega⟩ l) := by
  pointwise [k0_pay15]
  exact by_parity (fun x => k0_pay14 s v (ix2 x l)) p.val e.val e.isLt (by omega) (by omega) (by omega)

/-! ### The running maxima -/

theorem negInf16 : Ideal.ofBits FTy.bf16 65408#16 = ⊥ := by simp [Ideal.ofBits, Ideal.ieee]
theorem negInf32 : Ideal.ofBits FTy.f32 4286578688#32 = ⊥ := by simp [Ideal.ofBits, Ideal.ieee]

/-- The absolute value. -/
abbrev absE (x : EReal) : EReal := max x (-x)

theorem pay21_apply (raw : Vec Ideal S3584x2x128 .bf16) (v : Vec Ideal S1x7168x128 .fp8e4m3) (f : Vec Ideal S16x128 .bf16) (j : Fin 16) (l : Fin 128) :
    k0_pay21 (k0_pay11 raw v) f (ix2 j l)
      = max (f (ix2 j l)) (Finset.univ.fold max ⊥ fun k : Fin 448 => absE (k0_pay9 raw v (ix2 ⟨k.val * 16 + j.val, by omega⟩ l))) := by
  pointwise [k0_pay21, k0_pay11]
  rw [negInf16]; rfl

theorem pay16_apply (s : FVec Ideal S7168x128 .bf16) (v : Vec Ideal S1x7168x128 .fp8e4m3) (f : Vec Ideal S16x128 .bf16) (j : Fin 16) (l : Fin 128) :
    k0_pay16 s v f (ix2 j l)
      = max (f (ix2 j l)) (Finset.univ.fold max ⊥ fun k : Fin 448 => absE (k0_pay14 s v (ix2 ⟨k.val * 16 + j.val, by omega⟩ l))) := by
  pointwise [k0_pay16]
  rw [negInf16]; rfl

theorem pay18_apply (j : Fin 16) (l : Fin 128) : k0_pay18 (F := Ideal) (ix2 j l) = 0 := by
  pointwise [k0_pay18]
theorem pay24_apply (j : Fin 16) (l : Fin 128) : k0_pay24 (F := Ideal) (ix2 j l) = 0 := by
  pointwise [k0_pay24]

/-! ### A block's scale and its inverse -/

abbrev top7 : EReal := Ideal.ofBits FTy.f32 1123942400#32
abbrev bot7 : EReal := Ideal.ofBits FTy.f32 3271426048#32

/-- The scale of a column whose largest absolute value is `m`. -/
def scaleOf (m : EReal) : EReal := if m = 0 then 1 else Ideal.div m top7

theorem pay22_apply (v : Vec Ideal S16x128 .bf16) (l : Fin 128) (z : Fin 1) :
    k0_pay22 v (ix2 z l) = scaleOf (Finset.univ.fold max ⊥ fun j : Fin 16 => v (ix2 j l)) := by
  pointwise [k0_pay22]
  rw [negInf32]; rfl
theorem pay25_apply (v : Vec Ideal S16x128 .bf16) (l : Fin 128) (z : Fin 1) :
    k0_pay25 v (ix2 z l) = scaleOf (Finset.univ.fold max ⊥ fun j : Fin 16 => v (ix2 j l)) := pay22_apply v l z
theorem pay23_apply (v : Vec Ideal S16x128 .bf16) (l : Fin 128) (z : Fin 1) :
    k0_pay23 v (ix2 z l) = Ideal.div 1 (scaleOf (Finset.univ.fold max ⊥ fun j : Fin 16 => v (ix2 j l))) := by
  pointwise [k0_pay23]
  rw [pay22_apply]
theorem pay26_apply (v : Vec Ideal S16x128 .bf16) (l : Fin 128) (z : Fin 1) :
    k0_pay26 v (ix2 z l) = Ideal.div 1 (scaleOf (Finset.univ.fold max ⊥ fun j : Fin 16 => v (ix2 j l))) := pay23_apply v l z

/-! ### A tile quantised -/

/-- The code of a value multiplied by the inverse scale. -/
def codeOf (y : EReal) : BitVec 8 :=
  BitVec.setWidth 8 (Ideal.fptosi 32 (min top7 (max bot7 (Ideal.liftRound Ideal.roundHalfEven y))))

theorem pay12_apply (raw : Vec Ideal S3584x2x128 .bf16) (iv : Vec Ideal S1x128 .f32) (r : Fin 7168) (l : Fin 128) (z : Fin 1) :
    k0_pay12 raw iv (ix3 z r l) = codeOf (raw (ix3 ⟨r.val / 2, by omega⟩ ⟨r.val % 2, by omega⟩ l) * iv (ix2 0 l)) := by
  pointwise [k0_pay12]
  rw [at_parity (fun e => raw (ix3 ⟨r.val / 2, by omega⟩ e l)) r.val (by omega)]; rfl
theorem pay17_apply (raw : Vec Ideal S3584x2x128 .bf16) (iv : Vec Ideal S1x128 .f32) (r : Fin 7168) (l : Fin 128) (z : Fin 1) :
    k0_pay17 raw iv (ix3 z r l) = codeOf (raw (ix3 ⟨r.val / 2, by omega⟩ ⟨r.val % 2, by omega⟩ l) * iv (ix2 0 l)) := pay12_apply raw iv r l z

end Cert.Proof.Value

end
-- ==== Proof.Value.Spec.lean ====
/-
  What the kernel computes, as plain functions of the codes and of the scales: the dequantised value at a row and a column, a
  column's largest magnitude, the maxima over the rows seen so far by residue modulo 16, a column's scale, the quantised codes.
-/
module

public import proofs.«01_k».proof.Proof.Value.Pay

@[expose] public section

noncomputable section

namespace Cert.Proof.Value

open Cert.KernelIdeal Cert.KernelIdeal.Gen
open Idealize.ShloMosaic Idealize.ShloMosaic.Pointwise

section Spec
variable (A : S21504x3584.Idx → EReal) (B : S21x28x1024.Idx → EReal)

/-- The scale of row `r` in channel group `g`. -/
def gv (r g : ℕ) : EReal := if h : r < 21504 ∧ g < 28 then B (ix3 ⟨r / 1024, by omega⟩ ⟨g, h.2⟩ ⟨r % 1024, by omega⟩) else 0
/-- The dequantised value at row `r` and column `c`. -/
def xv (r c : ℕ) : EReal := if h : r < 21504 ∧ c < 3584 then A (ix2 ⟨r, h.1⟩ ⟨c, h.2⟩) * gv B r (c / 128) else 0

/-- The largest magnitude of column `c` over the first `n` rows of residue `j` modulo 16. -/
def pm (c n j : ℕ) : EReal := max 0 (((Finset.range n).filter fun r => r % 16 = j).sup fun r => absE (xv A B r c))
/-- The largest magnitude of column `c`. -/
def am (c : ℕ) : EReal := max 0 ((Finset.range 21504).sup fun r => absE (xv A B r c))
/-- The scale of column `c`. -/
def sc (c : ℕ) : EReal := scaleOf (am A B c)
/-- Its inverse. -/
def iv (c : ℕ) : EReal := Ideal.div 1 (sc A B c)
/-- The quantised code at row `r` and column `c`. -/
def qv (r c : ℕ) : BitVec 8 := codeOf (xv A B r c * iv A B c)

theorem pm_zero (c j : ℕ) : pm A B c 0 j = 0 := by simp [pm]

/-- Another 7168 rows. -/
theorem pm_step (c q j : ℕ) (hj : j < 16) (f : Fin 448 → EReal) (hf : ∀ k, f k = absE (xv A B (7168 * q + (k.val * 16 + j)) c)) :
    max (pm A B c (7168 * q) j) (Finset.univ.fold max ⊥ f) = pm A B c (7168 * (q + 1)) j := by
  apply eq_of_forall_ge_iff
  intro z
  simp only [pm, max_le_iff, Finset.fold_max_le, Finset.sup_le_iff, Finset.mem_filter, Finset.mem_range, Finset.mem_univ, true_implies, bot_le,
    true_and, hf]
  constructor
  · rintro ⟨⟨h0, h1⟩, h2⟩
    refine ⟨h0, fun r hr => ?_⟩
    by_cases h : r < 7168 * q
    · exact h1 r ⟨h, hr.2⟩
    · have := h2 ⟨(r - 7168 * q) / 16, by omega⟩
      have e : 7168 * q + ((r - 7168 * q) / 16 * 16 + j) = r := by omega
      simpa only [e] using this
  · rintro ⟨h0, h1⟩
    refine ⟨⟨h0, fun r hr => h1 r ⟨by omega, hr.2⟩⟩, fun k => h1 _ ⟨?_, ?_⟩⟩
    · have := k.isLt; omega
    · omega

/-- The maxima by residue, gathered. -/
theorem pm_all (c : ℕ) (f : Fin 16 → EReal) (hf : ∀ j, f j = pm A B c 21504 j.val) : Finset.univ.fold max ⊥ f = am A B c := by
  apply eq_of_forall_ge_iff
  intro z
  simp only [pm, am, max_le_iff, Finset.fold_max_le, Finset.sup_le_iff, Finset.mem_filter, Finset.mem_range, Finset.mem_univ, true_implies, bot_le,
    true_and, hf]
  constructor
  · intro h
    exact ⟨(h 0).1, fun r hr => (h ⟨r % 16, by omega⟩).2 r ⟨hr, rfl⟩⟩
  · rintro ⟨h0, h1⟩ j
    exact ⟨h0, fun r hr => h1 r hr.1⟩

/-! ### What the buffers hold -/

/-- Which rows of which block the buffer of dequantised values holds once `k` items have come in: the last three. -/
def XS (k : ℕ) (X : S10752x2x128.Idx → EReal) : Prop :=
  ∀ i, i < k → k ≤ i + 3 → ∀ (p : Fin 10752) (e : Fin 2) (l : Fin 128), (2 * p.val + e.val) / 7168 = i % 3 →
    X (ix3 p e l) = xv A B (2 * p.val + e.val) (128 * (i / 3) + l.val)
/-- The packed scales of the first `n` pieces of seven batches. -/
def SS (n : ℕ) (S : S10752x2x128.Idx → EReal) : Prop :=
  ∀ (p : Fin 10752) (e : Fin 2) (l : Fin 128), p.val < 3584 * n → l.val < 28 → S (ix3 p e l) = gv B (2 * p.val + e.val) l.val
/-- The maxima of block `b` by residue over `n` rows. -/
def AS (b n : ℕ) (M : S16x128.Idx → EReal) : Prop := ∀ (j : Fin 16) (l : Fin 128), M (ix2 j l) = pm A B (128 * b + l.val) n j.val
/-- The inverse scales of block `b`. -/
def IS (b : ℕ) (I : S1x128.Idx → EReal) : Prop := ∀ (z : Fin 1) (l : Fin 128), I (ix2 z l) = iv A B (128 * b + l.val)
/-- The scales of the first `n` blocks. -/
def CS (n : ℕ) (C : S28x128.Idx → EReal) : Prop := ∀ (r : Fin 28) (l : Fin 128), r.val < n → C (ix2 r l) = sc A B (128 * r.val + l.val)

theorem AS_zero (b : ℕ) (M : S16x128.Idx → EReal) (h : ∀ j l, M (ix2 j l) = 0) : AS A B b 0 M := fun j l => (h j l).trans (pm_zero A B _ _).symm

/-- A piece of the scales packed. -/
theorem SS_step (k : ℕ) (S S' : S10752x2x128.Idx → EReal) (hS : SS B k S)
    (hn : ∀ (p : Fin 10752) (e : Fin 2) (l : Fin 128), 3584 * k ≤ p.val → p.val < 3584 * (k + 1) → l.val < 28 → S' (ix3 p e l) = gv B (2 * p.val + e.val) l.val)
    (ho : ∀ (p : Fin 10752) (e : Fin 2) (l : Fin 128), p.val < 3584 * k → l.val < 28 → S' (ix3 p e l) = S (ix3 p e l)) : SS B (k + 1) S' := by
  intro p e l hp hl
  by_cases h : p.val < 3584 * k
  · exact (ho p e l h hl).trans (hS p e l h hl)
  · exact hn p e l (by omega) hp hl

/-- An item come in. -/
theorem XS_step (k : ℕ) (X X' : S10752x2x128.Idx → EReal) (hX : XS A B k X)
    (hn : ∀ (p : Fin 10752) (e : Fin 2) (l : Fin 128), 3584 * (k % 3) ≤ p.val → p.val < 3584 * (k % 3) + 3584 →
      X' (ix3 p e l) = xv A B (2 * p.val + e.val) (128 * (k / 3) + l.val))
    (ho : ∀ (p : Fin 10752) (e : Fin 2) (l : Fin 128), (p.val < 3584 * (k % 3) ∨ 3584 * (k % 3) + 3584 ≤ p.val) → X' (ix3 p e l) = X (ix3 p e l)) :
    XS A B (k + 1) X' := by
  intro i hi hk p e l hp
  have he := e.isLt
  by_cases h : i = k
  · subst h
    exact hn p e l (by omega) (by omega)
  · rw [ho p e l (by omega)]
    exact hX i (by omega) (by omega) p e l hp

end Spec

end Cert.Proof.Value

end
-- ==== Proof.Value.Pieces.lean ====
/-
  What the kernel holds between two trips of its loops, with the values: which dequantised rows, maxima, inverse scales and packed
  scales its buffers hold, and that every tile of the result written so far holds the quantised codes.
-/
module

public import proofs.«01_k».proof.Proof.KernelIdeal.Pieces
public import proofs.«01_k».proof.Proof.Value.Spec
public import Idealize.ShloMosaic.Lib.ViewIndex

@[expose] public section

noncomputable section

namespace Cert.Proof.Value

open Cert.KernelIdeal Cert.KernelIdeal.Gen Cert.Proof.Rings Cert.Proof.KernelIdeal
open Idealize.ShloMosaic Idealize.ShloMosaic.Pointwise
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

local notation "𝕄" => MT nD τ sig Unit (Elt Ideal) ℕ (UU nD τ) ℕ

section Pieces
variable (c : Dev nD) (XA : Buf (Elt Ideal) (xM.view.loc (c : Thread nD τ))) (GA : Buf (Elt Ideal) (gM.view.loc (c : Thread nD τ)))

/-- The codes and the scales, as functions of their indices. -/
abbrev cA : S21504x3584.Idx → EReal := xM.view.read (Elt Ideal) XA
abbrev cB : S21x28x1024.Idx → EReal := gM.view.read (Elt Ideal) GA
/-- The quantised codes, as the result's contents. -/
def QA : Buf (Elt Ideal) (yM.view.loc (c : Thread nD τ)) := fun y : S21504x3584.Idx => qv (cA c XA) (cB c GA) (y 0).val (y 1).val

/-! ### The result's tiles -/

/-- A tile written with the quantised codes is the tile of the quantised array. -/
theorem tile_quantised (b : Fin 84) (f : Buf (Elt Ideal) ((tOut b).view.loc (c : Thread nD τ))) (w : S7168x128.Idx → BitVec 8)
    (h : ∀ (r : Fin 7168) (l : Fin 128), w (ix2 r l) = qv (cA c XA) (cB c GA) (7168 * (b.val % 3) + r.val) (128 * (b.val / 3) + l.val)) :
    (tOutP c b ((tOut b).view.writes (Elt Ideal) f [⟨Rect.whole S7168x128, w⟩]) : sProp 𝕄) = tOutP c b (QA c XA GA) := by
  refine pointsTo_congr fun y hy => ?_
  obtain ⟨i, -, rfl⟩ := Finset.mem_map.mp hy
  refine View.eq_of_read_eq (v := (tOut b).view) (x := i) ?_
  have e0 : (Rect.whole S7168x128).emb i = i := funext fun a => Fin.ext (by show 0 + 1 * (i a).val = (i a).val; omega)
  have e := View.read_writes_cons_emb (Val := Elt Ideal) (tOut b).view f (Rect.whole S7168x128) w [] i
  rw [e0] at e
  refine e.trans ?_
  have hi : i = ix2 (i 0) (i 1) := eq_ix2 i
  have hq : (tOut b).view.read (Elt Ideal) (QA c XA GA) i
      = qv (cA c XA) (cB c GA) (7168 * (b.val % 3) + 1 * (i 0).val) (128 * (b.val / 3) + 1 * (i 1).val) := rfl
  rw [hq, Nat.one_mul, Nat.one_mul, ← h (i 0) (i 1)]
  exact congrArg w hi

/-- Slot `s` on its way to tile `b` of the quantised array. -/
abbrev flQ (s : Fin 6) (b : Fin 84) (g : Buf (Elt Ideal) ((sOut s).view.loc (c : Thread nD τ))) : sProp 𝕄 :=
  Transfers.Flight countersEmb (c : Thread nD τ) (SemLoc.dma (cOut s).sem) () 28672 iprop(tOutP c b (QA c XA GA) ∗ sOutP c s g)
abbrev inflQ (s : Fin 6) (b : Fin 84) : sProp 𝕄 := iprop(∃ g, flQ c XA GA s b g)
abbrev homeQ (b : Fin 84) : sProp 𝕄 := tOutP c b (QA c XA GA)

theorem flQ_of (s : Fin 6) (b : Fin 84) (f : Buf (Elt Ideal) ((tOut b).view.loc (c : Thread nD τ))) (w : S7168x128.Idx → BitVec 8)
    (g : Buf (Elt Ideal) ((sOut s).view.loc (c : Thread nD τ)))
    (h : ∀ (r : Fin 7168) (l : Fin 128), w (ix2 r l) = qv (cA c XA) (cB c GA) (7168 * (b.val % 3) + r.val) (128 * (b.val / 3) + l.val)) :
    (Transfers.Flight countersEmb (c : Thread nD τ) (SemLoc.dma (cOut s).sem) () 28672
      iprop(tOutP c b ((tOut b).view.writes (Elt Ideal) f [⟨Rect.whole S7168x128, w⟩]) ∗ sOutP c s g) : sProp 𝕄) = flQ c XA GA s b g := by
  rw [tile_quantised c XA GA b f w h]

/-! ### The scales -/

/-- Piece `j` staged, at the scales' contents. -/
abbrev doneV (j : Fin 3) : sProp 𝕄 := iprop((∃ f, gStP c j (landG c GA j f)) ∗ gInP c GA j ∗ cGP c j)

/-! ### The buffers at their values -/

abbrev oRingV (o : ℕ) : sProp 𝕄 := outRing (homeOut (F := Ideal) c) (homeQ c XA GA) (inflQ c XA GA) (freeOut c) o
/-- What the view of the buffer of dequantised values, of packed scales, of maxima and of inverse scales reads. -/
abbrev xbR (f : Buf (Elt Ideal) (xbM.view.loc (c : Thread nD τ))) : S10752x2x128.Idx → EReal := xbM.view.read (Elt Ideal) f
abbrev sbR (f : Buf (Elt Ideal) (sbM.view.loc (c : Thread nD τ))) : S10752x2x128.Idx → EReal := sbM.view.read (Elt Ideal) f
abbrev amR (f : Buf (Elt Ideal) (amM.view.loc (c : Thread nD τ))) : S16x128.Idx → EReal := amM.view.read (Elt Ideal) f
abbrev ivR (f : Buf (Elt Ideal) (ivM.view.loc (c : Thread nD τ))) : S1x128.Idx → EReal := ivM.view.read (Elt Ideal) f

/-- Before item `k` of the first block comes in, no result on its way: the maxima are those over the items before it. -/
def resV2 (k : ℕ) : sProp 𝕄 :=
  iprop(iRing c XA k ∗ oRingV c XA GA 0 ∗ (∃ f, xbP (F := Ideal) c f ∗ ⌜XS (cA c XA) (cB c GA) k (xbR c f)⌝)
    ∗ (∃ f, sbP (F := Ideal) c f ∗ ⌜SS (cB c GA) 3 (sbR c f)⌝) ∗ (∃ f, amP (F := Ideal) c f ∗ ⌜AS (cA c XA) (cB c GA) 0 (7168 * k) (amR c f)⌝)
    ∗ ∃ W, owes (c : Thread nD τ) 0 W)
/-- Before item `b` of block `a + 1` comes in and item `b` of block `a` goes out: the maxima are those of block `a + 1`, the inverse
    scales those of block `a`. -/
def resV4 (a b : ℕ) : sProp 𝕄 :=
  iprop(iRing c XA (kk a b) ∗ oRingV c XA GA (oo a b) ∗ (∃ f, xbP (F := Ideal) c f ∗ ⌜XS (cA c XA) (cB c GA) (kk a b) (xbR c f)⌝)
    ∗ (∃ f, sbP (F := Ideal) c f ∗ ⌜SS (cB c GA) 3 (sbR c f)⌝) ∗ (∃ f, amP (F := Ideal) c f ∗ ⌜AS (cA c XA) (cB c GA) (a + 1) (7168 * b) (amR c f)⌝)
    ∗ (∃ f, ivP (F := Ideal) c f ∗ ⌜IS (cA c XA) (cB c GA) a (ivR c f)⌝) ∗ ∃ W, owes (c : Thread nD τ) 0 W)
/-- Before item `k` of the last block goes out. -/
def resV5 (k : ℕ) : sProp 𝕄 :=
  iprop(oRingV c XA GA (o5 k) ∗ (∃ f, xbP (F := Ideal) c f ∗ ⌜XS (cA c XA) (cB c GA) 84 (xbR c f)⌝)
    ∗ (∃ f, ivP (F := Ideal) c f ∗ ⌜IS (cA c XA) (cB c GA) 27 (ivR c f)⌝) ∗ ∃ W, owes (c : Thread nD τ) 0 W)

end Pieces

end Cert.Proof.Value

end
-- ==== Proof.Value.Reads.lean ====
/-
  What the kernel's loads read and its stores leave: tiles landed in a slot, pieces of the scales staged, rows stored into the packed
  buffers, a slot's contents sent out.
-/
module

public import proofs.«01_k».proof.Proof.Value.Pieces
public import Idealize.ShloMosaic.Lib.WritesUnit
public import Idealize.ShloMosaic.Lib.VecWindow
public import Idealize.ShloMosaic.Lib.ValueLayout
public import Idealize.ShloMosaic.Lib.Pointwise.IndexBridge

@[expose] public section

noncomputable section

namespace Cert.Proof.Value

open Cert.KernelIdeal Cert.KernelIdeal.Gen Cert.Proof.Rings Cert.Proof.KernelIdeal
open Idealize.ShloMosaic Idealize.ShloMosaic.Pointwise
open Idealize.ShloMosaic.TcCoe
open Idealize.SL Idealize.SL.RA Idealize.SL.BI

/-- Two indices of three coordinates that agree. -/
theorem ext3 {d : Fin 3 → ℕ} {x y : (⟨3, d⟩ : Shape).Idx} (h0 : (x 0).val = (y 0).val) (h1 : (x 1).val = (y 1).val) (h2 : (x 2).val = (y 2).val) :
    x = y := by
  funext a
  match a with
  | ⟨0, _⟩ => exact Fin.ext h0
  | ⟨1, _⟩ => exact Fin.ext h1
  | ⟨2, _⟩ => exact Fin.ext h2
theorem ext2 {d : Fin 2 → ℕ} {x y : (⟨2, d⟩ : Shape).Idx} (h0 : (x 0).val = (y 0).val) (h1 : (x 1).val = (y 1).val) : x = y := by
  funext a
  match a with
  | ⟨0, _⟩ => exact Fin.ext h0
  | ⟨1, _⟩ => exact Fin.ext h1

/-- A view written whole reads what was written. -/
theorem read_writes_whole {sig : RefSig} {κ : Kind} {sp : Space} {s : Shape} {e : EltTy} (v : View sig κ sp s e) (f : v.ty.Contents (Elt Ideal))
    (w : s.Idx → Elt Ideal e) (i : s.Idx) : v.read (Elt Ideal) (v.writes (Elt Ideal) f [⟨Rect.whole s, w⟩]) i = w i := by
  have e0 : (Rect.whole s).emb i = i := funext fun a => Fin.ext (by show 0 + 1 * (i a).val = (i a).val; omega)
  have e := View.read_writes_cons_emb (Val := Elt Ideal) v f (Rect.whole s) w [] i
  rwa [e0] at e

/-! ### Slots -/

theorem slot_ix (h : S7168x128.numel = S1x7168x128.numel) (r : Fin 7168) (l : Fin 128) :
    Shape.reshapeEquiv h (ix2 r l) = ix3 (0 : Fin 1) r l := by
  rw [ix2_eq_valueIdx]
  refine (ValueIdx.reshapeEquiv_ix2_1ab h r l).trans ?_
  exact ext3 rfl rfl rfl

/-- A load of a slot reads the tile landed in it. -/
theorem slot_read (s : Fin 6) {off : Fin 3 → ℕ} (inb : ∀ a, off a + S1x7168x128.size a ≤ S6x7168x128.size a) (h : off = slotOff s)
    (f : (sIn s).view.ty.Contents (Elt Ideal)) (w : S7168x128.Idx → EReal) (z : Fin 1) (r : Fin 7168) (l : Fin 128) :
    ibM.view.readAt (Elt Ideal) (Rect.unit (s := S6x7168x128) off S1x7168x128.size inb).toLoadRect
      ((sIn s).view.writes (Elt Ideal) f [⟨Rect.whole S7168x128, w⟩]) (ix3 z r l) = w (ix2 r l) := by
  subst h
  have e : (sIn s).view.read (Elt Ideal) ((sIn s).view.writes (Elt Ideal) f [⟨Rect.whole S7168x128, w⟩]) (ix2 r l)
      = ibM.view.readAt (Elt Ideal) (Rect.unit (s := S6x7168x128) (slotOff s) S1x7168x128.size inb).toLoadRect
          ((sIn s).view.writes (Elt Ideal) f [⟨Rect.whole S7168x128, w⟩]) (Shape.reshapeEquiv squeezes_S1x7168x128_S7168x128.numel_eq (ix2 r l)) := rfl
  rw [slot_ix] at e
  rw [show z = 0 from Subsingleton.elim _ _, ← e]
  exact read_writes_whole _ _ _ _

/-- A slot stored into reads the vector stored. -/
theorem slot_store (s : Fin 6) {off : Fin 3 → ℕ} (inb : ∀ a, off a + S1x7168x128.size a ≤ S6x7168x128.size a) (h : off = slotOff s)
    (g : (obM.access (Rect.unit (s := S6x7168x128) off S1x7168x128.size inb)).ty.Contents (Elt Ideal)) (w : S1x7168x128.Idx → BitVec 8)
    (r : Fin 7168) (l : Fin 128) :
    (sOut s).view.read (Elt Ideal) ((obM.access (Rect.unit (s := S6x7168x128) off S1x7168x128.size inb)).write (Elt Ideal) g w Finset.univ) (ix2 r l)
      = w (ix3 0 r l) := by
  subst h
  have e : ∀ f, (sOut s).view.read (Elt Ideal) f (ix2 r l)
      = (obM.access (Rect.unit (s := S6x7168x128) (slotOff s) S1x7168x128.size inb)).read (Elt Ideal) f
          (Shape.reshapeEquiv squeezes_S1x7168x128_S7168x128.numel_eq (ix2 r l)) := fun _ => rfl
  refine (e _).trans ?_
  rw [slot_ix]
  exact congrFun (View.read_write_univ _ _) _

section Arrays
variable (c : Dev nD) (XA : Buf (Elt Ideal) (xM.view.loc (c : Thread nD τ))) (GA : Buf (Elt Ideal) (gM.view.loc (c : Thread nD τ)))

/-- Tile `b` of the codes, element by element. -/
theorem pIn_apply (b : Fin 84) (r : Fin 7168) (l : Fin 128) :
    pIn c XA b (ix2 r l) = cA c XA (ix2 ⟨7168 * (b.val % 3) + r.val, by omega⟩ ⟨128 * (b.val / 3) + l.val, by omega⟩) := by
  show cA c XA _ = _
  refine congrArg (cA c XA) (ext2 ?_ ?_)
  · show 7168 * (b.val % 3) + 1 * r.val = 7168 * (b.val % 3) + r.val; omega
  · show 128 * (b.val / 3) + 1 * l.val = 128 * (b.val / 3) + l.val; omega

/-- A load of one batch's scales from a staged piece. -/
theorem stage_read (j : Fin 3) (i : Fin 7) {off : Fin 3 → ℕ} (inb : ∀ a, off a + S1x28x1024.size a ≤ S21x28x1024.size a)
    (h : off = ![7 * j.val + i.val, 0, 0]) (f : (gSt j).view.ty.Contents (Elt Ideal)) (z : Fin 1) (g : Fin 28) (t : Fin 1024) :
    sgM.view.readAt (Elt Ideal) (Rect.unit (s := S21x28x1024) off S1x28x1024.size inb).toLoadRect
      ((gSt j).view.writes (Elt Ideal) f [⟨Rect.whole S7x28x1024, pG c GA j⟩]) (ix3 z g t)
      = cB c GA (ix3 ⟨7 * j.val + i.val, by omega⟩ g t) := by
  subst h
  have ei : (Rect.unit (s := S21x28x1024) ![7 * j.val + i.val, 0, 0] S1x28x1024.size inb).emb (ix3 z g t)
      = (Rect.unit (s := S21x28x1024) (gOff j) S7x28x1024.size (gOff_inb j)).emb (ix3 i g t) := ext3
    (by show 7 * j.val + i.val + 1 * z.val = 7 * j.val + 1 * i.val; omega) rfl rfl
  have e : ∀ f', sgM.view.readAt (Elt Ideal) (Rect.unit (s := S21x28x1024) ![7 * j.val + i.val, 0, 0] S1x28x1024.size inb).toLoadRect f' (ix3 z g t)
      = (gSt j).view.read (Elt Ideal) f' (ix3 i g t) := fun f' => congrArg (sgM.view.read (Elt Ideal) f') ei
  refine ((e _).trans (read_writes_whole _ _ _ _)).trans ?_
  show cB c GA _ = _
  refine congrArg (cB c GA) (ext3 ?_ ?_ ?_)
  · show 7 * j.val + 1 * i.val = 7 * j.val + i.val; omega
  · show 0 + 1 * g.val = g.val; omega
  · show 0 + 1 * t.val = t.val; omega
end Arrays

/-! ### The packed buffers -/

/-- A load of 3584 packed rows. -/
theorem rows_load (v : View sig .tc .vmem S10752x2x128 .bf16) (f : v.ty.Contents (Elt Ideal)) (o : ℕ) {off : Fin 3 → ℕ}
    (inb : ∀ a, off a + S3584x2x128.size a ≤ S10752x2x128.size a) (h : off = ![o, 0, 0]) (ho : o + 3584 ≤ 10752) (p : Fin 3584) (e : Fin 2) (l : Fin 128) :
    v.readAt (Elt Ideal) (Rect.unit (s := S10752x2x128) off S3584x2x128.size inb).toLoadRect f (ix3 p e l)
      = v.read (Elt Ideal) f (ix3 ⟨o + p.val, by omega⟩ e l) := by
  subst h
  refine congrArg (v.read (Elt Ideal) f) (ext3 ?_ ?_ ?_)
  · show o + 1 * p.val = o + p.val; omega
  · show 0 + 1 * e.val = e.val; omega
  · show 0 + 1 * l.val = l.val; omega

/-- A store of 3584 packed rows: the rows stored, and the others. -/
theorem rows_in (v : View sig .tc .vmem S10752x2x128 .bf16) (f : v.ty.Contents (Elt Ideal)) (o : ℕ) {off : Fin 3 → ℕ}
    (inb : ∀ a, off a + S3584x2x128.size a ≤ S10752x2x128.size a) (h : off = ![o, 0, 0]) (w : S3584x2x128.Idx → EReal) (p : Fin 10752) (e : Fin 2) (l : Fin 128)
    (h1 : o ≤ p.val) (h2 : p.val < o + 3584) :
    v.read (Elt Ideal) (v.writes (Elt Ideal) f [⟨Rect.unit (s := S10752x2x128) off S3584x2x128.size inb, w⟩]) (ix3 p e l)
      = w (ix3 ⟨p.val - o, by omega⟩ e l) := by
  refine View.read_writes_cons_unit_of_mem v f inb w [] (ix3 p e l) (ix3 ⟨p.val - o, by omega⟩ e l) h fun a => ?_
  match a with
  | ⟨0, _⟩ => show p.val = o + (p.val - o); omega
  | ⟨1, _⟩ => show e.val = 0 + e.val; omega
  | ⟨2, _⟩ => show l.val = 0 + l.val; omega
theorem rows_out (v : View sig .tc .vmem S10752x2x128 .bf16) (f : v.ty.Contents (Elt Ideal)) (o : ℕ) {off : Fin 3 → ℕ}
    (inb : ∀ a, off a + S3584x2x128.size a ≤ S10752x2x128.size a) (h : off = ![o, 0, 0]) (w : S3584x2x128.Idx → EReal) (p : Fin 10752) (e : Fin 2) (l : Fin 128)
    (h1 : p.val < o ∨ o + 3584 ≤ p.val) :
    v.read (Elt Ideal) (v.writes (Elt Ideal) f [⟨Rect.unit (s := S10752x2x128) off S3584x2x128.size inb, w⟩]) (ix3 p e l)
      = v.read (Elt Ideal) f (ix3 p e l) :=
  View.read_writes_cons_unit_of_not_mem v f inb w [] (ix3 p e l) h 0 h1

/-- A store of 512 packed rows of 28 lanes. -/
theorem pack_in (v : View sig .tc .vmem S10752x2x128 .bf16) (f : v.ty.Contents (Elt Ideal)) (o : ℕ) {off : Fin 3 → ℕ}
    (inb : ∀ a, off a + S512x2x28.size a ≤ S10752x2x128.size a) (h : off = ![o, 0, 0]) (w : S512x2x28.Idx → EReal) (L : List (View.Piece (Elt Ideal) S10752x2x128 .bf16))
    (p : Fin 10752) (e : Fin 2) (l : Fin 128) (h1 : o ≤ p.val) (h2 : p.val < o + 512) (hl : l.val < 28) :
    v.read (Elt Ideal) (v.writes (Elt Ideal) f (⟨Rect.unit (s := S10752x2x128) off S512x2x28.size inb, w⟩ :: L)) (ix3 p e l)
      = w (ix3 ⟨p.val - o, by omega⟩ e ⟨l.val, hl⟩) := by
  refine View.read_writes_cons_unit_of_mem v f inb w L (ix3 p e l) (ix3 ⟨p.val - o, by omega⟩ e ⟨l.val, hl⟩) h fun a => ?_
  match a with
  | ⟨0, _⟩ => show p.val = o + (p.val - o); omega
  | ⟨1, _⟩ => show e.val = 0 + e.val; omega
  | ⟨2, _⟩ => show l.val = 0 + l.val; omega
theorem pack_out (v : View sig .tc .vmem S10752x2x128 .bf16) (f : v.ty.Contents (Elt Ideal)) (o : ℕ) {off : Fin 3 → ℕ}
    (inb : ∀ a, off a + S512x2x28.size a ≤ S10752x2x128.size a) (h : off = ![o, 0, 0]) (w : S512x2x28.Idx → EReal) (L : List (View.Piece (Elt Ideal) S10752x2x128 .bf16))
    (p : Fin 10752) (e : Fin 2) (l : Fin 128) (h1 : p.val < o ∨ o + 512 ≤ p.val) :
    v.read (Elt Ideal) (v.writes (Elt Ideal) f (⟨Rect.unit (s := S10752x2x128) off S512x2x28.size inb, w⟩ :: L)) (ix3 p e l)
      = v.read (Elt Ideal) (v.writes (Elt Ideal) f L) (ix3 p e l) :=
  View.read_writes_cons_unit_of_not_mem v f inb w L (ix3 p e l) h 0 h1

/-- Seven batches' scales packed. -/
theorem pack_seven (B : S21x28x1024.Idx → EReal) (v : View sig .tc .vmem S10752x2x128 .bf16) (f : v.ty.Contents (Elt Ideal)) (k : ℕ)
    (hk : k < 3)
    {o0 o1 o2 o3 o4 o5 o6 : Fin 3 → ℕ}
    (b0 : ∀ a, o0 a + S512x2x28.size a ≤ S10752x2x128.size a)
    (b1 : ∀ a, o1 a + S512x2x28.size a ≤ S10752x2x128.size a)
    (b2 : ∀ a, o2 a + S512x2x28.size a ≤ S10752x2x128.size a)
    (b3 : ∀ a, o3 a + S512x2x28.size a ≤ S10752x2x128.size a)
    (b4 : ∀ a, o4 a + S512x2x28.size a ≤ S10752x2x128.size a)
    (b5 : ∀ a, o5 a + S512x2x28.size a ≤ S10752x2x128.size a)
    (b6 : ∀ a, o6 a + S512x2x28.size a ≤ S10752x2x128.size a)
    (e0 : o0 = ![3584 * k + 0, 0, 0])
    (e1 : o1 = ![3584 * k + 512, 0, 0])
    (e2 : o2 = ![3584 * k + 1024, 0, 0])
    (e3 : o3 = ![3584 * k + 1536, 0, 0])
    (e4 : o4 = ![3584 * k + 2048, 0, 0])
    (e5 : o5 = ![3584 * k + 2560, 0, 0])
    (e6 : o6 = ![3584 * k + 3072, 0, 0])
    (w0 w1 w2 w3 w4 w5 w6 : S512x2x28.Idx → EReal)
    (h0 : ∀ (p : Fin 512) (e : Fin 2) (g : Fin 28), w0 (ix3 p e g) = gv B (2 * (3584 * k + 0 + p.val) + e.val) g.val)
    (h1 : ∀ (p : Fin 512) (e : Fin 2) (g : Fin 28), w1 (ix3 p e g) = gv B (2 * (3584 * k + 512 + p.val) + e.val) g.val)
    (h2 : ∀ (p : Fin 512) (e : Fin 2) (g : Fin 28), w2 (ix3 p e g) = gv B (2 * (3584 * k + 1024 + p.val) + e.val) g.val)
    (h3 : ∀ (p : Fin 512) (e : Fin 2) (g : Fin 28), w3 (ix3 p e g) = gv B (2 * (3584 * k + 1536 + p.val) + e.val) g.val)
    (h4 : ∀ (p : Fin 512) (e : Fin 2) (g : Fin 28), w4 (ix3 p e g) = gv B (2 * (3584 * k + 2048 + p.val) + e.val) g.val)
    (h5 : ∀ (p : Fin 512) (e : Fin 2) (g : Fin 28), w5 (ix3 p e g) = gv B (2 * (3584 * k + 2560 + p.val) + e.val) g.val)
    (h6 : ∀ (p : Fin 512) (e : Fin 2) (g : Fin 28), w6 (ix3 p e g) = gv B (2 * (3584 * k + 3072 + p.val) + e.val) g.val)
    (hS : SS B k (v.read (Elt Ideal) f)) :
    SS B (k + 1) (v.read (Elt Ideal) (v.writes (Elt Ideal) f
      [⟨Rect.unit (s := S10752x2x128) o6 S512x2x28.size b6, w6⟩,
        ⟨Rect.unit (s := S10752x2x128) o5 S512x2x28.size b5, w5⟩,
        ⟨Rect.unit (s := S10752x2x128) o4 S512x2x28.size b4, w4⟩,
        ⟨Rect.unit (s := S10752x2x128) o3 S512x2x28.size b3, w3⟩,
        ⟨Rect.unit (s := S10752x2x128) o2 S512x2x28.size b2, w2⟩,
        ⟨Rect.unit (s := S10752x2x128) o1 S512x2x28.size b1, w1⟩,
        ⟨Rect.unit (s := S10752x2x128) o0 S512x2x28.size b0, w0⟩])) := by
  refine SS_step B k _ _ hS (fun p e l ha hb hl => ?_) fun p e l h hl => ?_
  · have hp : (p.val - 3584 * k) / 512 < 7 := by omega
    generalize hi : (p.val - 3584 * k) / 512 = i at hp
    interval_cases i
    · rw [pack_out v f _ b6 e6 w6 _ p e l (by omega), pack_out v f _ b5 e5 w5 _ p e l (by omega), pack_out v f _ b4 e4 w4 _ p e l (by omega), pack_out v f _ b3 e3 w3 _ p e l (by omega), pack_out v f _ b2 e2 w2 _ p e l (by omega), pack_out v f _ b1 e1 w1 _ p e l (by omega), pack_in v f _ b0 e0 w0 _ p e l (by omega) (by omega) hl, h0]
      exact congrArg (fun n => gv B (2 * n + e.val) l.val) (show 3584 * k + 0 + (p.val - (3584 * k + 0)) = p.val by omega)
    · rw [pack_out v f _ b6 e6 w6 _ p e l (by omega), pack_out v f _ b5 e5 w5 _ p e l (by omega), pack_out v f _ b4 e4 w4 _ p e l (by omega), pack_out v f _ b3 e3 w3 _ p e l (by omega), pack_out v f _ b2 e2 w2 _ p e l (by omega), pack_in v f _ b1 e1 w1 _ p e l (by omega) (by omega) hl, h1]
      exact congrArg (fun n => gv B (2 * n + e.val) l.val) (show 3584 * k + 512 + (p.val - (3584 * k + 512)) = p.val by omega)
    · rw [pack_out v f _ b6 e6 w6 _ p e l (by omega), pack_out v f _ b5 e5 w5 _ p e l (by omega), pack_out v f _ b4 e4 w4 _ p e l (by omega), pack_out v f _ b3 e3 w3 _ p e l (by omega), pack_in v f _ b2 e2 w2 _ p e l (by omega) (by omega) hl, h2]
      exact congrArg (fun n => gv B (2 * n + e.val) l.val) (show 3584 * k + 1024 + (p.val - (3584 * k + 1024)) = p.val by omega)
    · rw [pack_out v f _ b6 e6 w6 _ p e l (by omega), pack_out v f _ b5 e5 w5 _ p e l (by omega), pack_out v f _ b4 e4 w4 _ p e l (by omega), pack_in v f _ b3 e3 w3 _ p e l (by omega) (by omega) hl, h3]
      exact congrArg (fun n => gv B (2 * n + e.val) l.val) (show 3584 * k + 1536 + (p.val - (3584 * k + 1536)) = p.val by omega)
    · rw [pack_out v f _ b6 e6 w6 _ p e l (by omega), pack_out v f _ b5 e5 w5 _ p e l (by omega), pack_in v f _ b4 e4 w4 _ p e l (by omega) (by omega) hl, h4]
      exact congrArg (fun n => gv B (2 * n + e.val) l.val) (show 3584 * k + 2048 + (p.val - (3584 * k + 2048)) = p.val by omega)
    · rw [pack_out v f _ b6 e6 w6 _ p e l (by omega), pack_in v f _ b5 e5 w5 _ p e l (by omega) (by omega) hl, h5]
      exact congrArg (fun n => gv B (2 * n + e.val) l.val) (show 3584 * k + 2560 + (p.val - (3584 * k + 2560)) = p.val by omega)
    · rw [pack_in v f _ b6 e6 w6 _ p e l (by omega) (by omega) hl, h6]
      exact congrArg (fun n => gv B (2 * n + e.val) l.val) (show 3584 * k + 3072 + (p.val - (3584 * k + 3072)) = p.val by omega)
  · rw [pack_out v f _ b6 e6 w6 _ p e l (by omega), pack_out v f _ b5 e5 w5 _ p e l (by omega), pack_out v f _ b4 e4 w4 _ p e l (by omega), pack_out v f _ b3 e3 w3 _ p e l (by omega), pack_out v f _ b2 e2 w2 _ p e l (by omega), pack_out v f _ b1 e1 w1 _ p e l (by omega), pack_out v f _ b0 e0 w0 _ p e l (by omega)]
    rfl

/-! ### The scales' window -/

/-- A row stored into the window of scales. -/
theorem row_in (v : View sig .tc .vmem S28x128 .f32) (f : v.ty.Contents (Elt Ideal)) (o : ℕ) {off : Fin 2 → ℕ}
    (inb : ∀ a, off a + S1x128.size a ≤ S28x128.size a) (h : off = ![o, 0]) (w : S1x128.Idx → EReal) (r : Fin 28) (l : Fin 128) (hr : r.val = o) :
    v.read (Elt Ideal) (v.writes (Elt Ideal) f [⟨Rect.unit (s := S28x128) off S1x128.size inb, w⟩]) (ix2 r l) = w (ix2 0 l) := by
  refine View.read_writes_cons_unit_of_mem v f inb w [] (ix2 r l) (ix2 0 l) h fun a => ?_
  match a with
  | ⟨0, _⟩ => show r.val = o + 0; omega
  | ⟨1, _⟩ => show l.val = 0 + l.val; omega
theorem row_out (v : View sig .tc .vmem S28x128 .f32) (f : v.ty.Contents (Elt Ideal)) (o : ℕ) {off : Fin 2 → ℕ}
    (inb : ∀ a, off a + S1x128.size a ≤ S28x128.size a) (h : off = ![o, 0]) (w : S1x128.Idx → EReal) (r : Fin 28) (l : Fin 128) (hr : r.val < o) :
    v.read (Elt Ideal) (v.writes (Elt Ideal) f [⟨Rect.unit (s := S28x128) off S1x128.size inb, w⟩]) (ix2 r l) = v.read (Elt Ideal) f (ix2 r l) :=
  View.read_writes_cons_unit_of_not_mem v f inb w [] (ix2 r l) h 0 (.inl hr)

end Cert.Proof.Value

end
-- ==== Proof.Value.Trip.lean ====
/-
  What one item does: its tile times its scales are the dequantised values, they join the buffer and the maxima; an earlier item,
  scaled and rounded, is a tile of the quantised array.
-/
module

public import proofs.«01_k».proof.Proof.Value.Reads

@[expose] public section

noncomputable section

namespace Cert.Proof.Value

open Cert.KernelIdeal Cert.KernelIdeal.Gen Cert.Proof.Rings Cert.Proof.KernelIdeal
open Idealize.ShloMosaic Idealize.ShloMosaic.Pointwise
open Idealize.ShloMosaic.TcCoe
open Idealize.SL Idealize.SL.RA Idealize.SL.BI
open scoped Idealize.SL.BI
open Idealize.SL.BI.BIBase Idealize.SL.BI.Laws Idealize.SL.ProofMode Idealize.SL.Sem

/-- A load of the packed scales: row `r` of row chunk `q`, one lane. -/
theorem scale_load (B : S21x28x1024.Idx → EReal) (f : sbM.view.ty.Contents (Elt Ideal)) (hS : SS B 3 (sbM.view.read (Elt Ideal) f)) (q : ℕ) (hq : q < 3)
    {off : Fin 3 → ℕ} (inb : ∀ a, off a + S3584x2x128.size a ≤ S10752x2x128.size a) (h : off = ![3584 * q, 0, 0]) (r : Fin 7168) (l : Fin 128)
    (hl : l.val < 28) :
    sbM.view.readAt (Elt Ideal) (Rect.unit (s := S10752x2x128) off S3584x2x128.size inb).toLoadRect f
      (ix3 ⟨r.val / 2, by omega⟩ ⟨r.val % 2, by omega⟩ l) = gv B (7168 * q + r.val) l.val := by
  rw [rows_load _ _ (3584 * q) inb h (by omega), hS _ _ _ (by show 3584 * q + r.val / 2 < 3584 * 3; omega) hl]
  exact congrArg (fun n => gv B n l.val) (show 2 * (3584 * q + r.val / 2) + r.val % 2 = 7168 * q + r.val by omega)

/-- One batch's scales, packed. -/
theorem batch_value (B : S21x28x1024.Idx → EReal) (k i : ℕ) (hk : k < 3) (hi : i < 7) (n : ℕ) (hn : n = 512 * i) (v : S1x28x1024.Idx → EReal)
    (hv : ∀ (z : Fin 1) (g : Fin 28) (t : Fin 1024), v (ix3 z g t) = B (ix3 ⟨7 * k + i, by omega⟩ g t)) (p : Fin 512) (e : Fin 2) (g : Fin 28) :
    v (ix3 0 g ⟨2 * p.val + e.val, by omega⟩) = gv B (2 * (3584 * k + n + p.val) + e.val) g.val := by
  subst hn
  have hp := p.isLt
  have he := e.isLt
  unfold gv
  rw [dif_pos ⟨by omega, g.isLt⟩, hv]
  refine congrArg B (ext3 ?_ rfl ?_)
  · show 7 * k + i = (2 * (3584 * k + 512 * i + p.val) + e.val) / 1024; omega
  · show 2 * p.val + e.val = (2 * (3584 * k + 512 * i + p.val) + e.val) % 1024; omega

section Item
variable (c : Dev nD) (XA : Buf (Elt Ideal) (xM.view.loc (c : Thread nD τ))) (GA : Buf (Elt Ideal) (gM.view.loc (c : Thread nD τ)))

/-- Item `k`'s tile times its scales. -/
theorem tile_value (k : ℕ) (hk : k < 84) (v : S1x7168x128.Idx → EReal) (hv : ∀ (z : Fin 1) (r : Fin 7168) (l : Fin 128), v (ix3 z r l) = pIn c XA (Ring.bk 84 k) (ix2 r l))
    (r : Fin 7168) (l : Fin 128) (s : EReal) (hs : s = gv (cB c GA) (7168 * (k % 3) + r.val) (k / 3)) :
    v (ix3 0 r l) * s = xv (cA c XA) (cB c GA) (7168 * (k % 3) + r.val) (128 * (k / 3) + l.val) := by
  have hb : (Ring.bk 84 k).val = k := Ring.bk_val hk
  have hr := r.isLt
  have hl := l.isLt
  have hc : 7168 * (k % 3) + r.val < 21504 ∧ 128 * (k / 3) + l.val < 3584 := by omega
  unfold xv
  rw [dif_pos hc, hv, hs, pIn_apply, show (128 * (k / 3) + l.val) / 128 = k / 3 by omega]
  refine congrArg (fun n => cA c XA n * _) (ext2 ?_ ?_)
  · show 7168 * ((Ring.bk 84 k).val % 3) + r.val = 7168 * (k % 3) + r.val; rw [hb]
  · show 128 * ((Ring.bk 84 k).val / 3) + l.val = 128 * (k / 3) + l.val; rw [hb]

/-- The dequantised tile stored. -/
theorem store_value (k : ℕ) (hk : k < 84) (f : xbM.view.ty.Contents (Elt Ideal)) (hX : XS (cA c XA) (cB c GA) k (xbM.view.read (Elt Ideal) f))
    {off : Fin 3 → ℕ} (inb : ∀ a, off a + S3584x2x128.size a ≤ S10752x2x128.size a) (h : off = ![3584 * (k % 3), 0, 0])
    (w : S3584x2x128.Idx → EReal) (y : S7168x128.Idx → EReal)
    (hw : ∀ (p : Fin 3584) (e : Fin 2) (l : Fin 128), w (ix3 p e l) = y (ix2 ⟨2 * p.val + e.val, by omega⟩ l))
    (hy : ∀ (r : Fin 7168) (l : Fin 128), y (ix2 r l) = xv (cA c XA) (cB c GA) (7168 * (k % 3) + r.val) (128 * (k / 3) + l.val)) :
    XS (cA c XA) (cB c GA) (k + 1) (xbM.view.read (Elt Ideal)
      (xbM.view.writes (Elt Ideal) f [⟨Rect.unit (s := S10752x2x128) off S3584x2x128.size inb, w⟩])) := by
  refine XS_step _ _ k _ _ hX (fun p e l h1 h2 => ?_) fun p e l h1 => rows_out _ _ _ inb h w p e l h1
  rw [rows_in _ _ _ inb h w p e l h1 h2, hw, hy]
  exact congrArg (fun n => xv (cA c XA) (cB c GA) n _)
    (show 7168 * (k % 3) + (2 * (p.val - 3584 * (k % 3)) + e.val) = 2 * p.val + e.val by omega)

/-- The maxima over one more tile. -/
theorem max_value (b q : ℕ) (f : amM.view.ty.Contents (Elt Ideal)) (hM : AS (cA c XA) (cB c GA) b (7168 * q) (amM.view.read (Elt Ideal) f))
    (inb inb') (w : S16x128.Idx → EReal) (y : S7168x128.Idx → EReal)
    (hw : ∀ (j : Fin 16) (l : Fin 128), w (ix2 j l)
      = max (amM.view.readAt (Elt Ideal) (Rect.unit (s := S16x128) ![0, 0] S16x128.size inb).toLoadRect f (ix2 j l))
          (Finset.univ.fold max ⊥ fun k : Fin 448 => absE (y (ix2 ⟨k.val * 16 + j.val, by omega⟩ l))))
    (hy : ∀ (r : Fin 7168) (l : Fin 128), y (ix2 r l) = xv (cA c XA) (cB c GA) (7168 * q + r.val) (128 * b + l.val)) :
    AS (cA c XA) (cB c GA) b (7168 * (q + 1)) (amM.view.read (Elt Ideal)
      (amM.view.writes (Elt Ideal) f [⟨Rect.unit (s := S16x128) ![0, 0] S16x128.size inb', w⟩])) := by
  intro j l
  refine (congrFun (View.read_writes_full (Val := Elt Ideal) amM.view f inb' w []) (ix2 j l)).trans ((hw j l).trans ?_)
  rw [View.readAt_full]
  refine (congrArg (max · _) (hM j l)).trans ?_
  exact pm_step _ _ _ _ _ j.isLt _ fun k => by rw [hy]

/-- Item `k`'s tile scaled, rounded and clamped: for any expression that quantises element by element. -/
theorem out_value (k m : ℕ) (hk : k < m) (hm : m ≤ k + 3) (fx : xbM.view.ty.Contents (Elt Ideal)) (hX : XS (cA c XA) (cB c GA) m (xbM.view.read (Elt Ideal) fx))
    (fi : ivM.view.ty.Contents (Elt Ideal)) (hI : IS (cA c XA) (cB c GA) (k / 3) (ivM.view.read (Elt Ideal) fi))
    {off : Fin 3 → ℕ} (inb : ∀ a, off a + S3584x2x128.size a ≤ S10752x2x128.size a) (h : off = ![3584 * (k % 3), 0, 0]) (inb')
    (w : S1x7168x128.Idx → BitVec 8)
    (hw : ∀ (r : Fin 7168) (l : Fin 128), w (ix3 0 r l)
      = codeOf (xbM.view.readAt (Elt Ideal) (Rect.unit (s := S10752x2x128) off S3584x2x128.size inb).toLoadRect fx (ix3 ⟨r.val / 2, by omega⟩ ⟨r.val % 2, by omega⟩ l)
          * ivM.view.readAt (Elt Ideal) (Rect.unit (s := S1x128) ![0, 0] S1x128.size inb').toLoadRect fi (ix2 0 l)))
    (r : Fin 7168) (l : Fin 128) :
    w (ix3 0 r l) = qv (cA c XA) (cB c GA) (7168 * (k % 3) + r.val) (128 * (k / 3) + l.val) := by
  have hr := r.isLt
  have e : 2 * (3584 * (k % 3) + r.val / 2) + r.val % 2 = 7168 * (k % 3) + r.val := by omega
  rw [hw, rows_load _ _ _ inb h (by omega), View.readAt_full, hI,
    hX k hk hm _ _ _ (by show (2 * (3584 * (k % 3) + r.val / 2) + r.val % 2) / 7168 = k % 3; omega)]
  unfold qv
  dsimp only
  rw [e]

/-- A block's maxima gathered. -/
theorem gather_value (b : ℕ) (f : amM.view.ty.Contents (Elt Ideal)) (hM : AS (cA c XA) (cB c GA) b 21504 (amM.view.read (Elt Ideal) f)) (inb) (l : Fin 128) :
    (Finset.univ.fold max ⊥ fun j : Fin 16 => amM.view.readAt (Elt Ideal) (Rect.unit (s := S16x128) ![0, 0] S16x128.size inb).toLoadRect f (ix2 j l))
      = am (cA c XA) (cB c GA) (128 * b + l.val) :=
  pm_all _ _ _ _ fun j => by rw [View.readAt_full]; exact hM j l

/-- A block's inverse scales stored: for any expression that computes them lane by lane. -/
theorem inv_value (b : ℕ) (f : amM.view.ty.Contents (Elt Ideal)) (hM : AS (cA c XA) (cB c GA) b 21504 (amM.view.read (Elt Ideal) f)) (inb)
    (fi : ivM.view.ty.Contents (Elt Ideal)) (inb') (w : S1x128.Idx → EReal)
    (hw : ∀ (l : Fin 128) (z : Fin 1), w (ix2 z l) = Ideal.div 1 (scaleOf (Finset.univ.fold max ⊥ fun j : Fin 16 =>
      amM.view.readAt (Elt Ideal) (Rect.unit (s := S16x128) ![0, 0] S16x128.size inb).toLoadRect f (ix2 j l)))) :
    IS (cA c XA) (cB c GA) b (ivM.view.read (Elt Ideal) (ivM.view.writes (Elt Ideal) fi [⟨Rect.unit (s := S1x128) ![0, 0] S1x128.size inb', w⟩])) := by
  intro z l
  refine (congrFun (View.read_writes_full (Val := Elt Ideal) ivM.view fi inb' w []) (ix2 z l)).trans ((hw l z).trans ?_)
  rw [gather_value c XA GA b f hM]
  rfl

/-- A block's scales stored into the window. -/
theorem row_value (b : ℕ) (f : amM.view.ty.Contents (Elt Ideal)) (hM : AS (cA c XA) (cB c GA) b 21504 (amM.view.read (Elt Ideal) f)) (inb)
    (v : View sig .tc .vmem S28x128 .f32) (f3 : v.ty.Contents (Elt Ideal)) (hC : CS (cA c XA) (cB c GA) b (v.read (Elt Ideal) f3))
    {off : Fin 2 → ℕ} (inb') (h : off = ![b, 0]) (w : S1x128.Idx → EReal)
    (hw : ∀ (l : Fin 128) (z : Fin 1), w (ix2 z l) = scaleOf (Finset.univ.fold max ⊥ fun j : Fin 16 =>
      amM.view.readAt (Elt Ideal) (Rect.unit (s := S16x128) ![0, 0] S16x128.size inb).toLoadRect f (ix2 j l))) :
    CS (cA c XA) (cB c GA) (b + 1) (v.read (Elt Ideal) (v.writes (Elt Ideal) f3 [⟨Rect.unit (s := S28x128) off S1x128.size inb', w⟩])) := by
  intro r l hr
  by_cases e : r.val = b
  · rw [row_in v f3 b inb' h w r l e, hw l 0, gather_value c XA GA b f hM, e]
    rfl
  · rw [row_out v f3 b inb' h w r l (by omega)]
    exact hC r l (by omega)

/-- The maxima zeroed. -/
theorem zero_value (b : ℕ) (f : amM.view.ty.Contents (Elt Ideal)) (inb') (w : S16x128.Idx → EReal) (hw : ∀ (j : Fin 16) (l : Fin 128), w (ix2 j l) = 0) :
    AS (cA c XA) (cB c GA) b (7168 * 0) (amM.view.read (Elt Ideal) (amM.view.writes (Elt Ideal) f [⟨Rect.unit (s := S16x128) ![0, 0] S16x128.size inb', w⟩])) :=
  AS_zero _ _ b _ fun j l => (congrFun (View.read_writes_full (Val := Elt Ideal) amM.view f inb' w []) (ix2 j l)).trans (hw j l)

end Item

/-- The block the middle loops are at. -/
theorem iv3_eq : ∀ a : Fin k0_t3_loop.trips, (Scf.iv 1#32 1#32 a).toNat = a.val + 1 := by decide +kernel

/-- Contents of which a fact is known, as some contents of which it holds. -/
theorem hide {M : Type} [URA M] {α : Type} (P : α → sProp M) (p : α → Prop) (f : α) (h : p f) : P f ⊢ iprop(∃ f, P f ∗ ⌜p f⌝) := by
  iintro H
  iexists f
  isplitl [H]; · iexact H
  ipureintro; exact h

end Cert.Proof.Value

end
-- ==== Proof.Value.Middle.lean ====
/-
  A trip of the middle loops, with its values: item `k` comes in, item `o` goes out.
-/
module

public import proofs.«01_k».proof.Proof.Value.Trip

@[expose] public section

noncomputable section

namespace Cert.Proof.Value

open Cert.KernelIdeal Cert.KernelIdeal.Gen Cert.Proof.Rings Cert.Proof.KernelIdeal
open Idealize.ShloMosaic Idealize.ShloMosaic.Pointwise
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

local notation "𝕄" => MT nD τ sig Unit (Elt Ideal) ℕ (UU nD τ) ℕ

section Trip
variable (c : Dev nD) (XA : Buf (Elt Ideal) (xM.view.loc (c : Thread nD τ))) (GA : Buf (Elt Ideal) (gM.view.loc (c : Thread nD τ)))
  (arg3 : Memref sig .tc .vmem S28x128 .f32) (harg3 : arg3.IsWhole)

abbrev body4 (a : Fin k0_t3_loop.trips) (w : BitVec 32) (b : Fin k0_t4_loop.trips) : Prog (TpuEff nD τ sig (Elt Ideal) Λ₀ .tc) Unit :=
  k0_t4_body (F := Ideal) xM (Memref.isWhole_whole _) gM (Memref.isWhole_whole _) yM (Memref.isWhole_whole _) arg3 harg3 ibM (Memref.isWhole_whole _) obM (Memref.isWhole_whole _) xbM (Memref.isWhole_whole _) sgM (Memref.isWhole_whole _) sbM (Memref.isWhole_whole _) amM (Memref.isWhole_whole _) ivM (Memref.isWhole_whole _) cc0_scratch7 cc0_scratch8 cc0_scratch9 a w b ()

set_option maxHeartbeats 2000000 in
set_option backward.proofsInPublic true in
theorem step4 (a : Fin k0_t3_loop.trips) (w : BitVec 32) (hw : w.toNat = a.val + 1) (b : Fin k0_t4_loop.trips) :
    resV4 c XA GA a.val b.val ⊢ wp Idealize.ShloMosaic.frame (wpE (defs₀ (F := Ideal)) 𝒱₀ (c : Thread nD τ) none) Set.univ (body4 arg3 harg3 a w b)
      (fun _ => resV4 c XA GA a.val (b.val + 1)) := by
  have ha : a.val < 27 := Nat.lt_of_lt_of_eq a.isLt (by decide)
  have hb : b.val < 3 := Nat.lt_of_lt_of_eq b.isLt (by decide)
  have hk : kk a.val b.val < 84 := by unfold kk; omega
  have ho : oo a.val b.val < 84 := by unfold oo; omega
  have k3 : kk a.val b.val % 3 = b.val := by unfold kk; omega
  have kd : kk a.val b.val / 3 = a.val + 1 := by unfold kk; omega
  have o3 : oo a.val b.val % 3 = b.val := by unfold oo; omega
  have od : oo a.val b.val / 3 = a.val := by unfold oo; omega
  have hko : oo a.val b.val < kk a.val b.val ∧ kk a.val b.val ≤ oo a.val b.val + 3 := by unfold oo kk; omega
  unfold resV4
  rw [show kk a.val (b.val + 1) = kk a.val b.val + 1 from rfl, show oo a.val (b.val + 1) = oo a.val b.val + 1 from rfl]
  by_cases h2 : 6 ≤ oo a.val b.val
  · have h2' := (cond2_iff a b).2 h2
    by_cases h3 : kk a.val b.val + 6 < 84
    · have h3' := (cond3_iff a b).2 h3
      iintro ⟨HI, HO, ⟨%fx, Hx, %hX⟩, ⟨%fs, Hs, %hS⟩, ⟨%fa, Ha, %hM⟩, ⟨%fi, Hi, %hI⟩, ⟨%W, HW⟩⟩
      ihave HI' := (inRing_open (tInP c XA) (inflIn c XA) (freeIn c) _ h3) $$ HI
      icases HI' with ⟨⟨%f0, HF⟩, Hn, HIr⟩
      ihave HO' := (outRing_open (homeOut (F := Ideal) c) (homeQ c XA GA) (inflQ c XA GA) (freeOut c) _ h2 ho) $$ HO
      icases HO' with ⟨⟨%g1, HG⟩, ⟨%f2, Hd⟩, HOr⟩
      dsimp only [body4]
      sl_unfold [k0_t4_body]
      sl_exec
      have hv : ∀ (z : Fin 1) (r : Fin 7168) (l : Fin 128), step4.sl.v263 c XA a b (ix3 z r l) = pIn c XA (Ring.bk 84 (kk a.val b.val)) (ix2 r l) := by
        unfold step4.sl.v263
        exact fun z r l => slot_read _ _ (off23_eq a b) _ _ z r l
      have hs : ∀ (r : Fin 7168) (l : Fin 128), step4.sl.r c w b fs (ix2 r l) = gv (cB c GA) (7168 * (kk a.val b.val % 3) + r.val) (kk a.val b.val / 3) := by
        intro r l
        unfold step4.sl.r
        rw [k3, kd, ← hw]
        exact (pay13_apply w (by omega) _ r l).trans (scale_load _ fs hS b.val hb _ (off21_eq b) r _ (by show w.toNat < 28; omega))
      have hy : ∀ (r : Fin 7168) (l : Fin 128), k0_pay14 (step4.sl.r c w b fs) (step4.sl.v263 c XA a b) (ix2 r l)
          = xv (cA c XA) (cB c GA) (7168 * (kk a.val b.val % 3) + r.val) (128 * (kk a.val b.val / 3) + l.val) :=
        fun r l => (pay14_apply _ _ r l).trans (tile_value c XA GA _ hk _ hv r l _ (hs r l))
      have hq : ∀ (r : Fin 7168) (l : Fin 128), step4.sl.dma11 c a b fx fi g1 (ix2 r l)
          = qv (cA c XA) (cB c GA) (7168 * ((Ring.bk 84 (oo a.val b.val)).val % 3) + r.val) (128 * ((Ring.bk 84 (oo a.val b.val)).val / 3) + l.val) := by
        intro r l
        unfold step4.sl.dma11 step4.sl.HG_src_w1
        rw [show (Ring.bk 84 (oo a.val b.val)).val = oo a.val b.val from Ring.bk_val ho]
        exact (slot_store _ _ (off22_eq a b) _ _ r l).trans
          (out_value c XA GA _ _ hko.1 hko.2 fx hX fi (by rw [od]; exact hI) _ (by rw [o3]; exact off21_eq b) _ _ (fun r l => pay12_apply _ _ r l 0) r l)
      sl_step
      isplitl [HF HF_src HIr]
      · iapply (inRing_close (tInP c XA) (inflIn c XA) (freeIn c) _ h3)
        isplitl [HF]
        · iexists ((sIn (Ring.sl 6 (kk a.val b.val))).view.writes (Elt Ideal) (sIn (Ring.sl 6 (kk a.val b.val))).view.junk [⟨Rect.whole S7168x128, pIn c XA (Ring.bk 84 (kk a.val b.val))⟩])
          irw [flIn_after]
          iexact HF
        isplitl [HF_src]; · iexact HF_src
        iexact HIr
      isplitl [HG HG_dst HOr]
      · iapply (outRing_close (homeOut (F := Ideal) c) (homeQ c XA GA) (inflQ c XA GA) (freeOut c) _ h2 ho)
        isplitl [HG]; · iexists _; iapply (entails_of_eq (flQ_of c XA GA _ _ f2 _ _ hq)); iexact HG
        isplitl [HG_dst]; · iexact HG_dst
        iexact HOr
      isplitl [Hx]
      · iexists _; isplitl [Hx]; · iexact Hx
        ipureintro
        exact store_value c XA GA _ hk fx hX _ (by rw [k3]; exact off21_eq b) _ _ (pay15_apply _ _) hy
      isplitl [Hs]
      · iexists fs; isplitl [Hs]; · iexact Hs
        ipureintro; exact hS
      isplitl [Ha]
      · iexists _; isplitl [Ha]; · iexact Ha
        ipureintro
        exact max_value c XA GA _ _ fa hM _ _ _ _ (pay16_apply _ _ _) (fun r l => (hy r l).trans (by rw [k3, kd]))
      isplitl [Hi]
      · iexists fi; isplitl [Hi]; · iexact Hi
        ipureintro; exact hI
      iexists _; iexact HW
    · have h3' : ¬ k0_cond3 a b = 1#1 := fun h => h3 ((cond3_iff a b).1 h)
      iintro ⟨HI, HO, ⟨%fx, Hx, %hX⟩, ⟨%fs, Hs, %hS⟩, ⟨%fa, Ha, %hM⟩, ⟨%fi, Hi, %hI⟩, ⟨%W, HW⟩⟩
      ihave HI' := (inRing_openE (tInP c XA) (inflIn c XA) (freeIn c) _ hk) $$ HI
      icases HI' with ⟨⟨%f0, HF⟩, HIr⟩
      ihave HO' := (outRing_open (homeOut (F := Ideal) c) (homeQ c XA GA) (inflQ c XA GA) (freeOut c) _ h2 ho) $$ HO
      icases HO' with ⟨⟨%g1, HG⟩, ⟨%f2, Hd⟩, HOr⟩
      dsimp only [body4]
      sl_unfold [k0_t4_body]
      sl_exec
      have hv : ∀ (z : Fin 1) (r : Fin 7168) (l : Fin 128), step4.sl.v263 c XA a b (ix3 z r l) = pIn c XA (Ring.bk 84 (kk a.val b.val)) (ix2 r l) := by
        unfold step4.sl.v263
        exact fun z r l => slot_read _ _ (off23_eq a b) _ _ z r l
      have hs : ∀ (r : Fin 7168) (l : Fin 128), step4.sl.r c w b fs (ix2 r l) = gv (cB c GA) (7168 * (kk a.val b.val % 3) + r.val) (kk a.val b.val / 3) := by
        intro r l
        unfold step4.sl.r
        rw [k3, kd, ← hw]
        exact (pay13_apply w (by omega) _ r l).trans (scale_load _ fs hS b.val hb _ (off21_eq b) r _ (by show w.toNat < 28; omega))
      have hy : ∀ (r : Fin 7168) (l : Fin 128), k0_pay14 (step4.sl.r c w b fs) (step4.sl.v263 c XA a b) (ix2 r l)
          = xv (cA c XA) (cB c GA) (7168 * (kk a.val b.val % 3) + r.val) (128 * (kk a.val b.val / 3) + l.val) :=
        fun r l => (pay14_apply _ _ r l).trans (tile_value c XA GA _ hk _ hv r l _ (hs r l))
      have hq : ∀ (r : Fin 7168) (l : Fin 128), step4.sl.dma11 c a b fx fi g1 (ix2 r l)
          = qv (cA c XA) (cB c GA) (7168 * ((Ring.bk 84 (oo a.val b.val)).val % 3) + r.val) (128 * ((Ring.bk 84 (oo a.val b.val)).val / 3) + l.val) := by
        intro r l
        unfold step4.sl.dma11 step4.sl.HG_src_w1
        rw [show (Ring.bk 84 (oo a.val b.val)).val = oo a.val b.val from Ring.bk_val ho]
        exact (slot_store _ _ (off22_eq a b) _ _ r l).trans
          (out_value c XA GA _ _ hko.1 hko.2 fx hX fi (by rw [od]; exact hI) _ (by rw [o3]; exact off21_eq b) _ _ (fun r l => pay12_apply _ _ r l 0) r l)
      sl_step
      isplitl [HF HF_src HF_dst HIr]
      · iapply (inRing_closeE (tInP c XA) (inflIn c XA) (freeIn c) _ hk (by omega))
        isplitl [HF HF_dst]
        · isplitl [HF_dst]; · iexists _; iexact HF_dst
          iexact HF
        isplitl [HF_src]; · iexact HF_src
        iexact HIr
      isplitl [HG HG_dst HOr]
      · iapply (outRing_close (homeOut (F := Ideal) c) (homeQ c XA GA) (inflQ c XA GA) (freeOut c) _ h2 ho)
        isplitl [HG]; · iexists _; iapply (entails_of_eq (flQ_of c XA GA _ _ f2 _ _ hq)); iexact HG
        isplitl [HG_dst]; · iexact HG_dst
        iexact HOr
      isplitl [Hx]
      · iexists _; isplitl [Hx]; · iexact Hx
        ipureintro
        exact store_value c XA GA _ hk fx hX _ (by rw [k3]; exact off21_eq b) _ _ (pay15_apply _ _) hy
      isplitl [Hs]
      · iexists fs; isplitl [Hs]; · iexact Hs
        ipureintro; exact hS
      isplitl [Ha]
      · iexists _; isplitl [Ha]; · iexact Ha
        ipureintro
        exact max_value c XA GA _ _ fa hM _ _ _ _ (pay16_apply _ _ _) (fun r l => (hy r l).trans (by rw [k3, kd]))
      isplitl [Hi]
      · iexists fi; isplitl [Hi]; · iexact Hi
        ipureintro; exact hI
      iexists _; iexact HW
  · have h2' : ¬ k0_cond2 a b = 1#1 := fun h => h2 ((cond2_iff a b).1 h)
    have h3 : kk a.val b.val + 6 < 84 := by unfold kk; unfold oo at h2; omega
    have h3' := (cond3_iff a b).2 h3
    · skip
      iintro ⟨HI, HO, ⟨%fx, Hx, %hX⟩, ⟨%fs, Hs, %hS⟩, ⟨%fa, Ha, %hM⟩, ⟨%fi, Hi, %hI⟩, ⟨%W, HW⟩⟩
      ihave HI' := (inRing_open (tInP c XA) (inflIn c XA) (freeIn c) _ h3) $$ HI
      icases HI' with ⟨⟨%f0, HF⟩, Hn, HIr⟩
      ihave HO' := (outRing_openF (homeOut (F := Ideal) c) (homeQ c XA GA) (inflQ c XA GA) (freeOut c) _ (by omega)) $$ HO
      icases HO' with ⟨⟨⟨%g1, Hsl⟩, HG⟩, ⟨%f2, Hd⟩, HOr⟩
      dsimp only [body4]
      sl_unfold [k0_t4_body]
      sl_exec
      have hv : ∀ (z : Fin 1) (r : Fin 7168) (l : Fin 128), step4.sl.v263 c XA a b (ix3 z r l) = pIn c XA (Ring.bk 84 (kk a.val b.val)) (ix2 r l) := by
        unfold step4.sl.v263
        exact fun z r l => slot_read _ _ (off23_eq a b) _ _ z r l
      have hs : ∀ (r : Fin 7168) (l : Fin 128), step4.sl.r c w b fs (ix2 r l) = gv (cB c GA) (7168 * (kk a.val b.val % 3) + r.val) (kk a.val b.val / 3) := by
        intro r l
        unfold step4.sl.r
        rw [k3, kd, ← hw]
        exact (pay13_apply w (by omega) _ r l).trans (scale_load _ fs hS b.val hb _ (off21_eq b) r _ (by show w.toNat < 28; omega))
      have hy : ∀ (r : Fin 7168) (l : Fin 128), k0_pay14 (step4.sl.r c w b fs) (step4.sl.v263 c XA a b) (ix2 r l)
          = xv (cA c XA) (cB c GA) (7168 * (kk a.val b.val % 3) + r.val) (128 * (kk a.val b.val / 3) + l.val) :=
        fun r l => (pay14_apply _ _ r l).trans (tile_value c XA GA _ hk _ hv r l _ (hs r l))
      have hq : ∀ (r : Fin 7168) (l : Fin 128), step4.sl.dma11 c a b fx fi g1 (ix2 r l)
          = qv (cA c XA) (cB c GA) (7168 * ((Ring.bk 84 (oo a.val b.val)).val % 3) + r.val) (128 * ((Ring.bk 84 (oo a.val b.val)).val / 3) + l.val) := by
        intro r l
        unfold step4.sl.dma11 step4.sl.HG_src_w1
        rw [show (Ring.bk 84 (oo a.val b.val)).val = oo a.val b.val from Ring.bk_val ho]
        exact (slot_store _ _ (off22_eq a b) _ _ r l).trans
          (out_value c XA GA _ _ hko.1 hko.2 fx hX fi (by rw [od]; exact hI) _ (by rw [o3]; exact off21_eq b) _ _ (fun r l => pay12_apply _ _ r l 0) r l)
      sl_step
      isplitl [HF HF_src HIr]
      · iapply (inRing_close (tInP c XA) (inflIn c XA) (freeIn c) _ h3)
        isplitl [HF]
        · iexists ((sIn (Ring.sl 6 (kk a.val b.val))).view.writes (Elt Ideal) (sIn (Ring.sl 6 (kk a.val b.val))).view.junk [⟨Rect.whole S7168x128, pIn c XA (Ring.bk 84 (kk a.val b.val))⟩])
          irw [flIn_after]
          iexact HF
        isplitl [HF_src]; · iexact HF_src
        iexact HIr
      isplitl [HG HOr]
      · iapply (outRing_closeF (homeOut (F := Ideal) c) (homeQ c XA GA) (inflQ c XA GA) (freeOut c) _ (by omega))
        isplitl [HG]; · iexists _; iapply (entails_of_eq (flQ_of c XA GA _ _ f2 _ _ hq)); iexact HG
        iexact HOr
      isplitl [Hx]
      · iexists _; isplitl [Hx]; · iexact Hx
        ipureintro
        exact store_value c XA GA _ hk fx hX _ (by rw [k3]; exact off21_eq b) _ _ (pay15_apply _ _) hy
      isplitl [Hs]
      · iexists fs; isplitl [Hs]; · iexact Hs
        ipureintro; exact hS
      isplitl [Ha]
      · iexists _; isplitl [Ha]; · iexact Ha
        ipureintro
        exact max_value c XA GA _ _ fa hM _ _ _ _ (pay16_apply _ _ _) (fun r l => (hy r l).trans (by rw [k3, kd]))
      isplitl [Hi]
      · iexists fi; isplitl [Hi]; · iexact Hi
        ipureintro; exact hI
      iexists _; iexact HW

end Trip

end Cert.Proof.Value

end
-- ==== Proof.Value.Loops.lean ====
/-
  The loops' invariants with their values: the staged scales, the first block's items, the middle blocks, the last block's results.
-/
module

public import proofs.«01_k».proof.Proof.Value.Middle

@[expose] public section

noncomputable section

namespace Cert.Proof.Value

open Cert.KernelIdeal Cert.KernelIdeal.Gen Cert.Proof.Rings Cert.Proof.KernelIdeal
open Idealize.ShloMosaic Idealize.ShloMosaic.Pointwise
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

local notation "𝕄" => MT nD τ sig Unit (Elt Ideal) ℕ (UU nD τ) ℕ

section Loops
variable (c : Dev nD) (XA : Buf (Elt Ideal) (xM.view.loc (c : Thread nD τ))) (GA : Buf (Elt Ideal) (gM.view.loc (c : Thread nD τ)))
  (arg3 : Memref sig .tc .vmem S28x128 .f32) (harg3 : arg3.IsWhole)

/-! ### The first loop: the scales staged, widened and packed -/

/-- The scales before trip `k` of the first loop. -/
@[irreducible] def scalesV (k : ℕ) : sProp 𝕄 := bigSep Finset.univ fun j : Fin 3 => if j.val < k then doneV c GA j else inflG c GA j
/-- What trip `k` of the first loop leaves alone. -/
def scalesRestV (k : ℕ) : sProp 𝕄 :=
  bigSep (Finset.univ.erase (Ring.bk 3 k)) fun j : Fin 3 => if j.val < k then doneV c GA j else inflG c GA j

theorem scales_open (k : ℕ) (h : k < 3) : scalesV c GA k ⊢ iprop(inflG c GA (Ring.bk 3 k) ∗ scalesRestV c GA k) := by
  have hv : (Ring.bk 3 k).val = k := Ring.bk_val h
  have e : scalesV c GA k = iprop(inflG c GA (Ring.bk 3 k) ∗ scalesRestV c GA k) := by
    unfold scalesV scalesRestV
    conv_lhs => rw [← Finset.insert_erase (Finset.mem_univ (Ring.bk 3 k)), bigSep_insert (Finset.notMem_erase _ _)]
    rw [if_neg (by omega)]; rfl
  rw [e]
theorem scales_close (k : ℕ) (h : k < 3) : iprop(doneV c GA (Ring.bk 3 k) ∗ scalesRestV c GA k) ⊢ scalesV c GA (k + 1) := by
  have hv : (Ring.bk 3 k).val = k := Ring.bk_val h
  have e : scalesV c GA (k + 1) = iprop(doneV c GA (Ring.bk 3 k) ∗ scalesRestV c GA k) := by
    unfold scalesV scalesRestV
    conv_lhs => rw [← Finset.insert_erase (Finset.mem_univ (Ring.bk 3 k)), bigSep_insert (Finset.notMem_erase _ _)]
    rw [if_pos (by omega)]
    have e' : ∀ j ∈ Finset.univ.erase (Ring.bk 3 k), (if j.val < k + 1 then doneV c GA j else inflG c GA j) = (if j.val < k then doneV c GA j else inflG c GA j) := by
      intro j hj
      have hne : j.val ≠ k := fun h => (Finset.ne_of_mem_erase hj) (Fin.ext (h.trans hv.symm))
      by_cases h1 : j.val < k
      · rw [if_pos h1, if_pos (by omega)]
      · rw [if_neg h1, if_neg (by omega)]
    rw [bigSep_congr e']; rfl
  rw [e]

/-- Before trip `k`: the first `k` pieces packed. -/
def resV1 (k : ℕ) : sProp 𝕄 := iprop(scalesV c GA k ∗ (∃ f, sbP (F := Ideal) c f ∗ ⌜SS (cB c GA) k (sbR c f)⌝) ∗ ∃ W, owes (c : Thread nD τ) 0 W)

abbrev body1 (k : Fin k0_t1_loop.trips) : Prog (TpuEff nD τ sig (Elt Ideal) Λ₀ .tc) Unit :=
  k0_t1_body (F := Ideal) xM (Memref.isWhole_whole _) gM (Memref.isWhole_whole _) yM (Memref.isWhole_whole _) arg3 harg3 ibM (Memref.isWhole_whole _) obM (Memref.isWhole_whole _) xbM (Memref.isWhole_whole _) sgM (Memref.isWhole_whole _) sbM (Memref.isWhole_whole _) amM (Memref.isWhole_whole _) ivM (Memref.isWhole_whole _) cc0_scratch7 cc0_scratch8 cc0_scratch9 k ()

set_option maxHeartbeats 2000000 in
set_option backward.proofsInPublic true in
theorem step1 (k : Fin k0_t1_loop.trips) :
    resV1 c GA k.val ⊢ wp Idealize.ShloMosaic.frame (wpE (defs₀ (F := Ideal)) 𝒱₀ (c : Thread nD τ) none) Set.univ (body1 arg3 harg3 k) (fun _ => resV1 c GA (k.val + 1)) := by
  have hk : k.val < 3 := Nat.lt_of_lt_of_eq k.isLt (by decide)
  have hv : (Ring.bk 3 k.val).val = k.val := Ring.bk_val hk
  unfold resV1
  iintro ⟨HS, ⟨%fs, Hs, %hS⟩, ⟨%W, HW⟩⟩
  ihave HS' := (scales_open c GA _ hk) $$ HS
  icases HS' with ⟨⟨%f0, HF⟩, HSr⟩
  dsimp only [body1]
  sl_unfold [k0_t1_body]
  sl_exec
  have hb : ∀ (i : Fin 7) (v : S1x28x1024.Idx → EReal) (n : ℕ), n = 512 * i.val →
      (∀ (z : Fin 1) (g : Fin 28) (t : Fin 1024), v (ix3 z g t) = cB c GA (ix3 ⟨7 * (Ring.bk 3 k.val).val + i.val, by omega⟩ g t)) →
      ∀ (p : Fin 512) (e : Fin 2) (g : Fin 28), v (ix3 0 g ⟨2 * p.val + e.val, by omega⟩) = gv (cB c GA) (2 * (3584 * k.val + n + p.val) + e.val) g.val :=
    fun i v n hn h => batch_value (cB c GA) k.val i.val hk i.isLt n hn v fun z g t => (h z g t).trans (congrArg (cB c GA) (ext3 (by show 7 * (Ring.bk 3 k.val).val + i.val = 7 * k.val + i.val; rw [hv]) rfl rfl))
  have h0 : ∀ (z : Fin 1) (g : Fin 28) (t : Fin 1024), step1.sl.v128 c GA k (ix3 z g t) = cB c GA (ix3 ⟨7 * (Ring.bk 3 k.val).val + 0, by omega⟩ g t) := by
    unfold step1.sl.v128
    exact fun z g t => stage_read c GA (Ring.bk 3 k.val) 0 _ (by rw [hv]; exact off5_0 k) _ z g t
  have h1 : ∀ (z : Fin 1) (g : Fin 28) (t : Fin 1024), step1.sl.v144 c GA k (ix3 z g t) = cB c GA (ix3 ⟨7 * (Ring.bk 3 k.val).val + 1, by omega⟩ g t) := by
    unfold step1.sl.v144
    exact fun z g t => stage_read c GA (Ring.bk 3 k.val) 1 _ (by rw [hv]; exact off5_1 k) _ z g t
  have h2 : ∀ (z : Fin 1) (g : Fin 28) (t : Fin 1024), step1.sl.v160 c GA k (ix3 z g t) = cB c GA (ix3 ⟨7 * (Ring.bk 3 k.val).val + 2, by omega⟩ g t) := by
    unfold step1.sl.v160
    exact fun z g t => stage_read c GA (Ring.bk 3 k.val) 2 _ (by rw [hv]; exact off5_2 k) _ z g t
  have h3 : ∀ (z : Fin 1) (g : Fin 28) (t : Fin 1024), step1.sl.v176 c GA k (ix3 z g t) = cB c GA (ix3 ⟨7 * (Ring.bk 3 k.val).val + 3, by omega⟩ g t) := by
    unfold step1.sl.v176
    exact fun z g t => stage_read c GA (Ring.bk 3 k.val) 3 _ (by rw [hv]; exact off5_3 k) _ z g t
  have h4 : ∀ (z : Fin 1) (g : Fin 28) (t : Fin 1024), step1.sl.v192 c GA k (ix3 z g t) = cB c GA (ix3 ⟨7 * (Ring.bk 3 k.val).val + 4, by omega⟩ g t) := by
    unfold step1.sl.v192
    exact fun z g t => stage_read c GA (Ring.bk 3 k.val) 4 _ (by rw [hv]; exact off5_4 k) _ z g t
  have h5 : ∀ (z : Fin 1) (g : Fin 28) (t : Fin 1024), step1.sl.v208 c GA k (ix3 z g t) = cB c GA (ix3 ⟨7 * (Ring.bk 3 k.val).val + 5, by omega⟩ g t) := by
    unfold step1.sl.v208
    exact fun z g t => stage_read c GA (Ring.bk 3 k.val) 5 _ (by rw [hv]; exact off5_5 k) _ z g t
  have h6 : ∀ (z : Fin 1) (g : Fin 28) (t : Fin 1024), step1.sl.v224 c GA k (ix3 z g t) = cB c GA (ix3 ⟨7 * (Ring.bk 3 k.val).val + 6, by omega⟩ g t) := by
    unfold step1.sl.v224
    exact fun z g t => stage_read c GA (Ring.bk 3 k.val) 6 _ (by rw [hv]; exact off5_6 k) _ z g t
  sl_step
  isplitl [HF HF_src HF_dst HSr]
  · iapply (scales_close c GA _ hk)
    isplitl [HF HF_src HF_dst]
    · isplitl [HF_dst]; · iexists _; iexact HF_dst
      isplitl [HF_src]; · iexact HF_src
      iexact HF
    iexact HSr
  isplitl [Hs]
  · iexists _; isplitl [Hs]; · iexact Hs
    ipureintro
    exact pack_seven (cB c GA) sbM.view fs k.val hk _ _ _ _ _ _ _ (off6_0 k) (off6_1 k) (off6_2 k) (off6_3 k) (off6_4 k) (off6_5 k) (off6_6 k) _ _ _ _ _ _ _
      (fun p e g => (pay1_apply _ p e g).trans (hb 0 _ _ rfl h0 p e g))
      (fun p e g => (pay3_apply _ p e g).trans (hb 1 _ _ rfl h1 p e g))
      (fun p e g => (pay4_apply _ p e g).trans (hb 2 _ _ rfl h2 p e g))
      (fun p e g => (pay6_apply _ p e g).trans (hb 3 _ _ rfl h3 p e g))
      (fun p e g => (pay7_apply _ p e g).trans (hb 4 _ _ rfl h4 p e g))
      (fun p e g => (pay19_apply _ p e g).trans (hb 5 _ _ rfl h5 p e g))
      (fun p e g => (pay20_apply _ p e g).trans (hb 6 _ _ rfl h6 p e g)) hS
  iexists _; iexact HW

set_option warn.classDefReducibility false in
@[sl_loop] def loopInv1 : LoopInvTy_k0_t1 (F := Ideal) Unit ℕ (UU nD τ) ℕ 𝒱₀ c none Set.univ xM (Memref.isWhole_whole _) gM (Memref.isWhole_whole _) yM (Memref.isWhole_whole _) arg3 harg3 ibM (Memref.isWhole_whole _) obM (Memref.isWhole_whole _) xbM (Memref.isWhole_whole _) sgM (Memref.isWhole_whole _) sbM (Memref.isWhole_whole _) amM (Memref.isWhole_whole _) ivM (Memref.isWhole_whole _) cc0_scratch7 cc0_scratch8 cc0_scratch9 where
  inv k _ := resV1 c GA k
  step k _ := step1 c GA arg3 harg3 k

/-! ### The second loop: the first block's items -/

abbrev body2 (k : Fin k0_t2_loop.trips) : Prog (TpuEff nD τ sig (Elt Ideal) Λ₀ .tc) Unit :=
  k0_t2_body (F := Ideal) xM (Memref.isWhole_whole _) gM (Memref.isWhole_whole _) yM (Memref.isWhole_whole _) arg3 harg3 ibM (Memref.isWhole_whole _) obM (Memref.isWhole_whole _) xbM (Memref.isWhole_whole _) sgM (Memref.isWhole_whole _) sbM (Memref.isWhole_whole _) amM (Memref.isWhole_whole _) ivM (Memref.isWhole_whole _) cc0_scratch7 cc0_scratch8 cc0_scratch9 k ()

set_option maxHeartbeats 2000000 in
set_option backward.proofsInPublic true in
theorem step2 (k : Fin k0_t2_loop.trips) :
    resV2 c XA GA k.val ⊢ wp Idealize.ShloMosaic.frame (wpE (defs₀ (F := Ideal)) 𝒱₀ (c : Thread nD τ) none) Set.univ (body2 arg3 harg3 k) (fun _ => resV2 c XA GA (k.val + 1)) := by
  have hk : k.val < 3 := Nat.lt_of_lt_of_eq k.isLt (by decide)
  have h3 : k.val + 6 < 84 := by omega
  have h3' := cond1_eq k
  have k3 : k.val % 3 = k.val := by omega
  have kd : k.val / 3 = 0 := by omega
  have hk84 : k.val < 84 := by omega
  unfold resV2
  iintro ⟨HI, HO, ⟨%fx, Hx, %hX⟩, ⟨%fs, Hs, %hS⟩, ⟨%fa, Ha, %hM⟩, ⟨%W, HW⟩⟩
  ihave HI' := (inRing_open (tInP c XA) (inflIn c XA) (freeIn c) _ h3) $$ HI
  icases HI' with ⟨⟨%f0, HF⟩, Hn, HIr⟩
  dsimp only [body2]
  sl_unfold [k0_t2_body]
  sl_exec
  have hv : ∀ (z : Fin 1) (r : Fin 7168) (l : Fin 128), step2.sl.v188 c XA k (ix3 z r l) = pIn c XA (Ring.bk 84 k.val) (ix2 r l) := by
    unfold step2.sl.v188
    exact fun z r l => slot_read _ _ (off11_eq k) _ _ z r l
  have hy : ∀ (inb) (r : Fin 7168) (l : Fin 128), k0_pay9 (sbM.view.readAt (Elt Ideal) (Rect.unit (s := S10752x2x128) (k0_off10 k) S3584x2x128.size inb).toLoadRect fs) (step2.sl.v188 c XA k) (ix2 r l)
      = xv (cA c XA) (cB c GA) (7168 * (k.val % 3) + r.val) (128 * (k.val / 3) + l.val) := by
    intro inb r l
    refine (pay9_apply _ _ r l).trans (tile_value c XA GA _ hk84 _ hv r l _ ?_)
    rw [k3, kd]
    exact scale_load _ fs hS k.val hk _ (off10_eq k) r 0 (by decide)
  sl_step
  isplitl [HF HF_src HIr]
  · iapply (inRing_close (tInP c XA) (inflIn c XA) (freeIn c) _ h3)
    isplitl [HF]
    · iexists ((sIn (Ring.sl 6 k.val)).view.writes (Elt Ideal) (sIn (Ring.sl 6 k.val)).view.junk [⟨Rect.whole S7168x128, pIn c XA (Ring.bk 84 k.val)⟩])
      irw [flIn_after]
      iexact HF
    isplitl [HF_src]; · iexact HF_src
    iexact HIr
  isplitl [HO]; · iexact HO
  isplitl [Hx]
  · iexists _; isplitl [Hx]; · iexact Hx
    ipureintro
    exact store_value c XA GA _ hk84 fx hX _ (by rw [k3]; exact off10_eq k) _ _ (pay10_apply _ _) (hy _)
  isplitl [Hs]
  · iexists fs; isplitl [Hs]; · iexact Hs
    ipureintro; exact hS
  isplitl [Ha]
  · iexists _; isplitl [Ha]; · iexact Ha
    ipureintro
    exact max_value c XA GA _ _ fa hM _ _ _ _ (pay21_apply _ _ _) (fun r l => (hy _ r l).trans (by rw [k3, kd]))
  iexists _; iexact HW

set_option warn.classDefReducibility false in
@[sl_loop] def loopInv2 : LoopInvTy_k0_t2 (F := Ideal) Unit ℕ (UU nD τ) ℕ 𝒱₀ c none Set.univ xM (Memref.isWhole_whole _) gM (Memref.isWhole_whole _) yM (Memref.isWhole_whole _) arg3 harg3 ibM (Memref.isWhole_whole _) obM (Memref.isWhole_whole _) xbM (Memref.isWhole_whole _) sgM (Memref.isWhole_whole _) sbM (Memref.isWhole_whole _) amM (Memref.isWhole_whole _) ivM (Memref.isWhole_whole _) cc0_scratch7 cc0_scratch8 cc0_scratch9 where
  inv k _ := resV2 c XA GA k
  step k _ := step2 c XA GA arg3 harg3 k

/-! ### The middle loops -/

set_option warn.classDefReducibility false in
@[sl_loop] def loopInv4 (a : Fin k0_t3_loop.trips) (w : BitVec 32) (hw : w.toNat = a.val + 1) : LoopInvTy_k0_t4 (F := Ideal) Unit ℕ (UU nD τ) ℕ 𝒱₀ c none Set.univ xM (Memref.isWhole_whole _) gM (Memref.isWhole_whole _) yM (Memref.isWhole_whole _) arg3 harg3 ibM (Memref.isWhole_whole _) obM (Memref.isWhole_whole _) xbM (Memref.isWhole_whole _) sgM (Memref.isWhole_whole _) sbM (Memref.isWhole_whole _) amM (Memref.isWhole_whole _) ivM (Memref.isWhole_whole _) cc0_scratch7 cc0_scratch8 cc0_scratch9 a w where
  inv b _ := resV4 c XA GA a.val b
  step b _ := step4 c XA GA arg3 harg3 a w hw b

/-- The window of scales. -/
abbrev scP (f : Buf (Elt Ideal) (arg3.view.loc (c : Thread nD τ))) : sProp 𝕄 := arg3.view.loc (c : Thread nD τ) ↦[arg3.view.set]{fullShare} f

/-- What the view of the window of scales reads. -/
abbrev scR (f : Buf (Elt Ideal) (arg3.view.loc (c : Thread nD τ))) : S28x128.Idx → EReal := arg3.view.read (Elt Ideal) f

/-- Between two blocks: block `a` has come in, its inverse scales are at hand, the scales of the blocks up to it are stored. -/
def resV3 (a : ℕ) : sProp 𝕄 :=
  iprop(iRing c XA (kk a 0) ∗ oRingV c XA GA (oo a 0) ∗ (∃ f, xbP (F := Ideal) c f ∗ ⌜XS (cA c XA) (cB c GA) (kk a 0) (xbR c f)⌝)
    ∗ (∃ f, sbP (F := Ideal) c f ∗ ⌜SS (cB c GA) 3 (sbR c f)⌝) ∗ (∃ f, amP (F := Ideal) c f)
    ∗ (∃ f, ivP (F := Ideal) c f ∗ ⌜IS (cA c XA) (cB c GA) a (ivR c f)⌝) ∗ (∃ f, scP c arg3 f ∗ ⌜CS (cA c XA) (cB c GA) (a + 1) (scR c arg3 f)⌝)
    ∗ ∃ W, owes (c : Thread nD τ) 0 W)

abbrev body3 (a : Fin k0_t3_loop.trips) : Prog (TpuEff nD τ sig (Elt Ideal) Λ₀ .tc) Unit :=
  k0_t3_body (F := Ideal) xM (Memref.isWhole_whole _) gM (Memref.isWhole_whole _) yM (Memref.isWhole_whole _) arg3 harg3 ibM (Memref.isWhole_whole _) obM (Memref.isWhole_whole _) xbM (Memref.isWhole_whole _) sgM (Memref.isWhole_whole _) sbM (Memref.isWhole_whole _) amM (Memref.isWhole_whole _) ivM (Memref.isWhole_whole _) cc0_scratch7 cc0_scratch8 cc0_scratch9 a ()

theorem kk_next (a : ℕ) : kk a k0_t4_loop.trips = kk (a + 1) 0 := by
  have e : k0_t4_loop.trips = 3 := by decide
  rw [e]; unfold kk; omega
theorem oo_next (a : ℕ) : oo a k0_t4_loop.trips = oo (a + 1) 0 := by
  have e : k0_t4_loop.trips = 3 := by decide
  rw [e]; unfold oo; omega

set_option maxHeartbeats 2000000 in
set_option backward.proofsInPublic true in
theorem step3 (a : Fin k0_t3_loop.trips) :
    resV3 c XA GA arg3 a.val ⊢ wp Idealize.ShloMosaic.frame (wpE (defs₀ (F := Ideal)) 𝒱₀ (c : Thread nD τ) none) Set.univ (body3 arg3 harg3 a) (fun _ => resV3 c XA GA arg3 (a.val + 1)) := by
  unfold resV3
  iintro ⟨HI, HO, ⟨%fx, Hx, %hX⟩, ⟨%fs, Hs, %hS⟩, ⟨%fa, Ha⟩, ⟨%fi, Hi, %hI⟩, ⟨%f3, H3, %hC⟩, ⟨%W, HW⟩⟩
  dsimp only [body3]
  sl_unfold [k0_t3_body]
  (set_option sl_exec.maxSteps 2 in sl_exec)
  have hw : (step3.sl.arg14 a).toNat = a.val + 1 := iv3_eq a
  ihave Ha := (hide (amP c) (fun f => AS (cA c XA) (cB c GA) (a.val + 1) (7168 * 0) (amR c f)) _ (zero_value c XA GA _ fa _ _ pay24_apply)) $$ Ha
  icases Ha with ⟨%fa, Ha, %hM⟩
  sl_exec
  sl_step
  isplitl [HI]; · iapply (entails_of_eq (congrArg (iRing c XA) (kk_next a.val))); iexact HI
  isplitl [HO]; · iapply (entails_of_eq (congrArg (oRingV c XA GA) (oo_next a.val))); iexact HO
  isplitl [Hx]
  · iexists fL0; isplitl [Hx]; · iexact Hx
    ipureintro; exact (kk_next a.val) ▸ hL3
  isplitl [Hs]
  · iexists fL1; isplitl [Hs]; · iexact Hs
    ipureintro; exact hL5
  have hM' : AS (cA c XA) (cB c GA) (a.val + 1) 21504 (amR c fL2) := hL7
  isplitl [Ha]; · iexists fL2; iexact Ha
  isplitl [Hi]
  · iexists _; isplitl [Hi]; · iexact Hi
    ipureintro
    exact inv_value c XA GA (a.val + 1) fL2 hM' _ fL3 _ _ (pay26_apply _)
  isplitl [H3]
  · iexists _; isplitl [H3]; · iexact H3
    ipureintro
    exact row_value c XA GA (a.val + 1) fL2 hM' _ arg3.view f3 hC _ (off30_eq a) _ (pay25_apply _)
  iexists _; iexact HW

set_option warn.classDefReducibility false in
@[sl_loop] def loopInv3 : LoopInvTy_k0_t3 (F := Ideal) Unit ℕ (UU nD τ) ℕ 𝒱₀ c none Set.univ xM (Memref.isWhole_whole _) gM (Memref.isWhole_whole _) yM (Memref.isWhole_whole _) arg3 harg3 ibM (Memref.isWhole_whole _) obM (Memref.isWhole_whole _) xbM (Memref.isWhole_whole _) sgM (Memref.isWhole_whole _) sbM (Memref.isWhole_whole _) amM (Memref.isWhole_whole _) ivM (Memref.isWhole_whole _) cc0_scratch7 cc0_scratch8 cc0_scratch9 where
  inv a _ := resV3 c XA GA arg3 a
  step a _ := step3 c XA GA arg3 harg3 a

/-! ### The last loop -/

abbrev body5 (k : Fin k0_t5_loop.trips) : Prog (TpuEff nD τ sig (Elt Ideal) Λ₀ .tc) Unit :=
  k0_t5_body (F := Ideal) xM (Memref.isWhole_whole _) gM (Memref.isWhole_whole _) yM (Memref.isWhole_whole _) arg3 harg3 ibM (Memref.isWhole_whole _) obM (Memref.isWhole_whole _) xbM (Memref.isWhole_whole _) sgM (Memref.isWhole_whole _) sbM (Memref.isWhole_whole _) amM (Memref.isWhole_whole _) ivM (Memref.isWhole_whole _) cc0_scratch7 cc0_scratch8 cc0_scratch9 k ()

set_option maxHeartbeats 2000000 in
set_option backward.proofsInPublic true in
theorem step5 (k : Fin k0_t5_loop.trips) :
    resV5 c XA GA k.val ⊢ wp Idealize.ShloMosaic.frame (wpE (defs₀ (F := Ideal)) 𝒱₀ (c : Thread nD τ) none) Set.univ (body5 arg3 harg3 k) (fun _ => resV5 c XA GA (k.val + 1)) := by
  have hk : k.val < 3 := Nat.lt_of_lt_of_eq k.isLt (by decide)
  have h2 : 6 ≤ o5 k.val := by unfold o5; omega
  have ho : o5 k.val < 84 := by unfold o5; omega
  have o3 : o5 k.val % 3 = k.val := by unfold o5; omega
  have od : o5 k.val / 3 = 27 := by unfold o5; omega
  have hko : o5 k.val < 84 ∧ 84 ≤ o5 k.val + 3 := by unfold o5; omega
  unfold resV5
  rw [show o5 (k.val + 1) = o5 k.val + 1 from rfl]
  iintro ⟨HO, ⟨%fx, Hx, %hX⟩, ⟨%fi, Hi, %hI⟩, ⟨%W, HW⟩⟩
  ihave HO' := (outRing_open (homeOut (F := Ideal) c) (homeQ c XA GA) (inflQ c XA GA) (freeOut c) _ h2 ho) $$ HO
  icases HO' with ⟨⟨%g1, HG⟩, ⟨%f2, Hd⟩, HOr⟩
  dsimp only [body5]
  sl_unfold [k0_t5_body]
  sl_exec
  have hq : ∀ (r : Fin 7168) (l : Fin 128), step5.sl.dma4 c k fx fi g1 (ix2 r l)
      = qv (cA c XA) (cB c GA) (7168 * ((Ring.bk 84 (o5 k.val)).val % 3) + r.val) (128 * ((Ring.bk 84 (o5 k.val)).val / 3) + l.val) := by
    intro r l
    unfold step5.sl.dma4 step5.sl.HG_src_w1
    rw [show (Ring.bk 84 (o5 k.val)).val = o5 k.val from Ring.bk_val ho]
    exact (slot_store _ _ (off35_eq k) _ _ r l).trans
      (out_value c XA GA _ _ hko.1 hko.2 fx hX fi (by rw [od]; exact hI) _ (by rw [o3]; exact off34_eq k) _ _ (fun r l => pay17_apply _ _ r l 0) r l)
  sl_step
  isplitl [HG HG_dst HOr]
  · iapply (outRing_close (homeOut (F := Ideal) c) (homeQ c XA GA) (inflQ c XA GA) (freeOut c) _ h2 ho)
    isplitl [HG]; · iexists _; iapply (entails_of_eq (flQ_of c XA GA _ _ f2 _ _ hq)); iexact HG
    isplitl [HG_dst]; · iexact HG_dst
    iexact HOr
  isplitl [Hx]
  · iexists fx; isplitl [Hx]; · iexact Hx
    ipureintro; exact hX
  isplitl [Hi]
  · iexists fi; isplitl [Hi]; · iexact Hi
    ipureintro; exact hI
  iexists _; iexact HW

set_option warn.classDefReducibility false in
@[sl_loop] def loopInv5 : LoopInvTy_k0_t5 (F := Ideal) Unit ℕ (UU nD τ) ℕ 𝒱₀ c none Set.univ xM (Memref.isWhole_whole _) gM (Memref.isWhole_whole _) yM (Memref.isWhole_whole _) arg3 harg3 ibM (Memref.isWhole_whole _) obM (Memref.isWhole_whole _) xbM (Memref.isWhole_whole _) sgM (Memref.isWhole_whole _) sbM (Memref.isWhole_whole _) amM (Memref.isWhole_whole _) ivM (Memref.isWhole_whole _) cc0_scratch7 cc0_scratch8 cc0_scratch9 where
  inv k _ := resV5 c XA GA k
  step k _ := step5 c XA GA arg3 harg3 k

end Loops

end Cert.Proof.Value

end
-- ==== Proof.Value.Body.lean ====
/-
  The kernel's body with its values: every tile of the result holds the quantised codes, the window of scales every block's scales.
-/
module

public import proofs.«01_k».proof.Proof.Value.Loops

@[expose] public section

noncomputable section

namespace Cert.Proof.Value

open Cert.KernelIdeal Cert.KernelIdeal.Gen Cert.Proof.Rings Cert.Proof.KernelIdeal
open Idealize.ShloMosaic Idealize.ShloMosaic.Pointwise
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

local notation "𝕄" => MT nD τ sig Unit (Elt Ideal) ℕ (UU nD τ) ℕ

section Body
variable (c : Dev nD) (XA : Buf (Elt Ideal) (xM.view.loc (c : Thread nD τ))) (GA : Buf (Elt Ideal) (gM.view.loc (c : Thread nD τ)))
  (arg3 : Memref sig .tc .vmem S28x128 .f32) (harg3 : arg3.IsWhole)

abbrev bodyG : Prog (TpuEff nD τ sig (Elt Ideal) Λ₀ .tc) PUnit :=
  cc0_fp8_to_int8 (F := Ideal) xM (Memref.isWhole_whole _) gM (Memref.isWhole_whole _) yM (Memref.isWhole_whole _) arg3 harg3 ibM (Memref.isWhole_whole _) obM (Memref.isWhole_whole _) xbM (Memref.isWhole_whole _) sgM (Memref.isWhole_whole _) sbM (Memref.isWhole_whole _) amM (Memref.isWhole_whole _) ivM (Memref.isWhole_whole _) cc0_scratch7 cc0_scratch8 cc0_scratch9

/-- What the body is handed and hands back, the owed waits and the window of scales apart: every tile of the codes and every piece of the
    scales home at its contents, every tile of the result as told, every slot, every scratch buffer and every cell its own. -/
def keepV (Y : Fin 84 → sProp 𝕄) : sProp 𝕄 :=
  iprop(bigSep Finset.univ (tInP c XA) ∗ bigSep Finset.univ Y
    ∗ (freeIn (F := Ideal) c 0 ∗ freeIn (F := Ideal) c 1 ∗ freeIn (F := Ideal) c 2 ∗ freeIn (F := Ideal) c 3 ∗ freeIn (F := Ideal) c 4 ∗ freeIn (F := Ideal) c 5)
    ∗ (freeOut (F := Ideal) c 0 ∗ freeOut (F := Ideal) c 1 ∗ freeOut (F := Ideal) c 2 ∗ freeOut (F := Ideal) c 3 ∗ freeOut (F := Ideal) c 4 ∗ freeOut (F := Ideal) c 5)
    ∗ (doneG c GA 0 ∗ doneG c GA 1 ∗ doneG c GA 2)
    ∗ (∃ f, xbP (F := Ideal) c f) ∗ (∃ f, sbP (F := Ideal) c f) ∗ (∃ f, amP (F := Ideal) c f) ∗ (∃ f, ivP (F := Ideal) c f))

theorem scales_zero : iprop(inflG c GA 0 ∗ inflG c GA 1 ∗ inflG c GA 2) ⊢ scalesV c GA 0 := by
  unfold scalesV
  rw [bigSep_univ_eq_bigSepL [(0 : Fin 3), (1 : Fin 3), (2 : Fin 3)] (by decide) (by decide)]
  exact .rfl
theorem scales_end : scalesV c GA 3 ⊢ iprop(doneV c GA 0 ∗ doneV c GA 1 ∗ doneV c GA 2) := by
  unfold scalesV
  rw [bigSep_univ_eq_bigSepL [(0 : Fin 3), (1 : Fin 3), (2 : Fin 3)] (by decide) (by decide)]
  exact .rfl
theorem done_of (j : Fin 3) : doneV c GA j ⊢ doneG c GA j := by
  iintro ⟨⟨%f, H⟩, HG, HC⟩
  isplitl [H]; · iexists _; iexact H
  isplitl [HG]; · iexact HG
  iexact HC

set_option maxHeartbeats 4000000 in
theorem bodyRun (W : Waits sig Unit) (Q : PUnit → sProp 𝕄) :
    iprop((keepV c XA GA (homeOut (F := Ideal) c) ∗ (∃ f, scP c arg3 f) ∗ owes (c : Thread nD τ) 0 W)
        ∗ (keepV c XA GA (homeQ c XA GA) ∗ (∃ f, scP c arg3 f ∗ ⌜CS (cA c XA) (cB c GA) 28 (scR c arg3 f)⌝) ∗ (∃ W', owes (c : Thread nD τ) 0 W') -∗ Q ⟨⟩))
      ⊢ wp Idealize.ShloMosaic.frame (wpE (defs₀ (F := Ideal)) 𝒱₀ (c : Thread nD τ) none) Set.univ (bodyG arg3 harg3) Q := by
  unfold keepV
  rw [homes_zero (tInP c XA)]
  iintro ⟨⟨⟨⟨T0, T1, T2, T3, T4, T5, Hh⟩, HB, ⟨⟨⟨%i0, I0⟩, C0⟩, ⟨⟨%i1, I1⟩, C1⟩, ⟨⟨%i2, I2⟩, C2⟩, ⟨⟨%i3, I3⟩, C3⟩, ⟨⟨%i4, I4⟩, C4⟩, ⟨%i5, I5⟩, C5⟩,
    HFo, ⟨⟨⟨%s0, S0⟩, G0, D0⟩, ⟨⟨%s1, S1⟩, G1, D1⟩, ⟨%s2, S2⟩, G2, D2⟩, ⟨%fx, Hx⟩, ⟨%fs, Hs⟩, ⟨%fa, Ha⟩, ⟨%fi, Hi⟩⟩, ⟨%f3, H3⟩, HW⟩, Hk⟩
  (set_option sl_exec.stopBefore "k0_part14" in sl_exec)
  -- the prologue done: the rings and the scales before their first trips
  ihave HI := (inRing_zero (tInP c XA) (inflIn c XA) (freeIn c)) $$ [Hh C0 C1 C2 C3 C4 C5]
  · isplitl [Hh]; · iexact Hh
    isplitl [C0]; · iexists _; iexact C0
    isplitl [C1]; · iexists _; iexact C1
    isplitl [C2]; · iexists _; iexact C2
    isplitl [C3]; · iexists _; iexact C3
    isplitl [C4]; · iexists _; iexact C4
    iexists _; iexact C5
  ihave HO := (outRing_zero (homeOut (F := Ideal) c) (homeQ c XA GA) (inflQ c XA GA) (freeOut c)) $$ [HB HFo]
  · isplitl [HB]; · iexact HB
    iexact HFo
  ihave HS := (scales_zero c GA) $$ [D0 D1 D2]
  · isplitl [D0]; · iexists _; iexact D0
    isplitl [D1]; · iexists _; iexact D1
    iexists _; iexact D2
  have hS0 : SS (cB c GA) 0 (sbR c fs) := by intro p e g h hg; exact absurd h (by omega)
  have hX0 : XS (cA c XA) (cB c GA) 0 (xbR c fx) := by intro i h _; exact absurd h (by omega)
  have hC0 : CS (cA c XA) (cB c GA) 0 (scR c arg3 f3) := by intro r l h; exact absurd h (by omega)
  (set_option sl_exec.maxSteps 4 in sl_exec)
  ihave Ha := (hide (amP c) (fun f => AS (cA c XA) (cB c GA) 0 (7168 * 0) (amR c f)) _ (zero_value c XA GA _ fa _ _ pay18_apply)) $$ Ha
  icases Ha with ⟨%fa, Ha, %hM⟩
  (set_option sl_exec.maxSteps 1 in sl_exec)
  -- the scales packed
  have hS : SS (cB c GA) 3 (sbR c fL0) := hL2
  (set_option sl_exec.maxSteps 1 in sl_exec)
  -- the first block in
  have hX : XS (cA c XA) (cB c GA) (kk 0 0) (xbR c fL2) := hL7
  have hM' : AS (cA c XA) (cB c GA) 0 21504 (amR c fL4) := hL11
  (set_option sl_exec.maxSteps 4 in sl_exec)
  ihave H3 := (hide (scP c arg3) (fun f => CS (cA c XA) (cB c GA) (0 + 1) (scR c arg3 f)) _
    (row_value c XA GA 0 fL4 hM' _ arg3.view f3 hC0 _ rfl _ (pay22_apply _))) $$ H3
  icases H3 with ⟨%f3, H3, %hC⟩
  have hI0 : IS (cA c XA) (cB c GA) 0 (ivR c (ivM.view.writes (Elt Ideal) ivM.view.junk (bodyRun.sl.Hi_1 c fL4))) := by
    unfold bodyRun.sl.Hi_1
    exact inv_value c XA GA 0 fL4 hM' _ ivM.view.junk _ _ (pay23_apply _)
  ihave HI := (entails_of_eq (congrArg (iRing c XA) (show Scf.trips k0_t2_loop.lb k0_t2_loop.ub k0_t2_loop.st = kk 0 0 from rfl))) $$ HI
  ihave HO := (entails_of_eq (congrArg (oRingV c XA GA) (show 0 = oo 0 0 from rfl))) $$ HO
  sl_exec
  have hC28 : CS (cA c XA) (cB c GA) 28 (scR c arg3 fL4) := hL10
  -- the last six results waited for
  ihave HO := (entails_of_eq (congrArg (oRingV c XA GA) (show o5 (Scf.trips k0_t5_loop.lb k0_t5_loop.ub k0_t5_loop.st) = 84 from rfl))) $$ HO
  ihave HO := (outRing_end (homeOut (F := Ideal) c) (homeQ c XA GA) (inflQ c XA GA) (freeOut c)) $$ HO
  icases HO with ⟨HB, ⟨%u0, F0⟩, ⟨%u1, F1⟩, ⟨%u2, F2⟩, ⟨%u3, F3⟩, ⟨%u4, F4⟩, ⟨%u5, F5⟩⟩
  sl_exec
  ihave HB := (behind_all (homeQ c XA GA)) $$ [HB F0_dst F1_dst F2_dst F3_dst F4_dst F5_dst]
  · isplitl [F0_dst]; · iexact F0_dst
    isplitl [F1_dst]; · iexact F1_dst
    isplitl [F2_dst]; · iexact F2_dst
    isplitl [F3_dst]; · iexact F3_dst
    isplitl [F4_dst]; · iexact F4_dst
    isplitl [F5_dst]; · iexact F5_dst
    iexact HB
  ihave HI := (entails_of_eq (congrArg (iRing c XA) (show kk (Scf.trips k0_t3_loop.lb k0_t3_loop.ub k0_t3_loop.st) 0 = 84 from rfl))) $$ HI
  ihave HI := (inRing_end (tInP c XA) (inflIn c XA) (freeIn c)) $$ HI
  icases HI with ⟨HA, I0, I1, I2, I3, I4, I5⟩
  ihave HS := (entails_of_eq (congrArg (scalesV c GA) (show Scf.trips k0_t1_loop.lb k0_t1_loop.ub k0_t1_loop.st = 3 from rfl))) $$ HS
  ihave HS := (scales_end c GA) $$ HS
  icases HS with ⟨D0, D1, D2⟩
  rw [← homes_zero (tInP c XA), wp_ret]
  imodintro
  iapply Hk
  isplitr [H3 HW]
  · isplitl [HA]; · iexact HA
    isplitl [HB]; · iexact HB
    isplitl [I0 I1 I2 I3 I4 I5]
    · isplitl [I0]; · iexact I0
      isplitl [I1]; · iexact I1
      isplitl [I2]; · iexact I2
      isplitl [I3]; · iexact I3
      isplitl [I4]; · iexact I4
      iexact I5
    isplitl [F0 F0_src F1 F1_src F2 F2_src F3 F3_src F4 F4_src F5 F5_src]
    · isplitl [F0 F0_src]
      · isplitl [F0_src]; · iexists _; iexact F0_src
        iexact F0
      isplitl [F1 F1_src]
      · isplitl [F1_src]; · iexists _; iexact F1_src
        iexact F1
      isplitl [F2 F2_src]
      · isplitl [F2_src]; · iexists _; iexact F2_src
        iexact F2
      isplitl [F3 F3_src]
      · isplitl [F3_src]; · iexists _; iexact F3_src
        iexact F3
      isplitl [F4 F4_src]
      · isplitl [F4_src]; · iexists _; iexact F4_src
        iexact F4
      isplitl [F5_src]; · iexists _; iexact F5_src
      iexact F5
    isplitl [D0 D1 D2]
    · isplitl [D0]; · iapply (done_of c GA 0); iexact D0
      isplitl [D1]; · iapply (done_of c GA 1); iexact D1
      iapply (done_of c GA 2); iexact D2
    isplitl [Hx]; · iexists _; iexact Hx
    isplitl [Hs]; · iexists _; iexact Hs
    isplitl [Ha]; · iexists _; iexact Ha
    iexists _; iexact Hi
  isplitl [H3]
  · iexists _; isplitl [H3]; · iexact H3
    ipureintro; exact hC28
  iexists _; iexact HW

end Body

end Cert.Proof.Value

end
-- ==== Proof.Value.Launch.lean ====
/-
  The run of @main with its values: the launch of the one region around the body's run, and what the two results hold.
-/
module

public import proofs.«01_k».proof.Proof.Value.Body
public import proofs.«01_k».proof.Proof.KernelIdeal.Launch
public import Idealize.ShloMosaic.Lib.Pipeline.FrameSuffixV
public import Idealize.ShloMosaic.Lib.Pipeline.ValueKit.Geometry

@[expose] public section

noncomputable section

namespace Cert.Proof.Value

open Cert.KernelIdeal Cert.KernelIdeal.Gen Cert.Proof.Rings Cert.Proof.KernelIdeal
open Idealize.ShloMosaic Idealize.ShloMosaic.Pointwise
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UU nD τ) ℕ

variable (m : (ℓ : Loc nD τ sig) → Buf (Elt Ideal) ℓ) (ρ : Dev nD → PrngReg)

/-- What the region leaves in the buffer the body writes: the quantised codes. -/
def GV (c : Dev nD) (b : Ref sig .tc) : Buf (Elt Ideal) ((c.tc : Thread nD τ).loc b) :=
  Function.update (V m c) main_v2_0 (QA c (V m c main_v0) (V m c main_v1)) b
theorem GV_result (c : Dev nD) : GV m c main_v2_0 = QA c (V m c main_v0) (V m c main_v1) := Function.update_self _ _ _

/-- The scales of every column, as the window's contents. -/
def scaleWin (c : Dev nD) : S28x128.Idx → EReal := fun y => sc (cA c (V m c main_v0)) (cB c (V m c main_v1)) (128 * (y 0).val + (y 1).val)

/-- The launch hands the body what it asks for, -/
theorem enter (c : Dev nD) : Pipeline.ΦDRV osem spec0 HH RR (V m) (V m) c ⊢ keepV c (V m c main_v0) (V m c main_v1) (homeOut (F := Ideal) c) := by
  unfold Pipeline.ΦDRV
  rw [scopedRest0_eq, ownSems0_eq, hh_eq, bigSep_singleton]
  rw [codes_eq, scalesIn_eq]
  unfold keepV
  iintro ⟨⟨S0, S1, S2, S3, S4, S5, S6⟩, ⟨⟨A0, A1, A2, A3, A4, A5⟩, ⟨B0, B1, B2, B3, B4, B5⟩, ⟨C0, C1, C2⟩⟩, ⟨HX, ⟨G0, G1, G2⟩⟩, HY⟩
  ihave HY := (out_split c) $$ [HY]
  · iexists _; iexact HY
  ihave S0 := (inBuf_split c) $$ S0
  icases S0 with ⟨I0, I1, I2, I3, I4, I5⟩
  ihave S1 := (outBuf_split c) $$ S1
  icases S1 with ⟨O0, O1, O2, O3, O4, O5⟩
  ihave S3 := (stage_split c) $$ S3
  icases S3 with ⟨P0, P1, P2⟩
  isplitl [HX]; · iexact HX
  isplitl [HY]; · iexact HY
  isplitl [I0 I1 I2 I3 I4 I5 A0 A1 A2 A3 A4 A5]
  · isplitl [I0 A0]
    · isplitl [I0]; · iexact I0
      iexact A0
    isplitl [I1 A1]
    · isplitl [I1]; · iexact I1
      iexact A1
    isplitl [I2 A2]
    · isplitl [I2]; · iexact I2
      iexact A2
    isplitl [I3 A3]
    · isplitl [I3]; · iexact I3
      iexact A3
    isplitl [I4 A4]
    · isplitl [I4]; · iexact I4
      iexact A4
    isplitl [I5]; · iexact I5
    iexact A5
  isplitl [O0 O1 O2 O3 O4 O5 B0 B1 B2 B3 B4 B5]
  · isplitl [O0 B0]
    · isplitl [O0]; · iexact O0
      iexact B0
    isplitl [O1 B1]
    · isplitl [O1]; · iexact O1
      iexact B1
    isplitl [O2 B2]
    · isplitl [O2]; · iexact O2
      iexact B2
    isplitl [O3 B3]
    · isplitl [O3]; · iexact O3
      iexact B3
    isplitl [O4 B4]
    · isplitl [O4]; · iexact O4
      iexact B4
    isplitl [O5]; · iexact O5
    iexact B5
  isplitl [P0 P1 P2 G0 G1 G2 C0 C1 C2]
  · isplitl [P0 G0 C0]
    · isplitl [P0]; · iexact P0
      isplitl [G0]; · iexact G0
      iexact C0
    isplitl [P1 G1 C1]
    · isplitl [P1]; · iexact P1
      isplitl [G1]; · iexact G1
      iexact C1
    isplitl [P2]; · iexact P2
    isplitl [G2]; · iexact G2
    iexact C2
  isplitl [S2]; · icases S2 with ⟨%f, S2⟩; iexists f; iapply (entails_of_eq (whole_eq (F := Ideal) c cc0_scratch2 f)); iexact S2
  isplitl [S4]; · icases S4 with ⟨%f, S4⟩; iexists f; iapply (entails_of_eq (whole_eq (F := Ideal) c cc0_scratch4 f)); iexact S4
  isplitl [S5]; · icases S5 with ⟨%f, S5⟩; iexists f; iapply (entails_of_eq (whole_eq (F := Ideal) c cc0_scratch5 f)); iexact S5
  icases S6 with ⟨%f, S6⟩; iexists f; iapply (entails_of_eq (whole_eq (F := Ideal) c cc0_scratch6 f)); iexact S6
/-- and takes it back. -/
theorem leave (c : Dev nD) : keepV c (V m c main_v0) (V m c main_v1) (homeQ c (V m c main_v0) (V m c main_v1)) ⊢ Pipeline.ΦDRV osem spec0 HH RR (V m) (GV m) c := by
  unfold Pipeline.ΦDRV
  rw [scopedRest0_eq, ownSems0_eq, hh_eq, bigSep_singleton, GV_result]
  rw [codes_eq, scalesIn_eq]
  unfold keepV
  iintro ⟨HX, HY, ⟨⟨I0, A0⟩, ⟨I1, A1⟩, ⟨I2, A2⟩, ⟨I3, A3⟩, ⟨I4, A4⟩, I5, A5⟩, ⟨⟨O0, B0⟩, ⟨O1, B1⟩, ⟨O2, B2⟩, ⟨O3, B3⟩, ⟨O4, B4⟩, O5, B5⟩,
    ⟨⟨P0, G0, C0⟩, ⟨P1, G1, C1⟩, P2, G2, C2⟩, S2, S4, S5, S6⟩
  ihave HY := (entails_of_eq (result_eq (F := Ideal) c (QA c (V m c main_v0) (V m c main_v1))).symm) $$ HY
  ihave S0 := (inBuf_join c) $$ [I0 I1 I2 I3 I4 I5]
  · isplitl [I0]; · iexact I0
    isplitl [I1]; · iexact I1
    isplitl [I2]; · iexact I2
    isplitl [I3]; · iexact I3
    isplitl [I4]; · iexact I4
    iexact I5
  ihave S1 := (outBuf_join c) $$ [O0 O1 O2 O3 O4 O5]
  · isplitl [O0]; · iexact O0
    isplitl [O1]; · iexact O1
    isplitl [O2]; · iexact O2
    isplitl [O3]; · iexact O3
    isplitl [O4]; · iexact O4
    iexact O5
  ihave S3 := (stage_join c) $$ [P0 P1 P2]
  · isplitl [P0]; · iexact P0
    isplitl [P1]; · iexact P1
    iexact P2
  isplitl [S0 S1 S2 S3 S4 S5 S6]
  · isplitl [S0]; · iexact S0
    isplitl [S1]; · iexact S1
    isplitl [S2]; · icases S2 with ⟨%f, S2⟩; iexists f; iapply (entails_of_eq (whole_eq (F := Ideal) c cc0_scratch2 f).symm); iexact S2
    isplitl [S3]; · iexact S3
    isplitl [S4]; · icases S4 with ⟨%f, S4⟩; iexists f; iapply (entails_of_eq (whole_eq (F := Ideal) c cc0_scratch4 f).symm); iexact S4
    isplitl [S5]; · icases S5 with ⟨%f, S5⟩; iexists f; iapply (entails_of_eq (whole_eq (F := Ideal) c cc0_scratch5 f).symm); iexact S5
    icases S6 with ⟨%f, S6⟩; iexists f; iapply (entails_of_eq (whole_eq (F := Ideal) c cc0_scratch6 f).symm); iexact S6
  isplitl [A0 A1 A2 A3 A4 A5 B0 B1 B2 B3 B4 B5 C0 C1 C2]
  · isplitl [A0 A1 A2 A3 A4 A5]
    · isplitl [A0]; · iexact A0
      isplitl [A1]; · iexact A1
      isplitl [A2]; · iexact A2
      isplitl [A3]; · iexact A3
      isplitl [A4]; · iexact A4
      iexact A5
    isplitl [B0 B1 B2 B3 B4 B5]
    · isplitl [B0]; · iexact B0
      isplitl [B1]; · iexact B1
      isplitl [B2]; · iexact B2
      isplitl [B3]; · iexact B3
      isplitl [B4]; · iexact B4
      iexact B5
    isplitl [C0]; · iexact C0
    isplitl [C1]; · iexact C1
    iexact C2
  isplitl [HX G0 G1 G2]
  · isplitl [HX]; · iexact HX
    isplitl [G0]; · iexact G0
    isplitl [G1]; · iexact G1
    iexact G2
  iexact HY

/-! ## The pipeline's proof data: its one window's block at the scales -/

def dats (_ : Fin 1) (c : Dev nD) : Dat τ (Elt Ideal) Unit ℕ (UU nD τ) ℕ cfg0 c where
  A w := V m c (Pipeline.arrRef spec0 w)
  after w _ := match w with
    | ⟨0, _⟩ => scaleWin m c
  Φ t := if t.val = 0 then keepV c (V m c main_v0) (V m c main_v1) (homeOut (F := Ideal) c) else keepV c (V m c main_v0) (V m c main_v1) (homeQ c (V m c main_v0) (V m c main_v1))
  q _ := fullShare
  owed _ := 0

theorem phi_in (c : Dev nD) (t : Fin cfg0.N) (ht : t.val = 0) :
    (dats m 0 c).Φ t.castSucc = keepV c (V m c main_v0) (V m c main_v1) (homeOut (F := Ideal) c) :=
  if_pos (α := sProp 𝕄) (c := t.val = 0) ht
theorem phi_out (c : Dev nD) (t : Fin cfg0.N) :
    (dats m 0 c).Φ t.succ = keepV c (V m c main_v0) (V m c main_v1) (homeQ c (V m c main_v0) (V m c main_v1)) :=
  if_neg (α := sProp 𝕄) (c := t.val + 1 = 0) (t := keepV c (V m c main_v0) (V m c main_v1) (homeOut (F := Ideal) c)) (Nat.succ_ne_zero _)
theorem after_eq (c : Dev nD) (t : Fin cfg0.N) : (dats m 0 c).after 0 t = scaleWin m c := by dsimp only [dats]

/-- A window buffer that holds every scale reads as the block of scales. -/
theorem window_value (c : Dev nD) (v : View sig .tc .vmem S28x128 .f32) (f : v.ty.Contents (Elt Ideal))
    (hC : CS (cA c (V m c main_v0)) (cB c (V m c main_v1)) 28 (v.read (Elt Ideal) f)) : v.read (Elt Ideal) f = scaleWin m c :=
  funext fun y => (congrArg (v.read (Elt Ideal) f) (eq_ix2 y)).trans (hC (y 0) (y 1) (show (y 0).val < 28 from (y 0).isLt))

theorem defs_tc : (defs₀ (F := Ideal)) .tc cfg0.body = fun a => bodyG (win0_0.stage (a.2 0)) (hstage0_0 0) := rfl
theorem prog_eq (t : Fin cfg0.N) : (defs₀ (F := Ideal)) .tc cfg0.body (cfg0.bodyArgs t (cfg0.slots t))
    = bodyG (win0_0.stage (cfg0.slots t 0)) (hstage0_0 0) := (congrFun defs_tc _).trans rfl

set_option backward.isDefEq.respectTransparency.types false in
theorem body_obligation (c : Dev nD) : BodyObligationLoose (dats m 0 c) (defs₀ (F := Ideal)) 𝒱₀ () Set.univ := fun t => by
  simp only [bigSep_W0]
  have ht : t.val = 0 := by have := t.isLt; have e : cfg0.N = 1 := by decide
                            omega
  rw [phi_in m c t ht, phi_out m c t]
  unfold Dat.owesAt Pipeline.owesWithin
  rw [show (dats m 0 c).owed t.castSucc = 0 from rfl, show (dats m 0 c).owed t.succ = 0 from rfl]
  unfold owns
  iintro ⟨HK, ⟨%W, -, HW⟩, ⟨%X, %g, -, Hg⟩⟩
  sl_rw [prog_eq t]
  iapply (bodyRun c (V m c main_v0) (V m c main_v1) (win0_0.stage (cfg0.slots t 0)) (hstage0_0 0) W)
  isplitl [HK HW Hg]
  · isplitl [HK]; · iexact HK
    isplitl [Hg]; · iexists g; iexact Hg
    iexact HW
  · iintro ⟨HK, ⟨%f, Hg, %hC⟩, ⟨%W', HW⟩⟩
    isplitl [HK]; · iexact HK
    isplitl [HW]
    · iexists W'; isplitr; · ipureintro; exact fun _ _ => Or.inl trivial
      iexact HW
    iexists f; isplitr
    · ipureintro
      exact (window_value m c (win0_0.stage (cfg0.slots t 0)).view f hC).trans (after_eq m c t).symm
    iexact Hg

/-! ## The run -/

set_option backward.isDefEq.respectTransparency.types false in
/-- From any memory with zero counters: every weakly fair execution of @main terminates with every buffer outside the region at what the
    host lines make of the quantised codes and the scales. -/
theorem run : θ_run defs (onTc (τ := τ) (main (F := Ideal))) ⟨m, fun _ => 0, ρ⟩ (fun r => ∀ c : Dev nD,
      ∀ b ∈ Pipeline.restRefs sig spec0, r.2.mem ((c.tc : Thread nD τ).loc b)
        = StableHlo.after ([hostOps1].flatten) (Pipeline.withArrays spec0 c (Pipeline.withR (V0 m c) RR c (GV m c)) fun w => (dats m 0 c).arrAt w cfg0.N) (Proc.devRef .tc b)) :=
  Pipeline.θ_run_frame_dmaR_aroundV (Q' := _) cfgs (dats m) (0 : Fin 1) launch0 osem defs₀ 𝒱₀ ownSemFacts HH RR
    (by decide) (by decide) m ρ main
    (hbody := fun c => body_obligation m c) (hshare := fun c => (dats m 0 c).share_full fun _ => rfl) (howed := fun _ _ => rfl)
    (V₀ := V0 m) (opss := [hostOps1]) (hsub := sfx_sub) (hfresh := sfx_fresh) (hkeep := sfx_keeps) (G := GV m)
    (hmain := hmain' m) (hA := fun _ _ => rfl) (hin := fun c => enter m c) (hout := fun c => leave m c)
    (hQ' := fun r h c => (h.1 c).2)

end Cert.Proof.Value

end
-- ==== Proof.Value.Reference.lean ====
/-
  The reference's side: its dequantised values, column maxima, scales and codes, element by element, and what its run leaves in the
  two results.
-/
module

public import proofs.«01_k».proof.Proof.Value.Spec
public import proofs.«01_k».proof.Proof.Gen.ReferenceIdeal.Frame
public import Idealize.ShloMosaic.Lib.Pipeline.ValueKit.Geometry
public import Idealize.ShloMosaic.Lib.Pipeline.ValueKit.Point
public import Idealize.ShloMosaic.Lib.Pipeline.ValueKit.Acc

@[expose] public section

noncomputable section

namespace Cert.Proof.Value

open Cert.ReferenceIdeal Cert.ReferenceIdeal.Gen
open Idealize.ShloMosaic Idealize.ShloMosaic.Pointwise Idealize.ShloMosaic.Pipeline

section
variable (A0 : Vec Ideal S21x1024x3584 .fp8e4m3) (B0 : Vec Ideal S21x1024x28 .f32)

/-- A dequantised value. -/
theorem ref_pay1 (b : Fin 21) (t : Fin 1024) (c : Fin 3584) : k0_pay1 A0 B0 (ix3 b t c) = A0 (ix3 b t c) * B0 (ix3 b t ⟨c.val / 128, by omega⟩) := by
  pointwise [k0_pay1]

/-- The largest magnitude of every column. -/
def refMax (x : FVec Ideal S21x1024x3584 .f32) : FVec Ideal S3584 .f32 :=
  multiReduction .maximumf [0, 1] S3584 x 0xFF800000#32 reduces_S21x1024x3584_S3584 (.inl rfl) rfl

/-- The maximum is over the first two axes. -/
theorem drop_eq (b : Fin 21) (t : Fin 1024) (c : Fin 3584) : reduces_S21x1024x3584_S3584.drop (ix3 b t c) = ix1 c := by
  funext a
  apply Fin.ext
  obtain rfl : a = 0 := Subsingleton.elim _ _
  exact reduces_S21x1024x3584_S3584.drop_apply_val_of_eq (ix3 b t c) 0 2

/-- A bound of a column's maximum bounds the column. -/
theorem refMax_le (x : FVec Ideal S21x1024x3584 .f32) (c : Fin 3584) (z : EReal) :
    refMax x (ix1 c) ≤ z ↔ ∀ (b : Fin 21) (t : Fin 1024), x (ix3 b t c) ≤ z := by
  have h := multiReduction_maximumf_eq_fold (F := Ideal) (φ := .f32) x 0xFF800000#32 reduces_S21x1024x3584_S3584 (.inl rfl) rfl (ix1 c)
  refine (iff_of_eq (congrArg (fun y : EReal => y ≤ z) h)).trans ?_
  refine (Finset.fold_max_le (f := x) (b := Ideal.ofBits FTy.f32 4286578688#32) z).trans ?_
  rw [negInf32]
  constructor
  · exact fun hh b t => hh.2 (ix3 b t c) (Finset.mem_filter.2 ⟨Finset.mem_univ _, drop_eq b t c⟩)
  · refine fun hh => ⟨bot_le, fun i hi => ?_⟩
    have hd := (Finset.mem_filter.1 hi).2
    obtain ⟨b, t, c', rfl⟩ : ∃ b t c', i = ix3 b t c' := ⟨_, _, _, eq_ix3 i⟩
    obtain rfl : c' = c := congrFun ((drop_eq b t c').symm.trans hd) 0
    exact hh _ _

/-- A column's scale, from any column maxima. -/
theorem ofMax (v : FVec Ideal S3584 .f32) (c : Fin 3584) :
    select (cmpf .oeq v (broadcast S3584 (Scalar.ofBits .f32 0x00000000#32))) (broadcast S3584 (Scalar.ofBits .f32 0x3F800000#32)) (divf v (broadcast S3584 (Scalar.ofBits .f32 0x42FE0000#32))) (ix1 c) = scaleOf (v (ix1 c)) := by
  pointwise []
  rfl

/-- A column's scale. -/
theorem ref_pay2 (c : Fin 3584) : k0_pay2 A0 B0 (ix1 c) = scaleOf (refMax (absf (k0_pay1 A0 B0)) (ix1 c)) := by
  exact ofMax (refMax (absf (k0_pay1 A0 B0))) c

/-- A code, from any values and scales. -/
theorem ofScale (p : FVec Ideal S21x1024x3584 .f32) (v : FVec Ideal S3584 .f32) (b : Fin 21) (t : Fin 1024) (c : Fin 3584) :
    fptosi 8 (minimumf (broadcast S21x1024x3584 (Scalar.ofBits .f32 0x42FE0000#32)) (maximumf (broadcast S21x1024x3584 (Scalar.ofBits .f32 0xC2FE0000#32)) (roundeven (divf p (broadcastTo S21x1024x3584 (shapeCast S1x1x3584 v shapeCasts_S3584_S1x1x3584) broadcasts_S1x1x3584_S21x1024x3584))))) (ix3 b t c)
      = Ideal.fptosi 8 (min top7 (max bot7 (Ideal.liftRound Ideal.roundHalfEven (Ideal.div (p (ix3 b t c)) (v (ix1 c)))))) := by
  pointwise []
  rfl

/-- A code. -/
theorem ref_pay3 (b : Fin 21) (t : Fin 1024) (c : Fin 3584) : k0_pay3 A0 B0 (ix3 b t c)
    = Ideal.fptosi 8 (min top7 (max bot7 (Ideal.liftRound Ideal.roundHalfEven (Ideal.div (k0_pay1 A0 B0 (ix3 b t c)) (k0_pay2 A0 B0 (ix1 c)))))) := by
  exact ofScale (k0_pay1 A0 B0) (k0_pay2 A0 B0) b t c

theorem absf_at (x : FVec Ideal S21x1024x3584 .f32) (i : S21x1024x3584.Idx) : absf x i = absE (x i) := rfl
end

section
variable (m : (ℓ : Loc nD τ sig) → Buf (Elt Ideal) ℓ) (ρ : Dev nD → PrngReg)
open Idealize.ShloMosaic.TcCoe

/-- Both blocks start at the origin. -/
theorem refIdx : ∀ t : Fin cfg0.N, win0_0.index t = ![0, 0, 0] ∧ win0_1.index t = ![0, 0, 0] :=
  (by decide +kernel : ∀ t : Fin grid0.N, _)
/-- The two blocks at the one point are the two arguments. -/
theorem refIn0 (c : Dev nD) : iblk m c 0 t0_0 = m ((c : Thread nD τ).loc main_arg0) := by
  blk_ext! [iblk, V, refIdx t0_0]
theorem refIn1 (c : Dev nD) : iblk m c 1 t0_0 = m ((c : Thread nD τ).loc main_arg1) := by
  blk_ext! [iblk, V, refIdx t0_0]
/-- The codes the reference leaves. -/
theorem refOut (c : Dev nD) : (dats m 0 c).arrAt 2 cfg0.N = k0_pay3 (m ((c : Thread nD τ).loc main_arg0)) (m ((c : Thread nD τ).loc main_arg1)) := by
  refine (dats m 0 c).arrAt_eq_of_after_last 2 t0_0 (by decide +kernel) _ fun j => ?_
  blk_simp
  rw [after0_2, refIn0, refIn1]
  generalize m ((c : Thread nD τ).loc main_arg0) = A0
  generalize m ((c : Thread nD τ).loc main_arg1) = B0
  unfold out0_2
  frame_out
/-- The scales it leaves. -/
theorem refScale (c : Dev nD) : (dats m 0 c).arrAt 3 cfg0.N = k0_pay2 (m ((c : Thread nD τ).loc main_arg0)) (m ((c : Thread nD τ).loc main_arg1)) := by
  refine (dats m 0 c).arrAt_eq_of_after_last 3 t0_0 (by decide +kernel) _ fun j => ?_
  blk_simp
  rw [after0_3, refIn0, refIn1]
  generalize m ((c : Thread nD τ).loc main_arg0) = A0
  generalize m ((c : Thread nD τ).loc main_arg1) = B0
  unfold out0_3
  frame_out
end

end Cert.Proof.Value

end
-- ==== Proof.Value.Equation.lean ====
/-
  The kernel's two results and the reference's are the same functions of the codes and the scales: the maximum over all rows, the
  multiplication by the inverse scale against the division by the scale, the code by way of 32 bits against the code in 8 bits.
-/
module

public import proofs.«01_k».proof.Proof.Value.Reference
public import Idealize.ShloMosaic.Lib.Pointwise

@[expose] public section

noncomputable section

namespace Cert.Proof.Value

open Idealize.ShloMosaic Idealize.ShloMosaic.Pointwise
open Cert.ReferenceIdeal (S21x1024x3584 S21x1024x28 S3584)
open Cert.ReferenceIdeal.Gen (k0_pay1 k0_pay2 k0_pay3)

/-! ### Scalars -/

theorem top7_eq : top7 = ((127 : ℝ) : EReal) := by
  simp [top7, Ideal.ofBits, Ideal.ieee]
  rw [← EReal.coe_mul]
  exact congrArg _ (by norm_num)
theorem bot7_eq : bot7 = ((-127 : ℝ) : EReal) := by
  simp [bot7, Ideal.ofBits, Ideal.ieee]
  rw [← EReal.coe_mul]
  exact congrArg _ (by norm_num)

/-- Any value between the bounds is a real number between the bounds. -/
theorem clamp_real (y : EReal) : ∃ x : ℝ, -127 ≤ x ∧ x ≤ 127 ∧ min top7 (max bot7 y) = (x : EReal) := by
  rw [top7_eq, bot7_eq]
  induction y using EReal.rec with
  | bot => exact ⟨-127, le_refl _, by norm_num, by rw [max_eq_left bot_le, min_eq_right]; exact_mod_cast (by norm_num : (-127 : ℝ) ≤ 127)⟩
  | top => exact ⟨127, by norm_num, le_refl _, by rw [max_eq_right le_top, min_eq_left le_top]⟩
  | coe r =>
    refine ⟨min 127 (max (-127) r), le_min (by norm_num) (le_max_left _ _), min_le_left _ _, ?_⟩
    push_cast
    rfl

/-- The word of a real number whose integer part the width holds. -/
theorem fptosi_real (w : ℕ) (x : ℝ) (n : ℤ) (hn : (if 0 ≤ x then ⌊x⌋ else ⌈x⌉) = n) (h0 : -((2 ^ (w - 1) : ℕ) : ℤ) ≤ n)
    (h1 : n ≤ ((2 ^ (w - 1) : ℕ) : ℤ) - 1) : Ideal.fptosi w (x : EReal) = BitVec.ofInt w n := by
  unfold Ideal.fptosi
  rw [Ideal.toIntClamped_coe, hn, min_eq_right h1, max_eq_right h0]

/-- A real number between the bounds has the same code by way of 32 bits. -/
theorem code_real (x : ℝ) (h0 : -127 ≤ x) (h1 : x ≤ 127) : BitVec.setWidth 8 (Ideal.fptosi 32 (x : EReal)) = Ideal.fptosi 8 (x : EReal) := by
  obtain ⟨n, hn0, hn1, hn⟩ : ∃ n : ℤ, -127 ≤ n ∧ n ≤ 127 ∧ (if 0 ≤ x then ⌊x⌋ else ⌈x⌉) = n := by
    split
    · exact ⟨_, le_trans (by norm_num) (Int.floor_nonneg.2 ‹_›), Int.floor_le_iff.2 (by push_cast; linarith), rfl⟩
    · exact ⟨_, Int.le_ceil_iff.2 (by push_cast; linarith), Int.ceil_le.2 (by push_cast; linarith), rfl⟩
  rw [fptosi_real 32 x n hn (by norm_num; omega) (by norm_num; omega), fptosi_real 8 x n hn (by norm_num; omega) (by norm_num; omega)]
  interval_cases n <;> rfl

theorem codeOf_eq (y : EReal) : codeOf y = Ideal.fptosi 8 (min top7 (max bot7 (Ideal.liftRound Ideal.roundHalfEven y))) := by
  obtain ⟨x, h0, h1, e⟩ := clamp_real (Ideal.liftRound Ideal.roundHalfEven y)
  unfold codeOf
  rw [e]
  exact code_real x h0 h1

/-- No scale is zero. -/
theorem scaleOf_ne (a : EReal) : scaleOf a ≠ 0 := by
  unfold scaleOf
  split
  · exact one_ne_zero
  · have ht : top7 ≠ 0 := by rw [top7_eq]; exact_mod_cast (by norm_num : (127 : ℝ) ≠ 0)
    unfold Ideal.div
    rw [if_neg ht, top7_eq, ← EReal.coe_inv]
    refine mul_ne_zero ‹_› ?_
    exact_mod_cast (by norm_num : ((127 : ℝ)⁻¹) ≠ 0)

/-- Multiplying by the inverse of a scale is dividing by it. -/
theorem mul_inv_scale (x s : EReal) (hs : s ≠ 0) : x * Ideal.div 1 s = Ideal.div x s := by
  unfold Ideal.div
  rw [if_neg hs, if_neg hs, one_mul]

theorem absE_nonneg (x : EReal) : 0 ≤ absE x := by
  rcases le_total 0 x with h | h
  · exact le_max_of_le_left h
  · exact le_max_of_le_right (EReal.neg_nonneg.2 h)

/-! ### The two programs' results -/

section
variable (A0 : Vec Ideal S21x1024x3584 .fp8e4m3) (B0 : Vec Ideal S21x1024x28 .f32)

/-- The codes with the rows of all batches in one axis. -/
def rowsA : Cert.KernelIdeal.S21504x3584.Idx → EReal :=
  shapeCast Cert.KernelIdeal.S21504x3584 (s := S21x1024x3584) A0 (by decide)
/-- The scales with the groups before the rows. -/
def rowsB : Cert.KernelIdeal.S21x28x1024.Idx → EReal :=
  transpose Cert.KernelIdeal.S21x28x1024 [0, 2, 1] (s := S21x1024x28) B0 (by decide)

theorem rowsA_apply (r : Fin 21504) (c : Fin 3584) : rowsA A0 (ix2 r c) = A0 (ix3 ⟨r.val / 1024, by omega⟩ ⟨r.val % 1024, by omega⟩ c) := by
  pointwise [rowsA]
theorem rowsB_apply (b : Fin 21) (g : Fin 28) (t : Fin 1024) : rowsB B0 (ix3 b g t) = B0 (ix3 b t g) := by
  pointwise [rowsB]

/-- The kernel's dequantised value is the reference's. -/
theorem xv_row (r : ℕ) (hr : r < 21504) (c : Fin 3584) :
    xv (rowsA A0) (rowsB B0) r c.val = k0_pay1 A0 B0 (ix3 ⟨r / 1024, by omega⟩ ⟨r % 1024, by omega⟩ c) := by
  have hc := c.isLt
  rw [ref_pay1]
  unfold xv gv
  rw [dif_pos ⟨hr, hc⟩, dif_pos ⟨hr, by omega⟩, rowsA_apply, rowsB_apply]
theorem xv_at (b : Fin 21) (t : Fin 1024) (c : Fin 3584) : xv (rowsA A0) (rowsB B0) (1024 * b.val + t.val) c.val = k0_pay1 A0 B0 (ix3 b t c) := by
  rw [xv_row A0 B0 _ (by omega)]
  congr 2
  · apply Fin.ext; show (1024 * b.val + t.val) / 1024 = b.val; omega
  · apply Fin.ext; show (1024 * b.val + t.val) % 1024 = t.val; omega

/-- The kernel's column maximum is the reference's. -/
theorem am_eq (c : Fin 3584) : am (rowsA A0) (rowsB B0) c.val = refMax (absf (k0_pay1 A0 B0)) (ix1 c) := by
  apply eq_of_forall_ge_iff
  intro z
  rw [refMax_le]
  unfold am
  rw [max_le_iff, Finset.sup_le_iff]
  constructor
  · intro h b t
    rw [absf_at, ← xv_at]
    exact h.2 (1024 * b.val + t.val) (Finset.mem_range.2 (by omega))
  · intro h
    refine ⟨le_trans (absE_nonneg _) ((absf_at _ _).symm.trans_le (h 0 0)), fun r hr => ?_⟩
    rw [xv_row A0 B0 r (Finset.mem_range.1 hr)]
    exact h _ _

/-- The kernel's scale is the reference's. -/
theorem sc_eq (c : Fin 3584) : sc (rowsA A0) (rowsB B0) c.val = k0_pay2 A0 B0 (ix1 c) := by
  rw [ref_pay2]
  unfold sc
  rw [am_eq]

/-- The kernel's code is the reference's. -/
theorem qv_eq (b : Fin 21) (t : Fin 1024) (c : Fin 3584) :
    qv (rowsA A0) (rowsB B0) (1024 * b.val + t.val) c.val = k0_pay3 A0 B0 (ix3 b t c) := by
  unfold qv iv
  rw [xv_at, mul_inv_scale _ _ (show sc _ _ _ ≠ 0 from scaleOf_ne _), codeOf_eq, sc_eq, ref_pay3]
end

end Cert.Proof.Value

end
-- ==== Proof.Value.Results.lean ====
/-
  The two results of @main after the region and the host lines: the codes and the scales, as functions of the two arguments.
-/
module

public import proofs.«01_k».proof.Proof.Value.Launch
public import proofs.«01_k».proof.Proof.Value.Equation
public import Idealize.ShloMosaic.Lib.Claim

@[expose] public section

noncomputable section

namespace Cert.Proof.Value

open Cert.KernelIdeal Cert.KernelIdeal.Gen Cert.Proof.Rings Cert.Proof.KernelIdeal
open Idealize.ShloMosaic Idealize.ShloMosaic.Pointwise Idealize.ShloMosaic.Pipeline
open Idealize.ShloMosaic.TcCoe Idealize.ShloMosaic.Tactic
open Cert.ReferenceIdeal.Gen (k0_pay2 k0_pay3)

variable (m : (ℓ : Loc nD τ sig) → Buf (Elt Ideal) ℓ) (ρ : Dev nD → PrngReg)

/-- The codes, as launched. -/
abbrev codes0 (c : Dev nD) : S21x1024x3584.Idx → EReal := m ((c.tc : Thread nD τ).loc main_arg0)
/-- The scales, as launched. -/
abbrev scales0 (c : Dev nD) : S21x1024x28.Idx → EReal := m ((c.tc : Thread nD τ).loc main_arg1)

/-! ### The host lines -/

/-- The window's array after the run. -/
theorem arr_scales (c : Dev nD) : (dats m 0 c).arrAt 0 cfg0.N = scaleWin m c := by
  refine Pipeline.Dat.arrAt_eq_of_after_last (dats m 0 c) 0 ⟨0, by decide⟩ (by decide +kernel) _ fun j => ?_
  rw [after_eq]
  generalize scaleWin m c = W
  blk_simp

theorem host_v3 (σ : Valuation τ sig (Elt Ideal)) : StableHlo.after ([hostOps1].flatten) σ (Proc.devRef .tc main_v3)
    = (shapeCast S21x1024x3584 (α := BitVec 8) (s := S21504x3584) (σ (Proc.devRef .tc main_v2_0)) (by decide) : S21x1024x3584.Idx → BitVec 8) := by
  simp only [List.flatten_cons, List.flatten_nil, List.append_nil, hostOps1]
  after_results
  rfl
theorem host_v4 (σ : Valuation τ sig (Elt Ideal)) : StableHlo.after ([hostOps1].flatten) σ (Proc.devRef .tc main_v4)
    = (shapeCast S3584 (α := EReal) (s := S28x128) (σ (Proc.devRef .tc main_v2_1)) (by decide) : S3584.Idx → EReal) := by
  simp only [List.flatten_cons, List.flatten_nil, List.append_nil, hostOps1]
  after_results
  rfl
theorem entry_v0 (c : Dev nD) : V m c main_v0 = rowsA (codes0 m c) := by
  show StableHlo.after [hostOps0].flatten (fun b => m (c, b)) (Proc.tc.devRef main_v0) = _
  simp only [List.flatten_cons, List.flatten_nil, List.append_nil, hostOps0]
  after_results
  rfl
theorem entry_v1 (c : Dev nD) : V m c main_v1 = rowsB (scales0 m c) := by
  show StableHlo.after [hostOps0].flatten (fun b => m (c, b)) (Proc.tc.devRef main_v1) = _
  simp only [List.flatten_cons, List.flatten_nil, List.append_nil, hostOps0]
  after_results
  rfl

theorem rows_codes (c : Dev nD) : cA c (V m c main_v0) = rowsA (codes0 m c) := (View.read_whole _ _).trans (entry_v0 m c)
theorem rows_scales (c : Dev nD) : cB c (V m c main_v1) = rowsB (scales0 m c) := (View.read_whole _ _).trans (entry_v1 m c)

/-! ### The results, element by element -/

/-- The codes, folded back into batches. -/
theorem codes_out (Q : S21504x3584.Idx → BitVec 8) (R : S21x1024x3584.Idx → BitVec 8)
    (h : ∀ (b : Fin 21) (t : Fin 1024) (l : Fin 3584), Q (ix2 ⟨1024 * b.val + t.val, by omega⟩ l) = R (ix3 b t l)) :
    shapeCast S21x1024x3584 (α := BitVec 8) (s := S21504x3584) Q (by decide) = R := by
  funext i
  obtain ⟨b, t, l, rfl⟩ : ∃ b t l, i = ix3 b t l := ⟨_, _, _, eq_ix3 i⟩
  rw [← h]
  pointwise []
  exact congrArg (fun r => Q (ix2 r l)) (Fin.ext (by show b.val * 1024 + t.val = 1024 * b.val + t.val; omega))
/-- The scales, in one axis. -/
theorem scales_out (W : S28x128.Idx → EReal) (R : S3584.Idx → EReal)
    (h : ∀ l : Fin 3584, W (ix2 ⟨l.val / 128, by omega⟩ ⟨l.val % 128, by omega⟩) = R (ix1 l)) :
    shapeCast S3584 (α := EReal) (s := S28x128) W (by decide) = R := by
  funext i
  obtain ⟨l, rfl⟩ : ∃ l, i = ix1 l := ⟨_, eq_ix1 i⟩
  rw [← h]
  pointwise []

/-- What the run leaves in the two results. -/
theorem results : θ_run defs (onTc (τ := τ) (main (F := Ideal))) ⟨m, fun _ => 0, ρ⟩ (fun r => ∀ c : Dev nD,
      r.2.mem ((c.tc : Thread nD τ).loc main_v3) = (k0_pay3 (F := Ideal) (codes0 m c) (scales0 m c) : S21x1024x3584.Idx → BitVec 8)
      ∧ r.2.mem ((c.tc : Thread nD τ).loc main_v4) = (k0_pay2 (F := Ideal) (codes0 m c) (scales0 m c) : S3584.Idx → EReal)) := by
  refine (θ_run defs _ _).mono (fun r h c => ⟨?_, ?_⟩) (run m ρ)
  · refine (h c main_v3 (by decide)).trans ((host_v3 _).trans (codes_out _ _ fun b t l => ?_))
    rw [withArrays_of_ne _ _ _ _ _ (by decide), withR_of_mem _ _ _ _ _ (by decide), GV_result]
    show qv (cA c (V m c main_v0)) (cB c (V m c main_v1)) (1024 * b.val + t.val) l.val = _
    rw [rows_codes, rows_scales]
    exact qv_eq _ _ b t l
  · refine (h c main_v4 (by decide)).trans ((host_v4 _).trans (scales_out _ _ fun l => ?_))
    have e : withArrays spec0 c (withR (V0 m c) RR c (GV m c)) (fun w => (dats m 0 c).arrAt w cfg0.N) (Proc.devRef .tc main_v2_1) = scaleWin m c :=
      (withArrays_arr spec0 (by decide) c _ _ 0).trans (arr_scales m c)
    rw [e]
    have e' : 128 * (l.val / 128) + l.val % 128 = l.val := by omega
    show sc (cA c (V m c main_v0)) (cB c (V m c main_v1)) (128 * (l.val / 128) + l.val % 128) = _
    rw [e', rows_codes, rows_scales]
    exact sc_eq _ _ l

end Cert.Proof.Value

end
-- ==== Proof.Algebra.lean ====
/-
  The algebraic claim: from the same arguments the kernel and the reference leave the same two results, in exact arithmetic.
-/
module

public import proofs.«01_k».proof.Proof.Value.Results
public import proofs.«01_k».proof.Proof.Gen.KernelIdeal
public import proofs.«01_k».proof.Proof.Gen.ReferenceIdeal
public import proofs.«01_k».proof.Defs

@[expose] public section

noncomputable section

namespace Cert.Proof

open Idealize.ShloMosaic Idealize.ShloMosaic.TcCoe

/-- What the reference's run leaves in its two results. -/
theorem reference_results (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩
      (fun r => ∀ c : Dev Cert.ReferenceIdeal.nD,
        r.2.mem ((c.tc : Thread Cert.ReferenceIdeal.nD Cert.ReferenceIdeal.τ).loc Cert.ReferenceIdeal.main_v0_0)
          = Cert.ReferenceIdeal.Gen.k0_pay3 (F := Ideal) (m ((c.tc : Thread _ _).loc Cert.ReferenceIdeal.main_arg0)) (m ((c.tc : Thread _ _).loc Cert.ReferenceIdeal.main_arg1))
        ∧ r.2.mem ((c.tc : Thread Cert.ReferenceIdeal.nD Cert.ReferenceIdeal.τ).loc Cert.ReferenceIdeal.main_v0_1)
          = Cert.ReferenceIdeal.Gen.k0_pay2 (F := Ideal) (m ((c.tc : Thread _ _).loc Cert.ReferenceIdeal.main_arg0)) (m ((c.tc : Thread _ _).loc Cert.ReferenceIdeal.main_arg1))) :=
  (θ_run _ _ _).mono (fun _ h c => ⟨((h c).1 2).trans (Value.refOut m c), ((h c).1 3).trans (Value.refScale m c)⟩)
    (Cert.ReferenceIdeal.Gen.run_main m ρ)

/-- The kernel and the reference, in exact arithmetic, leave the same results. -/
theorem algebra : Cert.algebraic_KernelIdeal_ReferenceIdeal := by
  intro m g m' g' _ hm
  refine ⟨fun c => Cert.ReferenceIdeal.Gen.k0_pay3 (F := Ideal) (Value.codes0 m c) (Value.scales0 m c),
    fun c => Cert.ReferenceIdeal.Gen.k0_pay2 (F := Ideal) (Value.codes0 m c) (Value.scales0 m c), ?_, ?_⟩
  · exact (θ_run _ _ _).mono (fun r h c => ⟨(h.1 c).1, (h.1 c).2, (h.2.1 c).1, (h.2.1 c).2⟩)
      (θ_run_and (Value.results m g) (KernelIdeal.frame m g))
  · refine (θ_run _ _ _).mono (fun r h c => ⟨(h.1 c).1.trans ?_, (h.1 c).2.trans ?_, (h.2 c).1, (h.2 c).2⟩)
      (θ_run_and (reference_results m' g') (Cert.ReferenceIdeal.Gen.unchanged m' g'))
    · exact congrArg₂ (Cert.ReferenceIdeal.Gen.k0_pay3 (F := Ideal)) (hm c).1 (hm c).2
    · exact congrArg₂ (Cert.ReferenceIdeal.Gen.k0_pay2 (F := Ideal)) (hm c).1 (hm c).2

end Cert.Proof

end
-- ==== Proof.lean ====
/-
  The proof of `Cert.Claim`: the three programs run to their end, leave their arguments as they were and every counter at zero
  (`Proof/Kernel/Launch.lean`, `Proof/KernelIdeal/Launch.lean`, the reference's generated frame); the ideal program's word
  buffers are the kernel's, pair by pair (the ledger's five kinds of entry), and the ideal kernel computes what
  the reference computes (`Proof/Algebra.lean`).
-/
module

public import proofs.«01_k».proof.Defs
public import proofs.«01_k».proof.Proof.Kernel.Launch
public import proofs.«01_k».proof.Proof.KernelIdeal.Launch
public import proofs.«01_k».proof.Proof.Gen.ReferenceIdeal.Frame
public import Idealize.ShloMosaic.Lib.Bf16PairInverse
public import proofs.«01_k».proof.Proof.Algebra

@[expose] public section

noncomputable section

namespace Cert.Proof

open Idealize.ShloMosaic Idealize.SL.Sem

/-- The ledger's statements: a buffer of words is a buffer of pairs; words and the rows of either parity. -/
theorem ledger : Cert.preserves_Kernel_KernelIdeal :=
  ⟨IdealRules.bf16_pair.bufferStatement _ _ (by decide), IdealRules.bf16_pair.statement _ _ (by decide),
    IdealRules.bf16_pair.statement _ _ (by decide), IdealRules.bf16_pair.statement _ _ (by decide), IdealRules.bf16_pair.statement _ _ (by decide)⟩

theorem claim : Cert.Claim := ⟨Cert.Kernel.Gen.facts, Cert.KernelIdeal.Gen.facts, Cert.ReferenceIdeal.Gen.facts,
  fun m ρ _ => Cert.Proof.Kernel.frame m ρ, fun m ρ _ => Cert.Proof.KernelIdeal.frame m ρ,
  fun m ρ _ => Cert.ReferenceIdeal.Gen.frame m ρ, ledger, Cert.Proof.algebra⟩

end Cert.Proof

end
